-- ==== Defs.lean ====
def Pre_Kernel [hPre_indices_in_range : Cert.Pre_indices_in_range.Facts] (m : (ℓ : Loc Cert.Kernel.nD Cert.Kernel.τ Cert.Kernel.sig) → Buf (Elt Bits) ℓ) : Prop :=
  ∀ c : Dev Cert.Kernel.nD,
    (Cert.Pre_indices_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_indices_in_range : Cert.Pre_indices_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_indices_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_indices_in_range [hPre_indices_in_range : Cert.Pre_indices_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_indices_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_indices_in_range : Cert.Pre_indices_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_indices_in_range [hReferenceIdeal : Cert.ReferenceIdeal.Facts] [hPre_indices_in_range : Cert.Pre_indices_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_indices_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24_0) = v0 c
          ∧ r.2.mem ((c.tc : Thread Cert.ReferenceIdeal.nD Cert.ReferenceIdeal.τ).loc Cert.ReferenceIdeal.main_v24_1) = v1 c
          ∧ r.2.mem ((c.tc : Thread Cert.ReferenceIdeal.nD Cert.ReferenceIdeal.τ).loc Cert.ReferenceIdeal.main_v24_2) = v2 c
          ∧ r.2.mem ((c.tc : Thread Cert.ReferenceIdeal.nD Cert.ReferenceIdeal.τ).loc Cert.ReferenceIdeal.main_v24_3) = v3 c
          ∧ r.2.mem ((c.tc : Thread Cert.ReferenceIdeal.nD Cert.ReferenceIdeal.τ).loc Cert.ReferenceIdeal.main_v24_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_indices_in_range : Cert.Pre_indices_in_range.Facts),
    quiescent_Kernel (hKernel := hKernel) (hPre_indices_in_range := hPre_indices_in_range)
    ∧ quiescent_KernelIdeal (hKernelIdeal := hKernelIdeal) (hPre_indices_in_range := hPre_indices_in_range)
    ∧ quiescent_ReferenceIdeal (hReferenceIdeal := hReferenceIdeal)
    ∧ quiescent_ReferenceIdeal_pre_indices_in_range (hReferenceIdeal := hReferenceIdeal) (hPre_indices_in_range := hPre_indices_in_range)
    ∧ preserves_Kernel_KernelIdeal
    ∧ algebraic_KernelIdeal_ReferenceIdeal (hKernelIdeal := hKernelIdeal) (hReferenceIdeal := hReferenceIdeal) (hPre_indices_in_range := hPre_indices_in_range)
-- ==== Pre_indices_in_range.lean ====
abbrev S12x1024x1280 : Shape := ⟨3, ![12, 1024, 1280]⟩
abbrev S36 : Shape := ⟨1, ![36]⟩
abbrev S36x5120 : Shape := ⟨2, ![36, 5120]⟩
abbrev S1280x5120 : Shape := ⟨2, ![1280, 5120]⟩
abbrev S10x40 : Shape := ⟨2, ![10, 40]⟩
abbrev S5120 : Shape := ⟨1, ![5120]⟩
abbrev S12x1024x5120 : Shape := ⟨3, ![12, 1024, 5120]⟩
abbrev S_ : Shape := ⟨0, ![]⟩

class Facts : Prop where
  bcast_S_S36 : S_.BroadcastsInDim S36 (![] : Fin 0 → Fin S36.rank)

variable [Facts]

def fn {F : FTy → Type} [FloatOps F] (main_arg0 : FVec F S12x1024x1280 .bf16) (main_arg1 : IVec S36 32) (main_arg2 : FVec F S36x5120 .bf16) (main_arg3 : FVec F S1280x5120 .fp8e4m3) (main_arg4 : FVec F S10x40 .f32) (main_arg5 : FVec F S5120 .f32) (main_arg6 : FVec F S12x1024x5120 .bf16) : IVec S36 1 :=
  let main_c : IVec S_ 32 := constantI S_ 32 0#32
  let main_v0 : IVec S36 32 := broadcastInDim S36 ![] bcast_S_S36 main_c
  let main_v1 : IVec S36 1 := cmpi .sge main_arg1 main_v0
  let main_c_0 : IVec S_ 32 := constantI S_ 32 1280#32
  let main_v2 : IVec S36 32 := broadcastInDim S36 ![] bcast_S_S36 main_c_0
  let main_v3 : IVec S36 1 := cmpi .slt main_arg1 main_v2
  let main_v4 : IVec S36 1 := andi main_v1 main_v3
  main_v4
-- ==== Kernel.lean ====
abbrev S12x1024x1280 : Shape := ⟨3, ![12, 1024, 1280]⟩
abbrev S36 : Shape := ⟨1, ![36]⟩
abbrev S36x5120 : Shape := ⟨2, ![36, 5120]⟩
abbrev S1280x5120 : Shape := ⟨2, ![1280, 5120]⟩
abbrev S10x40 : Shape := ⟨2, ![10, 40]⟩
abbrev S5120 : Shape := ⟨1, ![5120]⟩
abbrev S12x1024x5120 : Shape := ⟨3, ![12, 1024, 5120]⟩
abbrev S12288x1280 : Shape := ⟨2, ![12288, 1280]⟩
abbrev S1x5120 : Shape := ⟨2, ![1, 5120]⟩
abbrev S12288x5120 : Shape := ⟨2, ![12288, 5120]⟩
abbrev S12288x10 : Shape := ⟨2, ![12288, 10]⟩
abbrev S12288x40 : Shape := ⟨2, ![12288, 40]⟩
abbrev S512x1280 : Shape := ⟨2, ![512, 1280]⟩
abbrev S512x5120 : Shape := ⟨2, ![512, 5120]⟩
abbrev S512x10 : Shape := ⟨2, ![512, 10]⟩
abbrev S512x40 : Shape := ⟨2, ![512, 40]⟩
abbrev S8x1280 : Shape := ⟨2, ![8, 1280]⟩
abbrev S1 : Shape := ⟨1, ![1]⟩
abbrev S1x1 : Shape := ⟨2, ![1, 1]⟩
abbrev S128x128 : Shape := ⟨2, ![128, 128]⟩
abbrev S2x5120 : Shape := ⟨2, ![2, 5120]⟩
abbrev S512x128 : Shape := ⟨2, ![512, 128]⟩
abbrev S1x128 : Shape := ⟨2, ![1, 128]⟩
abbrev S512 : Shape := ⟨1, ![512]⟩
abbrev S512x1 : Shape := ⟨2, ![512, 1]⟩
abbrev S1280x512 : Shape := ⟨2, ![1280, 512]⟩
abbrev S512x512 : Shape := ⟨2, ![512, 512]⟩

abbrev nBuf : Space → Nat
  | .hbm => 15
  | .vmem => 20
  | .smem => 2
  | _ => 0

abbrev bufTy : (tb : Table) → Fin (tcTables nBuf tb) → BufTy
  | .hbm, ⟨0, _⟩ => ⟨S12x1024x1280, .bf16⟩
  | .hbm, ⟨1, _⟩ => ⟨S36, .i32⟩
  | .hbm, ⟨2, _⟩ => ⟨S36x5120, .bf16⟩
  | .hbm, ⟨3, _⟩ => ⟨S1280x5120, .fp8e4m3⟩
  | .hbm, ⟨4, _⟩ => ⟨S10x40, .f32⟩
  | .hbm, ⟨5, _⟩ => ⟨S5120, .f32⟩
  | .hbm, ⟨6, _⟩ => ⟨S12x1024x5120, .bf16⟩
  | .hbm, ⟨7, _⟩ => ⟨S12288x1280, .bf16⟩
  | .hbm, ⟨8, _⟩ => ⟨S1x5120, .f32⟩
  | .hbm, ⟨9, _⟩ => ⟨S12288x5120, .bf16⟩
  | .hbm, ⟨10, _⟩ => ⟨S12288x5120, .bf16⟩
  | .hbm, ⟨11, _⟩ => ⟨S12288x1280, .fp8e4m3⟩
  | .hbm, ⟨12, _⟩ => ⟨S12288x10, .f32⟩
  | .hbm, ⟨13, _⟩ => ⟨S12288x5120, .fp8e4m3⟩
  | .hbm, ⟨14, _⟩ => ⟨S12288x40, .f32⟩
  | .local _ .vmem, ⟨0, _⟩ => ⟨S512x1280, .bf16⟩
  | .local _ .vmem, ⟨1, _⟩ => ⟨S512x1280, .bf16⟩
  | .local _ .vmem, ⟨2, _⟩ => ⟨S36x5120, .bf16⟩
  | .local _ .vmem, ⟨3, _⟩ => ⟨S1280x5120, .fp8e4m3⟩
  | .local _ .vmem, ⟨4, _⟩ => ⟨S1x5120, .f32⟩
  | .local _ .vmem, ⟨5, _⟩ => ⟨S512x5120, .bf16⟩
  | .local _ .vmem, ⟨6, _⟩ => ⟨S512x5120, .bf16⟩
  | .local _ .vmem, ⟨7, _⟩ => ⟨S512x5120, .bf16⟩
  | .local _ .vmem, ⟨8, _⟩ => ⟨S512x5120, .bf16⟩
  | .local _ .vmem, ⟨9, _⟩ => ⟨S512x1280, .fp8e4m3⟩
  | .local _ .vmem, ⟨10, _⟩ => ⟨S512x1280, .fp8e4m3⟩
  | .local _ .vmem, ⟨11, _⟩ => ⟨S512x10, .f32⟩
  | .local _ .vmem, ⟨12, _⟩ => ⟨S512x10, .f32⟩
  | .local _ .vmem, ⟨13, _⟩ => ⟨S512x5120, .fp8e4m3⟩
  | .local _ .vmem, ⟨14, _⟩ => ⟨S512x5120, .fp8e4m3⟩
  | .local _ .vmem, ⟨15, _⟩ => ⟨S512x40, .f32⟩
  | .local _ .vmem, ⟨16, _⟩ => ⟨S512x40, .f32⟩
  | .local _ .vmem, ⟨17, _⟩ => ⟨S1280x5120, .bf16⟩
  | .local _ .vmem, ⟨18, _⟩ => ⟨S512x1280, .bf16⟩
  | .local _ .vmem, ⟨19, _⟩ => ⟨S8x1280, .i32⟩
  | .local _ .smem, ⟨0, _⟩ => ⟨S36, .i32⟩
  | .local _ .smem, ⟨1, _⟩ => ⟨S10x40, .f32⟩
  | _, _ => ⟨S12x1024x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v3_4 : Ref sig .tc := ⟨.hbm, 14, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg6_1 : Ref sig .tc := ⟨.vmem, 6, rfl⟩
abbrev cc0_stg7_0 : Ref sig .tc := ⟨.vmem, 7, rfl⟩
abbrev cc0_stg7_1 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![24], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_1015 : BitVec 32 := 0#32
  let c10_i32 : BitVec 32 := 10#32
  let v2608 : BitVec 32 := Scalar.addi c0_i32_1015 c10_i32
  let c1_i32 : BitVec 32 := 1#32
  ⟨c0_i32_1015, v2608, c1_i32⟩
def k0_mult1 (k0_t1 : Fin k0_t1_loop.trips) : BitVec 32 :=
  let c0_i32_1015 : BitVec 32 := 0#32
  let c1_i32 : BitVec 32 := 1#32
  let arg16 : BitVec 32 := Scf.iv c0_i32_1015 c1_i32 k0_t1
  let c128_i32 : BitVec 32 := 128#32
  let v3222 : BitVec 32 := Scalar.muli arg16 c128_i32
  v3222
def k0_off1 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let v3224 : Index := Scalar.indexCast arg16
  let c0_1304 : Index := 0#32
  ![v3224.toNat, 0]
def k0_off2 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let c128_i32 : BitVec 32 := 128#32
  let v3222 : BitVec 32 := Scalar.muli arg16 c128_i32
  let v3223 : BitVec 32 := v3222
  let v3228 : Index := Scalar.indexCast v3223
  let c0_1305 : Index := 0#32
  ![v3228.toNat, 0]
def k0_off3 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let v3236 : Index := Scalar.indexCast arg16
  let c1_1307 : Index := 1#32
  ![v3236.toNat, 1]
def k0_off4 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let c128_i32 : BitVec 32 := 128#32
  let v3222 : BitVec 32 := Scalar.muli arg16 c128_i32
  let v3223 : BitVec 32 := v3222
  let v3240 : Index := Scalar.indexCast v3223
  let c128_1308 : Index := 128#32
  ![v3240.toNat, 128]
def k0_off5 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let v3248 : Index := Scalar.indexCast arg16
  let c2_1310 : Index := 2#32
  ![v3248.toNat, 2]
def k0_off6 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let c128_i32 : BitVec 32 := 128#32
  let v3222 : BitVec 32 := Scalar.muli arg16 c128_i32
  let v3223 : BitVec 32 := v3222
  let v3252 : Index := Scalar.indexCast v3223
  let c256_1311 : Index := 256#32
  ![v3252.toNat, 256]
def k0_off7 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let v3260 : Index := Scalar.indexCast arg16
  let c3_1313 : Index := 3#32
  ![v3260.toNat, 3]
def k0_off8 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let c128_i32 : BitVec 32 := 128#32
  let v3222 : BitVec 32 := Scalar.muli arg16 c128_i32
  let v3223 : BitVec 32 := v3222
  let v3264 : Index := Scalar.indexCast v3223
  let c384_1314 : Index := 384#32
  ![v3264.toNat, 384]
def k0_off9 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let v3272 : Index := Scalar.indexCast arg16
  let c4_1316 : Index := 4#32
  ![v3272.toNat, 4]
def k0_off10 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let c128_i32 : BitVec 32 := 128#32
  let v3222 : BitVec 32 := Scalar.muli arg16 c128_i32
  let v3223 : BitVec 32 := v3222
  let v3276 : Index := Scalar.indexCast v3223
  let c512_1317 : Index := 512#32
  ![v3276.toNat, 512]
def k0_off11 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let v3284 : Index := Scalar.indexCast arg16
  let c5_1319 : Index := 5#32
  ![v3284.toNat, 5]
def k0_off12 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let c128_i32 : BitVec 32 := 128#32
  let v3222 : BitVec 32 := Scalar.muli arg16 c128_i32
  let v3223 : BitVec 32 := v3222
  let v3288 : Index := Scalar.indexCast v3223
  let c640_1320 : Index := 640#32
  ![v3288.toNat, 640]
def k0_off13 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let v3296 : Index := Scalar.indexCast arg16
  let c6_1322 : Index := 6#32
  ![v3296.toNat, 6]
def k0_off14 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let c128_i32 : BitVec 32 := 128#32
  let v3222 : BitVec 32 := Scalar.muli arg16 c128_i32
  let v3223 : BitVec 32 := v3222
  let v3300 : Index := Scalar.indexCast v3223
  let c768_1323 : Index := 768#32
  ![v3300.toNat, 768]
def k0_off15 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let v3308 : Index := Scalar.indexCast arg16
  let c7_1325 : Index := 7#32
  ![v3308.toNat, 7]
def k0_off16 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let c128_i32 : BitVec 32 := 128#32
  let v3222 : BitVec 32 := Scalar.muli arg16 c128_i32
  let v3223 : BitVec 32 := v3222
  let v3312 : Index := Scalar.indexCast v3223
  let c896_1326 : Index := 896#32
  ![v3312.toNat, 896]
def k0_off17 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let v3320 : Index := Scalar.indexCast arg16
  let c8_1328 : Index := 8#32
  ![v3320.toNat, 8]
def k0_off18 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let c128_i32 : BitVec 32 := 128#32
  let v3222 : BitVec 32 := Scalar.muli arg16 c128_i32
  let v3223 : BitVec 32 := v3222
  let v3324 : Index := Scalar.indexCast v3223
  let c1024_1329 : Index := 1024#32
  ![v3324.toNat, 1024]
def k0_off19 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let v3332 : Index := Scalar.indexCast arg16
  let c9_1331 : Index := 9#32
  ![v3332.toNat, 9]
def k0_off20 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let c128_i32 : BitVec 32 := 128#32
  let v3222 : BitVec 32 := Scalar.muli arg16 c128_i32
  let v3223 : BitVec 32 := v3222
  let v3336 : Index := Scalar.indexCast v3223
  let c1152_1332 : Index := 1152#32
  ![v3336.toNat, 1152]
def k0_off21 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let v3344 : Index := Scalar.indexCast arg16
  let c10_1334 : Index := 10#32
  ![v3344.toNat, 10]
def k0_off22 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let c128_i32 : BitVec 32 := 128#32
  let v3222 : BitVec 32 := Scalar.muli arg16 c128_i32
  let v3223 : BitVec 32 := v3222
  let v3348 : Index := Scalar.indexCast v3223
  let c1280_1335 : Index := 1280#32
  ![v3348.toNat, 1280]
def k0_off23 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let v3356 : Index := Scalar.indexCast arg16
  let c11_1337 : Index := 11#32
  ![v3356.toNat, 11]
def k0_off24 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let c128_i32 : BitVec 32 := 128#32
  let v3222 : BitVec 32 := Scalar.muli arg16 c128_i32
  let v3223 : BitVec 32 := v3222
  let v3360 : Index := Scalar.indexCast v3223
  let c1408_1338 : Index := 1408#32
  ![v3360.toNat, 1408]
def k0_off25 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let v3368 : Index := Scalar.indexCast arg16
  let c12_1340 : Index := 12#32
  ![v3368.toNat, 12]
def k0_off26 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let c128_i32 : BitVec 32 := 128#32
  let v3222 : BitVec 32 := Scalar.muli arg16 c128_i32
  let v3223 : BitVec 32 := v3222
  let v3372 : Index := Scalar.indexCast v3223
  let c1536_1341 : Index := 1536#32
  ![v3372.toNat, 1536]
def k0_off27 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let v3380 : Index := Scalar.indexCast arg16
  let c13_1343 : Index := 13#32
  ![v3380.toNat, 13]
def k0_off28 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let c128_i32 : BitVec 32 := 128#32
  let v3222 : BitVec 32 := Scalar.muli arg16 c128_i32
  let v3223 : BitVec 32 := v3222
  let v3384 : Index := Scalar.indexCast v3223
  let c1664_1344 : Index := 1664#32
  ![v3384.toNat, 1664]
def k0_off29 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let v3392 : Index := Scalar.indexCast arg16
  let c14_1346 : Index := 14#32
  ![v3392.toNat, 14]
def k0_off30 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let c128_i32 : BitVec 32 := 128#32
  let v3222 : BitVec 32 := Scalar.muli arg16 c128_i32
  let v3223 : BitVec 32 := v3222
  let v3396 : Index := Scalar.indexCast v3223
  let c1792_1347 : Index := 1792#32
  ![v3396.toNat, 1792]
def k0_off31 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let v3404 : Index := Scalar.indexCast arg16
  let c15_1349 : Index := 15#32
  ![v3404.toNat, 15]
def k0_off32 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let c128_i32 : BitVec 32 := 128#32
  let v3222 : BitVec 32 := Scalar.muli arg16 c128_i32
  let v3223 : BitVec 32 := v3222
  let v3408 : Index := Scalar.indexCast v3223
  let c1920_1350 : Index := 1920#32
  ![v3408.toNat, 1920]
def k0_off33 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let v3416 : Index := Scalar.indexCast arg16
  let c16_1352 : Index := 16#32
  ![v3416.toNat, 16]
def k0_off34 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let c128_i32 : BitVec 32 := 128#32
  let v3222 : BitVec 32 := Scalar.muli arg16 c128_i32
  let v3223 : BitVec 32 := v3222
  let v3420 : Index := Scalar.indexCast v3223
  let c2048_1353 : Index := 2048#32
  ![v3420.toNat, 2048]
def k0_off35 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let v3428 : Index := Scalar.indexCast arg16
  let c17_1355 : Index := 17#32
  ![v3428.toNat, 17]
def k0_off36 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let c128_i32 : BitVec 32 := 128#32
  let v3222 : BitVec 32 := Scalar.muli arg16 c128_i32
  let v3223 : BitVec 32 := v3222
  let v3432 : Index := Scalar.indexCast v3223
  let c2176_1356 : Index := 2176#32
  ![v3432.toNat, 2176]
def k0_off37 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let v3440 : Index := Scalar.indexCast arg16
  let c18_1358 : Index := 18#32
  ![v3440.toNat, 18]
def k0_off38 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let c128_i32 : BitVec 32 := 128#32
  let v3222 : BitVec 32 := Scalar.muli arg16 c128_i32
  let v3223 : BitVec 32 := v3222
  let v3444 : Index := Scalar.indexCast v3223
  let c2304_1359 : Index := 2304#32
  ![v3444.toNat, 2304]
def k0_off39 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let v3452 : Index := Scalar.indexCast arg16
  let c19_1361 : Index := 19#32
  ![v3452.toNat, 19]
def k0_off40 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let c128_i32 : BitVec 32 := 128#32
  let v3222 : BitVec 32 := Scalar.muli arg16 c128_i32
  let v3223 : BitVec 32 := v3222
  let v3456 : Index := Scalar.indexCast v3223
  let c2432_1362 : Index := 2432#32
  ![v3456.toNat, 2432]
def k0_off41 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let v3464 : Index := Scalar.indexCast arg16
  let c20_1364 : Index := 20#32
  ![v3464.toNat, 20]
def k0_off42 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let c128_i32 : BitVec 32 := 128#32
  let v3222 : BitVec 32 := Scalar.muli arg16 c128_i32
  let v3223 : BitVec 32 := v3222
  let v3468 : Index := Scalar.indexCast v3223
  let c2560_1365 : Index := 2560#32
  ![v3468.toNat, 2560]
def k0_off43 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let v3476 : Index := Scalar.indexCast arg16
  let c21_1367 : Index := 21#32
  ![v3476.toNat, 21]
def k0_off44 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let c128_i32 : BitVec 32 := 128#32
  let v3222 : BitVec 32 := Scalar.muli arg16 c128_i32
  let v3223 : BitVec 32 := v3222
  let v3480 : Index := Scalar.indexCast v3223
  let c2688_1368 : Index := 2688#32
  ![v3480.toNat, 2688]
def k0_off45 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let v3488 : Index := Scalar.indexCast arg16
  let c22_1370 : Index := 22#32
  ![v3488.toNat, 22]
def k0_off46 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let c128_i32 : BitVec 32 := 128#32
  let v3222 : BitVec 32 := Scalar.muli arg16 c128_i32
  let v3223 : BitVec 32 := v3222
  let v3492 : Index := Scalar.indexCast v3223
  let c2816_1371 : Index := 2816#32
  ![v3492.toNat, 2816]
def k0_off47 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let v3500 : Index := Scalar.indexCast arg16
  let c23_1373 : Index := 23#32
  ![v3500.toNat, 23]
def k0_off48 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let c128_i32 : BitVec 32 := 128#32
  let v3222 : BitVec 32 := Scalar.muli arg16 c128_i32
  let v3223 : BitVec 32 := v3222
  let v3504 : Index := Scalar.indexCast v3223
  let c2944_1374 : Index := 2944#32
  ![v3504.toNat, 2944]
def k0_off49 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let v3512 : Index := Scalar.indexCast arg16
  let c24_1376 : Index := 24#32
  ![v3512.toNat, 24]
def k0_off50 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let c128_i32 : BitVec 32 := 128#32
  let v3222 : BitVec 32 := Scalar.muli arg16 c128_i32
  let v3223 : BitVec 32 := v3222
  let v3516 : Index := Scalar.indexCast v3223
  let c3072_1377 : Index := 3072#32
  ![v3516.toNat, 3072]
def k0_off51 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let v3524 : Index := Scalar.indexCast arg16
  let c25_1379 : Index := 25#32
  ![v3524.toNat, 25]
def k0_off52 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let c128_i32 : BitVec 32 := 128#32
  let v3222 : BitVec 32 := Scalar.muli arg16 c128_i32
  let v3223 : BitVec 32 := v3222
  let v3528 : Index := Scalar.indexCast v3223
  let c3200_1380 : Index := 3200#32
  ![v3528.toNat, 3200]
def k0_off53 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let v3536 : Index := Scalar.indexCast arg16
  let c26_1382 : Index := 26#32
  ![v3536.toNat, 26]
def k0_off54 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let c128_i32 : BitVec 32 := 128#32
  let v3222 : BitVec 32 := Scalar.muli arg16 c128_i32
  let v3223 : BitVec 32 := v3222
  let v3540 : Index := Scalar.indexCast v3223
  let c3328_1383 : Index := 3328#32
  ![v3540.toNat, 3328]
def k0_off55 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let v3548 : Index := Scalar.indexCast arg16
  let c27_1385 : Index := 27#32
  ![v3548.toNat, 27]
def k0_off56 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let c128_i32 : BitVec 32 := 128#32
  let v3222 : BitVec 32 := Scalar.muli arg16 c128_i32
  let v3223 : BitVec 32 := v3222
  let v3552 : Index := Scalar.indexCast v3223
  let c3456_1386 : Index := 3456#32
  ![v3552.toNat, 3456]
def k0_off57 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let v3560 : Index := Scalar.indexCast arg16
  let c28_1388 : Index := 28#32
  ![v3560.toNat, 28]
def k0_off58 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let c128_i32 : BitVec 32 := 128#32
  let v3222 : BitVec 32 := Scalar.muli arg16 c128_i32
  let v3223 : BitVec 32 := v3222
  let v3564 : Index := Scalar.indexCast v3223
  let c3584_1389 : Index := 3584#32
  ![v3564.toNat, 3584]
def k0_off59 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let v3572 : Index := Scalar.indexCast arg16
  let c29_1391 : Index := 29#32
  ![v3572.toNat, 29]
def k0_off60 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let c128_i32 : BitVec 32 := 128#32
  let v3222 : BitVec 32 := Scalar.muli arg16 c128_i32
  let v3223 : BitVec 32 := v3222
  let v3576 : Index := Scalar.indexCast v3223
  let c3712_1392 : Index := 3712#32
  ![v3576.toNat, 3712]
def k0_off61 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let v3584 : Index := Scalar.indexCast arg16
  let c30_1394 : Index := 30#32
  ![v3584.toNat, 30]
def k0_off62 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let c128_i32 : BitVec 32 := 128#32
  let v3222 : BitVec 32 := Scalar.muli arg16 c128_i32
  let v3223 : BitVec 32 := v3222
  let v3588 : Index := Scalar.indexCast v3223
  let c3840_1395 : Index := 3840#32
  ![v3588.toNat, 3840]
def k0_off63 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let v3596 : Index := Scalar.indexCast arg16
  let c31_1397 : Index := 31#32
  ![v3596.toNat, 31]
def k0_off64 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let c128_i32 : BitVec 32 := 128#32
  let v3222 : BitVec 32 := Scalar.muli arg16 c128_i32
  let v3223 : BitVec 32 := v3222
  let v3600 : Index := Scalar.indexCast v3223
  let c3968_1398 : Index := 3968#32
  ![v3600.toNat, 3968]
def k0_off65 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let v3608 : Index := Scalar.indexCast arg16
  let c32_1400 : Index := 32#32
  ![v3608.toNat, 32]
def k0_off66 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let c128_i32 : BitVec 32 := 128#32
  let v3222 : BitVec 32 := Scalar.muli arg16 c128_i32
  let v3223 : BitVec 32 := v3222
  let v3612 : Index := Scalar.indexCast v3223
  let c4096_1401 : Index := 4096#32
  ![v3612.toNat, 4096]
def k0_off67 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let v3620 : Index := Scalar.indexCast arg16
  let c33_1403 : Index := 33#32
  ![v3620.toNat, 33]
def k0_off68 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let c128_i32 : BitVec 32 := 128#32
  let v3222 : BitVec 32 := Scalar.muli arg16 c128_i32
  let v3223 : BitVec 32 := v3222
  let v3624 : Index := Scalar.indexCast v3223
  let c4224_1404 : Index := 4224#32
  ![v3624.toNat, 4224]
def k0_off69 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let v3632 : Index := Scalar.indexCast arg16
  let c34_1406 : Index := 34#32
  ![v3632.toNat, 34]
def k0_off70 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let c128_i32 : BitVec 32 := 128#32
  let v3222 : BitVec 32 := Scalar.muli arg16 c128_i32
  let v3223 : BitVec 32 := v3222
  let v3636 : Index := Scalar.indexCast v3223
  let c4352_1407 : Index := 4352#32
  ![v3636.toNat, 4352]
def k0_off71 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let v3644 : Index := Scalar.indexCast arg16
  let c35_1409 : Index := 35#32
  ![v3644.toNat, 35]
def k0_off72 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let c128_i32 : BitVec 32 := 128#32
  let v3222 : BitVec 32 := Scalar.muli arg16 c128_i32
  let v3223 : BitVec 32 := v3222
  let v3648 : Index := Scalar.indexCast v3223
  let c4480_1410 : Index := 4480#32
  ![v3648.toNat, 4480]
def k0_off73 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let v3656 : Index := Scalar.indexCast arg16
  let c36_1412 : Index := 36#32
  ![v3656.toNat, 36]
def k0_off74 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let c128_i32 : BitVec 32 := 128#32
  let v3222 : BitVec 32 := Scalar.muli arg16 c128_i32
  let v3223 : BitVec 32 := v3222
  let v3660 : Index := Scalar.indexCast v3223
  let c4608_1413 : Index := 4608#32
  ![v3660.toNat, 4608]
def k0_off75 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let v3668 : Index := Scalar.indexCast arg16
  let c37_1415 : Index := 37#32
  ![v3668.toNat, 37]
def k0_off76 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let c128_i32 : BitVec 32 := 128#32
  let v3222 : BitVec 32 := Scalar.muli arg16 c128_i32
  let v3223 : BitVec 32 := v3222
  let v3672 : Index := Scalar.indexCast v3223
  let c4736_1416 : Index := 4736#32
  ![v3672.toNat, 4736]
def k0_off77 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let v3680 : Index := Scalar.indexCast arg16
  let c38_1418 : Index := 38#32
  ![v3680.toNat, 38]
def k0_off78 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let c128_i32 : BitVec 32 := 128#32
  let v3222 : BitVec 32 := Scalar.muli arg16 c128_i32
  let v3223 : BitVec 32 := v3222
  let v3684 : Index := Scalar.indexCast v3223
  let c4864_1419 : Index := 4864#32
  ![v3684.toNat, 4864]
def k0_off79 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let v3692 : Index := Scalar.indexCast arg16
  let c39_1421 : Index := 39#32
  ![v3692.toNat, 39]
def k0_off80 (k0_t1 : Fin k0_t1_loop.trips) : Fin 2 → Nat :=
  let c0_i32_1015 : BitVec 32 := 0#32
  let c1_i32 : BitVec 32 := 1#32
  let arg16 : BitVec 32 := Scf.iv c0_i32_1015 c1_i32 k0_t1
  let c128_i32 : BitVec 32 := 128#32
  let v3222 : BitVec 32 := Scalar.muli arg16 c128_i32
  let v3223 : BitVec 32 := v3222
  let v3696 : Index := Scalar.indexCast v3223
  let c4992_1422 : Index := 4992#32
  ![v3696.toNat, 4992]
def k0_mult2 (v2610 : BitVec 32) : BitVec 32 :=
  let c1_i32_1018 : BitVec 32 := 1#32
  let v2611 : BitVec 32 := Scalar.shrui v2610 c1_i32_1018
  let c2_i32 : BitVec 32 := 2#32
  let v2612 : BitVec 32 := Scalar.muli v2611 c2_i32
  v2612

def k0_off81 (v2610 : BitVec 32) : Fin 2 → Nat :=
  let c1_i32_1018 : BitVec 32 := 1#32
  let v2611 : BitVec 32 := Scalar.shrui v2610 c1_i32_1018
  let c2_i32 : BitVec 32 := 2#32
  let v2612 : BitVec 32 := Scalar.muli v2611 c2_i32
  let v2613 : BitVec 32 := v2612
  let v2618 : Index := Scalar.indexCast v2613
  let c0_1022 : Index := 0#32
  ![v2618.toNat, 0]

def k0_chk1 (i : grid0.Coords) (v2610 : BitVec 32) : Prop :=
  (∀ (k0_h1 : k0_cond1 i = 1#1), 2 ∣ (k0_mult2 v2610).toNat) ∧
  (∀ (k0_h1 : k0_cond1 i = 1#1), ∀ a, (k0_off81 v2610) a + S2x5120.size a ≤ S1280x5120.size a) ∧
  (∀ (k0_h1 : k0_cond1 i = 1#1), ∀ (hinb : ∀ a, (k0_off81 v2610) a + S2x5120.size a ≤ S1280x5120.size a), (Rect.unit (s := S1280x5120) (k0_off81 v2610) S2x5120.size hinb).PackedRows (EltTy.packing .bf16))
theorem k0_mult2_dvd : ∀ (i : grid0.Coords) (v2610 : BitVec 32) (k0_hw1 : k0_chk1 i v2610), ∀ (k0_h1 : k0_cond1 i = 1#1), 2 ∣ (k0_mult2 v2610).toNat := fun i v2610 k0_hw1 k0_h1 => k0_hw1.1 k0_h1
theorem k0_off81_inb : ∀ (i : grid0.Coords) (v2610 : BitVec 32) (k0_hw1 : k0_chk1 i v2610), ∀ (k0_h1 : k0_cond1 i = 1#1), ∀ a, (k0_off81 v2610) a + S2x5120.size a ≤ S1280x5120.size a := fun i v2610 k0_hw1 k0_h1 => k0_hw1.2.1 k0_h1
theorem k0_off81_packedbf16 : ∀ (i : grid0.Coords) (v2610 : BitVec 32) (k0_hw1 : k0_chk1 i v2610), ∀ (k0_h1 : k0_cond1 i = 1#1), (Rect.unit (s := S1280x5120) (k0_off81 v2610) S2x5120.size (k0_off81_inb i v2610 k0_hw1 k0_h1)).PackedRows (EltTy.packing .bf16) := fun i v2610 k0_hw1 k0_h1 => k0_hw1.2.2 k0_h1 (k0_off81_inb i v2610 k0_hw1 k0_h1)

def k0_mult3 (v2627 : BitVec 32) : BitVec 32 :=
  let c1_i32_1025 : BitVec 32 := 1#32
  let v2628 : BitVec 32 := Scalar.shrui v2627 c1_i32_1025
  let c2_i32_1026 : BitVec 32 := 2#32
  let v2629 : BitVec 32 := Scalar.muli v2628 c2_i32_1026
  v2629

def k0_off82 (v2627 : BitVec 32) : Fin 2 → Nat :=
  let c1_i32_1025 : BitVec 32 := 1#32
  let v2628 : BitVec 32 := Scalar.shrui v2627 c1_i32_1025
  let c2_i32_1026 : BitVec 32 := 2#32
  let v2629 : BitVec 32 := Scalar.muli v2628 c2_i32_1026
  let v2630 : BitVec 32 := v2629
  let v2635 : Index := Scalar.indexCast v2630
  let c0_1030 : Index := 0#32
  ![v2635.toNat, 0]

def k0_chk2 (i : grid0.Coords) (v2627 : BitVec 32) : Prop :=
  (∀ (k0_h1 : k0_cond1 i = 1#1), 2 ∣ (k0_mult3 v2627).toNat) ∧
  (∀ (k0_h1 : k0_cond1 i = 1#1), ∀ a, (k0_off82 v2627) a + S2x5120.size a ≤ S1280x5120.size a) ∧
  (∀ (k0_h1 : k0_cond1 i = 1#1), ∀ (hinb : ∀ a, (k0_off82 v2627) a + S2x5120.size a ≤ S1280x5120.size a), (Rect.unit (s := S1280x5120) (k0_off82 v2627) S2x5120.size hinb).PackedRows (EltTy.packing .bf16))
theorem k0_mult3_dvd : ∀ (i : grid0.Coords) (v2627 : BitVec 32) (k0_hw2 : k0_chk2 i v2627), ∀ (k0_h1 : k0_cond1 i = 1#1), 2 ∣ (k0_mult3 v2627).toNat := fun i v2627 k0_hw2 k0_h1 => k0_hw2.1 k0_h1
theorem k0_off82_inb : ∀ (i : grid0.Coords) (v2627 : BitVec 32) (k0_hw2 : k0_chk2 i v2627), ∀ (k0_h1 : k0_cond1 i = 1#1), ∀ a, (k0_off82 v2627) a + S2x5120.size a ≤ S1280x5120.size a := fun i v2627 k0_hw2 k0_h1 => k0_hw2.2.1 k0_h1
theorem k0_off82_packedbf16 : ∀ (i : grid0.Coords) (v2627 : BitVec 32) (k0_hw2 : k0_chk2 i v2627), ∀ (k0_h1 : k0_cond1 i = 1#1), (Rect.unit (s := S1280x5120) (k0_off82 v2627) S2x5120.size (k0_off82_inb i v2627 k0_hw2 k0_h1)).PackedRows (EltTy.packing .bf16) := fun i v2627 k0_hw2 k0_h1 => k0_hw2.2.2 k0_h1 (k0_off82_inb i v2627 k0_hw2 k0_h1)

def k0_mult4 (v2644 : BitVec 32) : BitVec 32 :=
  let c1_i32_1033 : BitVec 32 := 1#32
  let v2645 : BitVec 32 := Scalar.shrui v2644 c1_i32_1033
  let c2_i32_1034 : BitVec 32 := 2#32
  let v2646 : BitVec 32 := Scalar.muli v2645 c2_i32_1034
  v2646

def k0_off83 (v2644 : BitVec 32) : Fin 2 → Nat :=
  let c1_i32_1033 : BitVec 32 := 1#32
  let v2645 : BitVec 32 := Scalar.shrui v2644 c1_i32_1033
  let c2_i32_1034 : BitVec 32 := 2#32
  let v2646 : BitVec 32 := Scalar.muli v2645 c2_i32_1034
  let v2647 : BitVec 32 := v2646
  let v2652 : Index := Scalar.indexCast v2647
  let c0_1038 : Index := 0#32
  ![v2652.toNat, 0]

def k0_chk3 (i : grid0.Coords) (v2644 : BitVec 32) : Prop :=
  (∀ (k0_h1 : k0_cond1 i = 1#1), 2 ∣ (k0_mult4 v2644).toNat) ∧
  (∀ (k0_h1 : k0_cond1 i = 1#1), ∀ a, (k0_off83 v2644) a + S2x5120.size a ≤ S1280x5120.size a) ∧
  (∀ (k0_h1 : k0_cond1 i = 1#1), ∀ (hinb : ∀ a, (k0_off83 v2644) a + S2x5120.size a ≤ S1280x5120.size a), (Rect.unit (s := S1280x5120) (k0_off83 v2644) S2x5120.size hinb).PackedRows (EltTy.packing .bf16))
theorem k0_mult4_dvd : ∀ (i : grid0.Coords) (v2644 : BitVec 32) (k0_hw3 : k0_chk3 i v2644), ∀ (k0_h1 : k0_cond1 i = 1#1), 2 ∣ (k0_mult4 v2644).toNat := fun i v2644 k0_hw3 k0_h1 => k0_hw3.1 k0_h1
theorem k0_off83_inb : ∀ (i : grid0.Coords) (v2644 : BitVec 32) (k0_hw3 : k0_chk3 i v2644), ∀ (k0_h1 : k0_cond1 i = 1#1), ∀ a, (k0_off83 v2644) a + S2x5120.size a ≤ S1280x5120.size a := fun i v2644 k0_hw3 k0_h1 => k0_hw3.2.1 k0_h1
theorem k0_off83_packedbf16 : ∀ (i : grid0.Coords) (v2644 : BitVec 32) (k0_hw3 : k0_chk3 i v2644), ∀ (k0_h1 : k0_cond1 i = 1#1), (Rect.unit (s := S1280x5120) (k0_off83 v2644) S2x5120.size (k0_off83_inb i v2644 k0_hw3 k0_h1)).PackedRows (EltTy.packing .bf16) := fun i v2644 k0_hw3 k0_h1 => k0_hw3.2.2 k0_h1 (k0_off83_inb i v2644 k0_hw3 k0_h1)

def k0_mult5 (v2661 : BitVec 32) : BitVec 32 :=
  let c1_i32_1041 : BitVec 32 := 1#32
  let v2662 : BitVec 32 := Scalar.shrui v2661 c1_i32_1041
  let c2_i32_1042 : BitVec 32 := 2#32
  let v2663 : BitVec 32 := Scalar.muli v2662 c2_i32_1042
  v2663

def k0_off84 (v2661 : BitVec 32) : Fin 2 → Nat :=
  let c1_i32_1041 : BitVec 32 := 1#32
  let v2662 : BitVec 32 := Scalar.shrui v2661 c1_i32_1041
  let c2_i32_1042 : BitVec 32 := 2#32
  let v2663 : BitVec 32 := Scalar.muli v2662 c2_i32_1042
  let v2664 : BitVec 32 := v2663
  let v2669 : Index := Scalar.indexCast v2664
  let c0_1046 : Index := 0#32
  ![v2669.toNat, 0]

def k0_chk4 (i : grid0.Coords) (v2661 : BitVec 32) : Prop :=
  (∀ (k0_h1 : k0_cond1 i = 1#1), 2 ∣ (k0_mult5 v2661).toNat) ∧
  (∀ (k0_h1 : k0_cond1 i = 1#1), ∀ a, (k0_off84 v2661) a + S2x5120.size a ≤ S1280x5120.size a) ∧
  (∀ (k0_h1 : k0_cond1 i = 1#1), ∀ (hinb : ∀ a, (k0_off84 v2661) a + S2x5120.size a ≤ S1280x5120.size a), (Rect.unit (s := S1280x5120) (k0_off84 v2661) S2x5120.size hinb).PackedRows (EltTy.packing .bf16))
theorem k0_mult5_dvd : ∀ (i : grid0.Coords) (v2661 : BitVec 32) (k0_hw4 : k0_chk4 i v2661), ∀ (k0_h1 : k0_cond1 i = 1#1), 2 ∣ (k0_mult5 v2661).toNat := fun i v2661 k0_hw4 k0_h1 => k0_hw4.1 k0_h1
theorem k0_off84_inb : ∀ (i : grid0.Coords) (v2661 : BitVec 32) (k0_hw4 : k0_chk4 i v2661), ∀ (k0_h1 : k0_cond1 i = 1#1), ∀ a, (k0_off84 v2661) a + S2x5120.size a ≤ S1280x5120.size a := fun i v2661 k0_hw4 k0_h1 => k0_hw4.2.1 k0_h1
theorem k0_off84_packedbf16 : ∀ (i : grid0.Coords) (v2661 : BitVec 32) (k0_hw4 : k0_chk4 i v2661), ∀ (k0_h1 : k0_cond1 i = 1#1), (Rect.unit (s := S1280x5120) (k0_off84 v2661) S2x5120.size (k0_off84_inb i v2661 k0_hw4 k0_h1)).PackedRows (EltTy.packing .bf16) := fun i v2661 k0_hw4 k0_h1 => k0_hw4.2.2 k0_h1 (k0_off84_inb i v2661 k0_hw4 k0_h1)

def k0_mult6 (v2678 : BitVec 32) : BitVec 32 :=
  let c1_i32_1049 : BitVec 32 := 1#32
  let v2679 : BitVec 32 := Scalar.shrui v2678 c1_i32_1049
  let c2_i32_1050 : BitVec 32 := 2#32
  let v2680 : BitVec 32 := Scalar.muli v2679 c2_i32_1050
  v2680

def k0_off85 (v2678 : BitVec 32) : Fin 2 → Nat :=
  let c1_i32_1049 : BitVec 32 := 1#32
  let v2679 : BitVec 32 := Scalar.shrui v2678 c1_i32_1049
  let c2_i32_1050 : BitVec 32 := 2#32
  let v2680 : BitVec 32 := Scalar.muli v2679 c2_i32_1050
  let v2681 : BitVec 32 := v2680
  let v2686 : Index := Scalar.indexCast v2681
  let c0_1054 : Index := 0#32
  ![v2686.toNat, 0]

def k0_chk5 (i : grid0.Coords) (v2678 : BitVec 32) : Prop :=
  (∀ (k0_h1 : k0_cond1 i = 1#1), 2 ∣ (k0_mult6 v2678).toNat) ∧
  (∀ (k0_h1 : k0_cond1 i = 1#1), ∀ a, (k0_off85 v2678) a + S2x5120.size a ≤ S1280x5120.size a) ∧
  (∀ (k0_h1 : k0_cond1 i = 1#1), ∀ (hinb : ∀ a, (k0_off85 v2678) a + S2x5120.size a ≤ S1280x5120.size a), (Rect.unit (s := S1280x5120) (k0_off85 v2678) S2x5120.size hinb).PackedRows (EltTy.packing .bf16))
theorem k0_mult6_dvd : ∀ (i : grid0.Coords) (v2678 : BitVec 32) (k0_hw5 : k0_chk5 i v2678), ∀ (k0_h1 : k0_cond1 i = 1#1), 2 ∣ (k0_mult6 v2678).toNat := fun i v2678 k0_hw5 k0_h1 => k0_hw5.1 k0_h1
theorem k0_off85_inb : ∀ (i : grid0.Coords) (v2678 : BitVec 32) (k0_hw5 : k0_chk5 i v2678), ∀ (k0_h1 : k0_cond1 i = 1#1), ∀ a, (k0_off85 v2678) a + S2x5120.size a ≤ S1280x5120.size a := fun i v2678 k0_hw5 k0_h1 => k0_hw5.2.1 k0_h1
theorem k0_off85_packedbf16 : ∀ (i : grid0.Coords) (v2678 : BitVec 32) (k0_hw5 : k0_chk5 i v2678), ∀ (k0_h1 : k0_cond1 i = 1#1), (Rect.unit (s := S1280x5120) (k0_off85 v2678) S2x5120.size (k0_off85_inb i v2678 k0_hw5 k0_h1)).PackedRows (EltTy.packing .bf16) := fun i v2678 k0_hw5 k0_h1 => k0_hw5.2.2 k0_h1 (k0_off85_inb i v2678 k0_hw5 k0_h1)

def k0_mult7 (v2695 : BitVec 32) : BitVec 32 :=
  let c1_i32_1057 : BitVec 32 := 1#32
  let v2696 : BitVec 32 := Scalar.shrui v2695 c1_i32_1057
  let c2_i32_1058 : BitVec 32 := 2#32
  let v2697 : BitVec 32 := Scalar.muli v2696 c2_i32_1058
  v2697

def k0_off86 (v2695 : BitVec 32) : Fin 2 → Nat :=
  let c1_i32_1057 : BitVec 32 := 1#32
  let v2696 : BitVec 32 := Scalar.shrui v2695 c1_i32_1057
  let c2_i32_1058 : BitVec 32 := 2#32
  let v2697 : BitVec 32 := Scalar.muli v2696 c2_i32_1058
  let v2698 : BitVec 32 := v2697
  let v2703 : Index := Scalar.indexCast v2698
  let c0_1062 : Index := 0#32
  ![v2703.toNat, 0]

def k0_chk6 (i : grid0.Coords) (v2695 : BitVec 32) : Prop :=
  (∀ (k0_h1 : k0_cond1 i = 1#1), 2 ∣ (k0_mult7 v2695).toNat) ∧
  (∀ (k0_h1 : k0_cond1 i = 1#1), ∀ a, (k0_off86 v2695) a + S2x5120.size a ≤ S1280x5120.size a) ∧
  (∀ (k0_h1 : k0_cond1 i = 1#1), ∀ (hinb : ∀ a, (k0_off86 v2695) a + S2x5120.size a ≤ S1280x5120.size a), (Rect.unit (s := S1280x5120) (k0_off86 v2695) S2x5120.size hinb).PackedRows (EltTy.packing .bf16))
theorem k0_mult7_dvd : ∀ (i : grid0.Coords) (v2695 : BitVec 32) (k0_hw6 : k0_chk6 i v2695), ∀ (k0_h1 : k0_cond1 i = 1#1), 2 ∣ (k0_mult7 v2695).toNat := fun i v2695 k0_hw6 k0_h1 => k0_hw6.1 k0_h1
theorem k0_off86_inb : ∀ (i : grid0.Coords) (v2695 : BitVec 32) (k0_hw6 : k0_chk6 i v2695), ∀ (k0_h1 : k0_cond1 i = 1#1), ∀ a, (k0_off86 v2695) a + S2x5120.size a ≤ S1280x5120.size a := fun i v2695 k0_hw6 k0_h1 => k0_hw6.2.1 k0_h1
theorem k0_off86_packedbf16 : ∀ (i : grid0.Coords) (v2695 : BitVec 32) (k0_hw6 : k0_chk6 i v2695), ∀ (k0_h1 : k0_cond1 i = 1#1), (Rect.unit (s := S1280x5120) (k0_off86 v2695) S2x5120.size (k0_off86_inb i v2695 k0_hw6 k0_h1)).PackedRows (EltTy.packing .bf16) := fun i v2695 k0_hw6 k0_h1 => k0_hw6.2.2 k0_h1 (k0_off86_inb i v2695 k0_hw6 k0_h1)

def k0_mult8 (v2712 : BitVec 32) : BitVec 32 :=
  let c1_i32_1065 : BitVec 32 := 1#32
  let v2713 : BitVec 32 := Scalar.shrui v2712 c1_i32_1065
  let c2_i32_1066 : BitVec 32 := 2#32
  let v2714 : BitVec 32 := Scalar.muli v2713 c2_i32_1066
  v2714

def k0_off87 (v2712 : BitVec 32) : Fin 2 → Nat :=
  let c1_i32_1065 : BitVec 32 := 1#32
  let v2713 : BitVec 32 := Scalar.shrui v2712 c1_i32_1065
  let c2_i32_1066 : BitVec 32 := 2#32
  let v2714 : BitVec 32 := Scalar.muli v2713 c2_i32_1066
  let v2715 : BitVec 32 := v2714
  let v2720 : Index := Scalar.indexCast v2715
  let c0_1070 : Index := 0#32
  ![v2720.toNat, 0]

def k0_chk7 (i : grid0.Coords) (v2712 : BitVec 32) : Prop :=
  (∀ (k0_h1 : k0_cond1 i = 1#1), 2 ∣ (k0_mult8 v2712).toNat) ∧
  (∀ (k0_h1 : k0_cond1 i = 1#1), ∀ a, (k0_off87 v2712) a + S2x5120.size a ≤ S1280x5120.size a) ∧
  (∀ (k0_h1 : k0_cond1 i = 1#1), ∀ (hinb : ∀ a, (k0_off87 v2712) a + S2x5120.size a ≤ S1280x5120.size a), (Rect.unit (s := S1280x5120) (k0_off87 v2712) S2x5120.size hinb).PackedRows (EltTy.packing .bf16))
theorem k0_mult8_dvd : ∀ (i : grid0.Coords) (v2712 : BitVec 32) (k0_hw7 : k0_chk7 i v2712), ∀ (k0_h1 : k0_cond1 i = 1#1), 2 ∣ (k0_mult8 v2712).toNat := fun i v2712 k0_hw7 k0_h1 => k0_hw7.1 k0_h1
theorem k0_off87_inb : ∀ (i : grid0.Coords) (v2712 : BitVec 32) (k0_hw7 : k0_chk7 i v2712), ∀ (k0_h1 : k0_cond1 i = 1#1), ∀ a, (k0_off87 v2712) a + S2x5120.size a ≤ S1280x5120.size a := fun i v2712 k0_hw7 k0_h1 => k0_hw7.2.1 k0_h1
theorem k0_off87_packedbf16 : ∀ (i : grid0.Coords) (v2712 : BitVec 32) (k0_hw7 : k0_chk7 i v2712), ∀ (k0_h1 : k0_cond1 i = 1#1), (Rect.unit (s := S1280x5120) (k0_off87 v2712) S2x5120.size (k0_off87_inb i v2712 k0_hw7 k0_h1)).PackedRows (EltTy.packing .bf16) := fun i v2712 k0_hw7 k0_h1 => k0_hw7.2.2 k0_h1 (k0_off87_inb i v2712 k0_hw7 k0_h1)

def k0_mult9 (v2729 : BitVec 32) : BitVec 32 :=
  let c1_i32_1073 : BitVec 32 := 1#32
  let v2730 : BitVec 32 := Scalar.shrui v2729 c1_i32_1073
  let c2_i32_1074 : BitVec 32 := 2#32
  let v2731 : BitVec 32 := Scalar.muli v2730 c2_i32_1074
  v2731

def k0_off88 (v2729 : BitVec 32) : Fin 2 → Nat :=
  let c1_i32_1073 : BitVec 32 := 1#32
  let v2730 : BitVec 32 := Scalar.shrui v2729 c1_i32_1073
  let c2_i32_1074 : BitVec 32 := 2#32
  let v2731 : BitVec 32 := Scalar.muli v2730 c2_i32_1074
  let v2732 : BitVec 32 := v2731
  let v2737 : Index := Scalar.indexCast v2732
  let c0_1078 : Index := 0#32
  ![v2737.toNat, 0]

def k0_chk8 (i : grid0.Coords) (v2729 : BitVec 32) : Prop :=
  (∀ (k0_h1 : k0_cond1 i = 1#1), 2 ∣ (k0_mult9 v2729).toNat) ∧
  (∀ (k0_h1 : k0_cond1 i = 1#1), ∀ a, (k0_off88 v2729) a + S2x5120.size a ≤ S1280x5120.size a) ∧
  (∀ (k0_h1 : k0_cond1 i = 1#1), ∀ (hinb : ∀ a, (k0_off88 v2729) a + S2x5120.size a ≤ S1280x5120.size a), (Rect.unit (s := S1280x5120) (k0_off88 v2729) S2x5120.size hinb).PackedRows (EltTy.packing .bf16))
theorem k0_mult9_dvd : ∀ (i : grid0.Coords) (v2729 : BitVec 32) (k0_hw8 : k0_chk8 i v2729), ∀ (k0_h1 : k0_cond1 i = 1#1), 2 ∣ (k0_mult9 v2729).toNat := fun i v2729 k0_hw8 k0_h1 => k0_hw8.1 k0_h1
theorem k0_off88_inb : ∀ (i : grid0.Coords) (v2729 : BitVec 32) (k0_hw8 : k0_chk8 i v2729), ∀ (k0_h1 : k0_cond1 i = 1#1), ∀ a, (k0_off88 v2729) a + S2x5120.size a ≤ S1280x5120.size a := fun i v2729 k0_hw8 k0_h1 => k0_hw8.2.1 k0_h1
theorem k0_off88_packedbf16 : ∀ (i : grid0.Coords) (v2729 : BitVec 32) (k0_hw8 : k0_chk8 i v2729), ∀ (k0_h1 : k0_cond1 i = 1#1), (Rect.unit (s := S1280x5120) (k0_off88 v2729) S2x5120.size (k0_off88_inb i v2729 k0_hw8 k0_h1)).PackedRows (EltTy.packing .bf16) := fun i v2729 k0_hw8 k0_h1 => k0_hw8.2.2 k0_h1 (k0_off88_inb i v2729 k0_hw8 k0_h1)

def k0_mult10 (v2746 : BitVec 32) : BitVec 32 :=
  let c1_i32_1081 : BitVec 32 := 1#32
  let v2747 : BitVec 32 := Scalar.shrui v2746 c1_i32_1081
  let c2_i32_1082 : BitVec 32 := 2#32
  let v2748 : BitVec 32 := Scalar.muli v2747 c2_i32_1082
  v2748

def k0_off89 (v2746 : BitVec 32) : Fin 2 → Nat :=
  let c1_i32_1081 : BitVec 32 := 1#32
  let v2747 : BitVec 32 := Scalar.shrui v2746 c1_i32_1081
  let c2_i32_1082 : BitVec 32 := 2#32
  let v2748 : BitVec 32 := Scalar.muli v2747 c2_i32_1082
  let v2749 : BitVec 32 := v2748
  let v2754 : Index := Scalar.indexCast v2749
  let c0_1086 : Index := 0#32
  ![v2754.toNat, 0]

def k0_chk9 (i : grid0.Coords) (v2746 : BitVec 32) : Prop :=
  (∀ (k0_h1 : k0_cond1 i = 1#1), 2 ∣ (k0_mult10 v2746).toNat) ∧
  (∀ (k0_h1 : k0_cond1 i = 1#1), ∀ a, (k0_off89 v2746) a + S2x5120.size a ≤ S1280x5120.size a) ∧
  (∀ (k0_h1 : k0_cond1 i = 1#1), ∀ (hinb : ∀ a, (k0_off89 v2746) a + S2x5120.size a ≤ S1280x5120.size a), (Rect.unit (s := S1280x5120) (k0_off89 v2746) S2x5120.size hinb).PackedRows (EltTy.packing .bf16))
theorem k0_mult10_dvd : ∀ (i : grid0.Coords) (v2746 : BitVec 32) (k0_hw9 : k0_chk9 i v2746), ∀ (k0_h1 : k0_cond1 i = 1#1), 2 ∣ (k0_mult10 v2746).toNat := fun i v2746 k0_hw9 k0_h1 => k0_hw9.1 k0_h1
theorem k0_off89_inb : ∀ (i : grid0.Coords) (v2746 : BitVec 32) (k0_hw9 : k0_chk9 i v2746), ∀ (k0_h1 : k0_cond1 i = 1#1), ∀ a, (k0_off89 v2746) a + S2x5120.size a ≤ S1280x5120.size a := fun i v2746 k0_hw9 k0_h1 => k0_hw9.2.1 k0_h1
theorem k0_off89_packedbf16 : ∀ (i : grid0.Coords) (v2746 : BitVec 32) (k0_hw9 : k0_chk9 i v2746), ∀ (k0_h1 : k0_cond1 i = 1#1), (Rect.unit (s := S1280x5120) (k0_off89 v2746) S2x5120.size (k0_off89_inb i v2746 k0_hw9 k0_h1)).PackedRows (EltTy.packing .bf16) := fun i v2746 k0_hw9 k0_h1 => k0_hw9.2.2 k0_h1 (k0_off89_inb i v2746 k0_hw9 k0_h1)

def k0_mult11 (v2763 : BitVec 32) : BitVec 32 :=
  let c1_i32_1089 : BitVec 32 := 1#32
  let v2764 : BitVec 32 := Scalar.shrui v2763 c1_i32_1089
  let c2_i32_1090 : BitVec 32 := 2#32
  let v2765 : BitVec 32 := Scalar.muli v2764 c2_i32_1090
  v2765

def k0_off90 (v2763 : BitVec 32) : Fin 2 → Nat :=
  let c1_i32_1089 : BitVec 32 := 1#32
  let v2764 : BitVec 32 := Scalar.shrui v2763 c1_i32_1089
  let c2_i32_1090 : BitVec 32 := 2#32
  let v2765 : BitVec 32 := Scalar.muli v2764 c2_i32_1090
  let v2766 : BitVec 32 := v2765
  let v2771 : Index := Scalar.indexCast v2766
  let c0_1094 : Index := 0#32
  ![v2771.toNat, 0]

def k0_chk10 (i : grid0.Coords) (v2763 : BitVec 32) : Prop :=
  (∀ (k0_h1 : k0_cond1 i = 1#1), 2 ∣ (k0_mult11 v2763).toNat) ∧
  (∀ (k0_h1 : k0_cond1 i = 1#1), ∀ a, (k0_off90 v2763) a + S2x5120.size a ≤ S1280x5120.size a) ∧
  (∀ (k0_h1 : k0_cond1 i = 1#1), ∀ (hinb : ∀ a, (k0_off90 v2763) a + S2x5120.size a ≤ S1280x5120.size a), (Rect.unit (s := S1280x5120) (k0_off90 v2763) S2x5120.size hinb).PackedRows (EltTy.packing .bf16))
theorem k0_mult11_dvd : ∀ (i : grid0.Coords) (v2763 : BitVec 32) (k0_hw10 : k0_chk10 i v2763), ∀ (k0_h1 : k0_cond1 i = 1#1), 2 ∣ (k0_mult11 v2763).toNat := fun i v2763 k0_hw10 k0_h1 => k0_hw10.1 k0_h1
theorem k0_off90_inb : ∀ (i : grid0.Coords) (v2763 : BitVec 32) (k0_hw10 : k0_chk10 i v2763), ∀ (k0_h1 : k0_cond1 i = 1#1), ∀ a, (k0_off90 v2763) a + S2x5120.size a ≤ S1280x5120.size a := fun i v2763 k0_hw10 k0_h1 => k0_hw10.2.1 k0_h1
theorem k0_off90_packedbf16 : ∀ (i : grid0.Coords) (v2763 : BitVec 32) (k0_hw10 : k0_chk10 i v2763), ∀ (k0_h1 : k0_cond1 i = 1#1), (Rect.unit (s := S1280x5120) (k0_off90 v2763) S2x5120.size (k0_off90_inb i v2763 k0_hw10 k0_h1)).PackedRows (EltTy.packing .bf16) := fun i v2763 k0_hw10 k0_h1 => k0_hw10.2.2 k0_h1 (k0_off90_inb i v2763 k0_hw10 k0_h1)

def k0_mult12 (v2780 : BitVec 32) : BitVec 32 :=
  let c1_i32_1097 : BitVec 32 := 1#32
  let v2781 : BitVec 32 := Scalar.shrui v2780 c1_i32_1097
  let c2_i32_1098 : BitVec 32 := 2#32
  let v2782 : BitVec 32 := Scalar.muli v2781 c2_i32_1098
  v2782

def k0_off91 (v2780 : BitVec 32) : Fin 2 → Nat :=
  let c1_i32_1097 : BitVec 32 := 1#32
  let v2781 : BitVec 32 := Scalar.shrui v2780 c1_i32_1097
  let c2_i32_1098 : BitVec 32 := 2#32
  let v2782 : BitVec 32 := Scalar.muli v2781 c2_i32_1098
  let v2783 : BitVec 32 := v2782
  let v2788 : Index := Scalar.indexCast v2783
  let c0_1102 : Index := 0#32
  ![v2788.toNat, 0]

def k0_chk11 (i : grid0.Coords) (v2780 : BitVec 32) : Prop :=
  (∀ (k0_h1 : k0_cond1 i = 1#1), 2 ∣ (k0_mult12 v2780).toNat) ∧
  (∀ (k0_h1 : k0_cond1 i = 1#1), ∀ a, (k0_off91 v2780) a + S2x5120.size a ≤ S1280x5120.size a) ∧
  (∀ (k0_h1 : k0_cond1 i = 1#1), ∀ (hinb : ∀ a, (k0_off91 v2780) a + S2x5120.size a ≤ S1280x5120.size a), (Rect.unit (s := S1280x5120) (k0_off91 v2780) S2x5120.size hinb).PackedRows (EltTy.packing .bf16))
theorem k0_mult12_dvd : ∀ (i : grid0.Coords) (v2780 : BitVec 32) (k0_hw11 : k0_chk11 i v2780), ∀ (k0_h1 : k0_cond1 i = 1#1), 2 ∣ (k0_mult12 v2780).toNat := fun i v2780 k0_hw11 k0_h1 => k0_hw11.1 k0_h1
theorem k0_off91_inb : ∀ (i : grid0.Coords) (v2780 : BitVec 32) (k0_hw11 : k0_chk11 i v2780), ∀ (k0_h1 : k0_cond1 i = 1#1), ∀ a, (k0_off91 v2780) a + S2x5120.size a ≤ S1280x5120.size a := fun i v2780 k0_hw11 k0_h1 => k0_hw11.2.1 k0_h1
theorem k0_off91_packedbf16 : ∀ (i : grid0.Coords) (v2780 : BitVec 32) (k0_hw11 : k0_chk11 i v2780), ∀ (k0_h1 : k0_cond1 i = 1#1), (Rect.unit (s := S1280x5120) (k0_off91 v2780) S2x5120.size (k0_off91_inb i v2780 k0_hw11 k0_h1)).PackedRows (EltTy.packing .bf16) := fun i v2780 k0_hw11 k0_h1 => k0_hw11.2.2 k0_h1 (k0_off91_inb i v2780 k0_hw11 k0_h1)

def k0_mult13 (v2797 : BitVec 32) : BitVec 32 :=
  let c1_i32_1105 : BitVec 32 := 1#32
  let v2798 : BitVec 32 := Scalar.shrui v2797 c1_i32_1105
  let c2_i32_1106 : BitVec 32 := 2#32
  let v2799 : BitVec 32 := Scalar.muli v2798 c2_i32_1106
  v2799

def k0_off92 (v2797 : BitVec 32) : Fin 2 → Nat :=
  let c1_i32_1105 : BitVec 32 := 1#32
  let v2798 : BitVec 32 := Scalar.shrui v2797 c1_i32_1105
  let c2_i32_1106 : BitVec 32 := 2#32
  let v2799 : BitVec 32 := Scalar.muli v2798 c2_i32_1106
  let v2800 : BitVec 32 := v2799
  let v2805 : Index := Scalar.indexCast v2800
  let c0_1110 : Index := 0#32
  ![v2805.toNat, 0]

def k0_chk12 (i : grid0.Coords) (v2797 : BitVec 32) : Prop :=
  (∀ (k0_h1 : k0_cond1 i = 1#1), 2 ∣ (k0_mult13 v2797).toNat) ∧
  (∀ (k0_h1 : k0_cond1 i = 1#1), ∀ a, (k0_off92 v2797) a + S2x5120.size a ≤ S1280x5120.size a) ∧
  (∀ (k0_h1 : k0_cond1 i = 1#1), ∀ (hinb : ∀ a, (k0_off92 v2797) a + S2x5120.size a ≤ S1280x5120.size a), (Rect.unit (s := S1280x5120) (k0_off92 v2797) S2x5120.size hinb).PackedRows (EltTy.packing .bf16))
theorem k0_mult13_dvd : ∀ (i : grid0.Coords) (v2797 : BitVec 32) (k0_hw12 : k0_chk12 i v2797), ∀ (k0_h1 : k0_cond1 i = 1#1), 2 ∣ (k0_mult13 v2797).toNat := fun i v2797 k0_hw12 k0_h1 => k0_hw12.1 k0_h1
theorem k0_off92_inb : ∀ (i : grid0.Coords) (v2797 : BitVec 32) (k0_hw12 : k0_chk12 i v2797), ∀ (k0_h1 : k0_cond1 i = 1#1), ∀ a, (k0_off92 v2797) a + S2x5120.size a ≤ S1280x5120.size a := fun i v2797 k0_hw12 k0_h1 => k0_hw12.2.1 k0_h1
theorem k0_off92_packedbf16 : ∀ (i : grid0.Coords) (v2797 : BitVec 32) (k0_hw12 : k0_chk12 i v2797), ∀ (k0_h1 : k0_cond1 i = 1#1), (Rect.unit (s := S1280x5120) (k0_off92 v2797) S2x5120.size (k0_off92_inb i v2797 k0_hw12 k0_h1)).PackedRows (EltTy.packing .bf16) := fun i v2797 k0_hw12 k0_h1 => k0_hw12.2.2 k0_h1 (k0_off92_inb i v2797 k0_hw12 k0_h1)

def k0_mult14 (v2814 : BitVec 32) : BitVec 32 :=
  let c1_i32_1113 : BitVec 32 := 1#32
  let v2815 : BitVec 32 := Scalar.shrui v2814 c1_i32_1113
  let c2_i32_1114 : BitVec 32 := 2#32
  let v2816 : BitVec 32 := Scalar.muli v2815 c2_i32_1114
  v2816

def k0_off93 (v2814 : BitVec 32) : Fin 2 → Nat :=
  let c1_i32_1113 : BitVec 32 := 1#32
  let v2815 : BitVec 32 := Scalar.shrui v2814 c1_i32_1113
  let c2_i32_1114 : BitVec 32 := 2#32
  let v2816 : BitVec 32 := Scalar.muli v2815 c2_i32_1114
  let v2817 : BitVec 32 := v2816
  let v2822 : Index := Scalar.indexCast v2817
  let c0_1118 : Index := 0#32
  ![v2822.toNat, 0]

def k0_chk13 (i : grid0.Coords) (v2814 : BitVec 32) : Prop :=
  (∀ (k0_h1 : k0_cond1 i = 1#1), 2 ∣ (k0_mult14 v2814).toNat) ∧
  (∀ (k0_h1 : k0_cond1 i = 1#1), ∀ a, (k0_off93 v2814) a + S2x5120.size a ≤ S1280x5120.size a) ∧
  (∀ (k0_h1 : k0_cond1 i = 1#1), ∀ (hinb : ∀ a, (k0_off93 v2814) a + S2x5120.size a ≤ S1280x5120.size a), (Rect.unit (s := S1280x5120) (k0_off93 v2814) S2x5120.size hinb).PackedRows (EltTy.packing .bf16))
theorem k0_mult14_dvd : ∀ (i : grid0.Coords) (v2814 : BitVec 32) (k0_hw13 : k0_chk13 i v2814), ∀ (k0_h1 : k0_cond1 i = 1#1), 2 ∣ (k0_mult14 v2814).toNat := fun i v2814 k0_hw13 k0_h1 => k0_hw13.1 k0_h1
theorem k0_off93_inb : ∀ (i : grid0.Coords) (v2814 : BitVec 32) (k0_hw13 : k0_chk13 i v2814), ∀ (k0_h1 : k0_cond1 i = 1#1), ∀ a, (k0_off93 v2814) a + S2x5120.size a ≤ S1280x5120.size a := fun i v2814 k0_hw13 k0_h1 => k0_hw13.2.1 k0_h1
theorem k0_off93_packedbf16 : ∀ (i : grid0.Coords) (v2814 : BitVec 32) (k0_hw13 : k0_chk13 i v2814), ∀ (k0_h1 : k0_cond1 i = 1#1), (Rect.unit (s := S1280x5120) (k0_off93 v2814) S2x5120.size (k0_off93_inb i v2814 k0_hw13 k0_h1)).PackedRows (EltTy.packing .bf16) := fun i v2814 k0_hw13 k0_h1 => k0_hw13.2.2 k0_h1 (k0_off93_inb i v2814 k0_hw13 k0_h1)

def k0_mult15 (v2831 : BitVec 32) : BitVec 32 :=
  let c1_i32_1121 : BitVec 32 := 1#32
  let v2832 : BitVec 32 := Scalar.shrui v2831 c1_i32_1121
  let c2_i32_1122 : BitVec 32 := 2#32
  let v2833 : BitVec 32 := Scalar.muli v2832 c2_i32_1122
  v2833

def k0_off94 (v2831 : BitVec 32) : Fin 2 → Nat :=
  let c1_i32_1121 : BitVec 32 := 1#32
  let v2832 : BitVec 32 := Scalar.shrui v2831 c1_i32_1121
  let c2_i32_1122 : BitVec 32 := 2#32
  let v2833 : BitVec 32 := Scalar.muli v2832 c2_i32_1122
  let v2834 : BitVec 32 := v2833
  let v2839 : Index := Scalar.indexCast v2834
  let c0_1126 : Index := 0#32
  ![v2839.toNat, 0]

def k0_chk14 (i : grid0.Coords) (v2831 : BitVec 32) : Prop :=
  (∀ (k0_h1 : k0_cond1 i = 1#1), 2 ∣ (k0_mult15 v2831).toNat) ∧
  (∀ (k0_h1 : k0_cond1 i = 1#1), ∀ a, (k0_off94 v2831) a + S2x5120.size a ≤ S1280x5120.size a) ∧
  (∀ (k0_h1 : k0_cond1 i = 1#1), ∀ (hinb : ∀ a, (k0_off94 v2831) a + S2x5120.size a ≤ S1280x5120.size a), (Rect.unit (s := S1280x5120) (k0_off94 v2831) S2x5120.size hinb).PackedRows (EltTy.packing .bf16))
theorem k0_mult15_dvd : ∀ (i : grid0.Coords) (v2831 : BitVec 32) (k0_hw14 : k0_chk14 i v2831), ∀ (k0_h1 : k0_cond1 i = 1#1), 2 ∣ (k0_mult15 v2831).toNat := fun i v2831 k0_hw14 k0_h1 => k0_hw14.1 k0_h1
theorem k0_off94_inb : ∀ (i : grid0.Coords) (v2831 : BitVec 32) (k0_hw14 : k0_chk14 i v2831), ∀ (k0_h1 : k0_cond1 i = 1#1), ∀ a, (k0_off94 v2831) a + S2x5120.size a ≤ S1280x5120.size a := fun i v2831 k0_hw14 k0_h1 => k0_hw14.2.1 k0_h1
theorem k0_off94_packedbf16 : ∀ (i : grid0.Coords) (v2831 : BitVec 32) (k0_hw14 : k0_chk14 i v2831), ∀ (k0_h1 : k0_cond1 i = 1#1), (Rect.unit (s := S1280x5120) (k0_off94 v2831) S2x5120.size (k0_off94_inb i v2831 k0_hw14 k0_h1)).PackedRows (EltTy.packing .bf16) := fun i v2831 k0_hw14 k0_h1 => k0_hw14.2.2 k0_h1 (k0_off94_inb i v2831 k0_hw14 k0_h1)

def k0_mult16 (v2848 : BitVec 32) : BitVec 32 :=
  let c1_i32_1129 : BitVec 32 := 1#32
  let v2849 : BitVec 32 := Scalar.shrui v2848 c1_i32_1129
  let c2_i32_1130 : BitVec 32 := 2#32
  let v2850 : BitVec 32 := Scalar.muli v2849 c2_i32_1130
  v2850

def k0_off95 (v2848 : BitVec 32) : Fin 2 → Nat :=
  let c1_i32_1129 : BitVec 32 := 1#32
  let v2849 : BitVec 32 := Scalar.shrui v2848 c1_i32_1129
  let c2_i32_1130 : BitVec 32 := 2#32
  let v2850 : BitVec 32 := Scalar.muli v2849 c2_i32_1130
  let v2851 : BitVec 32 := v2850
  let v2856 : Index := Scalar.indexCast v2851
  let c0_1134 : Index := 0#32
  ![v2856.toNat, 0]

def k0_chk15 (i : grid0.Coords) (v2848 : BitVec 32) : Prop :=
  (∀ (k0_h1 : k0_cond1 i = 1#1), 2 ∣ (k0_mult16 v2848).toNat) ∧
  (∀ (k0_h1 : k0_cond1 i = 1#1), ∀ a, (k0_off95 v2848) a + S2x5120.size a ≤ S1280x5120.size a) ∧
  (∀ (k0_h1 : k0_cond1 i = 1#1), ∀ (hinb : ∀ a, (k0_off95 v2848) a + S2x5120.size a ≤ S1280x5120.size a), (Rect.unit (s := S1280x5120) (k0_off95 v2848) S2x5120.size hinb).PackedRows (EltTy.packing .bf16))
theorem k0_mult16_dvd : ∀ (i : grid0.Coords) (v2848 : BitVec 32) (k0_hw15 : k0_chk15 i v2848), ∀ (k0_h1 : k0_cond1 i = 1#1), 2 ∣ (k0_mult16 v2848).toNat := fun i v2848 k0_hw15 k0_h1 => k0_hw15.1 k0_h1
theorem k0_off95_inb : ∀ (i : grid0.Coords) (v2848 : BitVec 32) (k0_hw15 : k0_chk15 i v2848), ∀ (k0_h1 : k0_cond1 i = 1#1), ∀ a, (k0_off95 v2848) a + S2x5120.size a ≤ S1280x5120.size a := fun i v2848 k0_hw15 k0_h1 => k0_hw15.2.1 k0_h1
theorem k0_off95_packedbf16 : ∀ (i : grid0.Coords) (v2848 : BitVec 32) (k0_hw15 : k0_chk15 i v2848), ∀ (k0_h1 : k0_cond1 i = 1#1), (Rect.unit (s := S1280x5120) (k0_off95 v2848) S2x5120.size (k0_off95_inb i v2848 k0_hw15 k0_h1)).PackedRows (EltTy.packing .bf16) := fun i v2848 k0_hw15 k0_h1 => k0_hw15.2.2 k0_h1 (k0_off95_inb i v2848 k0_hw15 k0_h1)

def k0_mult17 (v2865 : BitVec 32) : BitVec 32 :=
  let c1_i32_1137 : BitVec 32 := 1#32
  let v2866 : BitVec 32 := Scalar.shrui v2865 c1_i32_1137
  let c2_i32_1138 : BitVec 32 := 2#32
  let v2867 : BitVec 32 := Scalar.muli v2866 c2_i32_1138
  v2867

def k0_off96 (v2865 : BitVec 32) : Fin 2 → Nat :=
  let c1_i32_1137 : BitVec 32 := 1#32
  let v2866 : BitVec 32 := Scalar.shrui v2865 c1_i32_1137
  let c2_i32_1138 : BitVec 32 := 2#32
  let v2867 : BitVec 32 := Scalar.muli v2866 c2_i32_1138
  let v2868 : BitVec 32 := v2867
  let v2873 : Index := Scalar.indexCast v2868
  let c0_1142 : Index := 0#32
  ![v2873.toNat, 0]

def k0_chk16 (i : grid0.Coords) (v2865 : BitVec 32) : Prop :=
  (∀ (k0_h1 : k0_cond1 i = 1#1), 2 ∣ (k0_mult17 v2865).toNat) ∧
  (∀ (k0_h1 : k0_cond1 i = 1#1), ∀ a, (k0_off96 v2865) a + S2x5120.size a ≤ S1280x5120.size a) ∧
  (∀ (k0_h1 : k0_cond1 i = 1#1), ∀ (hinb : ∀ a, (k0_off96 v2865) a + S2x5120.size a ≤ S1280x5120.size a), (Rect.unit (s := S1280x5120) (k0_off96 v2865) S2x5120.size hinb).PackedRows (EltTy.packing .bf16))
theorem k0_mult17_dvd : ∀ (i : grid0.Coords) (v2865 : BitVec 32) (k0_hw16 : k0_chk16 i v2865), ∀ (k0_h1 : k0_cond1 i = 1#1), 2 ∣ (k0_mult17 v2865).toNat := fun i v2865 k0_hw16 k0_h1 => k0_hw16.1 k0_h1
theorem k0_off96_inb : ∀ (i : grid0.Coords) (v2865 : BitVec 32) (k0_hw16 : k0_chk16 i v2865), ∀ (k0_h1 : k0_cond1 i = 1#1), ∀ a, (k0_off96 v2865) a + S2x5120.size a ≤ S1280x5120.size a := fun i v2865 k0_hw16 k0_h1 => k0_hw16.2.1 k0_h1
theorem k0_off96_packedbf16 : ∀ (i : grid0.Coords) (v2865 : BitVec 32) (k0_hw16 : k0_chk16 i v2865), ∀ (k0_h1 : k0_cond1 i = 1#1), (Rect.unit (s := S1280x5120) (k0_off96 v2865) S2x5120.size (k0_off96_inb i v2865 k0_hw16 k0_h1)).PackedRows (EltTy.packing .bf16) := fun i v2865 k0_hw16 k0_h1 => k0_hw16.2.2 k0_h1 (k0_off96_inb i v2865 k0_hw16 k0_h1)

def k0_mult18 (v2882 : BitVec 32) : BitVec 32 :=
  let c1_i32_1145 : BitVec 32 := 1#32
  let v2883 : BitVec 32 := Scalar.shrui v2882 c1_i32_1145
  let c2_i32_1146 : BitVec 32 := 2#32
  let v2884 : BitVec 32 := Scalar.muli v2883 c2_i32_1146
  v2884

def k0_off97 (v2882 : BitVec 32) : Fin 2 → Nat :=
  let c1_i32_1145 : BitVec 32 := 1#32
  let v2883 : BitVec 32 := Scalar.shrui v2882 c1_i32_1145
  let c2_i32_1146 : BitVec 32 := 2#32
  let v2884 : BitVec 32 := Scalar.muli v2883 c2_i32_1146
  let v2885 : BitVec 32 := v2884
  let v2890 : Index := Scalar.indexCast v2885
  let c0_1150 : Index := 0#32
  ![v2890.toNat, 0]

def k0_chk17 (i : grid0.Coords) (v2882 : BitVec 32) : Prop :=
  (∀ (k0_h1 : k0_cond1 i = 1#1), 2 ∣ (k0_mult18 v2882).toNat) ∧
  (∀ (k0_h1 : k0_cond1 i = 1#1), ∀ a, (k0_off97 v2882) a + S2x5120.size a ≤ S1280x5120.size a) ∧
  (∀ (k0_h1 : k0_cond1 i = 1#1), ∀ (hinb : ∀ a, (k0_off97 v2882) a + S2x5120.size a ≤ S1280x5120.size a), (Rect.unit (s := S1280x5120) (k0_off97 v2882) S2x5120.size hinb).PackedRows (EltTy.packing .bf16))
theorem k0_mult18_dvd : ∀ (i : grid0.Coords) (v2882 : BitVec 32) (k0_hw17 : k0_chk17 i v2882), ∀ (k0_h1 : k0_cond1 i = 1#1), 2 ∣ (k0_mult18 v2882).toNat := fun i v2882 k0_hw17 k0_h1 => k0_hw17.1 k0_h1
theorem k0_off97_inb : ∀ (i : grid0.Coords) (v2882 : BitVec 32) (k0_hw17 : k0_chk17 i v2882), ∀ (k0_h1 : k0_cond1 i = 1#1), ∀ a, (k0_off97 v2882) a + S2x5120.size a ≤ S1280x5120.size a := fun i v2882 k0_hw17 k0_h1 => k0_hw17.2.1 k0_h1
theorem k0_off97_packedbf16 : ∀ (i : grid0.Coords) (v2882 : BitVec 32) (k0_hw17 : k0_chk17 i v2882), ∀ (k0_h1 : k0_cond1 i = 1#1), (Rect.unit (s := S1280x5120) (k0_off97 v2882) S2x5120.size (k0_off97_inb i v2882 k0_hw17 k0_h1)).PackedRows (EltTy.packing .bf16) := fun i v2882 k0_hw17 k0_h1 => k0_hw17.2.2 k0_h1 (k0_off97_inb i v2882 k0_hw17 k0_h1)

def k0_mult19 (v2899 : BitVec 32) : BitVec 32 :=
  let c1_i32_1153 : BitVec 32 := 1#32
  let v2900 : BitVec 32 := Scalar.shrui v2899 c1_i32_1153
  let c2_i32_1154 : BitVec 32 := 2#32
  let v2901 : BitVec 32 := Scalar.muli v2900 c2_i32_1154
  v2901

def k0_off98 (v2899 : BitVec 32) : Fin 2 → Nat :=
  let c1_i32_1153 : BitVec 32 := 1#32
  let v2900 : BitVec 32 := Scalar.shrui v2899 c1_i32_1153
  let c2_i32_1154 : BitVec 32 := 2#32
  let v2901 : BitVec 32 := Scalar.muli v2900 c2_i32_1154
  let v2902 : BitVec 32 := v2901
  let v2907 : Index := Scalar.indexCast v2902
  let c0_1158 : Index := 0#32
  ![v2907.toNat, 0]

def k0_chk18 (i : grid0.Coords) (v2899 : BitVec 32) : Prop :=
  (∀ (k0_h1 : k0_cond1 i = 1#1), 2 ∣ (k0_mult19 v2899).toNat) ∧
  (∀ (k0_h1 : k0_cond1 i = 1#1), ∀ a, (k0_off98 v2899) a + S2x5120.size a ≤ S1280x5120.size a) ∧
  (∀ (k0_h1 : k0_cond1 i = 1#1), ∀ (hinb : ∀ a, (k0_off98 v2899) a + S2x5120.size a ≤ S1280x5120.size a), (Rect.unit (s := S1280x5120) (k0_off98 v2899) S2x5120.size hinb).PackedRows (EltTy.packing .bf16))
theorem k0_mult19_dvd : ∀ (i : grid0.Coords) (v2899 : BitVec 32) (k0_hw18 : k0_chk18 i v2899), ∀ (k0_h1 : k0_cond1 i = 1#1), 2 ∣ (k0_mult19 v2899).toNat := fun i v2899 k0_hw18 k0_h1 => k0_hw18.1 k0_h1
theorem k0_off98_inb : ∀ (i : grid0.Coords) (v2899 : BitVec 32) (k0_hw18 : k0_chk18 i v2899), ∀ (k0_h1 : k0_cond1 i = 1#1), ∀ a, (k0_off98 v2899) a + S2x5120.size a ≤ S1280x5120.size a := fun i v2899 k0_hw18 k0_h1 => k0_hw18.2.1 k0_h1
theorem k0_off98_packedbf16 : ∀ (i : grid0.Coords) (v2899 : BitVec 32) (k0_hw18 : k0_chk18 i v2899), ∀ (k0_h1 : k0_cond1 i = 1#1), (Rect.unit (s := S1280x5120) (k0_off98 v2899) S2x5120.size (k0_off98_inb i v2899 k0_hw18 k0_h1)).PackedRows (EltTy.packing .bf16) := fun i v2899 k0_hw18 k0_h1 => k0_hw18.2.2 k0_h1 (k0_off98_inb i v2899 k0_hw18 k0_h1)

def k0_mult20 (v2916 : BitVec 32) : BitVec 32 :=
  let c1_i32_1161 : BitVec 32 := 1#32
  let v2917 : BitVec 32 := Scalar.shrui v2916 c1_i32_1161
  let c2_i32_1162 : BitVec 32 := 2#32
  let v2918 : BitVec 32 := Scalar.muli v2917 c2_i32_1162
  v2918

def k0_off99 (v2916 : BitVec 32) : Fin 2 → Nat :=
  let c1_i32_1161 : BitVec 32 := 1#32
  let v2917 : BitVec 32 := Scalar.shrui v2916 c1_i32_1161
  let c2_i32_1162 : BitVec 32 := 2#32
  let v2918 : BitVec 32 := Scalar.muli v2917 c2_i32_1162
  let v2919 : BitVec 32 := v2918
  let v2924 : Index := Scalar.indexCast v2919
  let c0_1166 : Index := 0#32
  ![v2924.toNat, 0]

def k0_chk19 (i : grid0.Coords) (v2916 : BitVec 32) : Prop :=
  (∀ (k0_h1 : k0_cond1 i = 1#1), 2 ∣ (k0_mult20 v2916).toNat) ∧
  (∀ (k0_h1 : k0_cond1 i = 1#1), ∀ a, (k0_off99 v2916) a + S2x5120.size a ≤ S1280x5120.size a) ∧
  (∀ (k0_h1 : k0_cond1 i = 1#1), ∀ (hinb : ∀ a, (k0_off99 v2916) a + S2x5120.size a ≤ S1280x5120.size a), (Rect.unit (s := S1280x5120) (k0_off99 v2916) S2x5120.size hinb).PackedRows (EltTy.packing .bf16))
theorem k0_mult20_dvd : ∀ (i : grid0.Coords) (v2916 : BitVec 32) (k0_hw19 : k0_chk19 i v2916), ∀ (k0_h1 : k0_cond1 i = 1#1), 2 ∣ (k0_mult20 v2916).toNat := fun i v2916 k0_hw19 k0_h1 => k0_hw19.1 k0_h1
theorem k0_off99_inb : ∀ (i : grid0.Coords) (v2916 : BitVec 32) (k0_hw19 : k0_chk19 i v2916), ∀ (k0_h1 : k0_cond1 i = 1#1), ∀ a, (k0_off99 v2916) a + S2x5120.size a ≤ S1280x5120.size a := fun i v2916 k0_hw19 k0_h1 => k0_hw19.2.1 k0_h1
theorem k0_off99_packedbf16 : ∀ (i : grid0.Coords) (v2916 : BitVec 32) (k0_hw19 : k0_chk19 i v2916), ∀ (k0_h1 : k0_cond1 i = 1#1), (Rect.unit (s := S1280x5120) (k0_off99 v2916) S2x5120.size (k0_off99_inb i v2916 k0_hw19 k0_h1)).PackedRows (EltTy.packing .bf16) := fun i v2916 k0_hw19 k0_h1 => k0_hw19.2.2 k0_h1 (k0_off99_inb i v2916 k0_hw19 k0_h1)

def k0_mult21 (v2933 : BitVec 32) : BitVec 32 :=
  let c1_i32_1169 : BitVec 32 := 1#32
  let v2934 : BitVec 32 := Scalar.shrui v2933 c1_i32_1169
  let c2_i32_1170 : BitVec 32 := 2#32
  let v2935 : BitVec 32 := Scalar.muli v2934 c2_i32_1170
  v2935

def k0_off100 (v2933 : BitVec 32) : Fin 2 → Nat :=
  let c1_i32_1169 : BitVec 32 := 1#32
  let v2934 : BitVec 32 := Scalar.shrui v2933 c1_i32_1169
  let c2_i32_1170 : BitVec 32 := 2#32
  let v2935 : BitVec 32 := Scalar.muli v2934 c2_i32_1170
  let v2936 : BitVec 32 := v2935
  let v2941 : Index := Scalar.indexCast v2936
  let c0_1174 : Index := 0#32
  ![v2941.toNat, 0]

def k0_chk20 (i : grid0.Coords) (v2933 : BitVec 32) : Prop :=
  (∀ (k0_h1 : k0_cond1 i = 1#1), 2 ∣ (k0_mult21 v2933).toNat) ∧
  (∀ (k0_h1 : k0_cond1 i = 1#1), ∀ a, (k0_off100 v2933) a + S2x5120.size a ≤ S1280x5120.size a) ∧
  (∀ (k0_h1 : k0_cond1 i = 1#1), ∀ (hinb : ∀ a, (k0_off100 v2933) a + S2x5120.size a ≤ S1280x5120.size a), (Rect.unit (s := S1280x5120) (k0_off100 v2933) S2x5120.size hinb).PackedRows (EltTy.packing .bf16))
theorem k0_mult21_dvd : ∀ (i : grid0.Coords) (v2933 : BitVec 32) (k0_hw20 : k0_chk20 i v2933), ∀ (k0_h1 : k0_cond1 i = 1#1), 2 ∣ (k0_mult21 v2933).toNat := fun i v2933 k0_hw20 k0_h1 => k0_hw20.1 k0_h1
theorem k0_off100_inb : ∀ (i : grid0.Coords) (v2933 : BitVec 32) (k0_hw20 : k0_chk20 i v2933), ∀ (k0_h1 : k0_cond1 i = 1#1), ∀ a, (k0_off100 v2933) a + S2x5120.size a ≤ S1280x5120.size a := fun i v2933 k0_hw20 k0_h1 => k0_hw20.2.1 k0_h1
theorem k0_off100_packedbf16 : ∀ (i : grid0.Coords) (v2933 : BitVec 32) (k0_hw20 : k0_chk20 i v2933), ∀ (k0_h1 : k0_cond1 i = 1#1), (Rect.unit (s := S1280x5120) (k0_off100 v2933) S2x5120.size (k0_off100_inb i v2933 k0_hw20 k0_h1)).PackedRows (EltTy.packing .bf16) := fun i v2933 k0_hw20 k0_h1 => k0_hw20.2.2 k0_h1 (k0_off100_inb i v2933 k0_hw20 k0_h1)

def k0_mult22 (v2950 : BitVec 32) : BitVec 32 :=
  let c1_i32_1177 : BitVec 32 := 1#32
  let v2951 : BitVec 32 := Scalar.shrui v2950 c1_i32_1177
  let c2_i32_1178 : BitVec 32 := 2#32
  let v2952 : BitVec 32 := Scalar.muli v2951 c2_i32_1178
  v2952

def k0_off101 (v2950 : BitVec 32) : Fin 2 → Nat :=
  let c1_i32_1177 : BitVec 32 := 1#32
  let v2951 : BitVec 32 := Scalar.shrui v2950 c1_i32_1177
  let c2_i32_1178 : BitVec 32 := 2#32
  let v2952 : BitVec 32 := Scalar.muli v2951 c2_i32_1178
  let v2953 : BitVec 32 := v2952
  let v2958 : Index := Scalar.indexCast v2953
  let c0_1182 : Index := 0#32
  ![v2958.toNat, 0]

def k0_chk21 (i : grid0.Coords) (v2950 : BitVec 32) : Prop :=
  (∀ (k0_h1 : k0_cond1 i = 1#1), 2 ∣ (k0_mult22 v2950).toNat) ∧
  (∀ (k0_h1 : k0_cond1 i = 1#1), ∀ a, (k0_off101 v2950) a + S2x5120.size a ≤ S1280x5120.size a) ∧
  (∀ (k0_h1 : k0_cond1 i = 1#1), ∀ (hinb : ∀ a, (k0_off101 v2950) a + S2x5120.size a ≤ S1280x5120.size a), (Rect.unit (s := S1280x5120) (k0_off101 v2950) S2x5120.size hinb).PackedRows (EltTy.packing .bf16))
theorem k0_mult22_dvd : ∀ (i : grid0.Coords) (v2950 : BitVec 32) (k0_hw21 : k0_chk21 i v2950), ∀ (k0_h1 : k0_cond1 i = 1#1), 2 ∣ (k0_mult22 v2950).toNat := fun i v2950 k0_hw21 k0_h1 => k0_hw21.1 k0_h1
theorem k0_off101_inb : ∀ (i : grid0.Coords) (v2950 : BitVec 32) (k0_hw21 : k0_chk21 i v2950), ∀ (k0_h1 : k0_cond1 i = 1#1), ∀ a, (k0_off101 v2950) a + S2x5120.size a ≤ S1280x5120.size a := fun i v2950 k0_hw21 k0_h1 => k0_hw21.2.1 k0_h1
theorem k0_off101_packedbf16 : ∀ (i : grid0.Coords) (v2950 : BitVec 32) (k0_hw21 : k0_chk21 i v2950), ∀ (k0_h1 : k0_cond1 i = 1#1), (Rect.unit (s := S1280x5120) (k0_off101 v2950) S2x5120.size (k0_off101_inb i v2950 k0_hw21 k0_h1)).PackedRows (EltTy.packing .bf16) := fun i v2950 k0_hw21 k0_h1 => k0_hw21.2.2 k0_h1 (k0_off101_inb i v2950 k0_hw21 k0_h1)

def k0_mult23 (v2967 : BitVec 32) : BitVec 32 :=
  let c1_i32_1185 : BitVec 32 := 1#32
  let v2968 : BitVec 32 := Scalar.shrui v2967 c1_i32_1185
  let c2_i32_1186 : BitVec 32 := 2#32
  let v2969 : BitVec 32 := Scalar.muli v2968 c2_i32_1186
  v2969

def k0_off102 (v2967 : BitVec 32) : Fin 2 → Nat :=
  let c1_i32_1185 : BitVec 32 := 1#32
  let v2968 : BitVec 32 := Scalar.shrui v2967 c1_i32_1185
  let c2_i32_1186 : BitVec 32 := 2#32
  let v2969 : BitVec 32 := Scalar.muli v2968 c2_i32_1186
  let v2970 : BitVec 32 := v2969
  let v2975 : Index := Scalar.indexCast v2970
  let c0_1190 : Index := 0#32
  ![v2975.toNat, 0]

def k0_chk22 (i : grid0.Coords) (v2967 : BitVec 32) : Prop :=
  (∀ (k0_h1 : k0_cond1 i = 1#1), 2 ∣ (k0_mult23 v2967).toNat) ∧
  (∀ (k0_h1 : k0_cond1 i = 1#1), ∀ a, (k0_off102 v2967) a + S2x5120.size a ≤ S1280x5120.size a) ∧
  (∀ (k0_h1 : k0_cond1 i = 1#1), ∀ (hinb : ∀ a, (k0_off102 v2967) a + S2x5120.size a ≤ S1280x5120.size a), (Rect.unit (s := S1280x5120) (k0_off102 v2967) S2x5120.size hinb).PackedRows (EltTy.packing .bf16))
theorem k0_mult23_dvd : ∀ (i : grid0.Coords) (v2967 : BitVec 32) (k0_hw22 : k0_chk22 i v2967), ∀ (k0_h1 : k0_cond1 i = 1#1), 2 ∣ (k0_mult23 v2967).toNat := fun i v2967 k0_hw22 k0_h1 => k0_hw22.1 k0_h1
theorem k0_off102_inb : ∀ (i : grid0.Coords) (v2967 : BitVec 32) (k0_hw22 : k0_chk22 i v2967), ∀ (k0_h1 : k0_cond1 i = 1#1), ∀ a, (k0_off102 v2967) a + S2x5120.size a ≤ S1280x5120.size a := fun i v2967 k0_hw22 k0_h1 => k0_hw22.2.1 k0_h1
theorem k0_off102_packedbf16 : ∀ (i : grid0.Coords) (v2967 : BitVec 32) (k0_hw22 : k0_chk22 i v2967), ∀ (k0_h1 : k0_cond1 i = 1#1), (Rect.unit (s := S1280x5120) (k0_off102 v2967) S2x5120.size (k0_off102_inb i v2967 k0_hw22 k0_h1)).PackedRows (EltTy.packing .bf16) := fun i v2967 k0_hw22 k0_h1 => k0_hw22.2.2 k0_h1 (k0_off102_inb i v2967 k0_hw22 k0_h1)

def k0_mult24 (v2984 : BitVec 32) : BitVec 32 :=
  let c1_i32_1193 : BitVec 32 := 1#32
  let v2985 : BitVec 32 := Scalar.shrui v2984 c1_i32_1193
  let c2_i32_1194 : BitVec 32 := 2#32
  let v2986 : BitVec 32 := Scalar.muli v2985 c2_i32_1194
  v2986

def k0_off103 (v2984 : BitVec 32) : Fin 2 → Nat :=
  let c1_i32_1193 : BitVec 32 := 1#32
  let v2985 : BitVec 32 := Scalar.shrui v2984 c1_i32_1193
  let c2_i32_1194 : BitVec 32 := 2#32
  let v2986 : BitVec 32 := Scalar.muli v2985 c2_i32_1194
  let v2987 : BitVec 32 := v2986
  let v2992 : Index := Scalar.indexCast v2987
  let c0_1198 : Index := 0#32
  ![v2992.toNat, 0]

def k0_chk23 (i : grid0.Coords) (v2984 : BitVec 32) : Prop :=
  (∀ (k0_h1 : k0_cond1 i = 1#1), 2 ∣ (k0_mult24 v2984).toNat) ∧
  (∀ (k0_h1 : k0_cond1 i = 1#1), ∀ a, (k0_off103 v2984) a + S2x5120.size a ≤ S1280x5120.size a) ∧
  (∀ (k0_h1 : k0_cond1 i = 1#1), ∀ (hinb : ∀ a, (k0_off103 v2984) a + S2x5120.size a ≤ S1280x5120.size a), (Rect.unit (s := S1280x5120) (k0_off103 v2984) S2x5120.size hinb).PackedRows (EltTy.packing .bf16))
theorem k0_mult24_dvd : ∀ (i : grid0.Coords) (v2984 : BitVec 32) (k0_hw23 : k0_chk23 i v2984), ∀ (k0_h1 : k0_cond1 i = 1#1), 2 ∣ (k0_mult24 v2984).toNat := fun i v2984 k0_hw23 k0_h1 => k0_hw23.1 k0_h1
theorem k0_off103_inb : ∀ (i : grid0.Coords) (v2984 : BitVec 32) (k0_hw23 : k0_chk23 i v2984), ∀ (k0_h1 : k0_cond1 i = 1#1), ∀ a, (k0_off103 v2984) a + S2x5120.size a ≤ S1280x5120.size a := fun i v2984 k0_hw23 k0_h1 => k0_hw23.2.1 k0_h1
theorem k0_off103_packedbf16 : ∀ (i : grid0.Coords) (v2984 : BitVec 32) (k0_hw23 : k0_chk23 i v2984), ∀ (k0_h1 : k0_cond1 i = 1#1), (Rect.unit (s := S1280x5120) (k0_off103 v2984) S2x5120.size (k0_off103_inb i v2984 k0_hw23 k0_h1)).PackedRows (EltTy.packing .bf16) := fun i v2984 k0_hw23 k0_h1 => k0_hw23.2.2 k0_h1 (k0_off103_inb i v2984 k0_hw23 k0_h1)

def k0_mult25 (v3001 : BitVec 32) : BitVec 32 :=
  let c1_i32_1201 : BitVec 32 := 1#32
  let v3002 : BitVec 32 := Scalar.shrui v3001 c1_i32_1201
  let c2_i32_1202 : BitVec 32 := 2#32
  let v3003 : BitVec 32 := Scalar.muli v3002 c2_i32_1202
  v3003

def k0_off104 (v3001 : BitVec 32) : Fin 2 → Nat :=
  let c1_i32_1201 : BitVec 32 := 1#32
  let v3002 : BitVec 32 := Scalar.shrui v3001 c1_i32_1201
  let c2_i32_1202 : BitVec 32 := 2#32
  let v3003 : BitVec 32 := Scalar.muli v3002 c2_i32_1202
  let v3004 : BitVec 32 := v3003
  let v3009 : Index := Scalar.indexCast v3004
  let c0_1206 : Index := 0#32
  ![v3009.toNat, 0]

def k0_chk24 (i : grid0.Coords) (v3001 : BitVec 32) : Prop :=
  (∀ (k0_h1 : k0_cond1 i = 1#1), 2 ∣ (k0_mult25 v3001).toNat) ∧
  (∀ (k0_h1 : k0_cond1 i = 1#1), ∀ a, (k0_off104 v3001) a + S2x5120.size a ≤ S1280x5120.size a) ∧
  (∀ (k0_h1 : k0_cond1 i = 1#1), ∀ (hinb : ∀ a, (k0_off104 v3001) a + S2x5120.size a ≤ S1280x5120.size a), (Rect.unit (s := S1280x5120) (k0_off104 v3001) S2x5120.size hinb).PackedRows (EltTy.packing .bf16))
theorem k0_mult25_dvd : ∀ (i : grid0.Coords) (v3001 : BitVec 32) (k0_hw24 : k0_chk24 i v3001), ∀ (k0_h1 : k0_cond1 i = 1#1), 2 ∣ (k0_mult25 v3001).toNat := fun i v3001 k0_hw24 k0_h1 => k0_hw24.1 k0_h1
theorem k0_off104_inb : ∀ (i : grid0.Coords) (v3001 : BitVec 32) (k0_hw24 : k0_chk24 i v3001), ∀ (k0_h1 : k0_cond1 i = 1#1), ∀ a, (k0_off104 v3001) a + S2x5120.size a ≤ S1280x5120.size a := fun i v3001 k0_hw24 k0_h1 => k0_hw24.2.1 k0_h1
theorem k0_off104_packedbf16 : ∀ (i : grid0.Coords) (v3001 : BitVec 32) (k0_hw24 : k0_chk24 i v3001), ∀ (k0_h1 : k0_cond1 i = 1#1), (Rect.unit (s := S1280x5120) (k0_off104 v3001) S2x5120.size (k0_off104_inb i v3001 k0_hw24 k0_h1)).PackedRows (EltTy.packing .bf16) := fun i v3001 k0_hw24 k0_h1 => k0_hw24.2.2 k0_h1 (k0_off104_inb i v3001 k0_hw24 k0_h1)

def k0_mult26 (v3018 : BitVec 32) : BitVec 32 :=
  let c1_i32_1209 : BitVec 32 := 1#32
  let v3019 : BitVec 32 := Scalar.shrui v3018 c1_i32_1209
  let c2_i32_1210 : BitVec 32 := 2#32
  let v3020 : BitVec 32 := Scalar.muli v3019 c2_i32_1210
  v3020

def k0_off105 (v3018 : BitVec 32) : Fin 2 → Nat :=
  let c1_i32_1209 : BitVec 32 := 1#32
  let v3019 : BitVec 32 := Scalar.shrui v3018 c1_i32_1209
  let c2_i32_1210 : BitVec 32 := 2#32
  let v3020 : BitVec 32 := Scalar.muli v3019 c2_i32_1210
  let v3021 : BitVec 32 := v3020
  let v3026 : Index := Scalar.indexCast v3021
  let c0_1214 : Index := 0#32
  ![v3026.toNat, 0]

def k0_chk25 (i : grid0.Coords) (v3018 : BitVec 32) : Prop :=
  (∀ (k0_h1 : k0_cond1 i = 1#1), 2 ∣ (k0_mult26 v3018).toNat) ∧
  (∀ (k0_h1 : k0_cond1 i = 1#1), ∀ a, (k0_off105 v3018) a + S2x5120.size a ≤ S1280x5120.size a) ∧
  (∀ (k0_h1 : k0_cond1 i = 1#1), ∀ (hinb : ∀ a, (k0_off105 v3018) a + S2x5120.size a ≤ S1280x5120.size a), (Rect.unit (s := S1280x5120) (k0_off105 v3018) S2x5120.size hinb).PackedRows (EltTy.packing .bf16))
theorem k0_mult26_dvd : ∀ (i : grid0.Coords) (v3018 : BitVec 32) (k0_hw25 : k0_chk25 i v3018), ∀ (k0_h1 : k0_cond1 i = 1#1), 2 ∣ (k0_mult26 v3018).toNat := fun i v3018 k0_hw25 k0_h1 => k0_hw25.1 k0_h1
theorem k0_off105_inb : ∀ (i : grid0.Coords) (v3018 : BitVec 32) (k0_hw25 : k0_chk25 i v3018), ∀ (k0_h1 : k0_cond1 i = 1#1), ∀ a, (k0_off105 v3018) a + S2x5120.size a ≤ S1280x5120.size a := fun i v3018 k0_hw25 k0_h1 => k0_hw25.2.1 k0_h1
theorem k0_off105_packedbf16 : ∀ (i : grid0.Coords) (v3018 : BitVec 32) (k0_hw25 : k0_chk25 i v3018), ∀ (k0_h1 : k0_cond1 i = 1#1), (Rect.unit (s := S1280x5120) (k0_off105 v3018) S2x5120.size (k0_off105_inb i v3018 k0_hw25 k0_h1)).PackedRows (EltTy.packing .bf16) := fun i v3018 k0_hw25 k0_h1 => k0_hw25.2.2 k0_h1 (k0_off105_inb i v3018 k0_hw25 k0_h1)

def k0_mult27 (v3035 : BitVec 32) : BitVec 32 :=
  let c1_i32_1217 : BitVec 32 := 1#32
  let v3036 : BitVec 32 := Scalar.shrui v3035 c1_i32_1217
  let c2_i32_1218 : BitVec 32 := 2#32
  let v3037 : BitVec 32 := Scalar.muli v3036 c2_i32_1218
  v3037

def k0_off106 (v3035 : BitVec 32) : Fin 2 → Nat :=
  let c1_i32_1217 : BitVec 32 := 1#32
  let v3036 : BitVec 32 := Scalar.shrui v3035 c1_i32_1217
  let c2_i32_1218 : BitVec 32 := 2#32
  let v3037 : BitVec 32 := Scalar.muli v3036 c2_i32_1218
  let v3038 : BitVec 32 := v3037
  let v3043 : Index := Scalar.indexCast v3038
  let c0_1222 : Index := 0#32
  ![v3043.toNat, 0]

def k0_chk26 (i : grid0.Coords) (v3035 : BitVec 32) : Prop :=
  (∀ (k0_h1 : k0_cond1 i = 1#1), 2 ∣ (k0_mult27 v3035).toNat) ∧
  (∀ (k0_h1 : k0_cond1 i = 1#1), ∀ a, (k0_off106 v3035) a + S2x5120.size a ≤ S1280x5120.size a) ∧
  (∀ (k0_h1 : k0_cond1 i = 1#1), ∀ (hinb : ∀ a, (k0_off106 v3035) a + S2x5120.size a ≤ S1280x5120.size a), (Rect.unit (s := S1280x5120) (k0_off106 v3035) S2x5120.size hinb).PackedRows (EltTy.packing .bf16))
theorem k0_mult27_dvd : ∀ (i : grid0.Coords) (v3035 : BitVec 32) (k0_hw26 : k0_chk26 i v3035), ∀ (k0_h1 : k0_cond1 i = 1#1), 2 ∣ (k0_mult27 v3035).toNat := fun i v3035 k0_hw26 k0_h1 => k0_hw26.1 k0_h1
theorem k0_off106_inb : ∀ (i : grid0.Coords) (v3035 : BitVec 32) (k0_hw26 : k0_chk26 i v3035), ∀ (k0_h1 : k0_cond1 i = 1#1), ∀ a, (k0_off106 v3035) a + S2x5120.size a ≤ S1280x5120.size a := fun i v3035 k0_hw26 k0_h1 => k0_hw26.2.1 k0_h1
theorem k0_off106_packedbf16 : ∀ (i : grid0.Coords) (v3035 : BitVec 32) (k0_hw26 : k0_chk26 i v3035), ∀ (k0_h1 : k0_cond1 i = 1#1), (Rect.unit (s := S1280x5120) (k0_off106 v3035) S2x5120.size (k0_off106_inb i v3035 k0_hw26 k0_h1)).PackedRows (EltTy.packing .bf16) := fun i v3035 k0_hw26 k0_h1 => k0_hw26.2.2 k0_h1 (k0_off106_inb i v3035 k0_hw26 k0_h1)

def k0_mult28 (v3052 : BitVec 32) : BitVec 32 :=
  let c1_i32_1225 : BitVec 32 := 1#32
  let v3053 : BitVec 32 := Scalar.shrui v3052 c1_i32_1225
  let c2_i32_1226 : BitVec 32 := 2#32
  let v3054 : BitVec 32 := Scalar.muli v3053 c2_i32_1226
  v3054

def k0_off107 (v3052 : BitVec 32) : Fin 2 → Nat :=
  let c1_i32_1225 : BitVec 32 := 1#32
  let v3053 : BitVec 32 := Scalar.shrui v3052 c1_i32_1225
  let c2_i32_1226 : BitVec 32 := 2#32
  let v3054 : BitVec 32 := Scalar.muli v3053 c2_i32_1226
  let v3055 : BitVec 32 := v3054
  let v3060 : Index := Scalar.indexCast v3055
  let c0_1230 : Index := 0#32
  ![v3060.toNat, 0]

def k0_chk27 (i : grid0.Coords) (v3052 : BitVec 32) : Prop :=
  (∀ (k0_h1 : k0_cond1 i = 1#1), 2 ∣ (k0_mult28 v3052).toNat) ∧
  (∀ (k0_h1 : k0_cond1 i = 1#1), ∀ a, (k0_off107 v3052) a + S2x5120.size a ≤ S1280x5120.size a) ∧
  (∀ (k0_h1 : k0_cond1 i = 1#1), ∀ (hinb : ∀ a, (k0_off107 v3052) a + S2x5120.size a ≤ S1280x5120.size a), (Rect.unit (s := S1280x5120) (k0_off107 v3052) S2x5120.size hinb).PackedRows (EltTy.packing .bf16))
theorem k0_mult28_dvd : ∀ (i : grid0.Coords) (v3052 : BitVec 32) (k0_hw27 : k0_chk27 i v3052), ∀ (k0_h1 : k0_cond1 i = 1#1), 2 ∣ (k0_mult28 v3052).toNat := fun i v3052 k0_hw27 k0_h1 => k0_hw27.1 k0_h1
theorem k0_off107_inb : ∀ (i : grid0.Coords) (v3052 : BitVec 32) (k0_hw27 : k0_chk27 i v3052), ∀ (k0_h1 : k0_cond1 i = 1#1), ∀ a, (k0_off107 v3052) a + S2x5120.size a ≤ S1280x5120.size a := fun i v3052 k0_hw27 k0_h1 => k0_hw27.2.1 k0_h1
theorem k0_off107_packedbf16 : ∀ (i : grid0.Coords) (v3052 : BitVec 32) (k0_hw27 : k0_chk27 i v3052), ∀ (k0_h1 : k0_cond1 i = 1#1), (Rect.unit (s := S1280x5120) (k0_off107 v3052) S2x5120.size (k0_off107_inb i v3052 k0_hw27 k0_h1)).PackedRows (EltTy.packing .bf16) := fun i v3052 k0_hw27 k0_h1 => k0_hw27.2.2 k0_h1 (k0_off107_inb i v3052 k0_hw27 k0_h1)

def k0_mult29 (v3069 : BitVec 32) : BitVec 32 :=
  let c1_i32_1233 : BitVec 32 := 1#32
  let v3070 : BitVec 32 := Scalar.shrui v3069 c1_i32_1233
  let c2_i32_1234 : BitVec 32 := 2#32
  let v3071 : BitVec 32 := Scalar.muli v3070 c2_i32_1234
  v3071

def k0_off108 (v3069 : BitVec 32) : Fin 2 → Nat :=
  let c1_i32_1233 : BitVec 32 := 1#32
  let v3070 : BitVec 32 := Scalar.shrui v3069 c1_i32_1233
  let c2_i32_1234 : BitVec 32 := 2#32
  let v3071 : BitVec 32 := Scalar.muli v3070 c2_i32_1234
  let v3072 : BitVec 32 := v3071
  let v3077 : Index := Scalar.indexCast v3072
  let c0_1238 : Index := 0#32
  ![v3077.toNat, 0]

def k0_chk28 (i : grid0.Coords) (v3069 : BitVec 32) : Prop :=
  (∀ (k0_h1 : k0_cond1 i = 1#1), 2 ∣ (k0_mult29 v3069).toNat) ∧
  (∀ (k0_h1 : k0_cond1 i = 1#1), ∀ a, (k0_off108 v3069) a + S2x5120.size a ≤ S1280x5120.size a) ∧
  (∀ (k0_h1 : k0_cond1 i = 1#1), ∀ (hinb : ∀ a, (k0_off108 v3069) a + S2x5120.size a ≤ S1280x5120.size a), (Rect.unit (s := S1280x5120) (k0_off108 v3069) S2x5120.size hinb).PackedRows (EltTy.packing .bf16))
theorem k0_mult29_dvd : ∀ (i : grid0.Coords) (v3069 : BitVec 32) (k0_hw28 : k0_chk28 i v3069), ∀ (k0_h1 : k0_cond1 i = 1#1), 2 ∣ (k0_mult29 v3069).toNat := fun i v3069 k0_hw28 k0_h1 => k0_hw28.1 k0_h1
theorem k0_off108_inb : ∀ (i : grid0.Coords) (v3069 : BitVec 32) (k0_hw28 : k0_chk28 i v3069), ∀ (k0_h1 : k0_cond1 i = 1#1), ∀ a, (k0_off108 v3069) a + S2x5120.size a ≤ S1280x5120.size a := fun i v3069 k0_hw28 k0_h1 => k0_hw28.2.1 k0_h1
theorem k0_off108_packedbf16 : ∀ (i : grid0.Coords) (v3069 : BitVec 32) (k0_hw28 : k0_chk28 i v3069), ∀ (k0_h1 : k0_cond1 i = 1#1), (Rect.unit (s := S1280x5120) (k0_off108 v3069) S2x5120.size (k0_off108_inb i v3069 k0_hw28 k0_h1)).PackedRows (EltTy.packing .bf16) := fun i v3069 k0_hw28 k0_h1 => k0_hw28.2.2 k0_h1 (k0_off108_inb i v3069 k0_hw28 k0_h1)

def k0_mult30 (v3086 : BitVec 32) : BitVec 32 :=
  let c1_i32_1241 : BitVec 32 := 1#32
  let v3087 : BitVec 32 := Scalar.shrui v3086 c1_i32_1241
  let c2_i32_1242 : BitVec 32 := 2#32
  let v3088 : BitVec 32 := Scalar.muli v3087 c2_i32_1242
  v3088

def k0_off109 (v3086 : BitVec 32) : Fin 2 → Nat :=
  let c1_i32_1241 : BitVec 32 := 1#32
  let v3087 : BitVec 32 := Scalar.shrui v3086 c1_i32_1241
  let c2_i32_1242 : BitVec 32 := 2#32
  let v3088 : BitVec 32 := Scalar.muli v3087 c2_i32_1242
  let v3089 : BitVec 32 := v3088
  let v3094 : Index := Scalar.indexCast v3089
  let c0_1246 : Index := 0#32
  ![v3094.toNat, 0]

def k0_chk29 (i : grid0.Coords) (v3086 : BitVec 32) : Prop :=
  (∀ (k0_h1 : k0_cond1 i = 1#1), 2 ∣ (k0_mult30 v3086).toNat) ∧
  (∀ (k0_h1 : k0_cond1 i = 1#1), ∀ a, (k0_off109 v3086) a + S2x5120.size a ≤ S1280x5120.size a) ∧
  (∀ (k0_h1 : k0_cond1 i = 1#1), ∀ (hinb : ∀ a, (k0_off109 v3086) a + S2x5120.size a ≤ S1280x5120.size a), (Rect.unit (s := S1280x5120) (k0_off109 v3086) S2x5120.size hinb).PackedRows (EltTy.packing .bf16))
theorem k0_mult30_dvd : ∀ (i : grid0.Coords) (v3086 : BitVec 32) (k0_hw29 : k0_chk29 i v3086), ∀ (k0_h1 : k0_cond1 i = 1#1), 2 ∣ (k0_mult30 v3086).toNat := fun i v3086 k0_hw29 k0_h1 => k0_hw29.1 k0_h1
theorem k0_off109_inb : ∀ (i : grid0.Coords) (v3086 : BitVec 32) (k0_hw29 : k0_chk29 i v3086), ∀ (k0_h1 : k0_cond1 i = 1#1), ∀ a, (k0_off109 v3086) a + S2x5120.size a ≤ S1280x5120.size a := fun i v3086 k0_hw29 k0_h1 => k0_hw29.2.1 k0_h1
theorem k0_off109_packedbf16 : ∀ (i : grid0.Coords) (v3086 : BitVec 32) (k0_hw29 : k0_chk29 i v3086), ∀ (k0_h1 : k0_cond1 i = 1#1), (Rect.unit (s := S1280x5120) (k0_off109 v3086) S2x5120.size (k0_off109_inb i v3086 k0_hw29 k0_h1)).PackedRows (EltTy.packing .bf16) := fun i v3086 k0_hw29 k0_h1 => k0_hw29.2.2 k0_h1 (k0_off109_inb i v3086 k0_hw29 k0_h1)

def k0_mult31 (v3103 : BitVec 32) : BitVec 32 :=
  let c1_i32_1249 : BitVec 32 := 1#32
  let v3104 : BitVec 32 := Scalar.shrui v3103 c1_i32_1249
  let c2_i32_1250 : BitVec 32 := 2#32
  let v3105 : BitVec 32 := Scalar.muli v3104 c2_i32_1250
  v3105

def k0_off110 (v3103 : BitVec 32) : Fin 2 → Nat :=
  let c1_i32_1249 : BitVec 32 := 1#32
  let v3104 : BitVec 32 := Scalar.shrui v3103 c1_i32_1249
  let c2_i32_1250 : BitVec 32 := 2#32
  let v3105 : BitVec 32 := Scalar.muli v3104 c2_i32_1250
  let v3106 : BitVec 32 := v3105
  let v3111 : Index := Scalar.indexCast v3106
  let c0_1254 : Index := 0#32
  ![v3111.toNat, 0]

def k0_chk30 (i : grid0.Coords) (v3103 : BitVec 32) : Prop :=
  (∀ (k0_h1 : k0_cond1 i = 1#1), 2 ∣ (k0_mult31 v3103).toNat) ∧
  (∀ (k0_h1 : k0_cond1 i = 1#1), ∀ a, (k0_off110 v3103) a + S2x5120.size a ≤ S1280x5120.size a) ∧
  (∀ (k0_h1 : k0_cond1 i = 1#1), ∀ (hinb : ∀ a, (k0_off110 v3103) a + S2x5120.size a ≤ S1280x5120.size a), (Rect.unit (s := S1280x5120) (k0_off110 v3103) S2x5120.size hinb).PackedRows (EltTy.packing .bf16))
theorem k0_mult31_dvd : ∀ (i : grid0.Coords) (v3103 : BitVec 32) (k0_hw30 : k0_chk30 i v3103), ∀ (k0_h1 : k0_cond1 i = 1#1), 2 ∣ (k0_mult31 v3103).toNat := fun i v3103 k0_hw30 k0_h1 => k0_hw30.1 k0_h1
theorem k0_off110_inb : ∀ (i : grid0.Coords) (v3103 : BitVec 32) (k0_hw30 : k0_chk30 i v3103), ∀ (k0_h1 : k0_cond1 i = 1#1), ∀ a, (k0_off110 v3103) a + S2x5120.size a ≤ S1280x5120.size a := fun i v3103 k0_hw30 k0_h1 => k0_hw30.2.1 k0_h1
theorem k0_off110_packedbf16 : ∀ (i : grid0.Coords) (v3103 : BitVec 32) (k0_hw30 : k0_chk30 i v3103), ∀ (k0_h1 : k0_cond1 i = 1#1), (Rect.unit (s := S1280x5120) (k0_off110 v3103) S2x5120.size (k0_off110_inb i v3103 k0_hw30 k0_h1)).PackedRows (EltTy.packing .bf16) := fun i v3103 k0_hw30 k0_h1 => k0_hw30.2.2 k0_h1 (k0_off110_inb i v3103 k0_hw30 k0_h1)

def k0_mult32 (v3120 : BitVec 32) : BitVec 32 :=
  let c1_i32_1257 : BitVec 32 := 1#32
  let v3121 : BitVec 32 := Scalar.shrui v3120 c1_i32_1257
  let c2_i32_1258 : BitVec 32 := 2#32
  let v3122 : BitVec 32 := Scalar.muli v3121 c2_i32_1258
  v3122

def k0_off111 (v3120 : BitVec 32) : Fin 2 → Nat :=
  let c1_i32_1257 : BitVec 32 := 1#32
  let v3121 : BitVec 32 := Scalar.shrui v3120 c1_i32_1257
  let c2_i32_1258 : BitVec 32 := 2#32
  let v3122 : BitVec 32 := Scalar.muli v3121 c2_i32_1258
  let v3123 : BitVec 32 := v3122
  let v3128 : Index := Scalar.indexCast v3123
  let c0_1262 : Index := 0#32
  ![v3128.toNat, 0]

def k0_chk31 (i : grid0.Coords) (v3120 : BitVec 32) : Prop :=
  (∀ (k0_h1 : k0_cond1 i = 1#1), 2 ∣ (k0_mult32 v3120).toNat) ∧
  (∀ (k0_h1 : k0_cond1 i = 1#1), ∀ a, (k0_off111 v3120) a + S2x5120.size a ≤ S1280x5120.size a) ∧
  (∀ (k0_h1 : k0_cond1 i = 1#1), ∀ (hinb : ∀ a, (k0_off111 v3120) a + S2x5120.size a ≤ S1280x5120.size a), (Rect.unit (s := S1280x5120) (k0_off111 v3120) S2x5120.size hinb).PackedRows (EltTy.packing .bf16))
theorem k0_mult32_dvd : ∀ (i : grid0.Coords) (v3120 : BitVec 32) (k0_hw31 : k0_chk31 i v3120), ∀ (k0_h1 : k0_cond1 i = 1#1), 2 ∣ (k0_mult32 v3120).toNat := fun i v3120 k0_hw31 k0_h1 => k0_hw31.1 k0_h1
theorem k0_off111_inb : ∀ (i : grid0.Coords) (v3120 : BitVec 32) (k0_hw31 : k0_chk31 i v3120), ∀ (k0_h1 : k0_cond1 i = 1#1), ∀ a, (k0_off111 v3120) a + S2x5120.size a ≤ S1280x5120.size a := fun i v3120 k0_hw31 k0_h1 => k0_hw31.2.1 k0_h1
theorem k0_off111_packedbf16 : ∀ (i : grid0.Coords) (v3120 : BitVec 32) (k0_hw31 : k0_chk31 i v3120), ∀ (k0_h1 : k0_cond1 i = 1#1), (Rect.unit (s := S1280x5120) (k0_off111 v3120) S2x5120.size (k0_off111_inb i v3120 k0_hw31 k0_h1)).PackedRows (EltTy.packing .bf16) := fun i v3120 k0_hw31 k0_h1 => k0_hw31.2.2 k0_h1 (k0_off111_inb i v3120 k0_hw31 k0_h1)

def k0_mult33 (v3137 : BitVec 32) : BitVec 32 :=
  let c1_i32_1265 : BitVec 32 := 1#32
  let v3138 : BitVec 32 := Scalar.shrui v3137 c1_i32_1265
  let c2_i32_1266 : BitVec 32 := 2#32
  let v3139 : BitVec 32 := Scalar.muli v3138 c2_i32_1266
  v3139

def k0_off112 (v3137 : BitVec 32) : Fin 2 → Nat :=
  let c1_i32_1265 : BitVec 32 := 1#32
  let v3138 : BitVec 32 := Scalar.shrui v3137 c1_i32_1265
  let c2_i32_1266 : BitVec 32 := 2#32
  let v3139 : BitVec 32 := Scalar.muli v3138 c2_i32_1266
  let v3140 : BitVec 32 := v3139
  let v3145 : Index := Scalar.indexCast v3140
  let c0_1270 : Index := 0#32
  ![v3145.toNat, 0]

def k0_chk32 (i : grid0.Coords) (v3137 : BitVec 32) : Prop :=
  (∀ (k0_h1 : k0_cond1 i = 1#1), 2 ∣ (k0_mult33 v3137).toNat) ∧
  (∀ (k0_h1 : k0_cond1 i = 1#1), ∀ a, (k0_off112 v3137) a + S2x5120.size a ≤ S1280x5120.size a) ∧
  (∀ (k0_h1 : k0_cond1 i = 1#1), ∀ (hinb : ∀ a, (k0_off112 v3137) a + S2x5120.size a ≤ S1280x5120.size a), (Rect.unit (s := S1280x5120) (k0_off112 v3137) S2x5120.size hinb).PackedRows (EltTy.packing .bf16))
theorem k0_mult33_dvd : ∀ (i : grid0.Coords) (v3137 : BitVec 32) (k0_hw32 : k0_chk32 i v3137), ∀ (k0_h1 : k0_cond1 i = 1#1), 2 ∣ (k0_mult33 v3137).toNat := fun i v3137 k0_hw32 k0_h1 => k0_hw32.1 k0_h1
theorem k0_off112_inb : ∀ (i : grid0.Coords) (v3137 : BitVec 32) (k0_hw32 : k0_chk32 i v3137), ∀ (k0_h1 : k0_cond1 i = 1#1), ∀ a, (k0_off112 v3137) a + S2x5120.size a ≤ S1280x5120.size a := fun i v3137 k0_hw32 k0_h1 => k0_hw32.2.1 k0_h1
theorem k0_off112_packedbf16 : ∀ (i : grid0.Coords) (v3137 : BitVec 32) (k0_hw32 : k0_chk32 i v3137), ∀ (k0_h1 : k0_cond1 i = 1#1), (Rect.unit (s := S1280x5120) (k0_off112 v3137) S2x5120.size (k0_off112_inb i v3137 k0_hw32 k0_h1)).PackedRows (EltTy.packing .bf16) := fun i v3137 k0_hw32 k0_h1 => k0_hw32.2.2 k0_h1 (k0_off112_inb i v3137 k0_hw32 k0_h1)

def k0_mult34 (v3154 : BitVec 32) : BitVec 32 :=
  let c1_i32_1273 : BitVec 32 := 1#32
  let v3155 : BitVec 32 := Scalar.shrui v3154 c1_i32_1273
  let c2_i32_1274 : BitVec 32 := 2#32
  let v3156 : BitVec 32 := Scalar.muli v3155 c2_i32_1274
  v3156

def k0_off113 (v3154 : BitVec 32) : Fin 2 → Nat :=
  let c1_i32_1273 : BitVec 32 := 1#32
  let v3155 : BitVec 32 := Scalar.shrui v3154 c1_i32_1273
  let c2_i32_1274 : BitVec 32 := 2#32
  let v3156 : BitVec 32 := Scalar.muli v3155 c2_i32_1274
  let v3157 : BitVec 32 := v3156
  let v3162 : Index := Scalar.indexCast v3157
  let c0_1278 : Index := 0#32
  ![v3162.toNat, 0]

def k0_chk33 (i : grid0.Coords) (v3154 : BitVec 32) : Prop :=
  (∀ (k0_h1 : k0_cond1 i = 1#1), 2 ∣ (k0_mult34 v3154).toNat) ∧
  (∀ (k0_h1 : k0_cond1 i = 1#1), ∀ a, (k0_off113 v3154) a + S2x5120.size a ≤ S1280x5120.size a) ∧
  (∀ (k0_h1 : k0_cond1 i = 1#1), ∀ (hinb : ∀ a, (k0_off113 v3154) a + S2x5120.size a ≤ S1280x5120.size a), (Rect.unit (s := S1280x5120) (k0_off113 v3154) S2x5120.size hinb).PackedRows (EltTy.packing .bf16))
theorem k0_mult34_dvd : ∀ (i : grid0.Coords) (v3154 : BitVec 32) (k0_hw33 : k0_chk33 i v3154), ∀ (k0_h1 : k0_cond1 i = 1#1), 2 ∣ (k0_mult34 v3154).toNat := fun i v3154 k0_hw33 k0_h1 => k0_hw33.1 k0_h1
theorem k0_off113_inb : ∀ (i : grid0.Coords) (v3154 : BitVec 32) (k0_hw33 : k0_chk33 i v3154), ∀ (k0_h1 : k0_cond1 i = 1#1), ∀ a, (k0_off113 v3154) a + S2x5120.size a ≤ S1280x5120.size a := fun i v3154 k0_hw33 k0_h1 => k0_hw33.2.1 k0_h1
theorem k0_off113_packedbf16 : ∀ (i : grid0.Coords) (v3154 : BitVec 32) (k0_hw33 : k0_chk33 i v3154), ∀ (k0_h1 : k0_cond1 i = 1#1), (Rect.unit (s := S1280x5120) (k0_off113 v3154) S2x5120.size (k0_off113_inb i v3154 k0_hw33 k0_h1)).PackedRows (EltTy.packing .bf16) := fun i v3154 k0_hw33 k0_h1 => k0_hw33.2.2 k0_h1 (k0_off113_inb i v3154 k0_hw33 k0_h1)

def k0_mult35 (v3171 : BitVec 32) : BitVec 32 :=
  let c1_i32_1281 : BitVec 32 := 1#32
  let v3172 : BitVec 32 := Scalar.shrui v3171 c1_i32_1281
  let c2_i32_1282 : BitVec 32 := 2#32
  let v3173 : BitVec 32 := Scalar.muli v3172 c2_i32_1282
  v3173

def k0_off114 (v3171 : BitVec 32) : Fin 2 → Nat :=
  let c1_i32_1281 : BitVec 32 := 1#32
  let v3172 : BitVec 32 := Scalar.shrui v3171 c1_i32_1281
  let c2_i32_1282 : BitVec 32 := 2#32
  let v3173 : BitVec 32 := Scalar.muli v3172 c2_i32_1282
  let v3174 : BitVec 32 := v3173
  let v3179 : Index := Scalar.indexCast v3174
  let c0_1286 : Index := 0#32
  ![v3179.toNat, 0]

def k0_chk34 (i : grid0.Coords) (v3171 : BitVec 32) : Prop :=
  (∀ (k0_h1 : k0_cond1 i = 1#1), 2 ∣ (k0_mult35 v3171).toNat) ∧
  (∀ (k0_h1 : k0_cond1 i = 1#1), ∀ a, (k0_off114 v3171) a + S2x5120.size a ≤ S1280x5120.size a) ∧
  (∀ (k0_h1 : k0_cond1 i = 1#1), ∀ (hinb : ∀ a, (k0_off114 v3171) a + S2x5120.size a ≤ S1280x5120.size a), (Rect.unit (s := S1280x5120) (k0_off114 v3171) S2x5120.size hinb).PackedRows (EltTy.packing .bf16))
theorem k0_mult35_dvd : ∀ (i : grid0.Coords) (v3171 : BitVec 32) (k0_hw34 : k0_chk34 i v3171), ∀ (k0_h1 : k0_cond1 i = 1#1), 2 ∣ (k0_mult35 v3171).toNat := fun i v3171 k0_hw34 k0_h1 => k0_hw34.1 k0_h1
theorem k0_off114_inb : ∀ (i : grid0.Coords) (v3171 : BitVec 32) (k0_hw34 : k0_chk34 i v3171), ∀ (k0_h1 : k0_cond1 i = 1#1), ∀ a, (k0_off114 v3171) a + S2x5120.size a ≤ S1280x5120.size a := fun i v3171 k0_hw34 k0_h1 => k0_hw34.2.1 k0_h1
theorem k0_off114_packedbf16 : ∀ (i : grid0.Coords) (v3171 : BitVec 32) (k0_hw34 : k0_chk34 i v3171), ∀ (k0_h1 : k0_cond1 i = 1#1), (Rect.unit (s := S1280x5120) (k0_off114 v3171) S2x5120.size (k0_off114_inb i v3171 k0_hw34 k0_h1)).PackedRows (EltTy.packing .bf16) := fun i v3171 k0_hw34 k0_h1 => k0_hw34.2.2 k0_h1 (k0_off114_inb i v3171 k0_hw34 k0_h1)

def k0_mult36 (v3188 : BitVec 32) : BitVec 32 :=
  let c1_i32_1289 : BitVec 32 := 1#32
  let v3189 : BitVec 32 := Scalar.shrui v3188 c1_i32_1289
  let c2_i32_1290 : BitVec 32 := 2#32
  let v3190 : BitVec 32 := Scalar.muli v3189 c2_i32_1290
  v3190

def k0_off115 (v3188 : BitVec 32) : Fin 2 → Nat :=
  let c1_i32_1289 : BitVec 32 := 1#32
  let v3189 : BitVec 32 := Scalar.shrui v3188 c1_i32_1289
  let c2_i32_1290 : BitVec 32 := 2#32
  let v3190 : BitVec 32 := Scalar.muli v3189 c2_i32_1290
  let v3191 : BitVec 32 := v3190
  let v3196 : Index := Scalar.indexCast v3191
  let c0_1294 : Index := 0#32
  ![v3196.toNat, 0]

def k0_chk35 (i : grid0.Coords) (v3188 : BitVec 32) : Prop :=
  (∀ (k0_h1 : k0_cond1 i = 1#1), 2 ∣ (k0_mult36 v3188).toNat) ∧
  (∀ (k0_h1 : k0_cond1 i = 1#1), ∀ a, (k0_off115 v3188) a + S2x5120.size a ≤ S1280x5120.size a) ∧
  (∀ (k0_h1 : k0_cond1 i = 1#1), ∀ (hinb : ∀ a, (k0_off115 v3188) a + S2x5120.size a ≤ S1280x5120.size a), (Rect.unit (s := S1280x5120) (k0_off115 v3188) S2x5120.size hinb).PackedRows (EltTy.packing .bf16))
theorem k0_mult36_dvd : ∀ (i : grid0.Coords) (v3188 : BitVec 32) (k0_hw35 : k0_chk35 i v3188), ∀ (k0_h1 : k0_cond1 i = 1#1), 2 ∣ (k0_mult36 v3188).toNat := fun i v3188 k0_hw35 k0_h1 => k0_hw35.1 k0_h1
theorem k0_off115_inb : ∀ (i : grid0.Coords) (v3188 : BitVec 32) (k0_hw35 : k0_chk35 i v3188), ∀ (k0_h1 : k0_cond1 i = 1#1), ∀ a, (k0_off115 v3188) a + S2x5120.size a ≤ S1280x5120.size a := fun i v3188 k0_hw35 k0_h1 => k0_hw35.2.1 k0_h1
theorem k0_off115_packedbf16 : ∀ (i : grid0.Coords) (v3188 : BitVec 32) (k0_hw35 : k0_chk35 i v3188), ∀ (k0_h1 : k0_cond1 i = 1#1), (Rect.unit (s := S1280x5120) (k0_off115 v3188) S2x5120.size (k0_off115_inb i v3188 k0_hw35 k0_h1)).PackedRows (EltTy.packing .bf16) := fun i v3188 k0_hw35 k0_h1 => k0_hw35.2.2 k0_h1 (k0_off115_inb i v3188 k0_hw35 k0_h1)

def k0_mult37 (v3205 : BitVec 32) : BitVec 32 :=
  let c1_i32_1297 : BitVec 32 := 1#32
  let v3206 : BitVec 32 := Scalar.shrui v3205 c1_i32_1297
  let c2_i32_1298 : BitVec 32 := 2#32
  let v3207 : BitVec 32 := Scalar.muli v3206 c2_i32_1298
  v3207

def k0_off116 (v3205 : BitVec 32) : Fin 2 → Nat :=
  let c1_i32_1297 : BitVec 32 := 1#32
  let v3206 : BitVec 32 := Scalar.shrui v3205 c1_i32_1297
  let c2_i32_1298 : BitVec 32 := 2#32
  let v3207 : BitVec 32 := Scalar.muli v3206 c2_i32_1298
  let v3208 : BitVec 32 := v3207
  let v3213 : Index := Scalar.indexCast v3208
  let c0_1302 : Index := 0#32
  ![v3213.toNat, 0]

def k0_chk36 (i : grid0.Coords) (v3205 : BitVec 32) : Prop :=
  (∀ (k0_h1 : k0_cond1 i = 1#1), 2 ∣ (k0_mult37 v3205).toNat) ∧
  (∀ (k0_h1 : k0_cond1 i = 1#1), ∀ a, (k0_off116 v3205) a + S2x5120.size a ≤ S1280x5120.size a) ∧
  (∀ (k0_h1 : k0_cond1 i = 1#1), ∀ (hinb : ∀ a, (k0_off116 v3205) a + S2x5120.size a ≤ S1280x5120.size a), (Rect.unit (s := S1280x5120) (k0_off116 v3205) S2x5120.size hinb).PackedRows (EltTy.packing .bf16))
theorem k0_mult37_dvd : ∀ (i : grid0.Coords) (v3205 : BitVec 32) (k0_hw36 : k0_chk36 i v3205), ∀ (k0_h1 : k0_cond1 i = 1#1), 2 ∣ (k0_mult37 v3205).toNat := fun i v3205 k0_hw36 k0_h1 => k0_hw36.1 k0_h1
theorem k0_off116_inb : ∀ (i : grid0.Coords) (v3205 : BitVec 32) (k0_hw36 : k0_chk36 i v3205), ∀ (k0_h1 : k0_cond1 i = 1#1), ∀ a, (k0_off116 v3205) a + S2x5120.size a ≤ S1280x5120.size a := fun i v3205 k0_hw36 k0_h1 => k0_hw36.2.1 k0_h1
theorem k0_off116_packedbf16 : ∀ (i : grid0.Coords) (v3205 : BitVec 32) (k0_hw36 : k0_chk36 i v3205), ∀ (k0_h1 : k0_cond1 i = 1#1), (Rect.unit (s := S1280x5120) (k0_off116 v3205) S2x5120.size (k0_off116_inb i v3205 k0_hw36 k0_h1)).PackedRows (EltTy.packing .bf16) := fun i v3205 k0_hw36 k0_h1 => k0_hw36.2.2 k0_h1 (k0_off116_inb i v3205 k0_hw36 k0_h1)

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S36 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S10x40 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S36x5120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1280x5120 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x5120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x5120 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x5120 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1280 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x10 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x5120 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x40 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S12x1024x1280 : Shape := ⟨3, ![12, 1024, 1280]⟩
abbrev S36 : Shape := ⟨1, ![36]⟩
abbrev S36x5120 : Shape := ⟨2, ![36, 5120]⟩
abbrev S1280x5120 : Shape := ⟨2, ![1280, 5120]⟩
abbrev S10x40 : Shape := ⟨2, ![10, 40]⟩
abbrev S5120 : Shape := ⟨1, ![5120]⟩
abbrev S12x1024x5120 : Shape := ⟨3, ![12, 1024, 5120]⟩
abbrev S_ : Shape := ⟨0, ![]⟩
abbrev S1x1280 : Shape := ⟨2, ![1, 1280]⟩
abbrev S36x1 : Shape := ⟨2, ![36, 1]⟩
abbrev S36x2 : Shape := ⟨2, ![36, 2]⟩
abbrev S12288x1280 : Shape := ⟨2, ![12288, 1280]⟩
abbrev S1x5120 : Shape := ⟨2, ![1, 5120]⟩
abbrev S12288x5120 : Shape := ⟨2, ![12288, 5120]⟩
abbrev S12288x10 : Shape := ⟨2, ![12288, 10]⟩
abbrev S12288x40 : Shape := ⟨2, ![12288, 40]⟩
abbrev S12288x10x128 : Shape := ⟨3, ![12288, 10, 128]⟩
abbrev S12288x10x1 : Shape := ⟨3, ![12288, 10, 1]⟩
abbrev S10x128x40x128 : Shape := ⟨4, ![10, 128, 40, 128]⟩
abbrev S10x1x40x1 : Shape := ⟨4, ![10, 1, 40, 1]⟩
abbrev S1280x1 : Shape := ⟨2, ![1280, 1]⟩
abbrev S12288x40x128 : Shape := ⟨3, ![12288, 40, 128]⟩
abbrev S12288x40x1 : Shape := ⟨3, ![12288, 40, 1]⟩

abbrev nBuf : Space → Nat
  | .hbm => 44
  | .vmem => 12
  | .smem => 0
  | _ => 0

abbrev bufTy : (tb : Table) → Fin (tcTables nBuf tb) → BufTy
  | .hbm, ⟨0, _⟩ => ⟨S12x1024x1280, .bf16⟩
  | .hbm, ⟨1, _⟩ => ⟨S36, .i32⟩
  | .hbm, ⟨2, _⟩ => ⟨S36x5120, .bf16⟩
  | .hbm, ⟨3, _⟩ => ⟨S1280x5120, .fp8e4m3⟩
  | .hbm, ⟨4, _⟩ => ⟨S10x40, .f32⟩
  | .hbm, ⟨5, _⟩ => ⟨S5120, .f32⟩
  | .hbm, ⟨6, _⟩ => ⟨S12x1024x5120, .bf16⟩
  | .hbm, ⟨7, _⟩ => ⟨S_, .i32⟩
  | .hbm, ⟨8, _⟩ => ⟨S1x1280, .i32⟩
  | .hbm, ⟨9, _⟩ => ⟨S_, .i32⟩
  | .hbm, ⟨10, _⟩ => ⟨S36, .i32⟩
  | .hbm, ⟨11, _⟩ => ⟨S36, .i1⟩
  | .hbm, ⟨12, _⟩ => ⟨S_, .i32⟩
  | .hbm, ⟨13, _⟩ => ⟨S36, .i32⟩
  | .hbm, ⟨14, _⟩ => ⟨S36, .i32⟩
  | .hbm, ⟨15, _⟩ => ⟨S36, .i32⟩
  | .hbm, ⟨16, _⟩ => ⟨S_, .i32⟩
  | .hbm, ⟨17, _⟩ => ⟨S36, .i32⟩
  | .hbm, ⟨18, _⟩ => ⟨S36, .i32⟩
  | .hbm, ⟨19, _⟩ => ⟨S36x1, .i32⟩
  | .hbm, ⟨20, _⟩ => ⟨S36x1, .i32⟩
  | .hbm, ⟨21, _⟩ => ⟨S36x2, .i32⟩
  | .hbm, ⟨22, _⟩ => ⟨S_, .i32⟩
  | .hbm, ⟨23, _⟩ => ⟨S36, .i32⟩
  | .hbm, ⟨24, _⟩ => ⟨S1x1280, .i32⟩
  | .hbm, ⟨25, _⟩ => ⟨S_, .bf16⟩
  | .hbm, ⟨26, _⟩ => ⟨S1280x5120, .bf16⟩
  | .hbm, ⟨27, _⟩ => ⟨S_, .i32⟩
  | .hbm, ⟨28, _⟩ => ⟨S36, .i32⟩
  | .hbm, ⟨29, _⟩ => ⟨S36, .i1⟩
  | .hbm, ⟨30, _⟩ => ⟨S_, .i32⟩
  | .hbm, ⟨31, _⟩ => ⟨S36, .i32⟩
  | .hbm, ⟨32, _⟩ => ⟨S36, .i32⟩
  | .hbm, ⟨33, _⟩ => ⟨S36, .i32⟩
  | .hbm, ⟨34, _⟩ => ⟨S36x1, .i32⟩
  | .hbm, ⟨35, _⟩ => ⟨S1280x5120, .bf16⟩
  | .hbm, ⟨36, _⟩ => ⟨S12288x1280, .bf16⟩
  | .hbm, ⟨37, _⟩ => ⟨S1x5120, .f32⟩
  | .hbm, ⟨38, _⟩ => ⟨S12288x5120, .bf16⟩
  | .hbm, ⟨39, _⟩ => ⟨S12288x5120, .bf16⟩
  | .hbm, ⟨40, _⟩ => ⟨S12288x1280, .fp8e4m3⟩
  | .hbm, ⟨41, _⟩ => ⟨S12288x10, .f32⟩
  | .hbm, ⟨42, _⟩ => ⟨S12288x5120, .fp8e4m3⟩
  | .hbm, ⟨43, _⟩ => ⟨S12288x40, .f32⟩
  | .local _ .vmem, ⟨0, _⟩ => ⟨S1x1280, .i32⟩
  | .local _ .vmem, ⟨1, _⟩ => ⟨S1280x5120, .bf16⟩
  | .local _ .vmem, ⟨2, _⟩ => ⟨S12288x1280, .bf16⟩
  | .local _ .vmem, ⟨3, _⟩ => ⟨S1280x5120, .fp8e4m3⟩
  | .local _ .vmem, ⟨4, _⟩ => ⟨S10x40, .f32⟩
  | .local _ .vmem, ⟨5, _⟩ => ⟨S1x5120, .f32⟩
  | .local _ .vmem, ⟨6, _⟩ => ⟨S12288x5120, .bf16⟩
  | .local _ .vmem, ⟨7, _⟩ => ⟨S12288x5120, .bf16⟩
  | .local _ .vmem, ⟨8, _⟩ => ⟨S12288x1280, .fp8e4m3⟩
  | .local _ .vmem, ⟨9, _⟩ => ⟨S12288x10, .f32⟩
  | .local _ .vmem, ⟨10, _⟩ => ⟨S12288x5120, .fp8e4m3⟩
  | .local _ .vmem, ⟨11, _⟩ => ⟨S12288x40, .f32⟩
  | _, _ => ⟨S12x1024x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_c_0 : Ref sig .tc := ⟨.hbm, 9, rfl⟩
abbrev main_v1 : Ref sig .tc := ⟨.hbm, 10, rfl⟩
abbrev main_v2 : Ref sig .tc := ⟨.hbm, 11, rfl⟩
abbrev main_c_1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_3 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_c_4 : Ref sig .tc := ⟨.hbm, 27, rfl⟩
abbrev main_v14 : Ref sig .tc := ⟨.hbm, 28, rfl⟩
abbrev main_v15 : Ref sig .tc := ⟨.hbm, 29, rfl⟩
abbrev main_c_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24_0 : Ref sig .tc := ⟨.hbm, 39, rfl⟩
abbrev main_v24_1 : Ref sig .tc := ⟨.hbm, 40, rfl⟩
abbrev main_v24_2 : Ref sig .tc := ⟨.hbm, 41, rfl⟩
abbrev main_v24_3 : Ref sig .tc := ⟨.hbm, 42, rfl⟩
abbrev main_v24_4 : Ref sig .tc := ⟨.hbm, 43, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S1x1280 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1280x5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12288x1280 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1280x5120 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S10x40 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x5120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12288x5120 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S12288x5120 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S12288x1280 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S12288x10 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S12288x5120 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S12288x40 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.BodyRest.lean ====
/- One grid point of the kernel body after the weights are prepared: the run of the activation blocks, the
   contractions and the output blocks, for any contents of the two carried scratch buffers. -/
module

public import proofs.«01_k».proof.Proof.Gen.KernelIdeal.Frame
public import proofs.«01_k».proof.Proof.Gen.KernelIdeal.Loops

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- What the first part of the body returns once the carried scratch buffers are in place: the first activation block's
    values, from the activations `x` and the keep mask `k`. -/
def first (x : Vec F S512x1280 .bf16) (k : Vec F S8x1280 .i32) :
    Σ' (v4 : FVec F S512x128 .bf16) (v9 : IVec S512x128 1) (v35 : FVec F S512x128 .bf16) (cst_13 : F .bf16), FVec F S512x128 .bf16 :=
  ⟨k0_pay107 (View.ld x (Rect.unit (s := S512x1280) ![0, 0] S512x128.size inb_S512x1280_S512x128_0_0)),
    k0_pay108 (F := F) (View.ld (Val := Elt F) (e' := .i32) k (Rect.unit (s := S8x1280) ![0, 0] S1x128.size inb_S8x1280_S1x128_0_0)),
    k0_pay110 (View.ld x (Rect.unit (s := S512x1280) ![0, 0] S512x128.size inb_S512x1280_S512x128_0_0)) (View.ld (Val := Elt F) (e' := .i32) k (Rect.unit (s := S8x1280) ![0, 0] S1x128.size inb_S8x1280_S1x128_0_0)),
    Scalar.ofBits .bf16 0x43E0#16,
    k0_pay111 (View.ld x (Rect.unit (s := S512x1280) ![0, 0] S512x128.size inb_S512x1280_S512x128_0_0)) (View.ld (Val := Elt F) (e' := .i32) k (Rect.unit (s := S8x1280) ![0, 0] S1x128.size inb_S8x1280_S1x128_0_0))⟩

set_option maxHeartbeats 4000000 in
/-- The body from any way `hfirst` of running its first part that leaves the scratch weights at `w` and the keep mask at
    `k`: what each output's staging buffer is left with, as pieces (last first). -/
def run (c : Dev nD) (i : grid0.Coords) (arg1 : Memref sig .tc .smem S36 .i32) (harg1 : arg1.IsWhole) (arg2 : Memref sig .tc .smem S10x40 .f32) (harg2 : arg2.IsWhole) (arg3 : Memref sig .tc .vmem S512x1280 .bf16) (harg3 : arg3.IsWhole) (arg4 : Memref sig .tc .vmem S36x5120 .bf16) (harg4 : arg4.IsWhole) (arg5 : Memref sig .tc .vmem S1280x5120 .fp8e4m3) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S512x5120 .bf16) (harg8 : arg8.IsWhole) (arg9 : Memref sig .tc .vmem S512x1280 .fp8e4m3) (harg9 : arg9.IsWhole) (arg10 : Memref sig .tc .vmem S512x10 .f32) (harg10 : arg10.IsWhole) (arg11 : Memref sig .tc .vmem S512x5120 .fp8e4m3) (harg11 : arg11.IsWhole) (arg12 : Memref sig .tc .vmem S512x40 .f32) (harg12 : arg12.IsWhole) (arg13 : Memref sig .tc .vmem S1280x5120 .bf16) (harg13 : arg13.IsWhole) (arg14 : Memref sig .tc .vmem S512x1280 .bf16) (harg14 : arg14.IsWhole) (arg15 : Memref sig .tc .vmem S8x1280 .i32) (harg15 : arg15.IsWhole)
    (x0 : Vec F S36 .i32) (x1 : Vec F S10x40 .f32) (x2 : Vec F S512x1280 .bf16) (x3 : Vec F S36x5120 .bf16) (x4 : Vec F S1280x5120 .fp8e4m3) (x5 : Vec F S1x5120 .f32) (x6 : Vec F S512x5120 .bf16)
    (w : Vec F S1280x5120 .bf16) (k : Vec F S8x1280 .i32) :
    { L : List (View.Piece (Elt F) S512x5120 .bf16) × List (View.Piece (Elt F) S512x1280 .fp8e4m3) × List (View.Piece (Elt F) S512x10 .f32) × List (View.Piece (Elt F) S512x5120 .fp8e4m3) × List (View.Piece (Elt F) S512x40 .f32) //
      ∀ (S : sProp 𝕄) (E : Set ℕ) (K : PUnit → sProp 𝕄)
        (hfirst : iprop((arg1.view.loc (c : Thread nD τ) ↦[arg1.view.set]{fullShare} harg1.unread x0) ∗ (arg2.view.loc (c : Thread nD τ) ↦[arg2.view.set]{fullShare} harg2.unread x1) ∗ (arg3.view.loc (c : Thread nD τ) ↦[arg3.view.set]{fullShare} harg3.unread x2) ∗ (arg4.view.loc (c : Thread nD τ) ↦[arg4.view.set]{fullShare} harg4.unread x3) ∗ (arg5.view.loc (c : Thread nD τ) ↦[arg5.view.set]{fullShare} harg5.unread x4) ∗ S)
          ⊢ wp frame (wpE (defs₀ (F := F)) Variants.none c none) E (k0_part32 i arg1 harg1 arg2 harg2 arg3 harg3 arg4 harg4 arg5 harg5 arg6 harg6 arg7 harg7 arg8 harg8 arg9 harg9 arg10 harg10 arg11 harg11 arg12 harg12 arg13 harg13 arg14 harg14 arg15 harg15)
              (fun r => iprop(⌜r = first (arg3.view.read (Elt F) (harg3.unread x2)) (arg15.view.read (Elt F) (harg15.unread k))⌝ ∗ (arg1.view.loc (c : Thread nD τ) ↦[arg1.view.set]{fullShare} harg1.unread x0) ∗ (arg2.view.loc (c : Thread nD τ) ↦[arg2.view.set]{fullShare} harg2.unread x1) ∗ (arg3.view.loc (c : Thread nD τ) ↦[arg3.view.set]{fullShare} harg3.unread x2) ∗ (arg4.view.loc (c : Thread nD τ) ↦[arg4.view.set]{fullShare} harg4.unread x3) ∗ (arg5.view.loc (c : Thread nD τ) ↦[arg5.view.set]{fullShare} harg5.unread x4) ∗ (arg13.view.loc (c : Thread nD τ) ↦[arg13.view.set]{fullShare} harg13.unread w) ∗ (arg15.view.loc (c : Thread nD τ) ↦[arg15.view.set]{fullShare} harg15.unread k)))),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg14 fullShare d) ∗ S
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L.1) ∗ (∃ f, arg9.view.loc (c : Thread nD τ) ↦[arg9.view.set]{fullShare} arg9.view.writes (Elt F) f L.2.1) ∗ (∃ f, arg10.view.loc (c : Thread nD τ) ↦[arg10.view.set]{fullShare} arg10.view.writes (Elt F) f L.2.2.1) ∗ (∃ f, arg11.view.loc (c : Thread nD τ) ↦[arg11.view.set]{fullShare} arg11.view.writes (Elt F) f L.2.2.2.1) ∗ (∃ f, arg12.view.loc (c : Thread nD τ) ↦[arg12.view.set]{fullShare} arg12.view.writes (Elt F) f L.2.2.2.2) ∗ (∃ d, owns (c : Thread nD τ) arg14 fullShare d) ∗ owns (c : Thread nD τ) arg13 fullShare w ∗ owns (c : Thread nD τ) arg15 fullShare k) -∗ K ⟨⟩))
          ⊢ wp frame (wpE (defs₀ (F := F)) Variants.none c none) E (cc0_outlier_linear i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨⟨?_, ?_, ?_, ?_, ?_⟩, fun S E K hfirst => ?run⟩
  case run =>
    simp only [cc0_outlier_linear_eq_skeleton]; unfold cc0_outlier_linear_skel
    simp only [k0_part91_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton]
    unfold k0_part91_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d14, %f14, -, H14⟩, HS, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
    rw [wp_bind, wp_bind]
    iapply (wp_wand_r Idealize.ShloMosaic.frame (wpE (defs₀ (F := F)) Variants.none c none) E)
    isplitl [H1 H2 H3 H4 H5 HS]
    · iapply hfirst
      isplitl [H1]; · iexact H1
      isplitl [H2]; · iexact H2
      isplitl [H3]; · iexact H3
      isplitl [H4]; · iexact H4
      isplitl [H5]; · iexact H5
      iexact HS
    iintro %r ⟨%hr, H1, H2, H3, H4, H5, H13, H15⟩
    subst hr
    unfold first
    rw [← wp_bind]
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; iexact H8
    isplitl [H9]
    · iexists _; iexact H9
    isplitl [H10]
    · iexists _; iexact H10
    isplitl [H11]
    · iexists _; iexact H11
    isplitl [H12]
    · iexists _; iexact H12
    isplitl [H14]
    · iexists _, _; isplitr; swap; · iexact H14
      ipureintro; rfl
    isplitl [H13]
    · iexists _; isplitr; · ipureintro; exact harg13.read_unread _
      iexact H13
    iexists _; isplitr; · ipureintro; exact harg15.read_unread _
    iexact H15

end Cert.KernelIdeal.Body

end
-- ==== Proof.Blocks.lean ====
/- The blocks of the kernel body as functions of what they read: the quantiser, an activation block, an output block,
   and the lists of blocks that one grid point writes. -/
module

public import proofs.«01_k».proof.Proof.BodyRest

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The power-of-two scale of a block, along its rows. -/
abbrev scaleOf (v : FVec F S512x128 .bf16) : FVec F S512x128 .bf16 := k0_pay196 v
/-- The codes of a block. -/
abbrev codesOf (v : FVec F S512x128 .bf16) : FVec F S512x128 .fp8e4m3 := k0_pay197 v
/-- The scale of a block as one column. -/
abbrev scaleColOf (v : FVec F S512x128 .bf16) : FVec F S512x1 .f32 := k0_pay198 v
/-- An activation block with the outlier columns set to zero. -/
abbrev kept (x : Vec F S512x128 .bf16) (k : Vec F S1x128 .i32) : FVec F S512x128 .bf16 := k0_pay109 x k
/-- An activation block as the contraction reads it: dequantised, the outlier columns as they came. -/
abbrev mixed (x : Vec F S512x128 .bf16) (k : Vec F S1x128 .i32) : FVec F S512x128 .bf16 :=
  k0_pay114 (k0_pay107 x) (k0_pay108 (F := F) k) (scaleOf (kept x k)) (Scalar.ofBits .bf16 0x43E0#16) (k0_pay111 x k)
/-- The contraction of the mixed activations with 512 columns of the weights. -/
abbrev chunk (a : Vec F S512x1280 .bf16) (w : Vec F S1280x512 .bf16) : FVec F S512x512 .f32 := k0_pay194 a w
/-- An output block: contraction, bias and residual. -/
abbrev outBlock (s : FVec F S512x128 .f32) (bias : Vec F S1x128 .f32) (res : Vec F S512x128 .bf16) : FVec F S512x128 .bf16 :=
  k0_pay201 s (k0_pay200 bias) res

/-- The columns of block `b` of the activations lie inside them. -/
theorem inbX (b : Fin 10) : ∀ a, (![0, 128 * b.val] : Fin 2 → ℕ) a + S512x128.size a ≤ S512x1280.size a := by revert b; decide
/-- The column of block `b` of the activations' scales lies inside them. -/
theorem inbXs (b : Fin 10) : ∀ a, (![0, b.val] : Fin 2 → ℕ) a + S512x1.size a ≤ S512x10.size a := by revert b; decide
/-- The columns of block `b` of the keep mask lie inside it. -/
theorem inbK (b : Fin 10) : ∀ a, (![0, 128 * b.val] : Fin 2 → ℕ) a + S1x128.size a ≤ S8x1280.size a := by revert b; decide
/-- The columns of block `b` of the output lie inside it. -/
theorem inbY (b : Fin 40) : ∀ a, (![0, 128 * b.val] : Fin 2 → ℕ) a + S512x128.size a ≤ S512x5120.size a := by revert b; decide
/-- The column of block `b` of the output's scales lies inside them. -/
theorem inbYs (b : Fin 40) : ∀ a, (![0, b.val] : Fin 2 → ℕ) a + S512x1.size a ≤ S512x40.size a := by revert b; decide
/-- The columns of block `b` of the bias lie inside it. -/
theorem inbB (b : Fin 40) : ∀ a, (![0, 128 * b.val] : Fin 2 → ℕ) a + S1x128.size a ≤ S1x5120.size a := by revert b; decide
/-- The columns of the weights that hold block `b` lie inside them. -/
theorem inbW (b : Fin 40) : ∀ a, (![0, 512 * (b.val / 4)] : Fin 2 → ℕ) a + S1280x512.size a ≤ S1280x5120.size a := by revert b; decide
/-- Block `b` lies inside its chunk of 512 columns. -/
theorem slicesC (b : Fin 40) : S512x512.Slices ![0, 128 * (b.val % 4)] S512x128 := by revert b; decide

/-- The activations of block `b`. -/
abbrev ldX (x : Vec F S512x1280 .bf16) (b : Fin 10) : Vec F S512x128 .bf16 := View.ld (Val := Elt F) (e' := .bf16) x (Rect.unit (s := S512x1280) ![0, 128 * b.val] S512x128.size (inbX b))
/-- The keep mask of block `b`. -/
abbrev ldK (k : Vec F S8x1280 .i32) (b : Fin 10) : Vec F S1x128 .i32 := View.ld (Val := Elt F) (e' := .i32) k (Rect.unit (s := S8x1280) ![0, 128 * b.val] S1x128.size (inbK b))
/-- The residual of output block `b`. -/
abbrev ldR (r : Vec F S512x5120 .bf16) (b : Fin 40) : Vec F S512x128 .bf16 := View.ld (Val := Elt F) (e' := .bf16) r (Rect.unit (s := S512x5120) ![0, 128 * b.val] S512x128.size (inbY b))
/-- The bias of output block `b`. -/
abbrev ldB (r : Vec F S1x5120 .f32) (b : Fin 40) : Vec F S1x128 .f32 := View.ld (Val := Elt F) (e' := .f32) r (Rect.unit (s := S1x5120) ![0, 128 * b.val] S1x128.size (inbB b))
/-- The 512 columns of the weights that output block `b` lies in. -/
abbrev ldW (w : Vec F S1280x5120 .bf16) (b : Fin 40) : Vec F S1280x512 .bf16 := View.ld (Val := Elt F) (e' := .bf16) w (Rect.unit (s := S1280x5120) ![0, 512 * (b.val / 4)] S1280x512.size (inbW b))

/-- Output block `b` from the mixed activations `a`. -/
def yBlock (a : Vec F S512x1280 .bf16) (w : Vec F S1280x5120 .bf16) (bias : Vec F S1x5120 .f32) (res : Vec F S512x5120 .bf16) (b : Fin 40) : FVec F S512x128 .bf16 :=
  outBlock (extractStridedSlice S512x128 ![0, 128 * (b.val % 4)] (chunk a (ldW w b)) (slicesC b)) (ldB bias b) (ldR res b)

/-- The code blocks of the activations. -/
def xCodeL (x : Vec F S512x1280 .bf16) (k : Vec F S8x1280 .i32) : List (View.Piece (Elt F) S512x1280 .fp8e4m3) :=
  List.ofFn fun n : Fin 10 => ⟨Rect.unit (s := S512x1280) ![0, 128 * n.rev.val] S512x128.size (inbX n.rev), codesOf (kept (ldX x n.rev) (ldK k n.rev))⟩
/-- The scale columns of the activations. -/
def xScaleL (x : Vec F S512x1280 .bf16) (k : Vec F S8x1280 .i32) : List (View.Piece (Elt F) S512x10 .f32) :=
  List.ofFn fun n : Fin 10 => ⟨Rect.unit (s := S512x10) ![0, n.rev.val] S512x1.size (inbXs n.rev), scaleColOf (kept (ldX x n.rev) (ldK k n.rev))⟩
/-- The mixed activation blocks. -/
def mixedL (x : Vec F S512x1280 .bf16) (k : Vec F S8x1280 .i32) : List (View.Piece (Elt F) S512x1280 .bf16) :=
  List.ofFn fun n : Fin 10 => ⟨Rect.unit (s := S512x1280) ![0, 128 * n.rev.val] S512x128.size (inbX n.rev), mixed (ldX x n.rev) (ldK k n.rev)⟩
/-- The output blocks. -/
def yL (a : Vec F S512x1280 .bf16) (w : Vec F S1280x5120 .bf16) (bias : Vec F S1x5120 .f32) (res : Vec F S512x5120 .bf16) : List (View.Piece (Elt F) S512x5120 .bf16) :=
  List.ofFn fun n : Fin 40 => ⟨Rect.unit (s := S512x5120) ![0, 128 * n.rev.val] S512x128.size (inbY n.rev), yBlock a w bias res n.rev⟩
/-- The code blocks of the output. -/
def yCodeL (a : Vec F S512x1280 .bf16) (w : Vec F S1280x5120 .bf16) (bias : Vec F S1x5120 .f32) (res : Vec F S512x5120 .bf16) : List (View.Piece (Elt F) S512x5120 .fp8e4m3) :=
  List.ofFn fun n : Fin 40 => ⟨Rect.unit (s := S512x5120) ![0, 128 * n.rev.val] S512x128.size (inbY n.rev), codesOf (yBlock a w bias res n.rev)⟩
/-- The scale columns of the output. -/
def yScaleL (a : Vec F S512x1280 .bf16) (w : Vec F S1280x5120 .bf16) (bias : Vec F S1x5120 .f32) (res : Vec F S512x5120 .bf16) : List (View.Piece (Elt F) S512x40 .f32) :=
  List.ofFn fun n : Fin 40 => ⟨Rect.unit (s := S512x40) ![0, n.rev.val] S512x1.size (inbYs n.rev), scaleColOf (yBlock a w bias res n.rev)⟩

set_option maxHeartbeats 4000000 in
/-- The run writes the code blocks of the activations. -/
theorem run_xCode (c : Dev nD) (i : grid0.Coords) (arg1 : Memref sig .tc .smem S36 .i32) (harg1 : arg1.IsWhole) (arg2 : Memref sig .tc .smem S10x40 .f32) (harg2 : arg2.IsWhole) (arg3 : Memref sig .tc .vmem S512x1280 .bf16) (harg3 : arg3.IsWhole) (arg4 : Memref sig .tc .vmem S36x5120 .bf16) (harg4 : arg4.IsWhole) (arg5 : Memref sig .tc .vmem S1280x5120 .fp8e4m3) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S512x5120 .bf16) (harg8 : arg8.IsWhole) (arg9 : Memref sig .tc .vmem S512x1280 .fp8e4m3) (harg9 : arg9.IsWhole) (arg10 : Memref sig .tc .vmem S512x10 .f32) (harg10 : arg10.IsWhole) (arg11 : Memref sig .tc .vmem S512x5120 .fp8e4m3) (harg11 : arg11.IsWhole) (arg12 : Memref sig .tc .vmem S512x40 .f32) (harg12 : arg12.IsWhole) (arg13 : Memref sig .tc .vmem S1280x5120 .bf16) (harg13 : arg13.IsWhole) (arg14 : Memref sig .tc .vmem S512x1280 .bf16) (harg14 : arg14.IsWhole) (arg15 : Memref sig .tc .vmem S8x1280 .i32) (harg15 : arg15.IsWhole)
    (x0 : Vec F S36 .i32) (x1 : Vec F S10x40 .f32) (x2 : Vec F S512x1280 .bf16) (x3 : Vec F S36x5120 .bf16) (x4 : Vec F S1280x5120 .fp8e4m3) (x5 : Vec F S1x5120 .f32) (x6 : Vec F S512x5120 .bf16)
    (w : Vec F S1280x5120 .bf16) (k : Vec F S8x1280 .i32) : (run c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 w k).1.2.1 = xCodeL (arg3.view.read (Elt F) (harg3.unread x2)) (arg15.view.read (Elt F) (harg15.unread k)) := by
  sl_kernel_rfl

set_option maxHeartbeats 4000000 in
/-- The run writes the scale columns of the activations. -/
theorem run_xScale (c : Dev nD) (i : grid0.Coords) (arg1 : Memref sig .tc .smem S36 .i32) (harg1 : arg1.IsWhole) (arg2 : Memref sig .tc .smem S10x40 .f32) (harg2 : arg2.IsWhole) (arg3 : Memref sig .tc .vmem S512x1280 .bf16) (harg3 : arg3.IsWhole) (arg4 : Memref sig .tc .vmem S36x5120 .bf16) (harg4 : arg4.IsWhole) (arg5 : Memref sig .tc .vmem S1280x5120 .fp8e4m3) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S512x5120 .bf16) (harg8 : arg8.IsWhole) (arg9 : Memref sig .tc .vmem S512x1280 .fp8e4m3) (harg9 : arg9.IsWhole) (arg10 : Memref sig .tc .vmem S512x10 .f32) (harg10 : arg10.IsWhole) (arg11 : Memref sig .tc .vmem S512x5120 .fp8e4m3) (harg11 : arg11.IsWhole) (arg12 : Memref sig .tc .vmem S512x40 .f32) (harg12 : arg12.IsWhole) (arg13 : Memref sig .tc .vmem S1280x5120 .bf16) (harg13 : arg13.IsWhole) (arg14 : Memref sig .tc .vmem S512x1280 .bf16) (harg14 : arg14.IsWhole) (arg15 : Memref sig .tc .vmem S8x1280 .i32) (harg15 : arg15.IsWhole)
    (x0 : Vec F S36 .i32) (x1 : Vec F S10x40 .f32) (x2 : Vec F S512x1280 .bf16) (x3 : Vec F S36x5120 .bf16) (x4 : Vec F S1280x5120 .fp8e4m3) (x5 : Vec F S1x5120 .f32) (x6 : Vec F S512x5120 .bf16)
    (w : Vec F S1280x5120 .bf16) (k : Vec F S8x1280 .i32) : (run c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 w k).1.2.2.1 = xScaleL (arg3.view.read (Elt F) (harg3.unread x2)) (arg15.view.read (Elt F) (harg15.unread k)) := by
  sl_kernel_rfl

set_option maxHeartbeats 4000000 in
/-- The mixed activations that the run loads back are the mixed blocks. -/
theorem run_mixed (c : Dev nD) (i : grid0.Coords) (arg1 : Memref sig .tc .smem S36 .i32) (harg1 : arg1.IsWhole) (arg2 : Memref sig .tc .smem S10x40 .f32) (harg2 : arg2.IsWhole) (arg3 : Memref sig .tc .vmem S512x1280 .bf16) (harg3 : arg3.IsWhole) (arg4 : Memref sig .tc .vmem S36x5120 .bf16) (harg4 : arg4.IsWhole) (arg5 : Memref sig .tc .vmem S1280x5120 .fp8e4m3) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S512x5120 .bf16) (harg8 : arg8.IsWhole) (arg9 : Memref sig .tc .vmem S512x1280 .fp8e4m3) (harg9 : arg9.IsWhole) (arg10 : Memref sig .tc .vmem S512x10 .f32) (harg10 : arg10.IsWhole) (arg11 : Memref sig .tc .vmem S512x5120 .fp8e4m3) (harg11 : arg11.IsWhole) (arg12 : Memref sig .tc .vmem S512x40 .f32) (harg12 : arg12.IsWhole) (arg13 : Memref sig .tc .vmem S1280x5120 .bf16) (harg13 : arg13.IsWhole) (arg14 : Memref sig .tc .vmem S512x1280 .bf16) (harg14 : arg14.IsWhole) (arg15 : Memref sig .tc .vmem S8x1280 .i32) (harg15 : arg15.IsWhole)
    (x0 : Vec F S36 .i32) (x1 : Vec F S10x40 .f32) (x2 : Vec F S512x1280 .bf16) (x3 : Vec F S36x5120 .bf16) (x4 : Vec F S1280x5120 .fp8e4m3) (x5 : Vec F S1x5120 .f32) (x6 : Vec F S512x5120 .bf16)
    (w : Vec F S1280x5120 .bf16) (k : Vec F S8x1280 .i32) : run.sl.H14_10 (F := F) arg3 harg3 arg15 harg15 x2 k = mixedL (arg3.view.read (Elt F) (harg3.unread x2)) (arg15.view.read (Elt F) (harg15.unread k)) := by
  sl_kernel_rfl

set_option maxHeartbeats 4000000 in
/-- The run writes the output blocks. -/
theorem run_y (c : Dev nD) (i : grid0.Coords) (arg1 : Memref sig .tc .smem S36 .i32) (harg1 : arg1.IsWhole) (arg2 : Memref sig .tc .smem S10x40 .f32) (harg2 : arg2.IsWhole) (arg3 : Memref sig .tc .vmem S512x1280 .bf16) (harg3 : arg3.IsWhole) (arg4 : Memref sig .tc .vmem S36x5120 .bf16) (harg4 : arg4.IsWhole) (arg5 : Memref sig .tc .vmem S1280x5120 .fp8e4m3) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S512x5120 .bf16) (harg8 : arg8.IsWhole) (arg9 : Memref sig .tc .vmem S512x1280 .fp8e4m3) (harg9 : arg9.IsWhole) (arg10 : Memref sig .tc .vmem S512x10 .f32) (harg10 : arg10.IsWhole) (arg11 : Memref sig .tc .vmem S512x5120 .fp8e4m3) (harg11 : arg11.IsWhole) (arg12 : Memref sig .tc .vmem S512x40 .f32) (harg12 : arg12.IsWhole) (arg13 : Memref sig .tc .vmem S1280x5120 .bf16) (harg13 : arg13.IsWhole) (arg14 : Memref sig .tc .vmem S512x1280 .bf16) (harg14 : arg14.IsWhole) (arg15 : Memref sig .tc .vmem S8x1280 .i32) (harg15 : arg15.IsWhole)
    (x0 : Vec F S36 .i32) (x1 : Vec F S10x40 .f32) (x2 : Vec F S512x1280 .bf16) (x3 : Vec F S36x5120 .bf16) (x4 : Vec F S1280x5120 .fp8e4m3) (x5 : Vec F S1x5120 .f32) (x6 : Vec F S512x5120 .bf16)
    (w : Vec F S1280x5120 .bf16) (k : Vec F S8x1280 .i32) : (run c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 w k).1.1 = yL (run.sl.v513 c arg3 harg3 arg14 arg15 harg15 x2 k) (arg13.view.read (Elt F) (harg13.unread w)) (arg6.view.read (Elt F) (harg6.unread x5)) (arg7.view.read (Elt F) (harg7.unread x6)) := by
  sl_kernel_rfl

set_option maxHeartbeats 4000000 in
/-- The run writes the code blocks of the output. -/
theorem run_yCode (c : Dev nD) (i : grid0.Coords) (arg1 : Memref sig .tc .smem S36 .i32) (harg1 : arg1.IsWhole) (arg2 : Memref sig .tc .smem S10x40 .f32) (harg2 : arg2.IsWhole) (arg3 : Memref sig .tc .vmem S512x1280 .bf16) (harg3 : arg3.IsWhole) (arg4 : Memref sig .tc .vmem S36x5120 .bf16) (harg4 : arg4.IsWhole) (arg5 : Memref sig .tc .vmem S1280x5120 .fp8e4m3) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S512x5120 .bf16) (harg8 : arg8.IsWhole) (arg9 : Memref sig .tc .vmem S512x1280 .fp8e4m3) (harg9 : arg9.IsWhole) (arg10 : Memref sig .tc .vmem S512x10 .f32) (harg10 : arg10.IsWhole) (arg11 : Memref sig .tc .vmem S512x5120 .fp8e4m3) (harg11 : arg11.IsWhole) (arg12 : Memref sig .tc .vmem S512x40 .f32) (harg12 : arg12.IsWhole) (arg13 : Memref sig .tc .vmem S1280x5120 .bf16) (harg13 : arg13.IsWhole) (arg14 : Memref sig .tc .vmem S512x1280 .bf16) (harg14 : arg14.IsWhole) (arg15 : Memref sig .tc .vmem S8x1280 .i32) (harg15 : arg15.IsWhole)
    (x0 : Vec F S36 .i32) (x1 : Vec F S10x40 .f32) (x2 : Vec F S512x1280 .bf16) (x3 : Vec F S36x5120 .bf16) (x4 : Vec F S1280x5120 .fp8e4m3) (x5 : Vec F S1x5120 .f32) (x6 : Vec F S512x5120 .bf16)
    (w : Vec F S1280x5120 .bf16) (k : Vec F S8x1280 .i32) : (run c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 w k).1.2.2.2.1 = yCodeL (run.sl.v513 c arg3 harg3 arg14 arg15 harg15 x2 k) (arg13.view.read (Elt F) (harg13.unread w)) (arg6.view.read (Elt F) (harg6.unread x5)) (arg7.view.read (Elt F) (harg7.unread x6)) := by
  sl_kernel_rfl

set_option maxHeartbeats 4000000 in
/-- The run writes the scale columns of the output. -/
theorem run_yScale (c : Dev nD) (i : grid0.Coords) (arg1 : Memref sig .tc .smem S36 .i32) (harg1 : arg1.IsWhole) (arg2 : Memref sig .tc .smem S10x40 .f32) (harg2 : arg2.IsWhole) (arg3 : Memref sig .tc .vmem S512x1280 .bf16) (harg3 : arg3.IsWhole) (arg4 : Memref sig .tc .vmem S36x5120 .bf16) (harg4 : arg4.IsWhole) (arg5 : Memref sig .tc .vmem S1280x5120 .fp8e4m3) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S512x5120 .bf16) (harg8 : arg8.IsWhole) (arg9 : Memref sig .tc .vmem S512x1280 .fp8e4m3) (harg9 : arg9.IsWhole) (arg10 : Memref sig .tc .vmem S512x10 .f32) (harg10 : arg10.IsWhole) (arg11 : Memref sig .tc .vmem S512x5120 .fp8e4m3) (harg11 : arg11.IsWhole) (arg12 : Memref sig .tc .vmem S512x40 .f32) (harg12 : arg12.IsWhole) (arg13 : Memref sig .tc .vmem S1280x5120 .bf16) (harg13 : arg13.IsWhole) (arg14 : Memref sig .tc .vmem S512x1280 .bf16) (harg14 : arg14.IsWhole) (arg15 : Memref sig .tc .vmem S8x1280 .i32) (harg15 : arg15.IsWhole)
    (x0 : Vec F S36 .i32) (x1 : Vec F S10x40 .f32) (x2 : Vec F S512x1280 .bf16) (x3 : Vec F S36x5120 .bf16) (x4 : Vec F S1280x5120 .fp8e4m3) (x5 : Vec F S1x5120 .f32) (x6 : Vec F S512x5120 .bf16)
    (w : Vec F S1280x5120 .bf16) (k : Vec F S8x1280 .i32) : (run c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 w k).1.2.2.2.2 = yScaleL (run.sl.v513 c arg3 harg3 arg14 arg15 harg15 x2 k) (arg13.view.read (Elt F) (harg13.unread w)) (arg6.view.read (Elt F) (harg6.unread x5)) (arg7.view.read (Elt F) (harg7.unread x6)) := by
  sl_kernel_rfl

end Cert.KernelIdeal.Body

end
-- ==== Proof.Outs.lean ====
/- What one grid point leaves in the five output blocks, from its input blocks and the two carried scratch buffers:
   the writes of BodyRest.lean cover each block, so each block is a function of the blocks alone. -/
module

public import proofs.«01_k».proof.Proof.Blocks
public import Idealize.ShloMosaic.Lib.Pipeline.ValueKit

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The output blocks cover their buffer. -/
theorem yL_cover (a : Vec F S512x1280 .bf16) (w : Vec F S1280x5120 .bf16) (b : Vec F S1x5120 .f32) (r : Vec F S512x5120 .bf16) (y : S512x5120.Idx) : ∃ p ∈ yL a w b r, y ∈ p.1.set :=
  View.cover_of_tiledL (yL a w b r) S512x128.size (by sl_kernel_rfl) y
/-- The code blocks of the activations cover their buffer. -/
theorem xCodeL_cover (x : Vec F S512x1280 .bf16) (k : Vec F S8x1280 .i32) (y : S512x1280.Idx) : ∃ p ∈ xCodeL x k, y ∈ p.1.set :=
  View.cover_of_tiledL (xCodeL x k) S512x128.size (by sl_kernel_rfl) y
/-- The scale columns of the activations cover their buffer. -/
theorem xScaleL_cover (x : Vec F S512x1280 .bf16) (k : Vec F S8x1280 .i32) (y : S512x10.Idx) : ∃ p ∈ xScaleL x k, y ∈ p.1.set :=
  View.cover_of_tiledL (xScaleL x k) S512x1.size (by sl_kernel_rfl) y
/-- The code blocks of the output cover their buffer. -/
theorem yCodeL_cover (a : Vec F S512x1280 .bf16) (w : Vec F S1280x5120 .bf16) (b : Vec F S1x5120 .f32) (r : Vec F S512x5120 .bf16) (y : S512x5120.Idx) : ∃ p ∈ yCodeL a w b r, y ∈ p.1.set :=
  View.cover_of_tiledL (yCodeL a w b r) S512x128.size (by sl_kernel_rfl) y
/-- The scale columns of the output cover their buffer. -/
theorem yScaleL_cover (a : Vec F S512x1280 .bf16) (w : Vec F S1280x5120 .bf16) (b : Vec F S1x5120 .f32) (r : Vec F S512x5120 .bf16) (y : S512x40.Idx) : ∃ p ∈ yScaleL a w b r, y ∈ p.1.set :=
  View.cover_of_tiledL (yScaleL a w b r) S512x1.size (by sl_kernel_rfl) y
/-- The mixed activation blocks cover their buffer. -/
theorem mixedL_cover (x : Vec F S512x1280 .bf16) (k : Vec F S8x1280 .i32) (y : S512x1280.Idx) : ∃ p ∈ mixedL x k, y ∈ p.1.set :=
  View.cover_of_tiledL (mixedL x k) S512x128.size (by sl_kernel_rfl) y

/-- The mixed activations of a point: kept entries quantised and dequantised, outlier columns as they are. -/
def act (x : Vec F S512x1280 .bf16) (k : Vec F S8x1280 .i32) : Vec F S512x1280 .bf16 := View.canon (mixedL x k)
/-- The code block of the activations. -/
def outXCode (x : Vec F S512x1280 .bf16) (k : Vec F S8x1280 .i32) : Vec F S512x1280 .fp8e4m3 := View.canon (xCodeL x k)
/-- The scales of the activations. -/
def outXScale (x : Vec F S512x1280 .bf16) (k : Vec F S8x1280 .i32) : Vec F S512x10 .f32 := View.canon (xScaleL x k)
/-- The output block. -/
def outY (x : Vec F S512x1280 .bf16) (b : Vec F S1x5120 .f32) (r : Vec F S512x5120 .bf16) (w : Vec F S1280x5120 .bf16) (k : Vec F S8x1280 .i32) : Vec F S512x5120 .bf16 := View.canon (yL (act x k) w b r)
/-- The code block of the output. -/
def outYCode (x : Vec F S512x1280 .bf16) (b : Vec F S1x5120 .f32) (r : Vec F S512x5120 .bf16) (w : Vec F S1280x5120 .bf16) (k : Vec F S8x1280 .i32) : Vec F S512x5120 .fp8e4m3 := View.canon (yCodeL (act x k) w b r)
/-- The scales of the output. -/
def outYScale (x : Vec F S512x1280 .bf16) (b : Vec F S1x5120 .f32) (r : Vec F S512x5120 .bf16) (w : Vec F S1280x5120 .bf16) (k : Vec F S8x1280 .i32) : Vec F S512x40 .f32 := View.canon (yScaleL (act x k) w b r)

/-- The mixed activations loaded back for the product. -/
theorem read_act (c : Dev nD) (i : grid0.Coords) (arg1 : Memref sig .tc .smem S36 .i32) (harg1 : arg1.IsWhole) (arg2 : Memref sig .tc .smem S10x40 .f32) (harg2 : arg2.IsWhole) (arg3 : Memref sig .tc .vmem S512x1280 .bf16) (harg3 : arg3.IsWhole) (arg4 : Memref sig .tc .vmem S36x5120 .bf16) (harg4 : arg4.IsWhole) (arg5 : Memref sig .tc .vmem S1280x5120 .fp8e4m3) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S512x5120 .bf16) (harg8 : arg8.IsWhole) (arg9 : Memref sig .tc .vmem S512x1280 .fp8e4m3) (harg9 : arg9.IsWhole) (arg10 : Memref sig .tc .vmem S512x10 .f32) (harg10 : arg10.IsWhole) (arg11 : Memref sig .tc .vmem S512x5120 .fp8e4m3) (harg11 : arg11.IsWhole) (arg12 : Memref sig .tc .vmem S512x40 .f32) (harg12 : arg12.IsWhole) (arg13 : Memref sig .tc .vmem S1280x5120 .bf16) (harg13 : arg13.IsWhole) (arg14 : Memref sig .tc .vmem S512x1280 .bf16) (harg14 : arg14.IsWhole) (arg15 : Memref sig .tc .vmem S8x1280 .i32) (harg15 : arg15.IsWhole) (x2 : Vec F S512x1280 .bf16) (k : Vec F S8x1280 .i32) :
    run.sl.v513 c arg3 harg3 arg14 arg15 harg15 x2 k = act x2 k := by
  unfold run.sl.v513 act
  rw [View.readCov_eq_canon']
  rw [show run.sl.H14_10 (F := F) arg3 harg3 arg15 harg15 x2 k = mixedL x2 k from by
    rw [show run.sl.H14_10 (F := F) arg3 harg3 arg15 harg15 x2 k = mixedL (arg3.view.read (Elt F) (harg3.unread x2)) (arg15.view.read (Elt F) (harg15.unread k)) from by sl_kernel_rfl, harg3.read_unread, harg15.read_unread]]
  exact View.ld_unit_zero (by funext a; fin_cases a <;> rfl) _ _

set_option maxHeartbeats 4000000 in
/-- One grid point: from its input blocks and what its first part turns `S` into (`hfirst`), it leaves the five output
    blocks at their values and the carried scratch buffers as its first part left them. -/
theorem point (c : Dev nD) (i : grid0.Coords) (arg1 : Memref sig .tc .smem S36 .i32) (harg1 : arg1.IsWhole) (arg2 : Memref sig .tc .smem S10x40 .f32) (harg2 : arg2.IsWhole) (arg3 : Memref sig .tc .vmem S512x1280 .bf16) (harg3 : arg3.IsWhole) (arg4 : Memref sig .tc .vmem S36x5120 .bf16) (harg4 : arg4.IsWhole) (arg5 : Memref sig .tc .vmem S1280x5120 .fp8e4m3) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S512x5120 .bf16) (harg8 : arg8.IsWhole) (arg9 : Memref sig .tc .vmem S512x1280 .fp8e4m3) (harg9 : arg9.IsWhole) (arg10 : Memref sig .tc .vmem S512x10 .f32) (harg10 : arg10.IsWhole) (arg11 : Memref sig .tc .vmem S512x5120 .fp8e4m3) (harg11 : arg11.IsWhole) (arg12 : Memref sig .tc .vmem S512x40 .f32) (harg12 : arg12.IsWhole) (arg13 : Memref sig .tc .vmem S1280x5120 .bf16) (harg13 : arg13.IsWhole) (arg14 : Memref sig .tc .vmem S512x1280 .bf16) (harg14 : arg14.IsWhole) (arg15 : Memref sig .tc .vmem S8x1280 .i32) (harg15 : arg15.IsWhole)
    (x0 : Vec F S36 .i32) (x1 : Vec F S10x40 .f32) (x2 : Vec F S512x1280 .bf16) (x3 : Vec F S36x5120 .bf16) (x4 : Vec F S1280x5120 .fp8e4m3) (x5 : Vec F S1x5120 .f32) (x6 : Vec F S512x5120 .bf16)
    (w : Vec F S1280x5120 .bf16) (k : Vec F S8x1280 .i32) (S : sProp 𝕄) (E : Set ℕ) (K : PUnit → sProp 𝕄)
    (hfirst : iprop((arg1.view.loc (c : Thread nD τ) ↦[arg1.view.set]{fullShare} harg1.unread x0) ∗ (arg2.view.loc (c : Thread nD τ) ↦[arg2.view.set]{fullShare} harg2.unread x1) ∗ (arg3.view.loc (c : Thread nD τ) ↦[arg3.view.set]{fullShare} harg3.unread x2) ∗ (arg4.view.loc (c : Thread nD τ) ↦[arg4.view.set]{fullShare} harg4.unread x3) ∗ (arg5.view.loc (c : Thread nD τ) ↦[arg5.view.set]{fullShare} harg5.unread x4) ∗ S)
          ⊢ wp frame (wpE (defs₀ (F := F)) Variants.none c none) E (k0_part32 i arg1 harg1 arg2 harg2 arg3 harg3 arg4 harg4 arg5 harg5 arg6 harg6 arg7 harg7 arg8 harg8 arg9 harg9 arg10 harg10 arg11 harg11 arg12 harg12 arg13 harg13 arg14 harg14 arg15 harg15)
              (fun r => iprop(⌜r = first (arg3.view.read (Elt F) (harg3.unread x2)) (arg15.view.read (Elt F) (harg15.unread k))⌝ ∗ (arg1.view.loc (c : Thread nD τ) ↦[arg1.view.set]{fullShare} harg1.unread x0) ∗ (arg2.view.loc (c : Thread nD τ) ↦[arg2.view.set]{fullShare} harg2.unread x1) ∗ (arg3.view.loc (c : Thread nD τ) ↦[arg3.view.set]{fullShare} harg3.unread x2) ∗ (arg4.view.loc (c : Thread nD τ) ↦[arg4.view.set]{fullShare} harg4.unread x3) ∗ (arg5.view.loc (c : Thread nD τ) ↦[arg5.view.set]{fullShare} harg5.unread x4) ∗ (arg13.view.loc (c : Thread nD τ) ↦[arg13.view.set]{fullShare} harg13.unread w) ∗ (arg15.view.loc (c : Thread nD τ) ↦[arg15.view.set]{fullShare} harg15.unread k)))) :
    (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg14 fullShare d) ∗ S
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (outY x2 x5 x6 w k) ∗ owns (c : Thread nD τ) arg9 fullShare (outXCode x2 k) ∗ owns (c : Thread nD τ) arg10 fullShare (outXScale x2 k) ∗ owns (c : Thread nD τ) arg11 fullShare (outYCode x2 x5 x6 w k) ∗ owns (c : Thread nD τ) arg12 fullShare (outYScale x2 x5 x6 w k) ∗ (∃ d, owns (c : Thread nD τ) arg14 fullShare d) ∗ owns (c : Thread nD τ) arg13 fullShare w ∗ owns (c : Thread nD τ) arg15 fullShare k) -∗ K ⟨⟩)) : sProp 𝕄)
      ⊢ wp frame (wpE (defs₀ (F := F)) Variants.none c none) E (cc0_outlier_linear i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  have hy := run_y c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 w k
  have hxc := run_xCode c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 w k
  have hxs := run_xScale c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 w k
  have hyc := run_yCode c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 w k
  have hys := run_yScale c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 w k
  rw [read_act c i arg1 harg1 arg2 harg2 arg3 harg3 arg4 harg4 arg5 harg5 arg6 harg6 arg7 harg7 arg8 harg8 arg9 harg9 arg10 harg10 arg11 harg11 arg12 harg12 arg13 harg13 arg14 harg14 arg15 harg15, harg13.read_unread, harg6.read_unread, harg7.read_unread] at hy hyc hys
  have e3 : arg3.view.read (Elt F) (harg3.unread x2) = x2 := harg3.read_unread x2
  have e15 : arg15.view.read (Elt F) (harg15.unread k) = k := harg15.read_unread k
  have hxc := hxc.trans (congrArg₂ xCodeL e3 e15)
  have hxs := hxs.trans (congrArg₂ xScaleL e3 e15)
  clear e3 e15
  have hrun := (run c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 w k).2 S E K hfirst
  rw [hy, hxc, hxs, hyc, hys] at hrun
  refine BIBase.Entails.trans ?_ hrun
  iintro ⟨H1, H2, H3, H4, H5, H6, H7, H8, H9, H10, H11, H12, H14, HS, HK⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H14]; · iexact H14
  isplitl [HS]; · iexact HS
  iintro ⟨H1, H2, H3, H4, H5, H6, H7, ⟨%f8, H8⟩, ⟨%f9, H9⟩, ⟨%f10, H10⟩, ⟨%f11, H11⟩, ⟨%f12, H12⟩, H14, H13, H15⟩
  iapply HK
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr; swap; · iexact H8
    ipureintro; exact View.read_writes_eq_canon _ _ _ (yL_cover _ _ _ _)
  isplitl [H9]
  · unfold owns; iexists _; isplitr; swap; · iexact H9
    ipureintro; exact View.read_writes_eq_canon _ _ _ (xCodeL_cover x2 k)
  isplitl [H10]
  · unfold owns; iexists _; isplitr; swap; · iexact H10
    ipureintro; exact View.read_writes_eq_canon _ _ _ (xScaleL_cover x2 k)
  isplitl [H11]
  · unfold owns; iexists _; isplitr; swap; · iexact H11
    ipureintro; exact View.read_writes_eq_canon _ _ _ (yCodeL_cover _ _ _ _)
  isplitl [H12]
  · unfold owns; iexists _; isplitr; swap; · iexact H12
    ipureintro; exact View.read_writes_eq_canon _ _ _ (yScaleL_cover _ _ _ _)
  isplitl [H14]; · iexact H14
  isplitl [H13]; · iexact H13
  iexact H15

end Cert.KernelIdeal.Body

end
-- ==== Proof.PrepDefs.lean ====
/- The first grid point's preparation: the keep mask, the dequantised weights, and the outlier rows put into them. -/
module

public import proofs.«01_k».proof.Proof.Gen.KernelIdeal.Frame
public import proofs.«01_k».proof.Proof.Gen.KernelIdeal.Loops

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- Index `j` lies inside the index argument. -/
theorem inbI (j : Fin 36) : ∀ a, (![j.val] : Fin 1 → ℕ) a + S1.size a ≤ S36.size a := by revert j; decide
/-- Row `j` lies inside the outlier rows. -/
theorem inbR (j : Fin 36) : ∀ a, (![j.val, 0] : Fin 2 → ℕ) a + S1x5120.size a ≤ S36x5120.size a := by revert j; decide

/-- The row index of outlier `j`, as the body loads it. -/
def word (arg1 : Memref sig .tc .smem S36 .i32) (harg1 : arg1.IsWhole) (x0 : Vec F S36 .i32) (j : Fin 36) : BitVec 32 :=
  arg1.view.readAt (Elt F) (Rect.unit (s := S36) ![j.val] S1.size (inbI j)).toLoadRect (harg1.unread x0) (Shape.Idx.first (numel1_S1.symm ▸ Nat.one_pos))

/-- The weights of outlier `j`, as the body loads them. -/
def row (arg4 : Memref sig .tc .vmem S36x5120 .bf16) (harg4 : arg4.IsWhole) (x3 : Vec F S36x5120 .bf16) (j : Fin 36) : Vec F S1x5120 .bf16 :=
  arg4.view.readAt (Elt F) (Rect.unit (s := S36x5120) ![j.val, 0] S1x5120.size (inbR j)).toLoadRect (harg4.unread x3)

/-- The pair of rows of the scratch weights that holds outlier `j`'s row, read from the contents `f`. -/
def tile {i : grid0.Coords} (hc : k0_cond1 i = 1#1) (arg1 : Memref sig .tc .smem S36 .i32) (harg1 : arg1.IsWhole)
    (arg13 : Memref sig .tc .vmem S1280x5120 .bf16) (x0 : Vec F S36 .i32) (hw : ∀ j, k0_chk1 i (word arg1 harg1 x0 j)) (j : Fin 36)
    (f : BufTy.Contents (Elt F) arg13.view.ty) : Vec F S2x5120 .bf16 :=
  arg13.view.readAt (Elt F) (Rect.unit (s := S1280x5120) (k0_off81 (word arg1 harg1 x0 j)) S2x5120.size
    (k0_off81_inb i (word arg1 harg1 x0 j) (hw j) hc)).toLoadRect f

/-- The scratch weights' contents once outlier `j`'s row is put over the contents `f`. -/
def rowStep {i : grid0.Coords} (hc : k0_cond1 i = 1#1) (arg1 : Memref sig .tc .smem S36 .i32) (harg1 : arg1.IsWhole)
    (arg4 : Memref sig .tc .vmem S36x5120 .bf16) (harg4 : arg4.IsWhole) (arg13 : Memref sig .tc .vmem S1280x5120 .bf16)
    (x0 : Vec F S36 .i32) (x3 : Vec F S36x5120 .bf16) (hw : ∀ j, k0_chk1 i (word arg1 harg1 x0 j)) (j : Fin 36)
    (f : BufTy.Contents (Elt F) arg13.view.ty) : BufTy.Contents (Elt F) arg13.view.ty :=
  arg13.view.writes (Elt F) f [⟨Rect.unit (s := S1280x5120) (k0_off81 (word arg1 harg1 x0 j)) S2x5120.size
    (k0_off81_inb i (word arg1 harg1 x0 j) (hw j) hc), k0_pay61 (F := F) (word arg1 harg1 x0 j) (row arg4 harg4 x3 j) (tile hc arg1 harg1 arg13 x0 hw j f)⟩]

/-- The scratch weights' contents after the dequantising loop, from the contents `f`. -/
def loopC (c : Dev nD) (i : grid0.Coords) (arg1 : Memref sig .tc .smem S36 .i32) (harg1 : arg1.IsWhole) (arg2 : Memref sig .tc .smem S10x40 .f32) (harg2 : arg2.IsWhole) (arg3 : Memref sig .tc .vmem S512x1280 .bf16) (harg3 : arg3.IsWhole) (arg4 : Memref sig .tc .vmem S36x5120 .bf16) (harg4 : arg4.IsWhole) (arg5 : Memref sig .tc .vmem S1280x5120 .fp8e4m3) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S512x5120 .bf16) (harg8 : arg8.IsWhole) (arg9 : Memref sig .tc .vmem S512x1280 .fp8e4m3) (harg9 : arg9.IsWhole) (arg10 : Memref sig .tc .vmem S512x10 .f32) (harg10 : arg10.IsWhole) (arg11 : Memref sig .tc .vmem S512x5120 .fp8e4m3) (harg11 : arg11.IsWhole) (arg12 : Memref sig .tc .vmem S512x40 .f32) (harg12 : arg12.IsWhole) (arg13 : Memref sig .tc .vmem S1280x5120 .bf16) (harg13 : arg13.IsWhole) (arg14 : Memref sig .tc .vmem S512x1280 .bf16) (harg14 : arg14.IsWhole) (arg15 : Memref sig .tc .vmem S8x1280 .i32) (harg15 : arg15.IsWhole) (hc : k0_cond1 i = 1#1) (x1 : Vec F S10x40 .f32) (x4 : Vec F S1280x5120 .fp8e4m3)
    (a1 a2 : IVec S8x1280 32) (a3 : IVec S8x1280 1) (a4 : IVec S8x1280 32) (f : BufTy.Contents (Elt F) arg13.view.ty) : BufTy.Contents (Elt F) arg13.view.ty :=
  arg13.view.writes (Elt F) f (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 hc a1 a2 a3 a4 (harg2.unread x1) (harg5.unread x4) k0_t1_loop.trips)

/-- The keep mask the preparation stores. -/
def keepMask (arg1 : Memref sig .tc .smem S36 .i32) (harg1 : arg1.IsWhole) (x0 : Vec F S36 .i32) : IVec S8x1280 32 :=
  k0_pay57 (F := F) (iota .tc S8x1280 32 [1] iota_S8x1280_d1_w32) (k0_pay54 (F := F) (iota .tc S8x1280 32 [1] iota_S8x1280_d1_w32) (k0_pay53 (F := F) (iota .tc S8x1280 32 [1] iota_S8x1280_d1_w32) (k0_pay51 (F := F) (iota .tc S8x1280 32 [1] iota_S8x1280_d1_w32) (k0_pay50 (F := F) (word arg1 harg1 x0 0) (word arg1 harg1 x0 1) (word arg1 harg1 x0 2) (word arg1 harg1 x0 3) (word arg1 harg1 x0 4) (word arg1 harg1 x0 5) (word arg1 harg1 x0 6) (word arg1 harg1 x0 7)) (word arg1 harg1 x0 8) (word arg1 harg1 x0 9) (word arg1 harg1 x0 10) (word arg1 harg1 x0 11) (word arg1 harg1 x0 12) (word arg1 harg1 x0 13) (word arg1 harg1 x0 14) (word arg1 harg1 x0 15)) (k0_pay52 (F := F) (iota .tc S8x1280 32 [1] iota_S8x1280_d1_w32) (word arg1 harg1 x0 16)) (0#32) (word arg1 harg1 x0 17) (word arg1 harg1 x0 18) (word arg1 harg1 x0 19) (word arg1 harg1 x0 20) (word arg1 harg1 x0 21) (word arg1 harg1 x0 22) (word arg1 harg1 x0 23) (word arg1 harg1 x0 24)) (word arg1 harg1 x0 25) (word arg1 harg1 x0 26) (word arg1 harg1 x0 27) (word arg1 harg1 x0 28) (word arg1 harg1 x0 29) (word arg1 harg1 x0 30) (word arg1 harg1 x0 31) (word arg1 harg1 x0 32)) (k0_pay55 (F := F) (iota .tc S8x1280 32 [1] iota_S8x1280_d1_w32) (word arg1 harg1 x0 33)) (k0_pay56) (word arg1 harg1 x0 34) (word arg1 harg1 x0 35)

end Cert.KernelIdeal.Body

end
-- ==== Proof.PrepParts.lean ====
/- What each stretch of the first grid point's preparation leaves. -/
module

public import proofs.«01_k».proof.Proof.PrepDefs

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- A stretch of the preparation (part 11): what it returns and what it leaves in the two scratch buffers. -/
theorem part11 (c : Dev nD) (i : grid0.Coords) (arg1 : Memref sig .tc .smem S36 .i32) (harg1 : arg1.IsWhole) (arg2 : Memref sig .tc .smem S10x40 .f32) (harg2 : arg2.IsWhole) (arg3 : Memref sig .tc .vmem S512x1280 .bf16) (harg3 : arg3.IsWhole) (arg4 : Memref sig .tc .vmem S36x5120 .bf16) (harg4 : arg4.IsWhole) (arg5 : Memref sig .tc .vmem S1280x5120 .fp8e4m3) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S512x5120 .bf16) (harg8 : arg8.IsWhole) (arg9 : Memref sig .tc .vmem S512x1280 .fp8e4m3) (harg9 : arg9.IsWhole) (arg10 : Memref sig .tc .vmem S512x10 .f32) (harg10 : arg10.IsWhole) (arg11 : Memref sig .tc .vmem S512x5120 .fp8e4m3) (harg11 : arg11.IsWhole) (arg12 : Memref sig .tc .vmem S512x40 .f32) (harg12 : arg12.IsWhole) (arg13 : Memref sig .tc .vmem S1280x5120 .bf16) (harg13 : arg13.IsWhole) (arg14 : Memref sig .tc .vmem S512x1280 .bf16) (harg14 : arg14.IsWhole) (arg15 : Memref sig .tc .vmem S8x1280 .i32) (harg15 : arg15.IsWhole) (hc : k0_cond1 i = 1#1)
    (x0 : Vec F S36 .i32) (x1 : Vec F S10x40 .f32) (x3 : Vec F S36x5120 .bf16) (x4 : Vec F S1280x5120 .fp8e4m3)
    (hw : ∀ j, k0_chk1 i (word arg1 harg1 x0 j)) (E : Set ℕ) (f : BufTy.Contents (Elt F) arg13.view.ty) (g : BufTy.Contents (Elt F) arg15.view.ty) :
    (iprop((arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (arg13.view.loc (c : Thread nD τ) ↦[arg13.view.set]{fullShare} f) ∗ (arg15.view.loc (c : Thread nD τ) ↦[arg15.view.set]{fullShare} g)) : sProp 𝕄)
      ⊢ wp frame (wpE (defs₀ (F := F)) Variants.none c none) E (k0_part11 i arg1 harg1 arg2 harg2 arg3 harg3 arg4 harg4 arg5 harg5 arg6 harg6 arg7 harg7 arg8 harg8 arg9 harg9 arg10 harg10 arg11 harg11 arg12 harg12 arg13 harg13 arg14 harg14 arg15 harg15 )
          (fun r => iprop(⌜r = ⟨(iota .tc S8x1280 32 [1] iota_S8x1280_d1_w32), k0_pay50 (F := F) (word arg1 harg1 x0 0) (word arg1 harg1 x0 1) (word arg1 harg1 x0 2) (word arg1 harg1 x0 3) (word arg1 harg1 x0 4) (word arg1 harg1 x0 5) (word arg1 harg1 x0 6) (word arg1 harg1 x0 7)⟩⌝ ∗ (arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (∃ f', ⌜f' = f⌝ ∗ (arg13.view.loc (c : Thread nD τ) ↦[arg13.view.set]{fullShare} f')) ∗ (∃ g', ⌜g' = g⌝ ∗ (arg15.view.loc (c : Thread nD τ) ↦[arg15.view.set]{fullShare} g')))) := by
  rw [k0_part11_eq_skeleton]
  unfold k0_part11_skel
  iintro ⟨H1, H2, H4, H5, H13, H15⟩
  sl_exec
  sl_step
  isplitr
  · ipureintro; sl_kernel_rfl
  isplitl [H1]; · iexact H1
  isplitl [H2]; · iexact H2
  isplitl [H4]; · iexact H4
  isplitl [H5]; · iexact H5
  isplitl [H13]
  · iexists _; isplitr; swap; · iexact H13
    ipureintro; sl_kernel_rfl
  iexists _; isplitr; swap; · iexact H15
  ipureintro; sl_kernel_rfl

set_option maxHeartbeats 1000000 in
/-- A stretch of the preparation (part 12): what it returns and what it leaves in the two scratch buffers. -/
theorem part12 (c : Dev nD) (i : grid0.Coords) (arg1 : Memref sig .tc .smem S36 .i32) (harg1 : arg1.IsWhole) (arg2 : Memref sig .tc .smem S10x40 .f32) (harg2 : arg2.IsWhole) (arg3 : Memref sig .tc .vmem S512x1280 .bf16) (harg3 : arg3.IsWhole) (arg4 : Memref sig .tc .vmem S36x5120 .bf16) (harg4 : arg4.IsWhole) (arg5 : Memref sig .tc .vmem S1280x5120 .fp8e4m3) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S512x5120 .bf16) (harg8 : arg8.IsWhole) (arg9 : Memref sig .tc .vmem S512x1280 .fp8e4m3) (harg9 : arg9.IsWhole) (arg10 : Memref sig .tc .vmem S512x10 .f32) (harg10 : arg10.IsWhole) (arg11 : Memref sig .tc .vmem S512x5120 .fp8e4m3) (harg11 : arg11.IsWhole) (arg12 : Memref sig .tc .vmem S512x40 .f32) (harg12 : arg12.IsWhole) (arg13 : Memref sig .tc .vmem S1280x5120 .bf16) (harg13 : arg13.IsWhole) (arg14 : Memref sig .tc .vmem S512x1280 .bf16) (harg14 : arg14.IsWhole) (arg15 : Memref sig .tc .vmem S8x1280 .i32) (harg15 : arg15.IsWhole) (hc : k0_cond1 i = 1#1)
    (x0 : Vec F S36 .i32) (x1 : Vec F S10x40 .f32) (x3 : Vec F S36x5120 .bf16) (x4 : Vec F S1280x5120 .fp8e4m3)
    (hw : ∀ j, k0_chk1 i (word arg1 harg1 x0 j)) (E : Set ℕ) (f : BufTy.Contents (Elt F) arg13.view.ty) (g : BufTy.Contents (Elt F) arg15.view.ty) :
    (iprop((arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (arg13.view.loc (c : Thread nD τ) ↦[arg13.view.set]{fullShare} f) ∗ (arg15.view.loc (c : Thread nD τ) ↦[arg15.view.set]{fullShare} g)) : sProp 𝕄)
      ⊢ wp frame (wpE (defs₀ (F := F)) Variants.none c none) E (k0_part12 i arg1 harg1 arg2 harg2 arg3 harg3 arg4 harg4 arg5 harg5 arg6 harg6 arg7 harg7 arg8 harg8 arg9 harg9 arg10 harg10 arg11 harg11 arg12 harg12 arg13 harg13 arg14 harg14 arg15 harg15 ((iota .tc S8x1280 32 [1] iota_S8x1280_d1_w32)) ((k0_pay50 (F := F) (word arg1 harg1 x0 0) (word arg1 harg1 x0 1) (word arg1 harg1 x0 2) (word arg1 harg1 x0 3) (word arg1 harg1 x0 4) (word arg1 harg1 x0 5) (word arg1 harg1 x0 6) (word arg1 harg1 x0 7))))
          (fun r => iprop(⌜r = ⟨k0_pay51 (F := F) (iota .tc S8x1280 32 [1] iota_S8x1280_d1_w32) (k0_pay50 (F := F) (word arg1 harg1 x0 0) (word arg1 harg1 x0 1) (word arg1 harg1 x0 2) (word arg1 harg1 x0 3) (word arg1 harg1 x0 4) (word arg1 harg1 x0 5) (word arg1 harg1 x0 6) (word arg1 harg1 x0 7)) (word arg1 harg1 x0 8) (word arg1 harg1 x0 9) (word arg1 harg1 x0 10) (word arg1 harg1 x0 11) (word arg1 harg1 x0 12) (word arg1 harg1 x0 13) (word arg1 harg1 x0 14) (word arg1 harg1 x0 15), k0_pay52 (F := F) (iota .tc S8x1280 32 [1] iota_S8x1280_d1_w32) (word arg1 harg1 x0 16), 0#32⟩⌝ ∗ (arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (∃ f', ⌜f' = f⌝ ∗ (arg13.view.loc (c : Thread nD τ) ↦[arg13.view.set]{fullShare} f')) ∗ (∃ g', ⌜g' = g⌝ ∗ (arg15.view.loc (c : Thread nD τ) ↦[arg15.view.set]{fullShare} g')))) := by
  rw [k0_part12_eq_skeleton]
  unfold k0_part12_skel
  iintro ⟨H1, H2, H4, H5, H13, H15⟩
  sl_exec
  sl_step
  isplitr
  · ipureintro; sl_kernel_rfl
  isplitl [H1]; · iexact H1
  isplitl [H2]; · iexact H2
  isplitl [H4]; · iexact H4
  isplitl [H5]; · iexact H5
  isplitl [H13]
  · iexists _; isplitr; swap; · iexact H13
    ipureintro; sl_kernel_rfl
  iexists _; isplitr; swap; · iexact H15
  ipureintro; sl_kernel_rfl

set_option maxHeartbeats 1000000 in
/-- A stretch of the preparation (part 13): what it returns and what it leaves in the two scratch buffers. -/
theorem part13 (c : Dev nD) (i : grid0.Coords) (arg1 : Memref sig .tc .smem S36 .i32) (harg1 : arg1.IsWhole) (arg2 : Memref sig .tc .smem S10x40 .f32) (harg2 : arg2.IsWhole) (arg3 : Memref sig .tc .vmem S512x1280 .bf16) (harg3 : arg3.IsWhole) (arg4 : Memref sig .tc .vmem S36x5120 .bf16) (harg4 : arg4.IsWhole) (arg5 : Memref sig .tc .vmem S1280x5120 .fp8e4m3) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S512x5120 .bf16) (harg8 : arg8.IsWhole) (arg9 : Memref sig .tc .vmem S512x1280 .fp8e4m3) (harg9 : arg9.IsWhole) (arg10 : Memref sig .tc .vmem S512x10 .f32) (harg10 : arg10.IsWhole) (arg11 : Memref sig .tc .vmem S512x5120 .fp8e4m3) (harg11 : arg11.IsWhole) (arg12 : Memref sig .tc .vmem S512x40 .f32) (harg12 : arg12.IsWhole) (arg13 : Memref sig .tc .vmem S1280x5120 .bf16) (harg13 : arg13.IsWhole) (arg14 : Memref sig .tc .vmem S512x1280 .bf16) (harg14 : arg14.IsWhole) (arg15 : Memref sig .tc .vmem S8x1280 .i32) (harg15 : arg15.IsWhole) (hc : k0_cond1 i = 1#1)
    (x0 : Vec F S36 .i32) (x1 : Vec F S10x40 .f32) (x3 : Vec F S36x5120 .bf16) (x4 : Vec F S1280x5120 .fp8e4m3)
    (hw : ∀ j, k0_chk1 i (word arg1 harg1 x0 j)) (E : Set ℕ) (f : BufTy.Contents (Elt F) arg13.view.ty) (g : BufTy.Contents (Elt F) arg15.view.ty) :
    (iprop((arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (arg13.view.loc (c : Thread nD τ) ↦[arg13.view.set]{fullShare} f) ∗ (arg15.view.loc (c : Thread nD τ) ↦[arg15.view.set]{fullShare} g)) : sProp 𝕄)
      ⊢ wp frame (wpE (defs₀ (F := F)) Variants.none c none) E (k0_part13 i arg1 harg1 arg2 harg2 arg3 harg3 arg4 harg4 arg5 harg5 arg6 harg6 arg7 harg7 arg8 harg8 arg9 harg9 arg10 harg10 arg11 harg11 arg12 harg12 arg13 harg13 arg14 harg14 arg15 harg15 ((iota .tc S8x1280 32 [1] iota_S8x1280_d1_w32)) ((k0_pay51 (F := F) (iota .tc S8x1280 32 [1] iota_S8x1280_d1_w32) (k0_pay50 (F := F) (word arg1 harg1 x0 0) (word arg1 harg1 x0 1) (word arg1 harg1 x0 2) (word arg1 harg1 x0 3) (word arg1 harg1 x0 4) (word arg1 harg1 x0 5) (word arg1 harg1 x0 6) (word arg1 harg1 x0 7)) (word arg1 harg1 x0 8) (word arg1 harg1 x0 9) (word arg1 harg1 x0 10) (word arg1 harg1 x0 11) (word arg1 harg1 x0 12) (word arg1 harg1 x0 13) (word arg1 harg1 x0 14) (word arg1 harg1 x0 15))) ((k0_pay52 (F := F) (iota .tc S8x1280 32 [1] iota_S8x1280_d1_w32) (word arg1 harg1 x0 16))) ((0#32)))
          (fun r => iprop(⌜r = ⟨k0_pay53 (F := F) (iota .tc S8x1280 32 [1] iota_S8x1280_d1_w32) (k0_pay51 (F := F) (iota .tc S8x1280 32 [1] iota_S8x1280_d1_w32) (k0_pay50 (F := F) (word arg1 harg1 x0 0) (word arg1 harg1 x0 1) (word arg1 harg1 x0 2) (word arg1 harg1 x0 3) (word arg1 harg1 x0 4) (word arg1 harg1 x0 5) (word arg1 harg1 x0 6) (word arg1 harg1 x0 7)) (word arg1 harg1 x0 8) (word arg1 harg1 x0 9) (word arg1 harg1 x0 10) (word arg1 harg1 x0 11) (word arg1 harg1 x0 12) (word arg1 harg1 x0 13) (word arg1 harg1 x0 14) (word arg1 harg1 x0 15)) (k0_pay52 (F := F) (iota .tc S8x1280 32 [1] iota_S8x1280_d1_w32) (word arg1 harg1 x0 16)) (0#32) (word arg1 harg1 x0 17) (word arg1 harg1 x0 18) (word arg1 harg1 x0 19) (word arg1 harg1 x0 20) (word arg1 harg1 x0 21) (word arg1 harg1 x0 22) (word arg1 harg1 x0 23) (word arg1 harg1 x0 24), (word arg1 harg1 x0 25)⟩⌝ ∗ (arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (∃ f', ⌜f' = f⌝ ∗ (arg13.view.loc (c : Thread nD τ) ↦[arg13.view.set]{fullShare} f')) ∗ (∃ g', ⌜g' = g⌝ ∗ (arg15.view.loc (c : Thread nD τ) ↦[arg15.view.set]{fullShare} g')))) := by
  rw [k0_part13_eq_skeleton]
  unfold k0_part13_skel
  iintro ⟨H1, H2, H4, H5, H13, H15⟩
  sl_exec
  sl_step
  isplitr
  · ipureintro; sl_kernel_rfl
  isplitl [H1]; · iexact H1
  isplitl [H2]; · iexact H2
  isplitl [H4]; · iexact H4
  isplitl [H5]; · iexact H5
  isplitl [H13]
  · iexists _; isplitr; swap; · iexact H13
    ipureintro; sl_kernel_rfl
  iexists _; isplitr; swap; · iexact H15
  ipureintro; sl_kernel_rfl

set_option maxHeartbeats 1000000 in
/-- A stretch of the preparation (part 14): what it returns and what it leaves in the two scratch buffers. -/
theorem part14 (c : Dev nD) (i : grid0.Coords) (arg1 : Memref sig .tc .smem S36 .i32) (harg1 : arg1.IsWhole) (arg2 : Memref sig .tc .smem S10x40 .f32) (harg2 : arg2.IsWhole) (arg3 : Memref sig .tc .vmem S512x1280 .bf16) (harg3 : arg3.IsWhole) (arg4 : Memref sig .tc .vmem S36x5120 .bf16) (harg4 : arg4.IsWhole) (arg5 : Memref sig .tc .vmem S1280x5120 .fp8e4m3) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S512x5120 .bf16) (harg8 : arg8.IsWhole) (arg9 : Memref sig .tc .vmem S512x1280 .fp8e4m3) (harg9 : arg9.IsWhole) (arg10 : Memref sig .tc .vmem S512x10 .f32) (harg10 : arg10.IsWhole) (arg11 : Memref sig .tc .vmem S512x5120 .fp8e4m3) (harg11 : arg11.IsWhole) (arg12 : Memref sig .tc .vmem S512x40 .f32) (harg12 : arg12.IsWhole) (arg13 : Memref sig .tc .vmem S1280x5120 .bf16) (harg13 : arg13.IsWhole) (arg14 : Memref sig .tc .vmem S512x1280 .bf16) (harg14 : arg14.IsWhole) (arg15 : Memref sig .tc .vmem S8x1280 .i32) (harg15 : arg15.IsWhole) (hc : k0_cond1 i = 1#1)
    (x0 : Vec F S36 .i32) (x1 : Vec F S10x40 .f32) (x3 : Vec F S36x5120 .bf16) (x4 : Vec F S1280x5120 .fp8e4m3)
    (hw : ∀ j, k0_chk1 i (word arg1 harg1 x0 j)) (E : Set ℕ) (f : BufTy.Contents (Elt F) arg13.view.ty) (g : BufTy.Contents (Elt F) arg15.view.ty) :
    (iprop((arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (arg13.view.loc (c : Thread nD τ) ↦[arg13.view.set]{fullShare} f) ∗ (arg15.view.loc (c : Thread nD τ) ↦[arg15.view.set]{fullShare} g)) : sProp 𝕄)
      ⊢ wp frame (wpE (defs₀ (F := F)) Variants.none c none) E (k0_part14 i arg1 harg1 arg2 harg2 arg3 harg3 arg4 harg4 arg5 harg5 arg6 harg6 arg7 harg7 arg8 harg8 arg9 harg9 arg10 harg10 arg11 harg11 arg12 harg12 arg13 harg13 arg14 harg14 arg15 harg15 ((iota .tc S8x1280 32 [1] iota_S8x1280_d1_w32)) ((k0_pay53 (F := F) (iota .tc S8x1280 32 [1] iota_S8x1280_d1_w32) (k0_pay51 (F := F) (iota .tc S8x1280 32 [1] iota_S8x1280_d1_w32) (k0_pay50 (F := F) (word arg1 harg1 x0 0) (word arg1 harg1 x0 1) (word arg1 harg1 x0 2) (word arg1 harg1 x0 3) (word arg1 harg1 x0 4) (word arg1 harg1 x0 5) (word arg1 harg1 x0 6) (word arg1 harg1 x0 7)) (word arg1 harg1 x0 8) (word arg1 harg1 x0 9) (word arg1 harg1 x0 10) (word arg1 harg1 x0 11) (word arg1 harg1 x0 12) (word arg1 harg1 x0 13) (word arg1 harg1 x0 14) (word arg1 harg1 x0 15)) (k0_pay52 (F := F) (iota .tc S8x1280 32 [1] iota_S8x1280_d1_w32) (word arg1 harg1 x0 16)) (0#32) (word arg1 harg1 x0 17) (word arg1 harg1 x0 18) (word arg1 harg1 x0 19) (word arg1 harg1 x0 20) (word arg1 harg1 x0 21) (word arg1 harg1 x0 22) (word arg1 harg1 x0 23) (word arg1 harg1 x0 24))) ((word arg1 harg1 x0 25)))
          (fun r => iprop(⌜r = ⟨k0_pay54 (F := F) (iota .tc S8x1280 32 [1] iota_S8x1280_d1_w32) (k0_pay53 (F := F) (iota .tc S8x1280 32 [1] iota_S8x1280_d1_w32) (k0_pay51 (F := F) (iota .tc S8x1280 32 [1] iota_S8x1280_d1_w32) (k0_pay50 (F := F) (word arg1 harg1 x0 0) (word arg1 harg1 x0 1) (word arg1 harg1 x0 2) (word arg1 harg1 x0 3) (word arg1 harg1 x0 4) (word arg1 harg1 x0 5) (word arg1 harg1 x0 6) (word arg1 harg1 x0 7)) (word arg1 harg1 x0 8) (word arg1 harg1 x0 9) (word arg1 harg1 x0 10) (word arg1 harg1 x0 11) (word arg1 harg1 x0 12) (word arg1 harg1 x0 13) (word arg1 harg1 x0 14) (word arg1 harg1 x0 15)) (k0_pay52 (F := F) (iota .tc S8x1280 32 [1] iota_S8x1280_d1_w32) (word arg1 harg1 x0 16)) (0#32) (word arg1 harg1 x0 17) (word arg1 harg1 x0 18) (word arg1 harg1 x0 19) (word arg1 harg1 x0 20) (word arg1 harg1 x0 21) (word arg1 harg1 x0 22) (word arg1 harg1 x0 23) (word arg1 harg1 x0 24)) (word arg1 harg1 x0 25) (word arg1 harg1 x0 26) (word arg1 harg1 x0 27) (word arg1 harg1 x0 28) (word arg1 harg1 x0 29) (word arg1 harg1 x0 30) (word arg1 harg1 x0 31) (word arg1 harg1 x0 32), k0_pay55 (F := F) (iota .tc S8x1280 32 [1] iota_S8x1280_d1_w32) (word arg1 harg1 x0 33), k0_pay56⟩⌝ ∗ (arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (∃ f', ⌜f' = f⌝ ∗ (arg13.view.loc (c : Thread nD τ) ↦[arg13.view.set]{fullShare} f')) ∗ (∃ g', ⌜g' = g⌝ ∗ (arg15.view.loc (c : Thread nD τ) ↦[arg15.view.set]{fullShare} g')))) := by
  rw [k0_part14_eq_skeleton]
  unfold k0_part14_skel
  iintro ⟨H1, H2, H4, H5, H13, H15⟩
  sl_exec
  sl_step
  isplitr
  · ipureintro; sl_kernel_rfl
  isplitl [H1]; · iexact H1
  isplitl [H2]; · iexact H2
  isplitl [H4]; · iexact H4
  isplitl [H5]; · iexact H5
  isplitl [H13]
  · iexists _; isplitr; swap; · iexact H13
    ipureintro; sl_kernel_rfl
  iexists _; isplitr; swap; · iexact H15
  ipureintro; sl_kernel_rfl

set_option maxHeartbeats 1000000 in
/-- A stretch of the preparation (part 15): what it returns and what it leaves in the two scratch buffers. -/
theorem part15 (c : Dev nD) (i : grid0.Coords) (arg1 : Memref sig .tc .smem S36 .i32) (harg1 : arg1.IsWhole) (arg2 : Memref sig .tc .smem S10x40 .f32) (harg2 : arg2.IsWhole) (arg3 : Memref sig .tc .vmem S512x1280 .bf16) (harg3 : arg3.IsWhole) (arg4 : Memref sig .tc .vmem S36x5120 .bf16) (harg4 : arg4.IsWhole) (arg5 : Memref sig .tc .vmem S1280x5120 .fp8e4m3) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S512x5120 .bf16) (harg8 : arg8.IsWhole) (arg9 : Memref sig .tc .vmem S512x1280 .fp8e4m3) (harg9 : arg9.IsWhole) (arg10 : Memref sig .tc .vmem S512x10 .f32) (harg10 : arg10.IsWhole) (arg11 : Memref sig .tc .vmem S512x5120 .fp8e4m3) (harg11 : arg11.IsWhole) (arg12 : Memref sig .tc .vmem S512x40 .f32) (harg12 : arg12.IsWhole) (arg13 : Memref sig .tc .vmem S1280x5120 .bf16) (harg13 : arg13.IsWhole) (arg14 : Memref sig .tc .vmem S512x1280 .bf16) (harg14 : arg14.IsWhole) (arg15 : Memref sig .tc .vmem S8x1280 .i32) (harg15 : arg15.IsWhole) (hc : k0_cond1 i = 1#1)
    (x0 : Vec F S36 .i32) (x1 : Vec F S10x40 .f32) (x3 : Vec F S36x5120 .bf16) (x4 : Vec F S1280x5120 .fp8e4m3)
    (hw : ∀ j, k0_chk1 i (word arg1 harg1 x0 j)) (E : Set ℕ) (f : BufTy.Contents (Elt F) arg13.view.ty) (g : BufTy.Contents (Elt F) arg15.view.ty) :
    (iprop((arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (arg13.view.loc (c : Thread nD τ) ↦[arg13.view.set]{fullShare} f) ∗ (arg15.view.loc (c : Thread nD τ) ↦[arg15.view.set]{fullShare} g)) : sProp 𝕄)
      ⊢ wp frame (wpE (defs₀ (F := F)) Variants.none c none) E (k0_part15 i arg1 harg1 arg2 harg2 arg3 harg3 arg4 harg4 arg5 harg5 arg6 harg6 arg7 harg7 arg8 harg8 arg9 harg9 arg10 harg10 arg11 harg11 arg12 harg12 arg13 harg13 arg14 harg14 arg15 harg15 (hc) ((iota .tc S8x1280 32 [1] iota_S8x1280_d1_w32)) ((k0_pay54 (F := F) (iota .tc S8x1280 32 [1] iota_S8x1280_d1_w32) (k0_pay53 (F := F) (iota .tc S8x1280 32 [1] iota_S8x1280_d1_w32) (k0_pay51 (F := F) (iota .tc S8x1280 32 [1] iota_S8x1280_d1_w32) (k0_pay50 (F := F) (word arg1 harg1 x0 0) (word arg1 harg1 x0 1) (word arg1 harg1 x0 2) (word arg1 harg1 x0 3) (word arg1 harg1 x0 4) (word arg1 harg1 x0 5) (word arg1 harg1 x0 6) (word arg1 harg1 x0 7)) (word arg1 harg1 x0 8) (word arg1 harg1 x0 9) (word arg1 harg1 x0 10) (word arg1 harg1 x0 11) (word arg1 harg1 x0 12) (word arg1 harg1 x0 13) (word arg1 harg1 x0 14) (word arg1 harg1 x0 15)) (k0_pay52 (F := F) (iota .tc S8x1280 32 [1] iota_S8x1280_d1_w32) (word arg1 harg1 x0 16)) (0#32) (word arg1 harg1 x0 17) (word arg1 harg1 x0 18) (word arg1 harg1 x0 19) (word arg1 harg1 x0 20) (word arg1 harg1 x0 21) (word arg1 harg1 x0 22) (word arg1 harg1 x0 23) (word arg1 harg1 x0 24)) (word arg1 harg1 x0 25) (word arg1 harg1 x0 26) (word arg1 harg1 x0 27) (word arg1 harg1 x0 28) (word arg1 harg1 x0 29) (word arg1 harg1 x0 30) (word arg1 harg1 x0 31) (word arg1 harg1 x0 32))) ((k0_pay55 (F := F) (iota .tc S8x1280 32 [1] iota_S8x1280_d1_w32) (word arg1 harg1 x0 33))) ((k0_pay56)))
          (fun r => iprop(⌜r = ⟨(iota .tc S2x5120 32 [0] iota_S2x5120_d0_w32), (word arg1 harg1 x0 1), (hw 1), (Scalar.shrui (word arg1 harg1 x0 1) 1#32)⟩⌝ ∗ (arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (∃ f', ⌜f' = (rowStep hc arg1 harg1 arg4 harg4 arg13 x0 x3 hw 0 (loopC c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x1 x4 (iota .tc S8x1280 32 [1] iota_S8x1280_d1_w32) (k0_pay54 (F := F) (iota .tc S8x1280 32 [1] iota_S8x1280_d1_w32) (k0_pay53 (F := F) (iota .tc S8x1280 32 [1] iota_S8x1280_d1_w32) (k0_pay51 (F := F) (iota .tc S8x1280 32 [1] iota_S8x1280_d1_w32) (k0_pay50 (F := F) (word arg1 harg1 x0 0) (word arg1 harg1 x0 1) (word arg1 harg1 x0 2) (word arg1 harg1 x0 3) (word arg1 harg1 x0 4) (word arg1 harg1 x0 5) (word arg1 harg1 x0 6) (word arg1 harg1 x0 7)) (word arg1 harg1 x0 8) (word arg1 harg1 x0 9) (word arg1 harg1 x0 10) (word arg1 harg1 x0 11) (word arg1 harg1 x0 12) (word arg1 harg1 x0 13) (word arg1 harg1 x0 14) (word arg1 harg1 x0 15)) (k0_pay52 (F := F) (iota .tc S8x1280 32 [1] iota_S8x1280_d1_w32) (word arg1 harg1 x0 16)) (0#32) (word arg1 harg1 x0 17) (word arg1 harg1 x0 18) (word arg1 harg1 x0 19) (word arg1 harg1 x0 20) (word arg1 harg1 x0 21) (word arg1 harg1 x0 22) (word arg1 harg1 x0 23) (word arg1 harg1 x0 24)) (word arg1 harg1 x0 25) (word arg1 harg1 x0 26) (word arg1 harg1 x0 27) (word arg1 harg1 x0 28) (word arg1 harg1 x0 29) (word arg1 harg1 x0 30) (word arg1 harg1 x0 31) (word arg1 harg1 x0 32)) (k0_pay55 (F := F) (iota .tc S8x1280 32 [1] iota_S8x1280_d1_w32) (word arg1 harg1 x0 33)) (k0_pay56) f))⌝ ∗ (arg13.view.loc (c : Thread nD τ) ↦[arg13.view.set]{fullShare} f')) ∗ (∃ g', ⌜g' = arg15.view.writes (Elt F) arg15.view.junk [⟨Rect.unit (s := S8x1280) ![0, 0] S8x1280.size inb_S8x1280_S8x1280_0_0, (k0_pay57 (F := F) (iota .tc S8x1280 32 [1] iota_S8x1280_d1_w32) (k0_pay54 (F := F) (iota .tc S8x1280 32 [1] iota_S8x1280_d1_w32) (k0_pay53 (F := F) (iota .tc S8x1280 32 [1] iota_S8x1280_d1_w32) (k0_pay51 (F := F) (iota .tc S8x1280 32 [1] iota_S8x1280_d1_w32) (k0_pay50 (F := F) (word arg1 harg1 x0 0) (word arg1 harg1 x0 1) (word arg1 harg1 x0 2) (word arg1 harg1 x0 3) (word arg1 harg1 x0 4) (word arg1 harg1 x0 5) (word arg1 harg1 x0 6) (word arg1 harg1 x0 7)) (word arg1 harg1 x0 8) (word arg1 harg1 x0 9) (word arg1 harg1 x0 10) (word arg1 harg1 x0 11) (word arg1 harg1 x0 12) (word arg1 harg1 x0 13) (word arg1 harg1 x0 14) (word arg1 harg1 x0 15)) (k0_pay52 (F := F) (iota .tc S8x1280 32 [1] iota_S8x1280_d1_w32) (word arg1 harg1 x0 16)) (0#32) (word arg1 harg1 x0 17) (word arg1 harg1 x0 18) (word arg1 harg1 x0 19) (word arg1 harg1 x0 20) (word arg1 harg1 x0 21) (word arg1 harg1 x0 22) (word arg1 harg1 x0 23) (word arg1 harg1 x0 24)) (word arg1 harg1 x0 25) (word arg1 harg1 x0 26) (word arg1 harg1 x0 27) (word arg1 harg1 x0 28) (word arg1 harg1 x0 29) (word arg1 harg1 x0 30) (word arg1 harg1 x0 31) (word arg1 harg1 x0 32)) (k0_pay55 (F := F) (iota .tc S8x1280 32 [1] iota_S8x1280_d1_w32) (word arg1 harg1 x0 33)) (k0_pay56) (word arg1 harg1 x0 34) (word arg1 harg1 x0 35))⟩]⌝ ∗ (arg15.view.loc (c : Thread nD τ) ↦[arg15.view.set]{fullShare} g')))) := by
  rw [k0_part15_eq_skeleton]
  unfold k0_part15_skel
  have hw1 : k0_chk1 i (arg1.view.readAt (Elt F) (Rect.unit (s := S36) ![0] S1.size inb_S36_S1_0).toLoadRect (harg1.unread x0) (Shape.Idx.first (numel1_S1.symm ▸ Nat.one_pos))) := hw 0
  have hw2 : k0_chk2 i (arg1.view.readAt (Elt F) (Rect.unit (s := S36) ![1] S1.size inb_S36_S1_1).toLoadRect (harg1.unread x0) (Shape.Idx.first (numel1_S1.symm ▸ Nat.one_pos))) := hw 1
  iintro ⟨H1, H2, H4, H5, H13, H15⟩
  sl_exec (disch := first | sl_exact hw1 | sl_exact hw2)
  sl_step
  isplitr
  · ipureintro; sl_kernel_rfl
  isplitl [H1]; · iexact H1
  isplitl [H2]; · iexact H2
  isplitl [H4]; · iexact H4
  isplitl [H5]; · iexact H5
  isplitl [H13]
  · iexists _; isplitr; swap; · iexact H13
    ipureintro; sl_kernel_rfl
  iexists _; isplitr; swap; · iexact H15
  ipureintro; sl_kernel_rfl

set_option maxHeartbeats 1000000 in
/-- A stretch of the preparation (part 16): what it returns and what it leaves in the two scratch buffers. -/
theorem part16 (c : Dev nD) (i : grid0.Coords) (arg1 : Memref sig .tc .smem S36 .i32) (harg1 : arg1.IsWhole) (arg2 : Memref sig .tc .smem S10x40 .f32) (harg2 : arg2.IsWhole) (arg3 : Memref sig .tc .vmem S512x1280 .bf16) (harg3 : arg3.IsWhole) (arg4 : Memref sig .tc .vmem S36x5120 .bf16) (harg4 : arg4.IsWhole) (arg5 : Memref sig .tc .vmem S1280x5120 .fp8e4m3) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S512x5120 .bf16) (harg8 : arg8.IsWhole) (arg9 : Memref sig .tc .vmem S512x1280 .fp8e4m3) (harg9 : arg9.IsWhole) (arg10 : Memref sig .tc .vmem S512x10 .f32) (harg10 : arg10.IsWhole) (arg11 : Memref sig .tc .vmem S512x5120 .fp8e4m3) (harg11 : arg11.IsWhole) (arg12 : Memref sig .tc .vmem S512x40 .f32) (harg12 : arg12.IsWhole) (arg13 : Memref sig .tc .vmem S1280x5120 .bf16) (harg13 : arg13.IsWhole) (arg14 : Memref sig .tc .vmem S512x1280 .bf16) (harg14 : arg14.IsWhole) (arg15 : Memref sig .tc .vmem S8x1280 .i32) (harg15 : arg15.IsWhole) (hc : k0_cond1 i = 1#1)
    (x0 : Vec F S36 .i32) (x1 : Vec F S10x40 .f32) (x3 : Vec F S36x5120 .bf16) (x4 : Vec F S1280x5120 .fp8e4m3)
    (hw : ∀ j, k0_chk1 i (word arg1 harg1 x0 j)) (E : Set ℕ) (f : BufTy.Contents (Elt F) arg13.view.ty) (g : BufTy.Contents (Elt F) arg15.view.ty) :
    (iprop((arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (arg13.view.loc (c : Thread nD τ) ↦[arg13.view.set]{fullShare} f) ∗ (arg15.view.loc (c : Thread nD τ) ↦[arg15.view.set]{fullShare} g)) : sProp 𝕄)
      ⊢ wp frame (wpE (defs₀ (F := F)) Variants.none c none) E (k0_part16 i arg1 harg1 arg2 harg2 arg3 harg3 arg4 harg4 arg5 harg5 arg6 harg6 arg7 harg7 arg8 harg8 arg9 harg9 arg10 harg10 arg11 harg11 arg12 harg12 arg13 harg13 arg14 harg14 arg15 harg15 (hc) ((iota .tc S2x5120 32 [0] iota_S2x5120_d0_w32)) ((word arg1 harg1 x0 1)) ((hw 1)) ((Scalar.shrui (word arg1 harg1 x0 1) 1#32)))
          (fun r => iprop(⌜r = ⟨(word arg1 harg1 x0 3), (hw 3), ((Scalar.muli (Scalar.shrui (word arg1 harg1 x0 3) 1#32) 2#32)), k0_pay64 (F := F) (word arg1 harg1 x0 3)⟩⌝ ∗ (arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (∃ f', ⌜f' = (rowStep hc arg1 harg1 arg4 harg4 arg13 x0 x3 hw 2 (rowStep hc arg1 harg1 arg4 harg4 arg13 x0 x3 hw 1 f))⌝ ∗ (arg13.view.loc (c : Thread nD τ) ↦[arg13.view.set]{fullShare} f')) ∗ (∃ g', ⌜g' = g⌝ ∗ (arg15.view.loc (c : Thread nD τ) ↦[arg15.view.set]{fullShare} g')))) := by
  rw [k0_part16_eq_skeleton]
  unfold k0_part16_skel
  have hw3 : k0_chk3 i (arg1.view.readAt (Elt F) (Rect.unit (s := S36) ![2] S1.size inb_S36_S1_2).toLoadRect (harg1.unread x0) (Shape.Idx.first (numel1_S1.symm ▸ Nat.one_pos))) := hw 2
  have hw4 : k0_chk4 i (arg1.view.readAt (Elt F) (Rect.unit (s := S36) ![3] S1.size inb_S36_S1_3).toLoadRect (harg1.unread x0) (Shape.Idx.first (numel1_S1.symm ▸ Nat.one_pos))) := hw 3
  iintro ⟨H1, H2, H4, H5, H13, H15⟩
  sl_exec (disch := first | sl_exact hw3 | sl_exact hw4)
  sl_step
  isplitr
  · ipureintro; sl_kernel_rfl
  isplitl [H1]; · iexact H1
  isplitl [H2]; · iexact H2
  isplitl [H4]; · iexact H4
  isplitl [H5]; · iexact H5
  isplitl [H13]
  · iexists _; isplitr; swap; · iexact H13
    ipureintro; sl_kernel_rfl
  iexists _; isplitr; swap; · iexact H15
  ipureintro; sl_kernel_rfl

set_option maxHeartbeats 1000000 in
/-- A stretch of the preparation (part 17): what it returns and what it leaves in the two scratch buffers. -/
theorem part17 (c : Dev nD) (i : grid0.Coords) (arg1 : Memref sig .tc .smem S36 .i32) (harg1 : arg1.IsWhole) (arg2 : Memref sig .tc .smem S10x40 .f32) (harg2 : arg2.IsWhole) (arg3 : Memref sig .tc .vmem S512x1280 .bf16) (harg3 : arg3.IsWhole) (arg4 : Memref sig .tc .vmem S36x5120 .bf16) (harg4 : arg4.IsWhole) (arg5 : Memref sig .tc .vmem S1280x5120 .fp8e4m3) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S512x5120 .bf16) (harg8 : arg8.IsWhole) (arg9 : Memref sig .tc .vmem S512x1280 .fp8e4m3) (harg9 : arg9.IsWhole) (arg10 : Memref sig .tc .vmem S512x10 .f32) (harg10 : arg10.IsWhole) (arg11 : Memref sig .tc .vmem S512x5120 .fp8e4m3) (harg11 : arg11.IsWhole) (arg12 : Memref sig .tc .vmem S512x40 .f32) (harg12 : arg12.IsWhole) (arg13 : Memref sig .tc .vmem S1280x5120 .bf16) (harg13 : arg13.IsWhole) (arg14 : Memref sig .tc .vmem S512x1280 .bf16) (harg14 : arg14.IsWhole) (arg15 : Memref sig .tc .vmem S8x1280 .i32) (harg15 : arg15.IsWhole) (hc : k0_cond1 i = 1#1)
    (x0 : Vec F S36 .i32) (x1 : Vec F S10x40 .f32) (x3 : Vec F S36x5120 .bf16) (x4 : Vec F S1280x5120 .fp8e4m3)
    (hw : ∀ j, k0_chk1 i (word arg1 harg1 x0 j)) (E : Set ℕ) (f : BufTy.Contents (Elt F) arg13.view.ty) (g : BufTy.Contents (Elt F) arg15.view.ty) :
    (iprop((arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (arg13.view.loc (c : Thread nD τ) ↦[arg13.view.set]{fullShare} f) ∗ (arg15.view.loc (c : Thread nD τ) ↦[arg15.view.set]{fullShare} g)) : sProp 𝕄)
      ⊢ wp frame (wpE (defs₀ (F := F)) Variants.none c none) E (k0_part17 i arg1 harg1 arg2 harg2 arg3 harg3 arg4 harg4 arg5 harg5 arg6 harg6 arg7 harg7 arg8 harg8 arg9 harg9 arg10 harg10 arg11 harg11 arg12 harg12 arg13 harg13 arg14 harg14 arg15 harg15 (hc) ((iota .tc S2x5120 32 [0] iota_S2x5120_d0_w32)) ((word arg1 harg1 x0 3)) ((hw 3)) (((Scalar.muli (Scalar.shrui (word arg1 harg1 x0 3) 1#32) 2#32))) ((k0_pay64 (F := F) (word arg1 harg1 x0 3))))
          (fun r => iprop(⌜r = ⟨(word arg1 harg1 x0 5), (hw 5), ((Scalar.muli (Scalar.shrui (word arg1 harg1 x0 5) 1#32) 2#32)), k0_pay67 (F := F) (iota .tc S2x5120 32 [0] iota_S2x5120_d0_w32) (word arg1 harg1 x0 5), (row arg4 harg4 x3 5)⟩⌝ ∗ (arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (∃ f', ⌜f' = (rowStep hc arg1 harg1 arg4 harg4 arg13 x0 x3 hw 4 (rowStep hc arg1 harg1 arg4 harg4 arg13 x0 x3 hw 3 f))⌝ ∗ (arg13.view.loc (c : Thread nD τ) ↦[arg13.view.set]{fullShare} f')) ∗ (∃ g', ⌜g' = g⌝ ∗ (arg15.view.loc (c : Thread nD τ) ↦[arg15.view.set]{fullShare} g')))) := by
  rw [k0_part17_eq_skeleton]
  unfold k0_part17_skel
  have hw5 : k0_chk5 i (arg1.view.readAt (Elt F) (Rect.unit (s := S36) ![4] S1.size inb_S36_S1_4).toLoadRect (harg1.unread x0) (Shape.Idx.first (numel1_S1.symm ▸ Nat.one_pos))) := hw 4
  have hw6 : k0_chk6 i (arg1.view.readAt (Elt F) (Rect.unit (s := S36) ![5] S1.size inb_S36_S1_5).toLoadRect (harg1.unread x0) (Shape.Idx.first (numel1_S1.symm ▸ Nat.one_pos))) := hw 5
  iintro ⟨H1, H2, H4, H5, H13, H15⟩
  sl_exec (disch := first | sl_exact hw5 | sl_exact hw6)
  sl_step
  isplitr
  · ipureintro; sl_kernel_rfl
  isplitl [H1]; · iexact H1
  isplitl [H2]; · iexact H2
  isplitl [H4]; · iexact H4
  isplitl [H5]; · iexact H5
  isplitl [H13]
  · iexists _; isplitr; swap; · iexact H13
    ipureintro; sl_kernel_rfl
  iexists _; isplitr; swap; · iexact H15
  ipureintro; sl_kernel_rfl

set_option maxHeartbeats 1000000 in
/-- A stretch of the preparation (part 18): what it returns and what it leaves in the two scratch buffers. -/
theorem part18 (c : Dev nD) (i : grid0.Coords) (arg1 : Memref sig .tc .smem S36 .i32) (harg1 : arg1.IsWhole) (arg2 : Memref sig .tc .smem S10x40 .f32) (harg2 : arg2.IsWhole) (arg3 : Memref sig .tc .vmem S512x1280 .bf16) (harg3 : arg3.IsWhole) (arg4 : Memref sig .tc .vmem S36x5120 .bf16) (harg4 : arg4.IsWhole) (arg5 : Memref sig .tc .vmem S1280x5120 .fp8e4m3) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S512x5120 .bf16) (harg8 : arg8.IsWhole) (arg9 : Memref sig .tc .vmem S512x1280 .fp8e4m3) (harg9 : arg9.IsWhole) (arg10 : Memref sig .tc .vmem S512x10 .f32) (harg10 : arg10.IsWhole) (arg11 : Memref sig .tc .vmem S512x5120 .fp8e4m3) (harg11 : arg11.IsWhole) (arg12 : Memref sig .tc .vmem S512x40 .f32) (harg12 : arg12.IsWhole) (arg13 : Memref sig .tc .vmem S1280x5120 .bf16) (harg13 : arg13.IsWhole) (arg14 : Memref sig .tc .vmem S512x1280 .bf16) (harg14 : arg14.IsWhole) (arg15 : Memref sig .tc .vmem S8x1280 .i32) (harg15 : arg15.IsWhole) (hc : k0_cond1 i = 1#1)
    (x0 : Vec F S36 .i32) (x1 : Vec F S10x40 .f32) (x3 : Vec F S36x5120 .bf16) (x4 : Vec F S1280x5120 .fp8e4m3)
    (hw : ∀ j, k0_chk1 i (word arg1 harg1 x0 j)) (E : Set ℕ) (f : BufTy.Contents (Elt F) arg13.view.ty) (g : BufTy.Contents (Elt F) arg15.view.ty) :
    (iprop((arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (arg13.view.loc (c : Thread nD τ) ↦[arg13.view.set]{fullShare} f) ∗ (arg15.view.loc (c : Thread nD τ) ↦[arg15.view.set]{fullShare} g)) : sProp 𝕄)
      ⊢ wp frame (wpE (defs₀ (F := F)) Variants.none c none) E (k0_part18 i arg1 harg1 arg2 harg2 arg3 harg3 arg4 harg4 arg5 harg5 arg6 harg6 arg7 harg7 arg8 harg8 arg9 harg9 arg10 harg10 arg11 harg11 arg12 harg12 arg13 harg13 arg14 harg14 arg15 harg15 (hc) ((iota .tc S2x5120 32 [0] iota_S2x5120_d0_w32)) ((word arg1 harg1 x0 5)) ((hw 5)) (((Scalar.muli (Scalar.shrui (word arg1 harg1 x0 5) 1#32) 2#32))) ((k0_pay67 (F := F) (iota .tc S2x5120 32 [0] iota_S2x5120_d0_w32) (word arg1 harg1 x0 5))) ((row arg4 harg4 x3 5)))
          (fun r => iprop(⌜r = ⟨(word arg1 harg1 x0 7), (hw 7), k0_pay70 (F := F) (iota .tc S2x5120 32 [0] iota_S2x5120_d0_w32) (word arg1 harg1 x0 7) (row arg4 harg4 x3 7) (tile hc arg1 harg1 arg13 x0 hw 7 ((rowStep hc arg1 harg1 arg4 harg4 arg13 x0 x3 hw 6 (rowStep hc arg1 harg1 arg4 harg4 arg13 x0 x3 hw 5 f))))⟩⌝ ∗ (arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (∃ f', ⌜f' = (rowStep hc arg1 harg1 arg4 harg4 arg13 x0 x3 hw 6 (rowStep hc arg1 harg1 arg4 harg4 arg13 x0 x3 hw 5 f))⌝ ∗ (arg13.view.loc (c : Thread nD τ) ↦[arg13.view.set]{fullShare} f')) ∗ (∃ g', ⌜g' = g⌝ ∗ (arg15.view.loc (c : Thread nD τ) ↦[arg15.view.set]{fullShare} g')))) := by
  rw [k0_part18_eq_skeleton]
  unfold k0_part18_skel
  have hw7 : k0_chk7 i (arg1.view.readAt (Elt F) (Rect.unit (s := S36) ![6] S1.size inb_S36_S1_6).toLoadRect (harg1.unread x0) (Shape.Idx.first (numel1_S1.symm ▸ Nat.one_pos))) := hw 6
  have hw8 : k0_chk8 i (arg1.view.readAt (Elt F) (Rect.unit (s := S36) ![7] S1.size inb_S36_S1_7).toLoadRect (harg1.unread x0) (Shape.Idx.first (numel1_S1.symm ▸ Nat.one_pos))) := hw 7
  iintro ⟨H1, H2, H4, H5, H13, H15⟩
  sl_exec (disch := first | sl_exact hw7 | sl_exact hw8)
  sl_step
  isplitr
  · ipureintro; sl_kernel_rfl
  isplitl [H1]; · iexact H1
  isplitl [H2]; · iexact H2
  isplitl [H4]; · iexact H4
  isplitl [H5]; · iexact H5
  isplitl [H13]
  · iexists _; isplitr; swap; · iexact H13
    ipureintro; sl_kernel_rfl
  iexists _; isplitr; swap; · iexact H15
  ipureintro; sl_kernel_rfl

set_option maxHeartbeats 1000000 in
/-- A stretch of the preparation (part 19): what it returns and what it leaves in the two scratch buffers. -/
theorem part19 (c : Dev nD) (i : grid0.Coords) (arg1 : Memref sig .tc .smem S36 .i32) (harg1 : arg1.IsWhole) (arg2 : Memref sig .tc .smem S10x40 .f32) (harg2 : arg2.IsWhole) (arg3 : Memref sig .tc .vmem S512x1280 .bf16) (harg3 : arg3.IsWhole) (arg4 : Memref sig .tc .vmem S36x5120 .bf16) (harg4 : arg4.IsWhole) (arg5 : Memref sig .tc .vmem S1280x5120 .fp8e4m3) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S512x5120 .bf16) (harg8 : arg8.IsWhole) (arg9 : Memref sig .tc .vmem S512x1280 .fp8e4m3) (harg9 : arg9.IsWhole) (arg10 : Memref sig .tc .vmem S512x10 .f32) (harg10 : arg10.IsWhole) (arg11 : Memref sig .tc .vmem S512x5120 .fp8e4m3) (harg11 : arg11.IsWhole) (arg12 : Memref sig .tc .vmem S512x40 .f32) (harg12 : arg12.IsWhole) (arg13 : Memref sig .tc .vmem S1280x5120 .bf16) (harg13 : arg13.IsWhole) (arg14 : Memref sig .tc .vmem S512x1280 .bf16) (harg14 : arg14.IsWhole) (arg15 : Memref sig .tc .vmem S8x1280 .i32) (harg15 : arg15.IsWhole) (hc : k0_cond1 i = 1#1)
    (x0 : Vec F S36 .i32) (x1 : Vec F S10x40 .f32) (x3 : Vec F S36x5120 .bf16) (x4 : Vec F S1280x5120 .fp8e4m3)
    (hw : ∀ j, k0_chk1 i (word arg1 harg1 x0 j)) (E : Set ℕ) (f : BufTy.Contents (Elt F) arg13.view.ty) (g : BufTy.Contents (Elt F) arg15.view.ty) :
    (iprop((arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (arg13.view.loc (c : Thread nD τ) ↦[arg13.view.set]{fullShare} f) ∗ (arg15.view.loc (c : Thread nD τ) ↦[arg15.view.set]{fullShare} g)) : sProp 𝕄)
      ⊢ wp frame (wpE (defs₀ (F := F)) Variants.none c none) E (k0_part19 i arg1 harg1 arg2 harg2 arg3 harg3 arg4 harg4 arg5 harg5 arg6 harg6 arg7 harg7 arg8 harg8 arg9 harg9 arg10 harg10 arg11 harg11 arg12 harg12 arg13 harg13 arg14 harg14 arg15 harg15 (hc) ((iota .tc S2x5120 32 [0] iota_S2x5120_d0_w32)) ((word arg1 harg1 x0 7)) ((hw 7)) ((k0_pay70 (F := F) (iota .tc S2x5120 32 [0] iota_S2x5120_d0_w32) (word arg1 harg1 x0 7) (row arg4 harg4 x3 7) (tile hc arg1 harg1 arg13 x0 hw 7 f))))
          (fun r => iprop(⌜r = (word arg1 harg1 x0 10)⌝ ∗ (arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (∃ f', ⌜f' = (rowStep hc arg1 harg1 arg4 harg4 arg13 x0 x3 hw 9 (rowStep hc arg1 harg1 arg4 harg4 arg13 x0 x3 hw 8 (rowStep hc arg1 harg1 arg4 harg4 arg13 x0 x3 hw 7 f)))⌝ ∗ (arg13.view.loc (c : Thread nD τ) ↦[arg13.view.set]{fullShare} f')) ∗ (∃ g', ⌜g' = g⌝ ∗ (arg15.view.loc (c : Thread nD τ) ↦[arg15.view.set]{fullShare} g')))) := by
  rw [k0_part19_eq_skeleton]
  unfold k0_part19_skel
  have hw9 : k0_chk9 i (arg1.view.readAt (Elt F) (Rect.unit (s := S36) ![8] S1.size inb_S36_S1_8).toLoadRect (harg1.unread x0) (Shape.Idx.first (numel1_S1.symm ▸ Nat.one_pos))) := hw 8
  have hw10 : k0_chk10 i (arg1.view.readAt (Elt F) (Rect.unit (s := S36) ![9] S1.size inb_S36_S1_9).toLoadRect (harg1.unread x0) (Shape.Idx.first (numel1_S1.symm ▸ Nat.one_pos))) := hw 9
  iintro ⟨H1, H2, H4, H5, H13, H15⟩
  sl_exec (disch := first | sl_exact hw9 | sl_exact hw10)
  sl_step
  isplitr
  · ipureintro; sl_kernel_rfl
  isplitl [H1]; · iexact H1
  isplitl [H2]; · iexact H2
  isplitl [H4]; · iexact H4
  isplitl [H5]; · iexact H5
  isplitl [H13]
  · iexists _; isplitr; swap; · iexact H13
    ipureintro; sl_kernel_rfl
  iexists _; isplitr; swap; · iexact H15
  ipureintro; sl_kernel_rfl

set_option maxHeartbeats 1000000 in
/-- A stretch of the preparation (part 20): what it returns and what it leaves in the two scratch buffers. -/
theorem part20 (c : Dev nD) (i : grid0.Coords) (arg1 : Memref sig .tc .smem S36 .i32) (harg1 : arg1.IsWhole) (arg2 : Memref sig .tc .smem S10x40 .f32) (harg2 : arg2.IsWhole) (arg3 : Memref sig .tc .vmem S512x1280 .bf16) (harg3 : arg3.IsWhole) (arg4 : Memref sig .tc .vmem S36x5120 .bf16) (harg4 : arg4.IsWhole) (arg5 : Memref sig .tc .vmem S1280x5120 .fp8e4m3) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S512x5120 .bf16) (harg8 : arg8.IsWhole) (arg9 : Memref sig .tc .vmem S512x1280 .fp8e4m3) (harg9 : arg9.IsWhole) (arg10 : Memref sig .tc .vmem S512x10 .f32) (harg10 : arg10.IsWhole) (arg11 : Memref sig .tc .vmem S512x5120 .fp8e4m3) (harg11 : arg11.IsWhole) (arg12 : Memref sig .tc .vmem S512x40 .f32) (harg12 : arg12.IsWhole) (arg13 : Memref sig .tc .vmem S1280x5120 .bf16) (harg13 : arg13.IsWhole) (arg14 : Memref sig .tc .vmem S512x1280 .bf16) (harg14 : arg14.IsWhole) (arg15 : Memref sig .tc .vmem S8x1280 .i32) (harg15 : arg15.IsWhole) (hc : k0_cond1 i = 1#1)
    (x0 : Vec F S36 .i32) (x1 : Vec F S10x40 .f32) (x3 : Vec F S36x5120 .bf16) (x4 : Vec F S1280x5120 .fp8e4m3)
    (hw : ∀ j, k0_chk1 i (word arg1 harg1 x0 j)) (E : Set ℕ) (f : BufTy.Contents (Elt F) arg13.view.ty) (g : BufTy.Contents (Elt F) arg15.view.ty) :
    (iprop((arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (arg13.view.loc (c : Thread nD τ) ↦[arg13.view.set]{fullShare} f) ∗ (arg15.view.loc (c : Thread nD τ) ↦[arg15.view.set]{fullShare} g)) : sProp 𝕄)
      ⊢ wp frame (wpE (defs₀ (F := F)) Variants.none c none) E (k0_part20 i arg1 harg1 arg2 harg2 arg3 harg3 arg4 harg4 arg5 harg5 arg6 harg6 arg7 harg7 arg8 harg8 arg9 harg9 arg10 harg10 arg11 harg11 arg12 harg12 arg13 harg13 arg14 harg14 arg15 harg15 (hc) ((iota .tc S2x5120 32 [0] iota_S2x5120_d0_w32)) ((word arg1 harg1 x0 10)))
          (fun r => iprop(⌜r = ⟨(word arg1 harg1 x0 12), (hw 12), ((Scalar.muli (Scalar.shrui (word arg1 harg1 x0 12) 1#32) 2#32))⟩⌝ ∗ (arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (∃ f', ⌜f' = (rowStep hc arg1 harg1 arg4 harg4 arg13 x0 x3 hw 11 (rowStep hc arg1 harg1 arg4 harg4 arg13 x0 x3 hw 10 f))⌝ ∗ (arg13.view.loc (c : Thread nD τ) ↦[arg13.view.set]{fullShare} f')) ∗ (∃ g', ⌜g' = g⌝ ∗ (arg15.view.loc (c : Thread nD τ) ↦[arg15.view.set]{fullShare} g')))) := by
  rw [k0_part20_eq_skeleton]
  unfold k0_part20_skel
  have hw11 : k0_chk11 i (arg1.view.readAt (Elt F) (Rect.unit (s := S36) ![10] S1.size inb_S36_S1_10).toLoadRect (harg1.unread x0) (Shape.Idx.first (numel1_S1.symm ▸ Nat.one_pos))) := hw 10
  have hw12 : k0_chk12 i (arg1.view.readAt (Elt F) (Rect.unit (s := S36) ![11] S1.size inb_S36_S1_11).toLoadRect (harg1.unread x0) (Shape.Idx.first (numel1_S1.symm ▸ Nat.one_pos))) := hw 11
  have hw13 : k0_chk13 i (arg1.view.readAt (Elt F) (Rect.unit (s := S36) ![12] S1.size inb_S36_S1_12).toLoadRect (harg1.unread x0) (Shape.Idx.first (numel1_S1.symm ▸ Nat.one_pos))) := hw 12
  iintro ⟨H1, H2, H4, H5, H13, H15⟩
  sl_exec (disch := first | sl_exact hw11 | sl_exact hw12 | sl_exact hw13)
  sl_step
  isplitr
  · ipureintro; sl_kernel_rfl
  isplitl [H1]; · iexact H1
  isplitl [H2]; · iexact H2
  isplitl [H4]; · iexact H4
  isplitl [H5]; · iexact H5
  isplitl [H13]
  · iexists _; isplitr; swap; · iexact H13
    ipureintro; sl_kernel_rfl
  iexists _; isplitr; swap; · iexact H15
  ipureintro; sl_kernel_rfl

set_option maxHeartbeats 1000000 in
/-- A stretch of the preparation (part 21): what it returns and what it leaves in the two scratch buffers. -/
theorem part21 (c : Dev nD) (i : grid0.Coords) (arg1 : Memref sig .tc .smem S36 .i32) (harg1 : arg1.IsWhole) (arg2 : Memref sig .tc .smem S10x40 .f32) (harg2 : arg2.IsWhole) (arg3 : Memref sig .tc .vmem S512x1280 .bf16) (harg3 : arg3.IsWhole) (arg4 : Memref sig .tc .vmem S36x5120 .bf16) (harg4 : arg4.IsWhole) (arg5 : Memref sig .tc .vmem S1280x5120 .fp8e4m3) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S512x5120 .bf16) (harg8 : arg8.IsWhole) (arg9 : Memref sig .tc .vmem S512x1280 .fp8e4m3) (harg9 : arg9.IsWhole) (arg10 : Memref sig .tc .vmem S512x10 .f32) (harg10 : arg10.IsWhole) (arg11 : Memref sig .tc .vmem S512x5120 .fp8e4m3) (harg11 : arg11.IsWhole) (arg12 : Memref sig .tc .vmem S512x40 .f32) (harg12 : arg12.IsWhole) (arg13 : Memref sig .tc .vmem S1280x5120 .bf16) (harg13 : arg13.IsWhole) (arg14 : Memref sig .tc .vmem S512x1280 .bf16) (harg14 : arg14.IsWhole) (arg15 : Memref sig .tc .vmem S8x1280 .i32) (harg15 : arg15.IsWhole) (hc : k0_cond1 i = 1#1)
    (x0 : Vec F S36 .i32) (x1 : Vec F S10x40 .f32) (x3 : Vec F S36x5120 .bf16) (x4 : Vec F S1280x5120 .fp8e4m3)
    (hw : ∀ j, k0_chk1 i (word arg1 harg1 x0 j)) (E : Set ℕ) (f : BufTy.Contents (Elt F) arg13.view.ty) (g : BufTy.Contents (Elt F) arg15.view.ty) :
    (iprop((arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (arg13.view.loc (c : Thread nD τ) ↦[arg13.view.set]{fullShare} f) ∗ (arg15.view.loc (c : Thread nD τ) ↦[arg15.view.set]{fullShare} g)) : sProp 𝕄)
      ⊢ wp frame (wpE (defs₀ (F := F)) Variants.none c none) E (k0_part21 i arg1 harg1 arg2 harg2 arg3 harg3 arg4 harg4 arg5 harg5 arg6 harg6 arg7 harg7 arg8 harg8 arg9 harg9 arg10 harg10 arg11 harg11 arg12 harg12 arg13 harg13 arg14 harg14 arg15 harg15 (hc) ((iota .tc S2x5120 32 [0] iota_S2x5120_d0_w32)) ((word arg1 harg1 x0 12)) ((hw 12)) (((Scalar.muli (Scalar.shrui (word arg1 harg1 x0 12) 1#32) 2#32))))
          (fun r => iprop(⌜r = ⟨(word arg1 harg1 x0 14), (hw 14), ((Scalar.muli (Scalar.shrui (word arg1 harg1 x0 14) 1#32) 2#32)), k0_pay78 (F := F) (iota .tc S2x5120 32 [0] iota_S2x5120_d0_w32) (word arg1 harg1 x0 14)⟩⌝ ∗ (arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (∃ f', ⌜f' = (rowStep hc arg1 harg1 arg4 harg4 arg13 x0 x3 hw 13 (rowStep hc arg1 harg1 arg4 harg4 arg13 x0 x3 hw 12 f))⌝ ∗ (arg13.view.loc (c : Thread nD τ) ↦[arg13.view.set]{fullShare} f')) ∗ (∃ g', ⌜g' = g⌝ ∗ (arg15.view.loc (c : Thread nD τ) ↦[arg15.view.set]{fullShare} g')))) := by
  rw [k0_part21_eq_skeleton]
  unfold k0_part21_skel
  have hw14 : k0_chk14 i (arg1.view.readAt (Elt F) (Rect.unit (s := S36) ![13] S1.size inb_S36_S1_13).toLoadRect (harg1.unread x0) (Shape.Idx.first (numel1_S1.symm ▸ Nat.one_pos))) := hw 13
  have hw15 : k0_chk15 i (arg1.view.readAt (Elt F) (Rect.unit (s := S36) ![14] S1.size inb_S36_S1_14).toLoadRect (harg1.unread x0) (Shape.Idx.first (numel1_S1.symm ▸ Nat.one_pos))) := hw 14
  iintro ⟨H1, H2, H4, H5, H13, H15⟩
  sl_exec (disch := first | sl_exact hw14 | sl_exact hw15)
  sl_step
  isplitr
  · ipureintro; sl_kernel_rfl
  isplitl [H1]; · iexact H1
  isplitl [H2]; · iexact H2
  isplitl [H4]; · iexact H4
  isplitl [H5]; · iexact H5
  isplitl [H13]
  · iexists _; isplitr; swap; · iexact H13
    ipureintro; sl_kernel_rfl
  iexists _; isplitr; swap; · iexact H15
  ipureintro; sl_kernel_rfl

set_option maxHeartbeats 1000000 in
/-- A stretch of the preparation (part 22): what it returns and what it leaves in the two scratch buffers. -/
theorem part22 (c : Dev nD) (i : grid0.Coords) (arg1 : Memref sig .tc .smem S36 .i32) (harg1 : arg1.IsWhole) (arg2 : Memref sig .tc .smem S10x40 .f32) (harg2 : arg2.IsWhole) (arg3 : Memref sig .tc .vmem S512x1280 .bf16) (harg3 : arg3.IsWhole) (arg4 : Memref sig .tc .vmem S36x5120 .bf16) (harg4 : arg4.IsWhole) (arg5 : Memref sig .tc .vmem S1280x5120 .fp8e4m3) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S512x5120 .bf16) (harg8 : arg8.IsWhole) (arg9 : Memref sig .tc .vmem S512x1280 .fp8e4m3) (harg9 : arg9.IsWhole) (arg10 : Memref sig .tc .vmem S512x10 .f32) (harg10 : arg10.IsWhole) (arg11 : Memref sig .tc .vmem S512x5120 .fp8e4m3) (harg11 : arg11.IsWhole) (arg12 : Memref sig .tc .vmem S512x40 .f32) (harg12 : arg12.IsWhole) (arg13 : Memref sig .tc .vmem S1280x5120 .bf16) (harg13 : arg13.IsWhole) (arg14 : Memref sig .tc .vmem S512x1280 .bf16) (harg14 : arg14.IsWhole) (arg15 : Memref sig .tc .vmem S8x1280 .i32) (harg15 : arg15.IsWhole) (hc : k0_cond1 i = 1#1)
    (x0 : Vec F S36 .i32) (x1 : Vec F S10x40 .f32) (x3 : Vec F S36x5120 .bf16) (x4 : Vec F S1280x5120 .fp8e4m3)
    (hw : ∀ j, k0_chk1 i (word arg1 harg1 x0 j)) (E : Set ℕ) (f : BufTy.Contents (Elt F) arg13.view.ty) (g : BufTy.Contents (Elt F) arg15.view.ty) :
    (iprop((arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (arg13.view.loc (c : Thread nD τ) ↦[arg13.view.set]{fullShare} f) ∗ (arg15.view.loc (c : Thread nD τ) ↦[arg15.view.set]{fullShare} g)) : sProp 𝕄)
      ⊢ wp frame (wpE (defs₀ (F := F)) Variants.none c none) E (k0_part22 i arg1 harg1 arg2 harg2 arg3 harg3 arg4 harg4 arg5 harg5 arg6 harg6 arg7 harg7 arg8 harg8 arg9 harg9 arg10 harg10 arg11 harg11 arg12 harg12 arg13 harg13 arg14 harg14 arg15 harg15 (hc) ((iota .tc S2x5120 32 [0] iota_S2x5120_d0_w32)) ((word arg1 harg1 x0 14)) ((hw 14)) (((Scalar.muli (Scalar.shrui (word arg1 harg1 x0 14) 1#32) 2#32))) ((k0_pay78 (F := F) (iota .tc S2x5120 32 [0] iota_S2x5120_d0_w32) (word arg1 harg1 x0 14))))
          (fun r => iprop(⌜r = ⟨(word arg1 harg1 x0 16), (hw 16), ((Scalar.muli (Scalar.shrui (word arg1 harg1 x0 16) 1#32) 2#32)), k0_pay81 (F := F) (iota .tc S2x5120 32 [0] iota_S2x5120_d0_w32) (word arg1 harg1 x0 16), (tile hc arg1 harg1 arg13 x0 hw 16 ((rowStep hc arg1 harg1 arg4 harg4 arg13 x0 x3 hw 15 (rowStep hc arg1 harg1 arg4 harg4 arg13 x0 x3 hw 14 f)))), k0_pay82 (F := F) (row arg4 harg4 x3 16)⟩⌝ ∗ (arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (∃ f', ⌜f' = (rowStep hc arg1 harg1 arg4 harg4 arg13 x0 x3 hw 15 (rowStep hc arg1 harg1 arg4 harg4 arg13 x0 x3 hw 14 f))⌝ ∗ (arg13.view.loc (c : Thread nD τ) ↦[arg13.view.set]{fullShare} f')) ∗ (∃ g', ⌜g' = g⌝ ∗ (arg15.view.loc (c : Thread nD τ) ↦[arg15.view.set]{fullShare} g')))) := by
  rw [k0_part22_eq_skeleton]
  unfold k0_part22_skel
  have hw16 : k0_chk16 i (arg1.view.readAt (Elt F) (Rect.unit (s := S36) ![15] S1.size inb_S36_S1_15).toLoadRect (harg1.unread x0) (Shape.Idx.first (numel1_S1.symm ▸ Nat.one_pos))) := hw 15
  have hw17 : k0_chk17 i (arg1.view.readAt (Elt F) (Rect.unit (s := S36) ![16] S1.size inb_S36_S1_16).toLoadRect (harg1.unread x0) (Shape.Idx.first (numel1_S1.symm ▸ Nat.one_pos))) := hw 16
  iintro ⟨H1, H2, H4, H5, H13, H15⟩
  sl_exec (disch := first | sl_exact hw16 | sl_exact hw17)
  sl_step
  isplitr
  · ipureintro; sl_kernel_rfl
  isplitl [H1]; · iexact H1
  isplitl [H2]; · iexact H2
  isplitl [H4]; · iexact H4
  isplitl [H5]; · iexact H5
  isplitl [H13]
  · iexists _; isplitr; swap; · iexact H13
    ipureintro; sl_kernel_rfl
  iexists _; isplitr; swap; · iexact H15
  ipureintro; sl_kernel_rfl

set_option maxHeartbeats 1000000 in
/-- A stretch of the preparation (part 23): what it returns and what it leaves in the two scratch buffers. -/
theorem part23 (c : Dev nD) (i : grid0.Coords) (arg1 : Memref sig .tc .smem S36 .i32) (harg1 : arg1.IsWhole) (arg2 : Memref sig .tc .smem S10x40 .f32) (harg2 : arg2.IsWhole) (arg3 : Memref sig .tc .vmem S512x1280 .bf16) (harg3 : arg3.IsWhole) (arg4 : Memref sig .tc .vmem S36x5120 .bf16) (harg4 : arg4.IsWhole) (arg5 : Memref sig .tc .vmem S1280x5120 .fp8e4m3) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S512x5120 .bf16) (harg8 : arg8.IsWhole) (arg9 : Memref sig .tc .vmem S512x1280 .fp8e4m3) (harg9 : arg9.IsWhole) (arg10 : Memref sig .tc .vmem S512x10 .f32) (harg10 : arg10.IsWhole) (arg11 : Memref sig .tc .vmem S512x5120 .fp8e4m3) (harg11 : arg11.IsWhole) (arg12 : Memref sig .tc .vmem S512x40 .f32) (harg12 : arg12.IsWhole) (arg13 : Memref sig .tc .vmem S1280x5120 .bf16) (harg13 : arg13.IsWhole) (arg14 : Memref sig .tc .vmem S512x1280 .bf16) (harg14 : arg14.IsWhole) (arg15 : Memref sig .tc .vmem S8x1280 .i32) (harg15 : arg15.IsWhole) (hc : k0_cond1 i = 1#1)
    (x0 : Vec F S36 .i32) (x1 : Vec F S10x40 .f32) (x3 : Vec F S36x5120 .bf16) (x4 : Vec F S1280x5120 .fp8e4m3)
    (hw : ∀ j, k0_chk1 i (word arg1 harg1 x0 j)) (E : Set ℕ) (f : BufTy.Contents (Elt F) arg13.view.ty) (g : BufTy.Contents (Elt F) arg15.view.ty) :
    (iprop((arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (arg13.view.loc (c : Thread nD τ) ↦[arg13.view.set]{fullShare} f) ∗ (arg15.view.loc (c : Thread nD τ) ↦[arg15.view.set]{fullShare} g)) : sProp 𝕄)
      ⊢ wp frame (wpE (defs₀ (F := F)) Variants.none c none) E (k0_part23 i arg1 harg1 arg2 harg2 arg3 harg3 arg4 harg4 arg5 harg5 arg6 harg6 arg7 harg7 arg8 harg8 arg9 harg9 arg10 harg10 arg11 harg11 arg12 harg12 arg13 harg13 arg14 harg14 arg15 harg15 (hc) ((iota .tc S2x5120 32 [0] iota_S2x5120_d0_w32)) ((word arg1 harg1 x0 16)) ((hw 16)) (((Scalar.muli (Scalar.shrui (word arg1 harg1 x0 16) 1#32) 2#32))) ((k0_pay81 (F := F) (iota .tc S2x5120 32 [0] iota_S2x5120_d0_w32) (word arg1 harg1 x0 16))) ((tile hc arg1 harg1 arg13 x0 hw 16 f)) ((k0_pay82 (F := F) (row arg4 harg4 x3 16))))
          (fun r => iprop(⌜r = ⟨(word arg1 harg1 x0 18), (hw 18), k0_pay85 (F := F) (iota .tc S2x5120 32 [0] iota_S2x5120_d0_w32) (word arg1 harg1 x0 18) (row arg4 harg4 x3 18) (tile hc arg1 harg1 arg13 x0 hw 18 ((rowStep hc arg1 harg1 arg4 harg4 arg13 x0 x3 hw 17 (rowStep hc arg1 harg1 arg4 harg4 arg13 x0 x3 hw 16 f))))⟩⌝ ∗ (arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (∃ f', ⌜f' = (rowStep hc arg1 harg1 arg4 harg4 arg13 x0 x3 hw 17 (rowStep hc arg1 harg1 arg4 harg4 arg13 x0 x3 hw 16 f))⌝ ∗ (arg13.view.loc (c : Thread nD τ) ↦[arg13.view.set]{fullShare} f')) ∗ (∃ g', ⌜g' = g⌝ ∗ (arg15.view.loc (c : Thread nD τ) ↦[arg15.view.set]{fullShare} g')))) := by
  rw [k0_part23_eq_skeleton]
  unfold k0_part23_skel
  have hw18 : k0_chk18 i (arg1.view.readAt (Elt F) (Rect.unit (s := S36) ![17] S1.size inb_S36_S1_17).toLoadRect (harg1.unread x0) (Shape.Idx.first (numel1_S1.symm ▸ Nat.one_pos))) := hw 17
  have hw19 : k0_chk19 i (arg1.view.readAt (Elt F) (Rect.unit (s := S36) ![18] S1.size inb_S36_S1_18).toLoadRect (harg1.unread x0) (Shape.Idx.first (numel1_S1.symm ▸ Nat.one_pos))) := hw 18
  iintro ⟨H1, H2, H4, H5, H13, H15⟩
  sl_exec (disch := first | sl_exact hw18 | sl_exact hw19)
  sl_step
  isplitr
  · ipureintro; sl_kernel_rfl
  isplitl [H1]; · iexact H1
  isplitl [H2]; · iexact H2
  isplitl [H4]; · iexact H4
  isplitl [H5]; · iexact H5
  isplitl [H13]
  · iexists _; isplitr; swap; · iexact H13
    ipureintro; sl_kernel_rfl
  iexists _; isplitr; swap; · iexact H15
  ipureintro; sl_kernel_rfl

set_option maxHeartbeats 1000000 in
/-- A stretch of the preparation (part 24): what it returns and what it leaves in the two scratch buffers. -/
theorem part24 (c : Dev nD) (i : grid0.Coords) (arg1 : Memref sig .tc .smem S36 .i32) (harg1 : arg1.IsWhole) (arg2 : Memref sig .tc .smem S10x40 .f32) (harg2 : arg2.IsWhole) (arg3 : Memref sig .tc .vmem S512x1280 .bf16) (harg3 : arg3.IsWhole) (arg4 : Memref sig .tc .vmem S36x5120 .bf16) (harg4 : arg4.IsWhole) (arg5 : Memref sig .tc .vmem S1280x5120 .fp8e4m3) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S512x5120 .bf16) (harg8 : arg8.IsWhole) (arg9 : Memref sig .tc .vmem S512x1280 .fp8e4m3) (harg9 : arg9.IsWhole) (arg10 : Memref sig .tc .vmem S512x10 .f32) (harg10 : arg10.IsWhole) (arg11 : Memref sig .tc .vmem S512x5120 .fp8e4m3) (harg11 : arg11.IsWhole) (arg12 : Memref sig .tc .vmem S512x40 .f32) (harg12 : arg12.IsWhole) (arg13 : Memref sig .tc .vmem S1280x5120 .bf16) (harg13 : arg13.IsWhole) (arg14 : Memref sig .tc .vmem S512x1280 .bf16) (harg14 : arg14.IsWhole) (arg15 : Memref sig .tc .vmem S8x1280 .i32) (harg15 : arg15.IsWhole) (hc : k0_cond1 i = 1#1)
    (x0 : Vec F S36 .i32) (x1 : Vec F S10x40 .f32) (x3 : Vec F S36x5120 .bf16) (x4 : Vec F S1280x5120 .fp8e4m3)
    (hw : ∀ j, k0_chk1 i (word arg1 harg1 x0 j)) (E : Set ℕ) (f : BufTy.Contents (Elt F) arg13.view.ty) (g : BufTy.Contents (Elt F) arg15.view.ty) :
    (iprop((arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (arg13.view.loc (c : Thread nD τ) ↦[arg13.view.set]{fullShare} f) ∗ (arg15.view.loc (c : Thread nD τ) ↦[arg15.view.set]{fullShare} g)) : sProp 𝕄)
      ⊢ wp frame (wpE (defs₀ (F := F)) Variants.none c none) E (k0_part24 i arg1 harg1 arg2 harg2 arg3 harg3 arg4 harg4 arg5 harg5 arg6 harg6 arg7 harg7 arg8 harg8 arg9 harg9 arg10 harg10 arg11 harg11 arg12 harg12 arg13 harg13 arg14 harg14 arg15 harg15 (hc) ((iota .tc S2x5120 32 [0] iota_S2x5120_d0_w32)) ((word arg1 harg1 x0 18)) ((hw 18)) ((k0_pay85 (F := F) (iota .tc S2x5120 32 [0] iota_S2x5120_d0_w32) (word arg1 harg1 x0 18) (row arg4 harg4 x3 18) (tile hc arg1 harg1 arg13 x0 hw 18 f))))
          (fun r => iprop(⌜r = ⟨(word arg1 harg1 x0 21), (hw 21), (Scalar.shrui (word arg1 harg1 x0 21) 1#32)⟩⌝ ∗ (arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (∃ f', ⌜f' = (rowStep hc arg1 harg1 arg4 harg4 arg13 x0 x3 hw 20 (rowStep hc arg1 harg1 arg4 harg4 arg13 x0 x3 hw 19 (rowStep hc arg1 harg1 arg4 harg4 arg13 x0 x3 hw 18 f)))⌝ ∗ (arg13.view.loc (c : Thread nD τ) ↦[arg13.view.set]{fullShare} f')) ∗ (∃ g', ⌜g' = g⌝ ∗ (arg15.view.loc (c : Thread nD τ) ↦[arg15.view.set]{fullShare} g')))) := by
  rw [k0_part24_eq_skeleton]
  unfold k0_part24_skel
  have hw20 : k0_chk20 i (arg1.view.readAt (Elt F) (Rect.unit (s := S36) ![19] S1.size inb_S36_S1_19).toLoadRect (harg1.unread x0) (Shape.Idx.first (numel1_S1.symm ▸ Nat.one_pos))) := hw 19
  have hw21 : k0_chk21 i (arg1.view.readAt (Elt F) (Rect.unit (s := S36) ![20] S1.size inb_S36_S1_20).toLoadRect (harg1.unread x0) (Shape.Idx.first (numel1_S1.symm ▸ Nat.one_pos))) := hw 20
  have hw22 : k0_chk22 i (arg1.view.readAt (Elt F) (Rect.unit (s := S36) ![21] S1.size inb_S36_S1_21).toLoadRect (harg1.unread x0) (Shape.Idx.first (numel1_S1.symm ▸ Nat.one_pos))) := hw 21
  iintro ⟨H1, H2, H4, H5, H13, H15⟩
  sl_exec (disch := first | sl_exact hw20 | sl_exact hw21 | sl_exact hw22)
  sl_step
  isplitr
  · ipureintro; sl_kernel_rfl
  isplitl [H1]; · iexact H1
  isplitl [H2]; · iexact H2
  isplitl [H4]; · iexact H4
  isplitl [H5]; · iexact H5
  isplitl [H13]
  · iexists _; isplitr; swap; · iexact H13
    ipureintro; sl_kernel_rfl
  iexists _; isplitr; swap; · iexact H15
  ipureintro; sl_kernel_rfl

set_option maxHeartbeats 1000000 in
/-- A stretch of the preparation (part 25): what it returns and what it leaves in the two scratch buffers. -/
theorem part25 (c : Dev nD) (i : grid0.Coords) (arg1 : Memref sig .tc .smem S36 .i32) (harg1 : arg1.IsWhole) (arg2 : Memref sig .tc .smem S10x40 .f32) (harg2 : arg2.IsWhole) (arg3 : Memref sig .tc .vmem S512x1280 .bf16) (harg3 : arg3.IsWhole) (arg4 : Memref sig .tc .vmem S36x5120 .bf16) (harg4 : arg4.IsWhole) (arg5 : Memref sig .tc .vmem S1280x5120 .fp8e4m3) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S512x5120 .bf16) (harg8 : arg8.IsWhole) (arg9 : Memref sig .tc .vmem S512x1280 .fp8e4m3) (harg9 : arg9.IsWhole) (arg10 : Memref sig .tc .vmem S512x10 .f32) (harg10 : arg10.IsWhole) (arg11 : Memref sig .tc .vmem S512x5120 .fp8e4m3) (harg11 : arg11.IsWhole) (arg12 : Memref sig .tc .vmem S512x40 .f32) (harg12 : arg12.IsWhole) (arg13 : Memref sig .tc .vmem S1280x5120 .bf16) (harg13 : arg13.IsWhole) (arg14 : Memref sig .tc .vmem S512x1280 .bf16) (harg14 : arg14.IsWhole) (arg15 : Memref sig .tc .vmem S8x1280 .i32) (harg15 : arg15.IsWhole) (hc : k0_cond1 i = 1#1)
    (x0 : Vec F S36 .i32) (x1 : Vec F S10x40 .f32) (x3 : Vec F S36x5120 .bf16) (x4 : Vec F S1280x5120 .fp8e4m3)
    (hw : ∀ j, k0_chk1 i (word arg1 harg1 x0 j)) (E : Set ℕ) (f : BufTy.Contents (Elt F) arg13.view.ty) (g : BufTy.Contents (Elt F) arg15.view.ty) :
    (iprop((arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (arg13.view.loc (c : Thread nD τ) ↦[arg13.view.set]{fullShare} f) ∗ (arg15.view.loc (c : Thread nD τ) ↦[arg15.view.set]{fullShare} g)) : sProp 𝕄)
      ⊢ wp frame (wpE (defs₀ (F := F)) Variants.none c none) E (k0_part25 i arg1 harg1 arg2 harg2 arg3 harg3 arg4 harg4 arg5 harg5 arg6 harg6 arg7 harg7 arg8 harg8 arg9 harg9 arg10 harg10 arg11 harg11 arg12 harg12 arg13 harg13 arg14 harg14 arg15 harg15 (hc) ((iota .tc S2x5120 32 [0] iota_S2x5120_d0_w32)) ((word arg1 harg1 x0 21)) ((hw 21)) ((Scalar.shrui (word arg1 harg1 x0 21) 1#32)))
          (fun r => iprop(⌜r = ⟨(word arg1 harg1 x0 23), (hw 23), ((Scalar.muli (Scalar.shrui (word arg1 harg1 x0 23) 1#32) 2#32)), k0_pay90 (F := F) (word arg1 harg1 x0 23)⟩⌝ ∗ (arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (∃ f', ⌜f' = (rowStep hc arg1 harg1 arg4 harg4 arg13 x0 x3 hw 22 (rowStep hc arg1 harg1 arg4 harg4 arg13 x0 x3 hw 21 f))⌝ ∗ (arg13.view.loc (c : Thread nD τ) ↦[arg13.view.set]{fullShare} f')) ∗ (∃ g', ⌜g' = g⌝ ∗ (arg15.view.loc (c : Thread nD τ) ↦[arg15.view.set]{fullShare} g')))) := by
  rw [k0_part25_eq_skeleton]
  unfold k0_part25_skel
  have hw23 : k0_chk23 i (arg1.view.readAt (Elt F) (Rect.unit (s := S36) ![22] S1.size inb_S36_S1_22).toLoadRect (harg1.unread x0) (Shape.Idx.first (numel1_S1.symm ▸ Nat.one_pos))) := hw 22
  have hw24 : k0_chk24 i (arg1.view.readAt (Elt F) (Rect.unit (s := S36) ![23] S1.size inb_S36_S1_23).toLoadRect (harg1.unread x0) (Shape.Idx.first (numel1_S1.symm ▸ Nat.one_pos))) := hw 23
  iintro ⟨H1, H2, H4, H5, H13, H15⟩
  sl_exec (disch := first | sl_exact hw23 | sl_exact hw24)
  sl_step
  isplitr
  · ipureintro; sl_kernel_rfl
  isplitl [H1]; · iexact H1
  isplitl [H2]; · iexact H2
  isplitl [H4]; · iexact H4
  isplitl [H5]; · iexact H5
  isplitl [H13]
  · iexists _; isplitr; swap; · iexact H13
    ipureintro; sl_kernel_rfl
  iexists _; isplitr; swap; · iexact H15
  ipureintro; sl_kernel_rfl

set_option maxHeartbeats 1000000 in
/-- A stretch of the preparation (part 26): what it returns and what it leaves in the two scratch buffers. -/
theorem part26 (c : Dev nD) (i : grid0.Coords) (arg1 : Memref sig .tc .smem S36 .i32) (harg1 : arg1.IsWhole) (arg2 : Memref sig .tc .smem S10x40 .f32) (harg2 : arg2.IsWhole) (arg3 : Memref sig .tc .vmem S512x1280 .bf16) (harg3 : arg3.IsWhole) (arg4 : Memref sig .tc .vmem S36x5120 .bf16) (harg4 : arg4.IsWhole) (arg5 : Memref sig .tc .vmem S1280x5120 .fp8e4m3) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S512x5120 .bf16) (harg8 : arg8.IsWhole) (arg9 : Memref sig .tc .vmem S512x1280 .fp8e4m3) (harg9 : arg9.IsWhole) (arg10 : Memref sig .tc .vmem S512x10 .f32) (harg10 : arg10.IsWhole) (arg11 : Memref sig .tc .vmem S512x5120 .fp8e4m3) (harg11 : arg11.IsWhole) (arg12 : Memref sig .tc .vmem S512x40 .f32) (harg12 : arg12.IsWhole) (arg13 : Memref sig .tc .vmem S1280x5120 .bf16) (harg13 : arg13.IsWhole) (arg14 : Memref sig .tc .vmem S512x1280 .bf16) (harg14 : arg14.IsWhole) (arg15 : Memref sig .tc .vmem S8x1280 .i32) (harg15 : arg15.IsWhole) (hc : k0_cond1 i = 1#1)
    (x0 : Vec F S36 .i32) (x1 : Vec F S10x40 .f32) (x3 : Vec F S36x5120 .bf16) (x4 : Vec F S1280x5120 .fp8e4m3)
    (hw : ∀ j, k0_chk1 i (word arg1 harg1 x0 j)) (E : Set ℕ) (f : BufTy.Contents (Elt F) arg13.view.ty) (g : BufTy.Contents (Elt F) arg15.view.ty) :
    (iprop((arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (arg13.view.loc (c : Thread nD τ) ↦[arg13.view.set]{fullShare} f) ∗ (arg15.view.loc (c : Thread nD τ) ↦[arg15.view.set]{fullShare} g)) : sProp 𝕄)
      ⊢ wp frame (wpE (defs₀ (F := F)) Variants.none c none) E (k0_part26 i arg1 harg1 arg2 harg2 arg3 harg3 arg4 harg4 arg5 harg5 arg6 harg6 arg7 harg7 arg8 harg8 arg9 harg9 arg10 harg10 arg11 harg11 arg12 harg12 arg13 harg13 arg14 harg14 arg15 harg15 (hc) ((iota .tc S2x5120 32 [0] iota_S2x5120_d0_w32)) ((word arg1 harg1 x0 23)) ((hw 23)) (((Scalar.muli (Scalar.shrui (word arg1 harg1 x0 23) 1#32) 2#32))) ((k0_pay90 (F := F) (word arg1 harg1 x0 23))))
          (fun r => iprop(⌜r = ⟨(word arg1 harg1 x0 25), (hw 25), ((Scalar.muli (Scalar.shrui (word arg1 harg1 x0 25) 1#32) 2#32)), k0_pay93 (F := F) (iota .tc S2x5120 32 [0] iota_S2x5120_d0_w32) (word arg1 harg1 x0 25), (row arg4 harg4 x3 25)⟩⌝ ∗ (arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (∃ f', ⌜f' = (rowStep hc arg1 harg1 arg4 harg4 arg13 x0 x3 hw 24 (rowStep hc arg1 harg1 arg4 harg4 arg13 x0 x3 hw 23 f))⌝ ∗ (arg13.view.loc (c : Thread nD τ) ↦[arg13.view.set]{fullShare} f')) ∗ (∃ g', ⌜g' = g⌝ ∗ (arg15.view.loc (c : Thread nD τ) ↦[arg15.view.set]{fullShare} g')))) := by
  rw [k0_part26_eq_skeleton]
  unfold k0_part26_skel
  have hw25 : k0_chk25 i (arg1.view.readAt (Elt F) (Rect.unit (s := S36) ![24] S1.size inb_S36_S1_24).toLoadRect (harg1.unread x0) (Shape.Idx.first (numel1_S1.symm ▸ Nat.one_pos))) := hw 24
  have hw26 : k0_chk26 i (arg1.view.readAt (Elt F) (Rect.unit (s := S36) ![25] S1.size inb_S36_S1_25).toLoadRect (harg1.unread x0) (Shape.Idx.first (numel1_S1.symm ▸ Nat.one_pos))) := hw 25
  iintro ⟨H1, H2, H4, H5, H13, H15⟩
  sl_exec (disch := first | sl_exact hw25 | sl_exact hw26)
  sl_step
  isplitr
  · ipureintro; sl_kernel_rfl
  isplitl [H1]; · iexact H1
  isplitl [H2]; · iexact H2
  isplitl [H4]; · iexact H4
  isplitl [H5]; · iexact H5
  isplitl [H13]
  · iexists _; isplitr; swap; · iexact H13
    ipureintro; sl_kernel_rfl
  iexists _; isplitr; swap; · iexact H15
  ipureintro; sl_kernel_rfl

set_option maxHeartbeats 1000000 in
/-- A stretch of the preparation (part 27): what it returns and what it leaves in the two scratch buffers. -/
theorem part27 (c : Dev nD) (i : grid0.Coords) (arg1 : Memref sig .tc .smem S36 .i32) (harg1 : arg1.IsWhole) (arg2 : Memref sig .tc .smem S10x40 .f32) (harg2 : arg2.IsWhole) (arg3 : Memref sig .tc .vmem S512x1280 .bf16) (harg3 : arg3.IsWhole) (arg4 : Memref sig .tc .vmem S36x5120 .bf16) (harg4 : arg4.IsWhole) (arg5 : Memref sig .tc .vmem S1280x5120 .fp8e4m3) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S512x5120 .bf16) (harg8 : arg8.IsWhole) (arg9 : Memref sig .tc .vmem S512x1280 .fp8e4m3) (harg9 : arg9.IsWhole) (arg10 : Memref sig .tc .vmem S512x10 .f32) (harg10 : arg10.IsWhole) (arg11 : Memref sig .tc .vmem S512x5120 .fp8e4m3) (harg11 : arg11.IsWhole) (arg12 : Memref sig .tc .vmem S512x40 .f32) (harg12 : arg12.IsWhole) (arg13 : Memref sig .tc .vmem S1280x5120 .bf16) (harg13 : arg13.IsWhole) (arg14 : Memref sig .tc .vmem S512x1280 .bf16) (harg14 : arg14.IsWhole) (arg15 : Memref sig .tc .vmem S8x1280 .i32) (harg15 : arg15.IsWhole) (hc : k0_cond1 i = 1#1)
    (x0 : Vec F S36 .i32) (x1 : Vec F S10x40 .f32) (x3 : Vec F S36x5120 .bf16) (x4 : Vec F S1280x5120 .fp8e4m3)
    (hw : ∀ j, k0_chk1 i (word arg1 harg1 x0 j)) (E : Set ℕ) (f : BufTy.Contents (Elt F) arg13.view.ty) (g : BufTy.Contents (Elt F) arg15.view.ty) :
    (iprop((arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (arg13.view.loc (c : Thread nD τ) ↦[arg13.view.set]{fullShare} f) ∗ (arg15.view.loc (c : Thread nD τ) ↦[arg15.view.set]{fullShare} g)) : sProp 𝕄)
      ⊢ wp frame (wpE (defs₀ (F := F)) Variants.none c none) E (k0_part27 i arg1 harg1 arg2 harg2 arg3 harg3 arg4 harg4 arg5 harg5 arg6 harg6 arg7 harg7 arg8 harg8 arg9 harg9 arg10 harg10 arg11 harg11 arg12 harg12 arg13 harg13 arg14 harg14 arg15 harg15 (hc) ((iota .tc S2x5120 32 [0] iota_S2x5120_d0_w32)) ((word arg1 harg1 x0 25)) ((hw 25)) (((Scalar.muli (Scalar.shrui (word arg1 harg1 x0 25) 1#32) 2#32))) ((k0_pay93 (F := F) (iota .tc S2x5120 32 [0] iota_S2x5120_d0_w32) (word arg1 harg1 x0 25))) ((row arg4 harg4 x3 25)))
          (fun r => iprop(⌜r = ⟨(word arg1 harg1 x0 27), (hw 27), k0_pay96 (F := F) (iota .tc S2x5120 32 [0] iota_S2x5120_d0_w32) (word arg1 harg1 x0 27) (row arg4 harg4 x3 27) (tile hc arg1 harg1 arg13 x0 hw 27 ((rowStep hc arg1 harg1 arg4 harg4 arg13 x0 x3 hw 26 (rowStep hc arg1 harg1 arg4 harg4 arg13 x0 x3 hw 25 f))))⟩⌝ ∗ (arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (∃ f', ⌜f' = (rowStep hc arg1 harg1 arg4 harg4 arg13 x0 x3 hw 26 (rowStep hc arg1 harg1 arg4 harg4 arg13 x0 x3 hw 25 f))⌝ ∗ (arg13.view.loc (c : Thread nD τ) ↦[arg13.view.set]{fullShare} f')) ∗ (∃ g', ⌜g' = g⌝ ∗ (arg15.view.loc (c : Thread nD τ) ↦[arg15.view.set]{fullShare} g')))) := by
  rw [k0_part27_eq_skeleton]
  unfold k0_part27_skel
  have hw27 : k0_chk27 i (arg1.view.readAt (Elt F) (Rect.unit (s := S36) ![26] S1.size inb_S36_S1_26).toLoadRect (harg1.unread x0) (Shape.Idx.first (numel1_S1.symm ▸ Nat.one_pos))) := hw 26
  have hw28 : k0_chk28 i (arg1.view.readAt (Elt F) (Rect.unit (s := S36) ![27] S1.size inb_S36_S1_27).toLoadRect (harg1.unread x0) (Shape.Idx.first (numel1_S1.symm ▸ Nat.one_pos))) := hw 27
  iintro ⟨H1, H2, H4, H5, H13, H15⟩
  sl_exec (disch := first | sl_exact hw27 | sl_exact hw28)
  sl_step
  isplitr
  · ipureintro; sl_kernel_rfl
  isplitl [H1]; · iexact H1
  isplitl [H2]; · iexact H2
  isplitl [H4]; · iexact H4
  isplitl [H5]; · iexact H5
  isplitl [H13]
  · iexists _; isplitr; swap; · iexact H13
    ipureintro; sl_kernel_rfl
  iexists _; isplitr; swap; · iexact H15
  ipureintro; sl_kernel_rfl

set_option maxHeartbeats 1000000 in
/-- A stretch of the preparation (part 28): what it returns and what it leaves in the two scratch buffers. -/
theorem part28 (c : Dev nD) (i : grid0.Coords) (arg1 : Memref sig .tc .smem S36 .i32) (harg1 : arg1.IsWhole) (arg2 : Memref sig .tc .smem S10x40 .f32) (harg2 : arg2.IsWhole) (arg3 : Memref sig .tc .vmem S512x1280 .bf16) (harg3 : arg3.IsWhole) (arg4 : Memref sig .tc .vmem S36x5120 .bf16) (harg4 : arg4.IsWhole) (arg5 : Memref sig .tc .vmem S1280x5120 .fp8e4m3) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S512x5120 .bf16) (harg8 : arg8.IsWhole) (arg9 : Memref sig .tc .vmem S512x1280 .fp8e4m3) (harg9 : arg9.IsWhole) (arg10 : Memref sig .tc .vmem S512x10 .f32) (harg10 : arg10.IsWhole) (arg11 : Memref sig .tc .vmem S512x5120 .fp8e4m3) (harg11 : arg11.IsWhole) (arg12 : Memref sig .tc .vmem S512x40 .f32) (harg12 : arg12.IsWhole) (arg13 : Memref sig .tc .vmem S1280x5120 .bf16) (harg13 : arg13.IsWhole) (arg14 : Memref sig .tc .vmem S512x1280 .bf16) (harg14 : arg14.IsWhole) (arg15 : Memref sig .tc .vmem S8x1280 .i32) (harg15 : arg15.IsWhole) (hc : k0_cond1 i = 1#1)
    (x0 : Vec F S36 .i32) (x1 : Vec F S10x40 .f32) (x3 : Vec F S36x5120 .bf16) (x4 : Vec F S1280x5120 .fp8e4m3)
    (hw : ∀ j, k0_chk1 i (word arg1 harg1 x0 j)) (E : Set ℕ) (f : BufTy.Contents (Elt F) arg13.view.ty) (g : BufTy.Contents (Elt F) arg15.view.ty) :
    (iprop((arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (arg13.view.loc (c : Thread nD τ) ↦[arg13.view.set]{fullShare} f) ∗ (arg15.view.loc (c : Thread nD τ) ↦[arg15.view.set]{fullShare} g)) : sProp 𝕄)
      ⊢ wp frame (wpE (defs₀ (F := F)) Variants.none c none) E (k0_part28 i arg1 harg1 arg2 harg2 arg3 harg3 arg4 harg4 arg5 harg5 arg6 harg6 arg7 harg7 arg8 harg8 arg9 harg9 arg10 harg10 arg11 harg11 arg12 harg12 arg13 harg13 arg14 harg14 arg15 harg15 (hc) ((iota .tc S2x5120 32 [0] iota_S2x5120_d0_w32)) ((word arg1 harg1 x0 27)) ((hw 27)) ((k0_pay96 (F := F) (iota .tc S2x5120 32 [0] iota_S2x5120_d0_w32) (word arg1 harg1 x0 27) (row arg4 harg4 x3 27) (tile hc arg1 harg1 arg13 x0 hw 27 f))))
          (fun r => iprop(⌜r = (word arg1 harg1 x0 30)⌝ ∗ (arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (∃ f', ⌜f' = (rowStep hc arg1 harg1 arg4 harg4 arg13 x0 x3 hw 29 (rowStep hc arg1 harg1 arg4 harg4 arg13 x0 x3 hw 28 (rowStep hc arg1 harg1 arg4 harg4 arg13 x0 x3 hw 27 f)))⌝ ∗ (arg13.view.loc (c : Thread nD τ) ↦[arg13.view.set]{fullShare} f')) ∗ (∃ g', ⌜g' = g⌝ ∗ (arg15.view.loc (c : Thread nD τ) ↦[arg15.view.set]{fullShare} g')))) := by
  rw [k0_part28_eq_skeleton]
  unfold k0_part28_skel
  have hw29 : k0_chk29 i (arg1.view.readAt (Elt F) (Rect.unit (s := S36) ![28] S1.size inb_S36_S1_28).toLoadRect (harg1.unread x0) (Shape.Idx.first (numel1_S1.symm ▸ Nat.one_pos))) := hw 28
  have hw30 : k0_chk30 i (arg1.view.readAt (Elt F) (Rect.unit (s := S36) ![29] S1.size inb_S36_S1_29).toLoadRect (harg1.unread x0) (Shape.Idx.first (numel1_S1.symm ▸ Nat.one_pos))) := hw 29
  iintro ⟨H1, H2, H4, H5, H13, H15⟩
  sl_exec (disch := first | sl_exact hw29 | sl_exact hw30)
  sl_step
  isplitr
  · ipureintro; sl_kernel_rfl
  isplitl [H1]; · iexact H1
  isplitl [H2]; · iexact H2
  isplitl [H4]; · iexact H4
  isplitl [H5]; · iexact H5
  isplitl [H13]
  · iexists _; isplitr; swap; · iexact H13
    ipureintro; sl_kernel_rfl
  iexists _; isplitr; swap; · iexact H15
  ipureintro; sl_kernel_rfl

set_option maxHeartbeats 1000000 in
/-- A stretch of the preparation (part 29): what it returns and what it leaves in the two scratch buffers. -/
theorem part29 (c : Dev nD) (i : grid0.Coords) (arg1 : Memref sig .tc .smem S36 .i32) (harg1 : arg1.IsWhole) (arg2 : Memref sig .tc .smem S10x40 .f32) (harg2 : arg2.IsWhole) (arg3 : Memref sig .tc .vmem S512x1280 .bf16) (harg3 : arg3.IsWhole) (arg4 : Memref sig .tc .vmem S36x5120 .bf16) (harg4 : arg4.IsWhole) (arg5 : Memref sig .tc .vmem S1280x5120 .fp8e4m3) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S512x5120 .bf16) (harg8 : arg8.IsWhole) (arg9 : Memref sig .tc .vmem S512x1280 .fp8e4m3) (harg9 : arg9.IsWhole) (arg10 : Memref sig .tc .vmem S512x10 .f32) (harg10 : arg10.IsWhole) (arg11 : Memref sig .tc .vmem S512x5120 .fp8e4m3) (harg11 : arg11.IsWhole) (arg12 : Memref sig .tc .vmem S512x40 .f32) (harg12 : arg12.IsWhole) (arg13 : Memref sig .tc .vmem S1280x5120 .bf16) (harg13 : arg13.IsWhole) (arg14 : Memref sig .tc .vmem S512x1280 .bf16) (harg14 : arg14.IsWhole) (arg15 : Memref sig .tc .vmem S8x1280 .i32) (harg15 : arg15.IsWhole) (hc : k0_cond1 i = 1#1)
    (x0 : Vec F S36 .i32) (x1 : Vec F S10x40 .f32) (x3 : Vec F S36x5120 .bf16) (x4 : Vec F S1280x5120 .fp8e4m3)
    (hw : ∀ j, k0_chk1 i (word arg1 harg1 x0 j)) (E : Set ℕ) (f : BufTy.Contents (Elt F) arg13.view.ty) (g : BufTy.Contents (Elt F) arg15.view.ty) :
    (iprop((arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (arg13.view.loc (c : Thread nD τ) ↦[arg13.view.set]{fullShare} f) ∗ (arg15.view.loc (c : Thread nD τ) ↦[arg15.view.set]{fullShare} g)) : sProp 𝕄)
      ⊢ wp frame (wpE (defs₀ (F := F)) Variants.none c none) E (k0_part29 i arg1 harg1 arg2 harg2 arg3 harg3 arg4 harg4 arg5 harg5 arg6 harg6 arg7 harg7 arg8 harg8 arg9 harg9 arg10 harg10 arg11 harg11 arg12 harg12 arg13 harg13 arg14 harg14 arg15 harg15 (hc) ((iota .tc S2x5120 32 [0] iota_S2x5120_d0_w32)) ((word arg1 harg1 x0 30)))
          (fun r => iprop(⌜r = ⟨(word arg1 harg1 x0 32), (hw 32), ((Scalar.muli (Scalar.shrui (word arg1 harg1 x0 32) 1#32) 2#32))⟩⌝ ∗ (arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (∃ f', ⌜f' = (rowStep hc arg1 harg1 arg4 harg4 arg13 x0 x3 hw 31 (rowStep hc arg1 harg1 arg4 harg4 arg13 x0 x3 hw 30 f))⌝ ∗ (arg13.view.loc (c : Thread nD τ) ↦[arg13.view.set]{fullShare} f')) ∗ (∃ g', ⌜g' = g⌝ ∗ (arg15.view.loc (c : Thread nD τ) ↦[arg15.view.set]{fullShare} g')))) := by
  rw [k0_part29_eq_skeleton]
  unfold k0_part29_skel
  have hw31 : k0_chk31 i (arg1.view.readAt (Elt F) (Rect.unit (s := S36) ![30] S1.size inb_S36_S1_30).toLoadRect (harg1.unread x0) (Shape.Idx.first (numel1_S1.symm ▸ Nat.one_pos))) := hw 30
  have hw32 : k0_chk32 i (arg1.view.readAt (Elt F) (Rect.unit (s := S36) ![31] S1.size inb_S36_S1_31).toLoadRect (harg1.unread x0) (Shape.Idx.first (numel1_S1.symm ▸ Nat.one_pos))) := hw 31
  have hw33 : k0_chk33 i (arg1.view.readAt (Elt F) (Rect.unit (s := S36) ![32] S1.size inb_S36_S1_32).toLoadRect (harg1.unread x0) (Shape.Idx.first (numel1_S1.symm ▸ Nat.one_pos))) := hw 32
  iintro ⟨H1, H2, H4, H5, H13, H15⟩
  sl_exec (disch := first | sl_exact hw31 | sl_exact hw32 | sl_exact hw33)
  sl_step
  isplitr
  · ipureintro; sl_kernel_rfl
  isplitl [H1]; · iexact H1
  isplitl [H2]; · iexact H2
  isplitl [H4]; · iexact H4
  isplitl [H5]; · iexact H5
  isplitl [H13]
  · iexists _; isplitr; swap; · iexact H13
    ipureintro; sl_kernel_rfl
  iexists _; isplitr; swap; · iexact H15
  ipureintro; sl_kernel_rfl

set_option maxHeartbeats 1000000 in
/-- A stretch of the preparation (part 30): what it returns and what it leaves in the two scratch buffers. -/
theorem part30 (c : Dev nD) (i : grid0.Coords) (arg1 : Memref sig .tc .smem S36 .i32) (harg1 : arg1.IsWhole) (arg2 : Memref sig .tc .smem S10x40 .f32) (harg2 : arg2.IsWhole) (arg3 : Memref sig .tc .vmem S512x1280 .bf16) (harg3 : arg3.IsWhole) (arg4 : Memref sig .tc .vmem S36x5120 .bf16) (harg4 : arg4.IsWhole) (arg5 : Memref sig .tc .vmem S1280x5120 .fp8e4m3) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S512x5120 .bf16) (harg8 : arg8.IsWhole) (arg9 : Memref sig .tc .vmem S512x1280 .fp8e4m3) (harg9 : arg9.IsWhole) (arg10 : Memref sig .tc .vmem S512x10 .f32) (harg10 : arg10.IsWhole) (arg11 : Memref sig .tc .vmem S512x5120 .fp8e4m3) (harg11 : arg11.IsWhole) (arg12 : Memref sig .tc .vmem S512x40 .f32) (harg12 : arg12.IsWhole) (arg13 : Memref sig .tc .vmem S1280x5120 .bf16) (harg13 : arg13.IsWhole) (arg14 : Memref sig .tc .vmem S512x1280 .bf16) (harg14 : arg14.IsWhole) (arg15 : Memref sig .tc .vmem S8x1280 .i32) (harg15 : arg15.IsWhole) (hc : k0_cond1 i = 1#1)
    (x0 : Vec F S36 .i32) (x1 : Vec F S10x40 .f32) (x3 : Vec F S36x5120 .bf16) (x4 : Vec F S1280x5120 .fp8e4m3)
    (hw : ∀ j, k0_chk1 i (word arg1 harg1 x0 j)) (E : Set ℕ) (f : BufTy.Contents (Elt F) arg13.view.ty) (g : BufTy.Contents (Elt F) arg15.view.ty) :
    (iprop((arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (arg13.view.loc (c : Thread nD τ) ↦[arg13.view.set]{fullShare} f) ∗ (arg15.view.loc (c : Thread nD τ) ↦[arg15.view.set]{fullShare} g)) : sProp 𝕄)
      ⊢ wp frame (wpE (defs₀ (F := F)) Variants.none c none) E (k0_part30 i arg1 harg1 arg2 harg2 arg3 harg3 arg4 harg4 arg5 harg5 arg6 harg6 arg7 harg7 arg8 harg8 arg9 harg9 arg10 harg10 arg11 harg11 arg12 harg12 arg13 harg13 arg14 harg14 arg15 harg15 (hc) ((iota .tc S2x5120 32 [0] iota_S2x5120_d0_w32)) ((word arg1 harg1 x0 32)) ((hw 32)) (((Scalar.muli (Scalar.shrui (word arg1 harg1 x0 32) 1#32) 2#32))))
          (fun r => iprop(⌜r = ⟨(word arg1 harg1 x0 34), (hw 34), ((Scalar.muli (Scalar.shrui (word arg1 harg1 x0 34) 1#32) 2#32)), k0_pay104 (F := F) (iota .tc S2x5120 32 [0] iota_S2x5120_d0_w32) (word arg1 harg1 x0 34)⟩⌝ ∗ (arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (∃ f', ⌜f' = (rowStep hc arg1 harg1 arg4 harg4 arg13 x0 x3 hw 33 (rowStep hc arg1 harg1 arg4 harg4 arg13 x0 x3 hw 32 f))⌝ ∗ (arg13.view.loc (c : Thread nD τ) ↦[arg13.view.set]{fullShare} f')) ∗ (∃ g', ⌜g' = g⌝ ∗ (arg15.view.loc (c : Thread nD τ) ↦[arg15.view.set]{fullShare} g')))) := by
  rw [k0_part30_eq_skeleton]
  unfold k0_part30_skel
  have hw34 : k0_chk34 i (arg1.view.readAt (Elt F) (Rect.unit (s := S36) ![33] S1.size inb_S36_S1_33).toLoadRect (harg1.unread x0) (Shape.Idx.first (numel1_S1.symm ▸ Nat.one_pos))) := hw 33
  have hw35 : k0_chk35 i (arg1.view.readAt (Elt F) (Rect.unit (s := S36) ![34] S1.size inb_S36_S1_34).toLoadRect (harg1.unread x0) (Shape.Idx.first (numel1_S1.symm ▸ Nat.one_pos))) := hw 34
  iintro ⟨H1, H2, H4, H5, H13, H15⟩
  sl_exec (disch := first | sl_exact hw34 | sl_exact hw35)
  sl_step
  isplitr
  · ipureintro; sl_kernel_rfl
  isplitl [H1]; · iexact H1
  isplitl [H2]; · iexact H2
  isplitl [H4]; · iexact H4
  isplitl [H5]; · iexact H5
  isplitl [H13]
  · iexists _; isplitr; swap; · iexact H13
    ipureintro; sl_kernel_rfl
  iexists _; isplitr; swap; · iexact H15
  ipureintro; sl_kernel_rfl

end Cert.KernelIdeal.Body

end
-- ==== Proof.Prep.lean ====
/- The whole preparation of the first grid point. -/
module

public import proofs.«01_k».proof.Proof.PrepParts

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The preparation leaves the keep mask in its scratch buffer, and in the scratch weights the dequantised weights with
    the outlier rows put over them in order. -/
theorem prep (c : Dev nD) (i : grid0.Coords) (arg1 : Memref sig .tc .smem S36 .i32) (harg1 : arg1.IsWhole) (arg2 : Memref sig .tc .smem S10x40 .f32) (harg2 : arg2.IsWhole) (arg3 : Memref sig .tc .vmem S512x1280 .bf16) (harg3 : arg3.IsWhole) (arg4 : Memref sig .tc .vmem S36x5120 .bf16) (harg4 : arg4.IsWhole) (arg5 : Memref sig .tc .vmem S1280x5120 .fp8e4m3) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S512x5120 .bf16) (harg8 : arg8.IsWhole) (arg9 : Memref sig .tc .vmem S512x1280 .fp8e4m3) (harg9 : arg9.IsWhole) (arg10 : Memref sig .tc .vmem S512x10 .f32) (harg10 : arg10.IsWhole) (arg11 : Memref sig .tc .vmem S512x5120 .fp8e4m3) (harg11 : arg11.IsWhole) (arg12 : Memref sig .tc .vmem S512x40 .f32) (harg12 : arg12.IsWhole) (arg13 : Memref sig .tc .vmem S1280x5120 .bf16) (harg13 : arg13.IsWhole) (arg14 : Memref sig .tc .vmem S512x1280 .bf16) (harg14 : arg14.IsWhole) (arg15 : Memref sig .tc .vmem S8x1280 .i32) (harg15 : arg15.IsWhole) (hc : k0_cond1 i = 1#1)
    (x0 : Vec F S36 .i32) (x1 : Vec F S10x40 .f32) (x3 : Vec F S36x5120 .bf16) (x4 : Vec F S1280x5120 .fp8e4m3)
    (hw : ∀ j, k0_chk1 i (word arg1 harg1 x0 j)) (E : Set ℕ) (f : BufTy.Contents (Elt F) arg13.view.ty) (g : BufTy.Contents (Elt F) arg15.view.ty) :
    (iprop((arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (arg13.view.loc (c : Thread nD τ) ↦[arg13.view.set]{fullShare} f) ∗ (arg15.view.loc (c : Thread nD τ) ↦[arg15.view.set]{fullShare} g)) : sProp 𝕄)
      ⊢ wp frame (wpE (defs₀ (F := F)) Variants.none c none) E (k0_part31 i arg1 harg1 arg2 harg2 arg3 harg3 arg4 harg4 arg5 harg5 arg6 harg6 arg7 harg7 arg8 harg8 arg9 harg9 arg10 harg10 arg11 harg11 arg12 harg12 arg13 harg13 arg14 harg14 arg15 harg15 hc)
          (fun _ => iprop((arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4)
            ∗ (∃ f', ⌜f' = (List.finRange 36).foldl (fun f j => rowStep hc arg1 harg1 arg4 harg4 arg13 x0 x3 hw j f) (loopC c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x1 x4 (iota .tc S8x1280 32 [1] iota_S8x1280_d1_w32) (k0_pay54 (F := F) (iota .tc S8x1280 32 [1] iota_S8x1280_d1_w32) (k0_pay53 (F := F) (iota .tc S8x1280 32 [1] iota_S8x1280_d1_w32) (k0_pay51 (F := F) (iota .tc S8x1280 32 [1] iota_S8x1280_d1_w32) (k0_pay50 (F := F) (word arg1 harg1 x0 0) (word arg1 harg1 x0 1) (word arg1 harg1 x0 2) (word arg1 harg1 x0 3) (word arg1 harg1 x0 4) (word arg1 harg1 x0 5) (word arg1 harg1 x0 6) (word arg1 harg1 x0 7)) (word arg1 harg1 x0 8) (word arg1 harg1 x0 9) (word arg1 harg1 x0 10) (word arg1 harg1 x0 11) (word arg1 harg1 x0 12) (word arg1 harg1 x0 13) (word arg1 harg1 x0 14) (word arg1 harg1 x0 15)) (k0_pay52 (F := F) (iota .tc S8x1280 32 [1] iota_S8x1280_d1_w32) (word arg1 harg1 x0 16)) (0#32) (word arg1 harg1 x0 17) (word arg1 harg1 x0 18) (word arg1 harg1 x0 19) (word arg1 harg1 x0 20) (word arg1 harg1 x0 21) (word arg1 harg1 x0 22) (word arg1 harg1 x0 23) (word arg1 harg1 x0 24)) (word arg1 harg1 x0 25) (word arg1 harg1 x0 26) (word arg1 harg1 x0 27) (word arg1 harg1 x0 28) (word arg1 harg1 x0 29) (word arg1 harg1 x0 30) (word arg1 harg1 x0 31) (word arg1 harg1 x0 32)) (k0_pay55 (F := F) (iota .tc S8x1280 32 [1] iota_S8x1280_d1_w32) (word arg1 harg1 x0 33)) (k0_pay56) f)⌝ ∗ (arg13.view.loc (c : Thread nD τ) ↦[arg13.view.set]{fullShare} f'))
            ∗ (∃ g', ⌜g' = arg15.view.writes (Elt F) arg15.view.junk [⟨Rect.unit (s := S8x1280) ![0, 0] S8x1280.size inb_S8x1280_S8x1280_0_0, keepMask arg1 harg1 x0⟩]⌝ ∗ (arg15.view.loc (c : Thread nD τ) ↦[arg15.view.set]{fullShare} g')))) := by
  rw [k0_part31_eq_skeleton]
  unfold k0_part31_skel
  have hw36 : k0_chk36 i (arg1.view.readAt (Elt F) (Rect.unit (s := S36) ![35] S1.size inb_S36_S1_35).toLoadRect (harg1.unread x0) (Shape.Idx.first (numel1_S1.symm ▸ Nat.one_pos))) := hw 35
  iintro ⟨H1, H2, H4, H5, H13, H15⟩
  rw [wp_bind]
  iapply (wp_wand_r Idealize.ShloMosaic.frame (wpE (defs₀ (F := F)) Variants.none c none) E)
  isplitl [H1 H2 H4 H5 H13 H15]
  · iapply (part11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x3 x4 hw E f g)
    isplitl [H1]; · iexact H1
    isplitl [H2]; · iexact H2
    isplitl [H4]; · iexact H4
    isplitl [H5]; · iexact H5
    isplitl [H13]; · iexact H13
    iexact H15
  iintro %r ⟨%hr, H1, H2, H4, H5, ⟨%f11, %hf11, H13⟩, ⟨%g11, %hg11, H15⟩⟩
  subst hr
  try dsimp only
  rw [wp_bind]
  iapply (wp_wand_r Idealize.ShloMosaic.frame (wpE (defs₀ (F := F)) Variants.none c none) E)
  isplitl [H1 H2 H4 H5 H13 H15]
  · iapply (part12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x3 x4 hw E f11 g11)
    isplitl [H1]; · iexact H1
    isplitl [H2]; · iexact H2
    isplitl [H4]; · iexact H4
    isplitl [H5]; · iexact H5
    isplitl [H13]; · iexact H13
    iexact H15
  iintro %r ⟨%hr, H1, H2, H4, H5, ⟨%f12, %hf12, H13⟩, ⟨%g12, %hg12, H15⟩⟩
  subst hr
  try dsimp only
  rw [wp_bind]
  iapply (wp_wand_r Idealize.ShloMosaic.frame (wpE (defs₀ (F := F)) Variants.none c none) E)
  isplitl [H1 H2 H4 H5 H13 H15]
  · iapply (part13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x3 x4 hw E f12 g12)
    isplitl [H1]; · iexact H1
    isplitl [H2]; · iexact H2
    isplitl [H4]; · iexact H4
    isplitl [H5]; · iexact H5
    isplitl [H13]; · iexact H13
    iexact H15
  iintro %r ⟨%hr, H1, H2, H4, H5, ⟨%f13, %hf13, H13⟩, ⟨%g13, %hg13, H15⟩⟩
  subst hr
  try dsimp only
  rw [wp_bind]
  iapply (wp_wand_r Idealize.ShloMosaic.frame (wpE (defs₀ (F := F)) Variants.none c none) E)
  isplitl [H1 H2 H4 H5 H13 H15]
  · iapply (part14 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x3 x4 hw E f13 g13)
    isplitl [H1]; · iexact H1
    isplitl [H2]; · iexact H2
    isplitl [H4]; · iexact H4
    isplitl [H5]; · iexact H5
    isplitl [H13]; · iexact H13
    iexact H15
  iintro %r ⟨%hr, H1, H2, H4, H5, ⟨%f14, %hf14, H13⟩, ⟨%g14, %hg14, H15⟩⟩
  subst hr
  try dsimp only
  rw [wp_bind]
  iapply (wp_wand_r Idealize.ShloMosaic.frame (wpE (defs₀ (F := F)) Variants.none c none) E)
  isplitl [H1 H2 H4 H5 H13 H15]
  · iapply (part15 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x3 x4 hw E f14 g14)
    isplitl [H1]; · iexact H1
    isplitl [H2]; · iexact H2
    isplitl [H4]; · iexact H4
    isplitl [H5]; · iexact H5
    isplitl [H13]; · iexact H13
    iexact H15
  iintro %r ⟨%hr, H1, H2, H4, H5, ⟨%f15, %hf15, H13⟩, ⟨%g15, %hg15, H15⟩⟩
  subst hr
  try dsimp only
  rw [wp_bind]
  iapply (wp_wand_r Idealize.ShloMosaic.frame (wpE (defs₀ (F := F)) Variants.none c none) E)
  isplitl [H1 H2 H4 H5 H13 H15]
  · iapply (part16 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x3 x4 hw E f15 g15)
    isplitl [H1]; · iexact H1
    isplitl [H2]; · iexact H2
    isplitl [H4]; · iexact H4
    isplitl [H5]; · iexact H5
    isplitl [H13]; · iexact H13
    iexact H15
  iintro %r ⟨%hr, H1, H2, H4, H5, ⟨%f16, %hf16, H13⟩, ⟨%g16, %hg16, H15⟩⟩
  subst hr
  try dsimp only
  rw [wp_bind]
  iapply (wp_wand_r Idealize.ShloMosaic.frame (wpE (defs₀ (F := F)) Variants.none c none) E)
  isplitl [H1 H2 H4 H5 H13 H15]
  · iapply (part17 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x3 x4 hw E f16 g16)
    isplitl [H1]; · iexact H1
    isplitl [H2]; · iexact H2
    isplitl [H4]; · iexact H4
    isplitl [H5]; · iexact H5
    isplitl [H13]; · iexact H13
    iexact H15
  iintro %r ⟨%hr, H1, H2, H4, H5, ⟨%f17, %hf17, H13⟩, ⟨%g17, %hg17, H15⟩⟩
  subst hr
  try dsimp only
  rw [wp_bind]
  iapply (wp_wand_r Idealize.ShloMosaic.frame (wpE (defs₀ (F := F)) Variants.none c none) E)
  isplitl [H1 H2 H4 H5 H13 H15]
  · iapply (part18 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x3 x4 hw E f17 g17)
    isplitl [H1]; · iexact H1
    isplitl [H2]; · iexact H2
    isplitl [H4]; · iexact H4
    isplitl [H5]; · iexact H5
    isplitl [H13]; · iexact H13
    iexact H15
  iintro %r ⟨%hr, H1, H2, H4, H5, ⟨%f18, %hf18, H13⟩, ⟨%g18, %hg18, H15⟩⟩
  subst hr
  try dsimp only
  rw [← hf18]
  rw [wp_bind]
  iapply (wp_wand_r Idealize.ShloMosaic.frame (wpE (defs₀ (F := F)) Variants.none c none) E)
  isplitl [H1 H2 H4 H5 H13 H15]
  · iapply (part19 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x3 x4 hw E f18 g18)
    isplitl [H1]; · iexact H1
    isplitl [H2]; · iexact H2
    isplitl [H4]; · iexact H4
    isplitl [H5]; · iexact H5
    isplitl [H13]; · iexact H13
    iexact H15
  iintro %r ⟨%hr, H1, H2, H4, H5, ⟨%f19, %hf19, H13⟩, ⟨%g19, %hg19, H15⟩⟩
  subst hr
  try dsimp only
  rw [wp_bind]
  iapply (wp_wand_r Idealize.ShloMosaic.frame (wpE (defs₀ (F := F)) Variants.none c none) E)
  isplitl [H1 H2 H4 H5 H13 H15]
  · iapply (part20 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x3 x4 hw E f19 g19)
    isplitl [H1]; · iexact H1
    isplitl [H2]; · iexact H2
    isplitl [H4]; · iexact H4
    isplitl [H5]; · iexact H5
    isplitl [H13]; · iexact H13
    iexact H15
  iintro %r ⟨%hr, H1, H2, H4, H5, ⟨%f20, %hf20, H13⟩, ⟨%g20, %hg20, H15⟩⟩
  subst hr
  try dsimp only
  rw [wp_bind]
  iapply (wp_wand_r Idealize.ShloMosaic.frame (wpE (defs₀ (F := F)) Variants.none c none) E)
  isplitl [H1 H2 H4 H5 H13 H15]
  · iapply (part21 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x3 x4 hw E f20 g20)
    isplitl [H1]; · iexact H1
    isplitl [H2]; · iexact H2
    isplitl [H4]; · iexact H4
    isplitl [H5]; · iexact H5
    isplitl [H13]; · iexact H13
    iexact H15
  iintro %r ⟨%hr, H1, H2, H4, H5, ⟨%f21, %hf21, H13⟩, ⟨%g21, %hg21, H15⟩⟩
  subst hr
  try dsimp only
  rw [wp_bind]
  iapply (wp_wand_r Idealize.ShloMosaic.frame (wpE (defs₀ (F := F)) Variants.none c none) E)
  isplitl [H1 H2 H4 H5 H13 H15]
  · iapply (part22 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x3 x4 hw E f21 g21)
    isplitl [H1]; · iexact H1
    isplitl [H2]; · iexact H2
    isplitl [H4]; · iexact H4
    isplitl [H5]; · iexact H5
    isplitl [H13]; · iexact H13
    iexact H15
  iintro %r ⟨%hr, H1, H2, H4, H5, ⟨%f22, %hf22, H13⟩, ⟨%g22, %hg22, H15⟩⟩
  subst hr
  try dsimp only
  rw [← hf22]
  rw [wp_bind]
  iapply (wp_wand_r Idealize.ShloMosaic.frame (wpE (defs₀ (F := F)) Variants.none c none) E)
  isplitl [H1 H2 H4 H5 H13 H15]
  · iapply (part23 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x3 x4 hw E f22 g22)
    isplitl [H1]; · iexact H1
    isplitl [H2]; · iexact H2
    isplitl [H4]; · iexact H4
    isplitl [H5]; · iexact H5
    isplitl [H13]; · iexact H13
    iexact H15
  iintro %r ⟨%hr, H1, H2, H4, H5, ⟨%f23, %hf23, H13⟩, ⟨%g23, %hg23, H15⟩⟩
  subst hr
  try dsimp only
  rw [← hf23]
  rw [wp_bind]
  iapply (wp_wand_r Idealize.ShloMosaic.frame (wpE (defs₀ (F := F)) Variants.none c none) E)
  isplitl [H1 H2 H4 H5 H13 H15]
  · iapply (part24 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x3 x4 hw E f23 g23)
    isplitl [H1]; · iexact H1
    isplitl [H2]; · iexact H2
    isplitl [H4]; · iexact H4
    isplitl [H5]; · iexact H5
    isplitl [H13]; · iexact H13
    iexact H15
  iintro %r ⟨%hr, H1, H2, H4, H5, ⟨%f24, %hf24, H13⟩, ⟨%g24, %hg24, H15⟩⟩
  subst hr
  try dsimp only
  rw [wp_bind]
  iapply (wp_wand_r Idealize.ShloMosaic.frame (wpE (defs₀ (F := F)) Variants.none c none) E)
  isplitl [H1 H2 H4 H5 H13 H15]
  · iapply (part25 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x3 x4 hw E f24 g24)
    isplitl [H1]; · iexact H1
    isplitl [H2]; · iexact H2
    isplitl [H4]; · iexact H4
    isplitl [H5]; · iexact H5
    isplitl [H13]; · iexact H13
    iexact H15
  iintro %r ⟨%hr, H1, H2, H4, H5, ⟨%f25, %hf25, H13⟩, ⟨%g25, %hg25, H15⟩⟩
  subst hr
  try dsimp only
  rw [wp_bind]
  iapply (wp_wand_r Idealize.ShloMosaic.frame (wpE (defs₀ (F := F)) Variants.none c none) E)
  isplitl [H1 H2 H4 H5 H13 H15]
  · iapply (part26 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x3 x4 hw E f25 g25)
    isplitl [H1]; · iexact H1
    isplitl [H2]; · iexact H2
    isplitl [H4]; · iexact H4
    isplitl [H5]; · iexact H5
    isplitl [H13]; · iexact H13
    iexact H15
  iintro %r ⟨%hr, H1, H2, H4, H5, ⟨%f26, %hf26, H13⟩, ⟨%g26, %hg26, H15⟩⟩
  subst hr
  try dsimp only
  rw [wp_bind]
  iapply (wp_wand_r Idealize.ShloMosaic.frame (wpE (defs₀ (F := F)) Variants.none c none) E)
  isplitl [H1 H2 H4 H5 H13 H15]
  · iapply (part27 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x3 x4 hw E f26 g26)
    isplitl [H1]; · iexact H1
    isplitl [H2]; · iexact H2
    isplitl [H4]; · iexact H4
    isplitl [H5]; · iexact H5
    isplitl [H13]; · iexact H13
    iexact H15
  iintro %r ⟨%hr, H1, H2, H4, H5, ⟨%f27, %hf27, H13⟩, ⟨%g27, %hg27, H15⟩⟩
  subst hr
  try dsimp only
  rw [← hf27]
  rw [wp_bind]
  iapply (wp_wand_r Idealize.ShloMosaic.frame (wpE (defs₀ (F := F)) Variants.none c none) E)
  isplitl [H1 H2 H4 H5 H13 H15]
  · iapply (part28 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x3 x4 hw E f27 g27)
    isplitl [H1]; · iexact H1
    isplitl [H2]; · iexact H2
    isplitl [H4]; · iexact H4
    isplitl [H5]; · iexact H5
    isplitl [H13]; · iexact H13
    iexact H15
  iintro %r ⟨%hr, H1, H2, H4, H5, ⟨%f28, %hf28, H13⟩, ⟨%g28, %hg28, H15⟩⟩
  subst hr
  try dsimp only
  rw [wp_bind]
  iapply (wp_wand_r Idealize.ShloMosaic.frame (wpE (defs₀ (F := F)) Variants.none c none) E)
  isplitl [H1 H2 H4 H5 H13 H15]
  · iapply (part29 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x3 x4 hw E f28 g28)
    isplitl [H1]; · iexact H1
    isplitl [H2]; · iexact H2
    isplitl [H4]; · iexact H4
    isplitl [H5]; · iexact H5
    isplitl [H13]; · iexact H13
    iexact H15
  iintro %r ⟨%hr, H1, H2, H4, H5, ⟨%f29, %hf29, H13⟩, ⟨%g29, %hg29, H15⟩⟩
  subst hr
  try dsimp only
  rw [wp_bind]
  iapply (wp_wand_r Idealize.ShloMosaic.frame (wpE (defs₀ (F := F)) Variants.none c none) E)
  isplitl [H1 H2 H4 H5 H13 H15]
  · iapply (part30 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x3 x4 hw E f29 g29)
    isplitl [H1]; · iexact H1
    isplitl [H2]; · iexact H2
    isplitl [H4]; · iexact H4
    isplitl [H5]; · iexact H5
    isplitl [H13]; · iexact H13
    iexact H15
  iintro %r ⟨%hr, H1, H2, H4, H5, ⟨%f30, %hf30, H13⟩, ⟨%g30, %hg30, H15⟩⟩
  subst hr
  try dsimp only
  sl_exec (disch := first | sl_exact hw36)
  sl_step
  isplitl [H1]; · iexact H1
  isplitl [H2]; · iexact H2
  isplitl [H4]; · iexact H4
  isplitl [H5]; · iexact H5
  isplitl [H13]
  · iexists _; isplitr; swap; · iexact H13
    ipureintro
    subst hf11 hf12 hf13 hf14 hf15 hf16 hf17 hf18 hf19 hf20 hf21 hf22 hf23 hf24 hf25 hf26 hf27 hf28 hf29 hf30
    sl_kernel_rfl
  iexists _; isplitr; swap; · iexact H15
  ipureintro
  subst hg11 hg12 hg13 hg14 hg15 hg16 hg17 hg18 hg19 hg20 hg21 hg22 hg23 hg24 hg25 hg26 hg27 hg28 hg29 hg30
  sl_kernel_rfl

end Cert.KernelIdeal.Body

end
-- ==== Proof.Weights.lean ====
/- What the preparation leaves in the scratch weights, index by index. -/
module

public import proofs.«01_k».proof.Proof.PrepDefs
public import Idealize.ShloMosaic.Lib.Pipeline.ValueKit
public import Idealize.ShloMosaic.Lib.Writes
public import Idealize.ShloMosaic.Lib.WritesUnit
public import Idealize.ShloMosaic.Lib.PointwiseCore

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- Where the dequantising loop's trip `k` writes its tile `n`. -/
abbrev tOff (k : Fin k0_t1_loop.trips) (n : Fin 40) : Fin 2 → ℕ := ![(Scalar.indexCast (Scalar.muli (Scf.iv 0#32 1#32 k) 128#32)).toNat, 128 * n.val]
/-- Where it reads that tile's scale. -/
abbrev sOff (k : Fin k0_t1_loop.trips) (n : Fin 40) : Fin 2 → ℕ := ![(Scalar.indexCast (Scf.iv 0#32 1#32 k)).toNat, n.val]

/-- The dequantising loop takes ten turns. -/
theorem trips_eq : k0_t1_loop.trips = 10 := by decide +kernel
/-- A turn's first row of the weights. -/
theorem tRow (k : Fin k0_t1_loop.trips) : (Scalar.indexCast (Scalar.muli (Scf.iv 0#32 1#32 k) 128#32)).toNat = 128 * k.val := by
  revert k; decide +kernel
/-- A turn's row of the weight scales. -/
theorem sRow (k : Fin k0_t1_loop.trips) : (Scalar.indexCast (Scf.iv 0#32 1#32 k)).toNat = k.val := by
  revert k; decide +kernel
/-- Each tile of a turn lies inside the weights. -/
theorem inbT (k : Fin k0_t1_loop.trips) (n : Fin 40) : ∀ a, tOff k n a + S128x128.size a ≤ S1280x5120.size a := by
  have hk : k.val < 10 := lt_of_lt_of_eq k.isLt trips_eq
  have hn := n.isLt
  have h := tRow k
  intro a; match a with
  | ⟨0, _⟩ => show (Scalar.indexCast _).toNat + 128 ≤ 1280; omega
  | ⟨1, _⟩ => show 128 * n.val + 128 ≤ 5120; omega
/-- Each scale of a turn lies inside the weight scales. -/
theorem inbS (k : Fin k0_t1_loop.trips) (n : Fin 40) : ∀ a, sOff k n a + S1x1.size a ≤ S10x40.size a := by
  have hk : k.val < 10 := lt_of_lt_of_eq k.isLt trips_eq
  have hn := n.isLt
  have h := sRow k
  intro a; match a with
  | ⟨0, _⟩ => show (Scalar.indexCast _).toNat + 1 ≤ 10; omega
  | ⟨1, _⟩ => show n.val + 1 ≤ 40; omega

set_option maxHeartbeats 1000000 in
/-- One trip of the dequantising loop writes 40 tiles, each the tile of codes times its scale. -/
theorem trip_list (c : Dev nD) (i : grid0.Coords) (arg1 : Memref sig .tc .smem S36 .i32) (harg1 : arg1.IsWhole) (arg2 : Memref sig .tc .smem S10x40 .f32) (harg2 : arg2.IsWhole) (arg3 : Memref sig .tc .vmem S512x1280 .bf16) (harg3 : arg3.IsWhole) (arg4 : Memref sig .tc .vmem S36x5120 .bf16) (harg4 : arg4.IsWhole) (arg5 : Memref sig .tc .vmem S1280x5120 .fp8e4m3) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S512x5120 .bf16) (harg8 : arg8.IsWhole) (arg9 : Memref sig .tc .vmem S512x1280 .fp8e4m3) (harg9 : arg9.IsWhole) (arg10 : Memref sig .tc .vmem S512x10 .f32) (harg10 : arg10.IsWhole) (arg11 : Memref sig .tc .vmem S512x5120 .fp8e4m3) (harg11 : arg11.IsWhole) (arg12 : Memref sig .tc .vmem S512x40 .f32) (harg12 : arg12.IsWhole) (arg13 : Memref sig .tc .vmem S1280x5120 .bf16) (harg13 : arg13.IsWhole) (arg14 : Memref sig .tc .vmem S512x1280 .bf16) (harg14 : arg14.IsWhole) (arg15 : Memref sig .tc .vmem S8x1280 .i32) (harg15 : arg15.IsWhole) (hc : k0_cond1 i = 1#1) (x1 : Vec F S10x40 .f32) (x4 : Vec F S1280x5120 .fp8e4m3)
    (a1 a2 : IVec S8x1280 32) (a3 : IVec S8x1280 1) (a4 : IVec S8x1280 32) (k : Fin k0_t1_loop.trips) :
    (trip_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 hc a1 a2 a3 a4 (harg2.unread x1) (harg5.unread x4) k).1
      = List.ofFn fun n : Fin 40 => ⟨Rect.unit (s := S1280x5120) (tOff k n.rev) S128x128.size (inbT k n.rev),
          k0_pay5 (arg2.view.readAt (Elt F) (Rect.unit (s := S10x40) (sOff k n.rev) S1x1.size (inbS k n.rev)).toLoadRect (harg2.unread x1) (Shape.Idx.first (numel1_S1x1.symm ▸ Nat.one_pos)))
            (arg5.view.readAt (Elt F) (Rect.unit (s := S1280x5120) (tOff k n.rev) S128x128.size (inbT k n.rev)).toLoadRect (harg5.unread x4))⟩ := by
  unfold trip_k0_t1
  sl_kernel_rfl

/-- The dequantised weights: each code times the scale of its 128 by 128 tile. -/
def deq (x1 : Vec F S10x40 .f32) (x4 : Vec F S1280x5120 .fp8e4m3) : Vec F S1280x5120 .bf16 := fun y =>
  FloatOps.mulf (FloatOps.extf FTy.bf16 bitsLt_fp8e4m3_bf16 (x4 y))
    (FloatOps.truncf FTy.bf16 bitsLt_bf16_f32 (x1 (ix2 (⟨(y 0).val / 128, by have := (y 0).isLt; change _ < 1280 at this; omega⟩ : Fin 10)
      (⟨(y 1).val / 128, by have := (y 1).isLt; change _ < 5120 at this; omega⟩ : Fin 40))))

/-- An element of a dequantised tile: the code times the scale. -/
theorem pay5_at (s : Elt F .f32) (t : Vec F S128x128 .fp8e4m3) (x : S128x128.Idx) :
    k0_pay5 s t x = FloatOps.mulf (FloatOps.extf FTy.bf16 bitsLt_fp8e4m3_bf16 (t x)) (FloatOps.truncf FTy.bf16 bitsLt_bf16_f32 s) := by
  pointwise [k0_pay5]

/-- An element of the pair of rows written for an outlier: the new row at the index's parity, the old row at the other. -/
theorem pay61_at (v : BitVec 32) (r : Vec F S1x5120 .bf16) (t : Vec F S2x5120 .bf16) (x : S2x5120.Idx) :
    k0_pay61 v r t x = Scalar.select (IntOp.cmpi CmpIPredicate.eq (BitVec.ofNat 32 (x 0).val) (Scalar.andi v 1#32)) (r (ix2 0 (x 1))) (t x) := by
  pointwise [k0_pay61]

/-- Each tile of a trip is the dequantised weights there. -/
theorem trip_pieces (c : Dev nD) (i : grid0.Coords) (arg1 : Memref sig .tc .smem S36 .i32) (harg1 : arg1.IsWhole) (arg2 : Memref sig .tc .smem S10x40 .f32) (harg2 : arg2.IsWhole) (arg3 : Memref sig .tc .vmem S512x1280 .bf16) (harg3 : arg3.IsWhole) (arg4 : Memref sig .tc .vmem S36x5120 .bf16) (harg4 : arg4.IsWhole) (arg5 : Memref sig .tc .vmem S1280x5120 .fp8e4m3) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S512x5120 .bf16) (harg8 : arg8.IsWhole) (arg9 : Memref sig .tc .vmem S512x1280 .fp8e4m3) (harg9 : arg9.IsWhole) (arg10 : Memref sig .tc .vmem S512x10 .f32) (harg10 : arg10.IsWhole) (arg11 : Memref sig .tc .vmem S512x5120 .fp8e4m3) (harg11 : arg11.IsWhole) (arg12 : Memref sig .tc .vmem S512x40 .f32) (harg12 : arg12.IsWhole) (arg13 : Memref sig .tc .vmem S1280x5120 .bf16) (harg13 : arg13.IsWhole) (arg14 : Memref sig .tc .vmem S512x1280 .bf16) (harg14 : arg14.IsWhole) (arg15 : Memref sig .tc .vmem S8x1280 .i32) (harg15 : arg15.IsWhole) (hc : k0_cond1 i = 1#1) (x1 : Vec F S10x40 .f32) (x4 : Vec F S1280x5120 .fp8e4m3)
    (a1 a2 : IVec S8x1280 32) (a3 : IVec S8x1280 1) (a4 : IVec S8x1280 32) (k : Fin k0_t1_loop.trips) :
    ∀ p ∈ (trip_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 hc a1 a2 a3 a4 (harg2.unread x1) (harg5.unread x4) k).1,
      ∀ x : p.1.shape.Idx, p.2 x = deq x1 x4 (p.1.emb x) := by
  rw [trip_list]
  intro p hp
  obtain ⟨n, rfl⟩ := (List.mem_ofFn' _ _).mp hp
  intro x
  have hx0 : (x 0).val < 128 := (x 0).isLt
  have hx1 : (x 1).val < 128 := (x 1).isLt
  refine (pay5_at _ _ x).trans ?_
  rw [View.readAt_eq_ld, View.readAt_eq_ld, harg2.read_unread, harg5.read_unread]
  unfold deq
  refine congrArg₂ _ rfl (congrArg _ (congrArg x1 ?_))
  funext a
  apply Fin.ext
  have h0 := tRow k
  have h1 := sRow k
  match a with
  | ⟨0, _⟩ =>
    show (Scalar.indexCast (Scf.iv 0#32 1#32 k)).toNat + 1 * 0 = ((Scalar.indexCast (Scalar.muli (Scf.iv 0#32 1#32 k) 128#32)).toNat + 1 * (x 0).val) / 128
    omega
  | ⟨1, _⟩ =>
    show n.rev.val + 1 * 0 = (128 * n.rev.val + 1 * (x 1).val) / 128
    omega

/-- A trip's tiles cover its 128 rows. -/
theorem trip_cover (c : Dev nD) (i : grid0.Coords) (arg1 : Memref sig .tc .smem S36 .i32) (harg1 : arg1.IsWhole) (arg2 : Memref sig .tc .smem S10x40 .f32) (harg2 : arg2.IsWhole) (arg3 : Memref sig .tc .vmem S512x1280 .bf16) (harg3 : arg3.IsWhole) (arg4 : Memref sig .tc .vmem S36x5120 .bf16) (harg4 : arg4.IsWhole) (arg5 : Memref sig .tc .vmem S1280x5120 .fp8e4m3) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S512x5120 .bf16) (harg8 : arg8.IsWhole) (arg9 : Memref sig .tc .vmem S512x1280 .fp8e4m3) (harg9 : arg9.IsWhole) (arg10 : Memref sig .tc .vmem S512x10 .f32) (harg10 : arg10.IsWhole) (arg11 : Memref sig .tc .vmem S512x5120 .fp8e4m3) (harg11 : arg11.IsWhole) (arg12 : Memref sig .tc .vmem S512x40 .f32) (harg12 : arg12.IsWhole) (arg13 : Memref sig .tc .vmem S1280x5120 .bf16) (harg13 : arg13.IsWhole) (arg14 : Memref sig .tc .vmem S512x1280 .bf16) (harg14 : arg14.IsWhole) (arg15 : Memref sig .tc .vmem S8x1280 .i32) (harg15 : arg15.IsWhole) (hc : k0_cond1 i = 1#1) (x1 : Vec F S10x40 .f32) (x4 : Vec F S1280x5120 .fp8e4m3)
    (a1 a2 : IVec S8x1280 32) (a3 : IVec S8x1280 1) (a4 : IVec S8x1280 32) (k : Fin k0_t1_loop.trips) (y : S1280x5120.Idx) (h : (y 0).val / 128 = k.val) :
    ∃ p ∈ (trip_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 hc a1 a2 a3 a4 (harg2.unread x1) (harg5.unread x4) k).1, y ∈ p.1.set := by
  rw [trip_list]
  have hy1 : (y 1).val < 5120 := (y 1).isLt
  refine ⟨_, (List.mem_ofFn' _ _).mpr ⟨(⟨(y 1).val / 128, by omega⟩ : Fin 40).rev, rfl⟩, ?_⟩
  rw [Rect.mem_set_unit]
  have h0 := tRow k
  intro a
  match a with
  | ⟨0, _⟩ =>
    show (Scalar.indexCast (Scalar.muli (Scf.iv 0#32 1#32 k) 128#32)).toNat ≤ (y 0).val ∧ (y 0).val < (Scalar.indexCast (Scalar.muli (Scf.iv 0#32 1#32 k) 128#32)).toNat + 128
    omega
  | ⟨1, _⟩ =>
    rw [Fin.rev_rev]
    show 128 * ((y 1).val / 128) ≤ (y 1).val ∧ (y 1).val < 128 * ((y 1).val / 128) + 128
    omega

/-- The first `n` trips leave the dequantised weights in their rows. -/
theorem trips_pieces (c : Dev nD) (i : grid0.Coords) (arg1 : Memref sig .tc .smem S36 .i32) (harg1 : arg1.IsWhole) (arg2 : Memref sig .tc .smem S10x40 .f32) (harg2 : arg2.IsWhole) (arg3 : Memref sig .tc .vmem S512x1280 .bf16) (harg3 : arg3.IsWhole) (arg4 : Memref sig .tc .vmem S36x5120 .bf16) (harg4 : arg4.IsWhole) (arg5 : Memref sig .tc .vmem S1280x5120 .fp8e4m3) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S512x5120 .bf16) (harg8 : arg8.IsWhole) (arg9 : Memref sig .tc .vmem S512x1280 .fp8e4m3) (harg9 : arg9.IsWhole) (arg10 : Memref sig .tc .vmem S512x10 .f32) (harg10 : arg10.IsWhole) (arg11 : Memref sig .tc .vmem S512x5120 .fp8e4m3) (harg11 : arg11.IsWhole) (arg12 : Memref sig .tc .vmem S512x40 .f32) (harg12 : arg12.IsWhole) (arg13 : Memref sig .tc .vmem S1280x5120 .bf16) (harg13 : arg13.IsWhole) (arg14 : Memref sig .tc .vmem S512x1280 .bf16) (harg14 : arg14.IsWhole) (arg15 : Memref sig .tc .vmem S8x1280 .i32) (harg15 : arg15.IsWhole) (hc : k0_cond1 i = 1#1) (x1 : Vec F S10x40 .f32) (x4 : Vec F S1280x5120 .fp8e4m3)
    (a1 a2 : IVec S8x1280 32) (a3 : IVec S8x1280 1) (a4 : IVec S8x1280 32) (n : ℕ) (hn : n ≤ k0_t1_loop.trips) :
    (∀ p ∈ pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 hc a1 a2 a3 a4 (harg2.unread x1) (harg5.unread x4) n, ∀ x : p.1.shape.Idx, p.2 x = deq x1 x4 (p.1.emb x))
      ∧ ∀ y : S1280x5120.Idx, (y 0).val / 128 < n → ∃ p ∈ pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 hc a1 a2 a3 a4 (harg2.unread x1) (harg5.unread x4) n, y ∈ p.1.set := by
  induction n with
  | zero => exact ⟨fun p hp => absurd hp (by simp [pb_k0_t1]), fun y h => absurd h (Nat.not_lt_zero _)⟩
  | succ n ih =>
    obtain ⟨ih1, ih2⟩ := ih (Nat.le_of_succ_le hn)
    have e := pb_k0_t1_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 hc a1 a2 a3 a4 (harg2.unread x1) (harg5.unread x4) ⟨n, hn⟩
    rw [show ((⟨n, hn⟩ : Fin k0_t1_loop.trips).val + 1) = n + 1 from rfl] at e
    rw [e]
    refine ⟨fun p hp => ?_, fun y h => ?_⟩
    · rcases List.mem_append.mp hp with hp | hp
      · exact trip_pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x1 x4 a1 a2 a3 a4 ⟨n, hn⟩ p hp
      · exact ih1 p hp
    · by_cases hy : (y 0).val / 128 = n
      · obtain ⟨p, hp, h'⟩ := trip_cover c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x1 x4 a1 a2 a3 a4 ⟨n, hn⟩ y hy
        exact ⟨p, List.mem_append_left _ hp, h'⟩
      · obtain ⟨p, hp, h'⟩ := ih2 y (by omega)
        exact ⟨p, List.mem_append_right _ hp, h'⟩

/-- The dequantising loop leaves the dequantised weights. -/
theorem read_loopC (c : Dev nD) (i : grid0.Coords) (arg1 : Memref sig .tc .smem S36 .i32) (harg1 : arg1.IsWhole) (arg2 : Memref sig .tc .smem S10x40 .f32) (harg2 : arg2.IsWhole) (arg3 : Memref sig .tc .vmem S512x1280 .bf16) (harg3 : arg3.IsWhole) (arg4 : Memref sig .tc .vmem S36x5120 .bf16) (harg4 : arg4.IsWhole) (arg5 : Memref sig .tc .vmem S1280x5120 .fp8e4m3) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S512x5120 .bf16) (harg8 : arg8.IsWhole) (arg9 : Memref sig .tc .vmem S512x1280 .fp8e4m3) (harg9 : arg9.IsWhole) (arg10 : Memref sig .tc .vmem S512x10 .f32) (harg10 : arg10.IsWhole) (arg11 : Memref sig .tc .vmem S512x5120 .fp8e4m3) (harg11 : arg11.IsWhole) (arg12 : Memref sig .tc .vmem S512x40 .f32) (harg12 : arg12.IsWhole) (arg13 : Memref sig .tc .vmem S1280x5120 .bf16) (harg13 : arg13.IsWhole) (arg14 : Memref sig .tc .vmem S512x1280 .bf16) (harg14 : arg14.IsWhole) (arg15 : Memref sig .tc .vmem S8x1280 .i32) (harg15 : arg15.IsWhole) (hc : k0_cond1 i = 1#1) (x1 : Vec F S10x40 .f32) (x4 : Vec F S1280x5120 .fp8e4m3)
    (a1 a2 : IVec S8x1280 32) (a3 : IVec S8x1280 1) (a4 : IVec S8x1280 32) (f : BufTy.Contents (Elt F) arg13.view.ty) :
    arg13.view.read (Elt F) (loopC c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x1 x4 a1 a2 a3 a4 f) = deq x1 x4 := by
  funext y
  have hp := trips_pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x1 x4 a1 a2 a3 a4 k0_t1_loop.trips le_rfl
  have hy : (y 0).val < 1280 := (y 0).isLt
  exact View.read_writes_apply_of_pieces _ _ (deq x1 x4) _ hp.1 y (hp.2 y (by rw [trips_eq]; omega))

/-- Weights with the row named by the word `v` replaced by `r`. -/
def putAt (v : BitVec 32) (r : Vec F S1x5120 .bf16) (w : Vec F S1280x5120 .bf16) : Vec F S1280x5120 .bf16 := fun y =>
  if (y 0).val = v.toNat then r (ix2 0 (y 1)) else w y

/-- The pair of rows written for an outlier starts at the even row at or below its index. -/
theorem off81_at (v : BitVec 32) : k0_off81 v = ![v.toNat / 2 * 2, 0] := by
  unfold k0_off81
  have h : (Scalar.indexCast (Scalar.muli (Scalar.shrui v 1#32) 2#32)).toNat = v.toNat / 2 * 2 := by
    have h1 : (Scalar.shrui v 1#32).toNat = v.toNat / 2 := by
      show (v >>> (1#32).toNat).toNat = _
      simp [BitVec.toNat_ushiftRight, Nat.shiftRight_eq_div_pow]
    show (Scalar.shrui v 1#32 * 2#32).toNat = _
    rw [BitVec.toNat_mul, h1]
    have := v.isLt
    simp only [BitVec.toNat_ofNat]
    omega
  simp only [h]

/-- A row index below 1280 meets the conditions under which the body's loads and stores of that row's pair are defined. -/
theorem chk_of_lt (i : grid0.Coords) (v : BitVec 32) (h : v.toNat < 1280) : k0_chk1 i v := by
  have hm : (k0_mult2 v).toNat = v.toNat / 2 * 2 := congrFun (off81_at v) 0
  have hin : ∀ a, (k0_off81 v) a + S2x5120.size a ≤ S1280x5120.size a := by
    rw [off81_at]
    intro a
    match a with
    | ⟨0, _⟩ => show v.toNat / 2 * 2 + 2 ≤ 1280; omega
    | ⟨1, _⟩ => show 0 + 5120 ≤ 5120; omega
  refine ⟨fun _ => by rw [hm]; exact ⟨_, Nat.mul_comm _ _⟩, fun _ => hin, fun _ hinb => ?_⟩
  rw [Rect.packedRows_iff_at]
  refine Or.inr ⟨le_refl 2, rfl, Or.inl ⟨?_, ⟨1, rfl⟩⟩⟩
  show 2 ∣ k0_off81 v 0
  rw [off81_at]
  exact ⟨_, Nat.mul_comm _ _⟩

/-- Putting an outlier row into the scratch weights replaces that row and nothing else. -/
theorem read_rowStep {i : grid0.Coords} (hc : k0_cond1 i = 1#1) (arg1 : Memref sig .tc .smem S36 .i32) (harg1 : arg1.IsWhole)
    (arg4 : Memref sig .tc .vmem S36x5120 .bf16) (harg4 : arg4.IsWhole) (arg13 : Memref sig .tc .vmem S1280x5120 .bf16)
    (x0 : Vec F S36 .i32) (x3 : Vec F S36x5120 .bf16) (hw : ∀ j, k0_chk1 i (word arg1 harg1 x0 j)) (j : Fin 36)
    (f : BufTy.Contents (Elt F) arg13.view.ty) (hlt : (word arg1 harg1 x0 j).toNat < 1280) :
    arg13.view.read (Elt F) (rowStep hc arg1 harg1 arg4 harg4 arg13 x0 x3 hw j f)
      = putAt (word arg1 harg1 x0 j) (row arg4 harg4 x3 j) (arg13.view.read (Elt F) f) := by
  funext y
  unfold rowStep putAt
  set v := word arg1 harg1 x0 j with hv
  have hy0 : (y 0).val < 1280 := (y 0).isLt
  refine (View.read_writes_cons_rows (d := ![1280, 5120]) (size := S2x5120.size) (W := 2) arg13.view f (k0_off81_inb i v (hw j) hc)
    (k0_pay61 v (row arg4 harg4 x3 j) (tile hc arg1 harg1 arg13 x0 hw j f)) [] y (off81_at v) rfl rfl).trans ?_
  have hand : (Scalar.andi v 1#32).toNat = v.toNat % 2 := by
    show (v &&& 1#32).toNat = _
    rw [BitVec.toNat_and]
    simp [Nat.and_one_is_mod]
  by_cases h : v.toNat / 2 * 2 ≤ (y 0).val ∧ (y 0).val < v.toNat / 2 * 2 + 2
  · rw [dif_pos h, pay61_at]
    have hl0 : ((Rect.unitLocal (s := S1280x5120) (off := ![v.toNat / 2 * 2, 0]) (size := S2x5120.size) y (Rect.unit_rows_mem y rfl rfl h)) 0).val
        = (y 0).val - v.toNat / 2 * 2 := rfl
    by_cases he : (y 0).val = v.toNat
    · rw [if_pos he]
      have : IntOp.cmpi CmpIPredicate.eq (BitVec.ofNat 32 ((y 0).val - v.toNat / 2 * 2)) (Scalar.andi v 1#32) = 1#1 := by
        have : BitVec.ofNat 32 ((y 0).val - v.toNat / 2 * 2) = Scalar.andi v 1#32 := by
          apply BitVec.eq_of_toNat_eq
          rw [hand, BitVec.toNat_ofNat]
          omega
        rw [this]
        simp [IntOp.cmpi]
      rw [hl0, this]
      refine congrArg (row arg4 harg4 x3 j) ?_
      funext a
      apply Fin.ext
      match a with
      | ⟨0, _⟩ => rfl
      | ⟨1, _⟩ => rfl
    · rw [if_neg he]
      have : IntOp.cmpi CmpIPredicate.eq (BitVec.ofNat 32 ((y 0).val - v.toNat / 2 * 2)) (Scalar.andi v 1#32) = 0#1 := by
        have : BitVec.ofNat 32 ((y 0).val - v.toNat / 2 * 2) ≠ Scalar.andi v 1#32 := by
          intro e
          have e' := congrArg BitVec.toNat e
          rw [hand, BitVec.toNat_ofNat] at e'
          omega
        show BitVec.ofBool (BitVec.ofNat 32 ((y 0).val - v.toNat / 2 * 2) == Scalar.andi v 1#32) = 0#1
        rw [beq_eq_false_iff_ne.mpr this]
        rfl
      rw [hl0, this]
      show tile hc arg1 harg1 arg13 x0 hw j f _ = _
      unfold tile
      rw [View.readAt_eq_ld]
      refine congrArg (arg13.view.read (Elt F) f) ?_
      funext a
      apply Fin.ext
      match a with
      | ⟨0, _⟩ =>
        have := congrFun (off81_at v) 0
        show k0_off81 v 0 + 1 * ((y 0).val - v.toNat / 2 * 2) = (y 0).val
        rw [this]
        show v.toNat / 2 * 2 + 1 * ((y 0).val - v.toNat / 2 * 2) = (y 0).val
        omega
      | ⟨1, _⟩ =>
        have := congrFun (off81_at v) 1
        show k0_off81 v 1 + 1 * ((y 1).val - 0) = (y 1).val
        rw [this]
        show 0 + 1 * ((y 1).val - 0) = (y 1).val
        omega
  · have he : ¬ (y 0).val = v.toNat := fun e => h (by constructor <;> omega)
    rw [dif_neg h, if_neg he]
    rfl

/-- Index `j`, as the body loads it. -/
theorem word_eq (arg1 : Memref sig .tc .smem S36 .i32) (harg1 : arg1.IsWhole) (x0 : Vec F S36 .i32) (j : Fin 36) :
    word (F := F) arg1 harg1 x0 j = x0 (ix1 j) := by
  unfold word
  rw [View.readAt_eq_ld, harg1.read_unread]
  refine congrArg x0 ?_
  funext a
  apply Fin.ext
  match a with
  | ⟨0, _⟩ => show j.val + 1 * 0 = j.val; omega

/-- Outlier row `j`, as the body loads it. -/
theorem row_eq (arg4 : Memref sig .tc .vmem S36x5120 .bf16) (harg4 : arg4.IsWhole) (x3 : Vec F S36x5120 .bf16) (j : Fin 36) (a : Fin 1) (n : Fin 5120) :
    row arg4 harg4 x3 j (ix2 a n) = x3 (ix2 j n) := by
  unfold row
  rw [View.readAt_eq_ld, harg4.read_unread]
  refine congrArg x3 ?_
  funext b
  apply Fin.ext
  match b with
  | ⟨0, _⟩ => show j.val + 1 * a.val = j.val; omega
  | ⟨1, _⟩ => show 0 + 1 * n.val = n.val; omega

/-- The scratch weights: the dequantised weights with the outlier rows put over them in order. -/
def scratchW (x0 : Vec F S36 .i32) (x1 : Vec F S10x40 .f32) (x3 : Vec F S36x5120 .bf16) (x4 : Vec F S1280x5120 .fp8e4m3) : Vec F S1280x5120 .bf16 :=
  (List.finRange 36).foldl (fun w j y => if (y 0).val = (x0 (ix1 j)).toNat then x3 (ix2 j (y 1)) else w y) (deq x1 x4)

/-- The preparation's scratch weights, read back. -/
theorem read_rows {i : grid0.Coords} (hc : k0_cond1 i = 1#1) (arg1 : Memref sig .tc .smem S36 .i32) (harg1 : arg1.IsWhole)
    (arg4 : Memref sig .tc .vmem S36x5120 .bf16) (harg4 : arg4.IsWhole) (arg13 : Memref sig .tc .vmem S1280x5120 .bf16)
    (x0 : Vec F S36 .i32) (x1 : Vec F S10x40 .f32) (x3 : Vec F S36x5120 .bf16) (x4 : Vec F S1280x5120 .fp8e4m3)
    (hw : ∀ j, k0_chk1 i (word arg1 harg1 x0 j)) (hlt : ∀ j : Fin 36, (x0 (ix1 j)).toNat < 1280)
    (f : BufTy.Contents (Elt F) arg13.view.ty) (hf : arg13.view.read (Elt F) f = deq x1 x4) :
    arg13.view.read (Elt F) ((List.finRange 36).foldl (fun f j => rowStep hc arg1 harg1 arg4 harg4 arg13 x0 x3 hw j f) f) = scratchW x0 x1 x3 x4 := by
  unfold scratchW
  rw [← hf]
  generalize List.finRange 36 = l
  clear hf
  induction l generalizing f with
  | nil => rfl
  | cons j l ih =>
    rw [List.foldl_cons, List.foldl_cons, ih, read_rowStep _ _ _ _ _ _ _ _ _ _ _ (by rw [word_eq]; exact hlt j)]
    refine congrArg (fun w => List.foldl _ w l) ?_
    funext y
    unfold putAt
    rw [word_eq]
    split
    · exact row_eq arg4 harg4 x3 j 0 (y 1)
    · rfl

end Cert.KernelIdeal.Body

end
-- ==== Proof.First.lean ====
/- What the first part of a grid point leaves in the two carried scratch buffers: at the first point the prepared
   weights and keep mask, at every later point what they held. -/
module

public import proofs.«01_k».proof.Proof.Prep
public import proofs.«01_k».proof.Proof.Weights
public import proofs.«01_k».proof.Proof.BodyRest
public import Idealize.ShloMosaic.Lib.VecWindow

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The keep mask: all ones, zero in the columns the outlier indices name. -/
def scratchK (x0 : Vec F S36 .i32) : Vec F S8x1280 .i32 :=
  k0_pay57 (F := F) (iota .tc S8x1280 32 [1] iota_S8x1280_d1_w32) (k0_pay54 (F := F) (iota .tc S8x1280 32 [1] iota_S8x1280_d1_w32) (k0_pay53 (F := F) (iota .tc S8x1280 32 [1] iota_S8x1280_d1_w32) (k0_pay51 (F := F) (iota .tc S8x1280 32 [1] iota_S8x1280_d1_w32) (k0_pay50 (F := F) (x0 (ix1 0)) (x0 (ix1 1)) (x0 (ix1 2)) (x0 (ix1 3)) (x0 (ix1 4)) (x0 (ix1 5)) (x0 (ix1 6)) (x0 (ix1 7))) (x0 (ix1 8)) (x0 (ix1 9)) (x0 (ix1 10)) (x0 (ix1 11)) (x0 (ix1 12)) (x0 (ix1 13)) (x0 (ix1 14)) (x0 (ix1 15))) (k0_pay52 (F := F) (iota .tc S8x1280 32 [1] iota_S8x1280_d1_w32) (x0 (ix1 16))) (0#32) (x0 (ix1 17)) (x0 (ix1 18)) (x0 (ix1 19)) (x0 (ix1 20)) (x0 (ix1 21)) (x0 (ix1 22)) (x0 (ix1 23)) (x0 (ix1 24))) (x0 (ix1 25)) (x0 (ix1 26)) (x0 (ix1 27)) (x0 (ix1 28)) (x0 (ix1 29)) (x0 (ix1 30)) (x0 (ix1 31)) (x0 (ix1 32))) (k0_pay55 (F := F) (iota .tc S8x1280 32 [1] iota_S8x1280_d1_w32) (x0 (ix1 33))) (k0_pay56) (x0 (ix1 34)) (x0 (ix1 35))

/-- The mask the first point writes, in terms of the index argument. -/
theorem keepMask_eq (arg1 : Memref sig .tc .smem S36 .i32) (harg1 : arg1.IsWhole) (x0 : Vec F S36 .i32) :
    keepMask (F := F) arg1 harg1 x0 = scratchK x0 := by
  unfold keepMask scratchK
  simp only [word_eq]

set_option maxHeartbeats 1000000 in
/-- The first point's first part, from any contents of the carried scratch buffers. -/
theorem part32_first (c : Dev nD) (i : grid0.Coords) (arg1 : Memref sig .tc .smem S36 .i32) (harg1 : arg1.IsWhole) (arg2 : Memref sig .tc .smem S10x40 .f32) (harg2 : arg2.IsWhole) (arg3 : Memref sig .tc .vmem S512x1280 .bf16) (harg3 : arg3.IsWhole) (arg4 : Memref sig .tc .vmem S36x5120 .bf16) (harg4 : arg4.IsWhole) (arg5 : Memref sig .tc .vmem S1280x5120 .fp8e4m3) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S512x5120 .bf16) (harg8 : arg8.IsWhole) (arg9 : Memref sig .tc .vmem S512x1280 .fp8e4m3) (harg9 : arg9.IsWhole) (arg10 : Memref sig .tc .vmem S512x10 .f32) (harg10 : arg10.IsWhole) (arg11 : Memref sig .tc .vmem S512x5120 .fp8e4m3) (harg11 : arg11.IsWhole) (arg12 : Memref sig .tc .vmem S512x40 .f32) (harg12 : arg12.IsWhole) (arg13 : Memref sig .tc .vmem S1280x5120 .bf16) (harg13 : arg13.IsWhole) (arg14 : Memref sig .tc .vmem S512x1280 .bf16) (harg14 : arg14.IsWhole) (arg15 : Memref sig .tc .vmem S8x1280 .i32) (harg15 : arg15.IsWhole) (hc : k0_cond1 i = 1#1)
    (x0 : Vec F S36 .i32) (x1 : Vec F S10x40 .f32) (x2 : Vec F S512x1280 .bf16) (x3 : Vec F S36x5120 .bf16) (x4 : Vec F S1280x5120 .fp8e4m3)
    (hlt : ∀ j : Fin 36, (x0 (ix1 j)).toNat < 1280) (E : Set ℕ)
    (w : Vec F S1280x5120 .bf16) (k : Vec F S8x1280 .i32) (hw' : w = scratchW x0 x1 x3 x4) (hk' : k = scratchK x0) :
    (iprop((arg1.view.loc (c : Thread nD τ) ↦[arg1.view.set]{fullShare} harg1.unread x0) ∗ (arg2.view.loc (c : Thread nD τ) ↦[arg2.view.set]{fullShare} harg2.unread x1) ∗ (arg3.view.loc (c : Thread nD τ) ↦[arg3.view.set]{fullShare} harg3.unread x2) ∗ (arg4.view.loc (c : Thread nD τ) ↦[arg4.view.set]{fullShare} harg4.unread x3) ∗ (arg5.view.loc (c : Thread nD τ) ↦[arg5.view.set]{fullShare} harg5.unread x4) ∗ (∃ d, owns (c : Thread nD τ) arg13 fullShare d) ∗ (∃ d, owns (c : Thread nD τ) arg15 fullShare d)) : sProp 𝕄)
      ⊢ wp frame (wpE (defs₀ (F := F)) Variants.none c none) E (k0_part32 i arg1 harg1 arg2 harg2 arg3 harg3 arg4 harg4 arg5 harg5 arg6 harg6 arg7 harg7 arg8 harg8 arg9 harg9 arg10 harg10 arg11 harg11 arg12 harg12 arg13 harg13 arg14 harg14 arg15 harg15) (fun r => iprop(⌜r = first (arg3.view.read (Elt F) (harg3.unread x2)) (arg15.view.read (Elt F) (harg15.unread k))⌝ ∗ (arg1.view.loc (c : Thread nD τ) ↦[arg1.view.set]{fullShare} harg1.unread x0) ∗ (arg2.view.loc (c : Thread nD τ) ↦[arg2.view.set]{fullShare} harg2.unread x1) ∗ (arg3.view.loc (c : Thread nD τ) ↦[arg3.view.set]{fullShare} harg3.unread x2) ∗ (arg4.view.loc (c : Thread nD τ) ↦[arg4.view.set]{fullShare} harg4.unread x3) ∗ (arg5.view.loc (c : Thread nD τ) ↦[arg5.view.set]{fullShare} harg5.unread x4) ∗ (arg13.view.loc (c : Thread nD τ) ↦[arg13.view.set]{fullShare} harg13.unread w) ∗ (arg15.view.loc (c : Thread nD τ) ↦[arg15.view.set]{fullShare} harg15.unread k))) := by
  rw [k0_part32_eq_skeleton]
  unfold k0_part32_skel
  have hw : ∀ j, k0_chk1 i (word arg1 harg1 x0 j) := fun j => chk_of_lt i _ (by rw [word_eq]; exact hlt j)
  unfold owns
  iintro ⟨H1, H2, H3, H4, H5, ⟨%d13, %f, -, H13⟩, ⟨%d15, %g, -, H15⟩⟩
  rw [dif_pos hc]
  rw [wp_bind, wp_bind]
  iapply (wp_wand_r Idealize.ShloMosaic.frame (wpE (defs₀ (F := F)) Variants.none c none) E)
  isplitl [H1 H2 H4 H5 H13 H15]
  · iapply (prep c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x3 x4 hw E f g)
    isplitl [H1]; · iexact H1
    isplitl [H2]; · iexact H2
    isplitl [H4]; · iexact H4
    isplitl [H5]; · iexact H5
    isplitl [H13]; · iexact H13
    iexact H15
  iintro %r ⟨H1, H2, H4, H5, ⟨%f', %hf, H13⟩, ⟨%g', %hg, H15⟩⟩
  have hf2 : arg13.view.read (Elt F) f' = w := by
    rw [hf, hw']
    exact read_rows hc arg1 harg1 arg4 harg4 arg13 x0 x1 x3 x4 hw hlt _ (read_loopC c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x1 x4 _ _ _ _ f)
  have hg2 : arg15.view.read (Elt F) g' = k := by
    rw [hg, hk', ← keepMask_eq arg1 harg1 x0]
    exact View.read_writes_full arg15.view arg15.view.junk inb_S8x1280_S8x1280_0_0 _ []
  obtain rfl := harg13.eq_unread hf2
  obtain rfl := harg15.eq_unread hg2
  sl_exec
  sl_step
  isplitr
  · ipureintro; sl_kernel_rfl
  isplitl [H1]; · iexact H1
  isplitl [H2]; · iexact H2
  isplitl [H3]; · iexact H3
  isplitl [H4]; · iexact H4
  isplitl [H5]; · iexact H5
  isplitl [H13]; · iexact H13
  iexact H15

set_option maxHeartbeats 1000000 in
/-- A later point's first part keeps the carried scratch buffers. -/
theorem part32_later (c : Dev nD) (i : grid0.Coords) (arg1 : Memref sig .tc .smem S36 .i32) (harg1 : arg1.IsWhole) (arg2 : Memref sig .tc .smem S10x40 .f32) (harg2 : arg2.IsWhole) (arg3 : Memref sig .tc .vmem S512x1280 .bf16) (harg3 : arg3.IsWhole) (arg4 : Memref sig .tc .vmem S36x5120 .bf16) (harg4 : arg4.IsWhole) (arg5 : Memref sig .tc .vmem S1280x5120 .fp8e4m3) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S512x5120 .bf16) (harg8 : arg8.IsWhole) (arg9 : Memref sig .tc .vmem S512x1280 .fp8e4m3) (harg9 : arg9.IsWhole) (arg10 : Memref sig .tc .vmem S512x10 .f32) (harg10 : arg10.IsWhole) (arg11 : Memref sig .tc .vmem S512x5120 .fp8e4m3) (harg11 : arg11.IsWhole) (arg12 : Memref sig .tc .vmem S512x40 .f32) (harg12 : arg12.IsWhole) (arg13 : Memref sig .tc .vmem S1280x5120 .bf16) (harg13 : arg13.IsWhole) (arg14 : Memref sig .tc .vmem S512x1280 .bf16) (harg14 : arg14.IsWhole) (arg15 : Memref sig .tc .vmem S8x1280 .i32) (harg15 : arg15.IsWhole) (hc : ¬ k0_cond1 i = 1#1)
    (x0 : Vec F S36 .i32) (x1 : Vec F S10x40 .f32) (x2 : Vec F S512x1280 .bf16) (x3 : Vec F S36x5120 .bf16) (x4 : Vec F S1280x5120 .fp8e4m3)
    (E : Set ℕ) (w : Vec F S1280x5120 .bf16) (k : Vec F S8x1280 .i32) :
    (iprop((arg1.view.loc (c : Thread nD τ) ↦[arg1.view.set]{fullShare} harg1.unread x0) ∗ (arg2.view.loc (c : Thread nD τ) ↦[arg2.view.set]{fullShare} harg2.unread x1) ∗ (arg3.view.loc (c : Thread nD τ) ↦[arg3.view.set]{fullShare} harg3.unread x2) ∗ (arg4.view.loc (c : Thread nD τ) ↦[arg4.view.set]{fullShare} harg4.unread x3) ∗ (arg5.view.loc (c : Thread nD τ) ↦[arg5.view.set]{fullShare} harg5.unread x4) ∗ owns (c : Thread nD τ) arg13 fullShare w ∗ owns (c : Thread nD τ) arg15 fullShare k) : sProp 𝕄)
      ⊢ wp frame (wpE (defs₀ (F := F)) Variants.none c none) E (k0_part32 i arg1 harg1 arg2 harg2 arg3 harg3 arg4 harg4 arg5 harg5 arg6 harg6 arg7 harg7 arg8 harg8 arg9 harg9 arg10 harg10 arg11 harg11 arg12 harg12 arg13 harg13 arg14 harg14 arg15 harg15) (fun r => iprop(⌜r = first (arg3.view.read (Elt F) (harg3.unread x2)) (arg15.view.read (Elt F) (harg15.unread k))⌝ ∗ (arg1.view.loc (c : Thread nD τ) ↦[arg1.view.set]{fullShare} harg1.unread x0) ∗ (arg2.view.loc (c : Thread nD τ) ↦[arg2.view.set]{fullShare} harg2.unread x1) ∗ (arg3.view.loc (c : Thread nD τ) ↦[arg3.view.set]{fullShare} harg3.unread x2) ∗ (arg4.view.loc (c : Thread nD τ) ↦[arg4.view.set]{fullShare} harg4.unread x3) ∗ (arg5.view.loc (c : Thread nD τ) ↦[arg5.view.set]{fullShare} harg5.unread x4) ∗ (arg13.view.loc (c : Thread nD τ) ↦[arg13.view.set]{fullShare} harg13.unread w) ∗ (arg15.view.loc (c : Thread nD τ) ↦[arg15.view.set]{fullShare} harg15.unread k))) := by
  rw [k0_part32_eq_skeleton]
  unfold k0_part32_skel
  unfold owns
  iintro ⟨H1, H2, H3, H4, H5, ⟨%f, %hf, H13⟩, ⟨%g, %hg, H15⟩⟩
  obtain rfl := harg13.eq_unread hf
  obtain rfl := harg15.eq_unread hg
  rw [dif_neg hc]
  sl_exec
  sl_step
  isplitr
  · ipureintro; sl_kernel_rfl
  isplitl [H1]; · iexact H1
  isplitl [H2]; · iexact H2
  isplitl [H3]; · iexact H3
  isplitl [H4]; · iexact H4
  isplitl [H5]; · iexact H5
  isplitl [H13]; · iexact H13
  iexact H15

end Cert.KernelIdeal.Body

end
-- ==== Proof.Sound.lean ====
/- The kernel's run: the pipeline's proof data, the body's obligation at every point, and the launch. Every grid point
   leaves its five output blocks at the values of Outs.lean; the two carried scratch buffers hold, from the first point
   on, the prepared weights and keep mask. The words of the outlier table have to be row numbers (`Rows`). -/
module

public import proofs.«01_k».proof.Proof.Outs
public import proofs.«01_k».proof.Proof.First
public import proofs.«01_k».proof.Proof.Gen.KernelIdeal.Frame
public import proofs.«01_k».proof.Proof.Gen.KernelIdeal.Points
public import proofs.«01_k».proof.Proof.Gen.KernelIdeal.Launch

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 24 = 0 :=
  (fun t => by
    have ht : t.val < 24 := Nat.lt_of_lt_of_eq t.isLt N_0
    have e0 : (grid0.coords t 0).val = t.val / 1 % 24 := Pipeline.Grid.coords_val t 0 (by decide) rfl
    simp only [cond0_0, k0_cond1, e0]
    word_cmp
   : ∀ t : Fin grid0.N, cond0_0 (grid0.coords t) ↔ t.val % 24 = 0)

/-- Each window's current staging memref at point `t`, spelled as the pipeline passes it (`bodyAt0`), and its wholeness. -/
abbrev ms0_0 (t : Fin cfg0.N) : Memref sig .tc .smem S36 .i32 := win0_0.stage (cfg0.slots t 0)
/-- That of operand 0 is a whole buffer. -/
abbrev hs0_0 (t : Fin cfg0.N) : (ms0_0 t).IsWhole := hstage0_0 ((cfg0.slots t 0).cast nbuf0_0)
/-- A point's staging buffer of operand 1. -/
abbrev ms0_1 (t : Fin cfg0.N) : Memref sig .tc .smem S10x40 .f32 := win0_1.stage (cfg0.slots t 1)
/-- That of operand 1 is a whole buffer. -/
abbrev hs0_1 (t : Fin cfg0.N) : (ms0_1 t).IsWhole := hstage0_1 ((cfg0.slots t 1).cast nbuf0_1)
/-- A point's staging buffer of operand 2. -/
abbrev ms0_2 (t : Fin cfg0.N) : Memref sig .tc .vmem S512x1280 .bf16 := win0_2.stage (cfg0.slots t 2)
/-- That of operand 2 is a whole buffer. -/
abbrev hs0_2 (t : Fin cfg0.N) : (ms0_2 t).IsWhole := hstage0_2 ((cfg0.slots t 2).cast nbuf0_2)
/-- A point's staging buffer of operand 3. -/
abbrev ms0_3 (t : Fin cfg0.N) : Memref sig .tc .vmem S36x5120 .bf16 := win0_3.stage (cfg0.slots t 3)
/-- That of operand 3 is a whole buffer. -/
abbrev hs0_3 (t : Fin cfg0.N) : (ms0_3 t).IsWhole := hstage0_3 ((cfg0.slots t 3).cast nbuf0_3)
/-- A point's staging buffer of operand 4. -/
abbrev ms0_4 (t : Fin cfg0.N) : Memref sig .tc .vmem S1280x5120 .fp8e4m3 := win0_4.stage (cfg0.slots t 4)
/-- That of operand 4 is a whole buffer. -/
abbrev hs0_4 (t : Fin cfg0.N) : (ms0_4 t).IsWhole := hstage0_4 ((cfg0.slots t 4).cast nbuf0_4)
/-- A point's staging buffer of operand 5. -/
abbrev ms0_5 (t : Fin cfg0.N) : Memref sig .tc .vmem S1x5120 .f32 := win0_5.stage (cfg0.slots t 5)
/-- That of operand 5 is a whole buffer. -/
abbrev hs0_5 (t : Fin cfg0.N) : (ms0_5 t).IsWhole := hstage0_5 ((cfg0.slots t 5).cast nbuf0_5)
/-- A point's staging buffer of operand 6. -/
abbrev ms0_6 (t : Fin cfg0.N) : Memref sig .tc .vmem S512x5120 .bf16 := win0_6.stage (cfg0.slots t 6)
/-- That of operand 6 is a whole buffer. -/
abbrev hs0_6 (t : Fin cfg0.N) : (ms0_6 t).IsWhole := hstage0_6 ((cfg0.slots t 6).cast nbuf0_6)
/-- A point's staging buffer of operand 7. -/
abbrev ms0_7 (t : Fin cfg0.N) : Memref sig .tc .vmem S512x5120 .bf16 := win0_7.stage (cfg0.slots t 7)
/-- That of operand 7 is a whole buffer. -/
abbrev hs0_7 (t : Fin cfg0.N) : (ms0_7 t).IsWhole := hstage0_7 ((cfg0.slots t 7).cast nbuf0_7)
/-- A point's staging buffer of operand 8. -/
abbrev ms0_8 (t : Fin cfg0.N) : Memref sig .tc .vmem S512x1280 .fp8e4m3 := win0_8.stage (cfg0.slots t 8)
/-- That of operand 8 is a whole buffer. -/
abbrev hs0_8 (t : Fin cfg0.N) : (ms0_8 t).IsWhole := hstage0_8 ((cfg0.slots t 8).cast nbuf0_8)
/-- A point's staging buffer of operand 9. -/
abbrev ms0_9 (t : Fin cfg0.N) : Memref sig .tc .vmem S512x10 .f32 := win0_9.stage (cfg0.slots t 9)
/-- That of operand 9 is a whole buffer. -/
abbrev hs0_9 (t : Fin cfg0.N) : (ms0_9 t).IsWhole := hstage0_9 ((cfg0.slots t 9).cast nbuf0_9)
/-- A point's staging buffer of operand 10. -/
abbrev ms0_10 (t : Fin cfg0.N) : Memref sig .tc .vmem S512x5120 .fp8e4m3 := win0_10.stage (cfg0.slots t 10)
/-- That of operand 10 is a whole buffer. -/
abbrev hs0_10 (t : Fin cfg0.N) : (ms0_10 t).IsWhole := hstage0_10 ((cfg0.slots t 10).cast nbuf0_10)
/-- A point's staging buffer of operand 11. -/
abbrev ms0_11 (t : Fin cfg0.N) : Memref sig .tc .vmem S512x40 .f32 := win0_11.stage (cfg0.slots t 11)
/-- That of operand 11 is a whole buffer. -/
abbrev hs0_11 (t : Fin cfg0.N) : (ms0_11 t).IsWhole := hstage0_11 ((cfg0.slots t 11).cast nbuf0_11)

/-- The scratch operands: whole scoped buffers of the kernel's own, passed beside the windows. -/
abbrev scM0_0 : Memref sig .tc .vmem S1280x5120 .bf16 := Memref.whole cc0_scratch0
/-- The scratch of the mixed activations. -/
abbrev scM0_1 : Memref sig .tc .vmem S512x1280 .bf16 := Memref.whole cc0_scratch1
/-- The scratch of the keep mask. -/
abbrev scM0_2 : Memref sig .tc .vmem S8x1280 .i32 := Memref.whole cc0_scratch2
/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-! ## The proof data -/

/-- Every word of the outlier table that a point finds names a row of the weights. -/
def Rows (m : (ℓ : Loc nD τ sig) → Buf (Elt F) ℓ) : Prop :=
  ∀ (c : Dev nD) (t : Fin cfg0.N) (j : Fin 36), BitVec.toNat (iblk m c 0 t (ix1 j)) < 1280

/-- The first point. -/
abbrev t0 : Fin cfg0.N := ⟨0, by rw [show cfg0.N = 24 from N_0]; decide⟩
/-- The prepared weights: the dequantised codes with the outlier rows put in. -/
def Wt (c : Dev nD) : Vec F S1280x5120 .bf16 := scratchW (iblk m c 0 t0) (iblk m c 1 t0) (iblk m c 3 t0) (iblk m c 4 t0)
/-- The prepared keep mask: zero in the outlier columns. -/
def Kp (c : Dev nD) : Vec F S8x1280 .i32 := scratchK (iblk m c 0 t0)

/-- The region invariant before position `n`: at first every scratch buffer at anything; afterwards the weights and the
    keep mask prepared, the activation scratch at anything. -/
def PhiS (c : Dev nD) : (n : ℕ) → sProp 𝕄
  | 0 => Pipeline.ΦA spec0 c
  | _ + 1 => iprop(iprop(owns (c : Thread nD τ) scM0_0 fullShare (Wt m c) ∗ (∃ d, owns (c : Thread nD τ) scM0_1 fullShare d) ∗ owns (c : Thread nD τ) scM0_2 fullShare (Kp m c)) ∗ (∃ r, prngReg c r))

/-- Before any position but the first. -/
theorem PhiS_pos (c : Dev nD) (n : ℕ) (hz : n ≠ 0) :
    PhiS m c n = iprop(iprop(owns (c : Thread nD τ) scM0_0 fullShare (Wt m c) ∗ (∃ d, owns (c : Thread nD τ) scM0_1 fullShare d) ∗ owns (c : Thread nD τ) scM0_2 fullShare (Kp m c)) ∗ (∃ r, prngReg c r)) := by
  cases n with
  | zero => exact absurd rfl hz
  | succ n => rfl

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outY (iblk m c 2 t) (iblk m c 5 t) (iblk m c 6 t) (Wt m c) (Kp m c)
    | ⟨8, _⟩ => outXCode (iblk m c 2 t) (Kp m c)
    | ⟨9, _⟩ => outXScale (iblk m c 2 t) (Kp m c)
    | ⟨10, _⟩ => outYCode (iblk m c 2 t) (iblk m c 5 t) (iblk m c 6 t) (Wt m c) (Kp m c)
    | ⟨11, _⟩ => outYScale (iblk m c 2 t) (iblk m c 5 t) (iblk m c 6 t) (Wt m c) (Kp m c)
  Φ t := PhiS m c t.val
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
/-- The same, the next window. -/
theorem after0_1 (c : Dev nD) (t : Fin cfg0.N) : (dats m 0 c).after 1 t = iblk m c 1 t := by dsimp only [dats]
/-- The same, the next window. -/
theorem after0_2 (c : Dev nD) (t : Fin cfg0.N) : (dats m 0 c).after 2 t = iblk m c 2 t := by dsimp only [dats]
/-- The same, the next window. -/
theorem after0_3 (c : Dev nD) (t : Fin cfg0.N) : (dats m 0 c).after 3 t = iblk m c 3 t := by dsimp only [dats]
/-- The same, the next window. -/
theorem after0_4 (c : Dev nD) (t : Fin cfg0.N) : (dats m 0 c).after 4 t = iblk m c 4 t := by dsimp only [dats]
/-- The same, the next window. -/
theorem after0_5 (c : Dev nD) (t : Fin cfg0.N) : (dats m 0 c).after 5 t = iblk m c 5 t := by dsimp only [dats]
/-- The same, the next window. -/
theorem after0_6 (c : Dev nD) (t : Fin cfg0.N) : (dats m 0 c).after 6 t = iblk m c 6 t := by dsimp only [dats]
/-- The same, the next window. -/
theorem after0_7 (c : Dev nD) (t : Fin cfg0.N) : (dats m 0 c).after 7 t = outY (iblk m c 2 t) (iblk m c 5 t) (iblk m c 6 t) (Wt m c) (Kp m c) := by dsimp only [dats]
/-- The same, the next window. -/
theorem after0_8 (c : Dev nD) (t : Fin cfg0.N) : (dats m 0 c).after 8 t = outXCode (iblk m c 2 t) (Kp m c) := by dsimp only [dats]
/-- The same, the next window. -/
theorem after0_9 (c : Dev nD) (t : Fin cfg0.N) : (dats m 0 c).after 9 t = outXScale (iblk m c 2 t) (Kp m c) := by dsimp only [dats]
/-- The same, the next window. -/
theorem after0_10 (c : Dev nD) (t : Fin cfg0.N) : (dats m 0 c).after 10 t = outYCode (iblk m c 2 t) (iblk m c 5 t) (iblk m c 6 t) (Wt m c) (Kp m c) := by dsimp only [dats]
/-- The same, the next window. -/
theorem after0_11 (c : Dev nD) (t : Fin cfg0.N) : (dats m 0 c).after 11 t = outYScale (iblk m c 2 t) (iblk m c 5 t) (iblk m c 6 t) (Wt m c) (Kp m c) := by dsimp only [dats]
/-- Input 0's current staging buffer holds its block at every point. -/
theorem before0_0 (c : Dev nD) (t : Fin cfg0.N) (d) : (dats m 0 c).before 0 t d = iblk m c 0 t :=
  before0_0_of m (dats m 0 c) (A_eq m c 0) (after0_0 m c) t d
/-- Input 1's current staging buffer holds its block at every point. -/
theorem before0_1 (c : Dev nD) (t : Fin cfg0.N) (d) : (dats m 0 c).before 1 t d = iblk m c 1 t :=
  before0_1_of m (dats m 0 c) (A_eq m c 1) (after0_1 m c) t d
/-- Input 2's current staging buffer holds its block at every point. -/
theorem before0_2 (c : Dev nD) (t : Fin cfg0.N) (d) : (dats m 0 c).before 2 t d = iblk m c 2 t :=
  before0_2_of m (dats m 0 c) (A_eq m c 2) (after0_2 m c) t d
/-- Input 3's current staging buffer holds its block at every point. -/
theorem before0_3 (c : Dev nD) (t : Fin cfg0.N) (d) : (dats m 0 c).before 3 t d = iblk m c 3 t :=
  before0_3_of m (dats m 0 c) (A_eq m c 3) (after0_3 m c) t d
/-- Input 4's current staging buffer holds its block at every point. -/
theorem before0_4 (c : Dev nD) (t : Fin cfg0.N) (d) : (dats m 0 c).before 4 t d = iblk m c 4 t :=
  before0_4_of m (dats m 0 c) (A_eq m c 4) (after0_4 m c) t d
/-- Input 5's current staging buffer holds its block at every point. -/
theorem before0_5 (c : Dev nD) (t : Fin cfg0.N) (d) : (dats m 0 c).before 5 t d = iblk m c 5 t :=
  before0_5_of m (dats m 0 c) (A_eq m c 5) (after0_5 m c) t d
/-- Input 6's current staging buffer holds its block at every point. -/
theorem before0_6 (c : Dev nD) (t : Fin cfg0.N) (d) : (dats m 0 c).before 6 t d = iblk m c 6 t :=
  before0_6_of m (dats m 0 c) (A_eq m c 6) (after0_6 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

set_option maxHeartbeats 4000000 in
/-- The body at any point. -/
theorem sound_body (hH : Rows m) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6, after0_7, after0_8, after0_9, after0_10, after0_11]
  rw [show (dats m 0 c).Φ t.succ = PhiS m c (t.val + 1) from rfl, PhiS_pos m c _ (Nat.succ_ne_zero _)]
  rw [show (dats m 0 c).Φ t.castSucc = PhiS m c t.val from rfl]
  have hN : t.val < 24 := lt_of_lt_of_eq t.isLt (show cfg0.N = 24 from N_0)
  by_cases hz : t.val = 0
  · have ht : t = t0 := Fin.ext hz
    rw [show PhiS m c t.val = Pipeline.ΦA spec0 c from by rw [hz]; rfl, PhiA0_eq]
    have hf := part32_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr (by rw [hz])) (iblk m c 0 t) (iblk m c 1 t) (iblk m c 2 t) (iblk m c 3 t) (iblk m c 4 t) (hH c t) Set.univ (Wt m c) (Kp m c) (by rw [ht]; rfl) (by rw [ht]; rfl)
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (point c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (Wt m c) (Kp m c) _ Set.univ _ hf)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [HS1]; · iexact HS1
    isplitl [HS0 HS2]
    · isplitl [HS0]; · iexact HS0
      iexact HS2
    iintro ⟨H0, H1, H2, H3, H4, H5, H6, H7, H8, H9, H10, H11, HS1, HS0, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · have hc : ¬ k0_cond1 (grid0.coords t) = 1#1 := fun h => hz (by have := (hcond0_0 t).mp h; omega)
    rw [PhiS_pos m c _ hz]
    have hf := part32_later c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) hc (iblk m c 0 t) (iblk m c 1 t) (iblk m c 2 t) (iblk m c 3 t) (iblk m c 4 t) Set.univ (Wt m c) (Kp m c)
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (point c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (Wt m c) (Kp m c) _ Set.univ _ hf)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [HS1]; · iexact HS1
    isplitl [HS0 HS2]
    · isplitl [HS0]; · iexact HS0
      iexact HS2
    iintro ⟨H0, H1, H2, H3, H4, H5, H6, H7, H8, H9, H10, H11, HS1, HS0, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The pipeline's body obligation, at every point. -/
theorem body_obligation (hH : Rows m) (c : Dev nD) : BodyObligation (dats (F := F) m 0 c) (defs₀ (F := F)) Variants.none () Set.univ := fun t => by
  rw [bigSep_W0, bigSep_W0, defs₀_row]
  exact triple_restated (sound_body m hH c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 from rfl]
  exact Idealize.SL.BI.Entails.refl _

/-- After the last point the invariant gives the launch's back. -/
theorem hout (c : Dev nD) : (dats m 0 c).Φ (Fin.last cfg0.N) ⊢ Pipeline.ΦA spec0 c := by
  rw [show (dats m 0 c).Φ (Fin.last cfg0.N) = PhiS m c cfg0.N from rfl, PhiS_pos m c _ (by have : cfg0.N = 24 := N_0; omega), PhiA0_eq]
  iintro ⟨⟨HS0, HS1, HS2⟩, Hg⟩
  isplitl [HS0 HS1 HS2]
  · isplitl [HS0]
    · iexists _; iexact HS0
    isplitl [HS1]
    · iexact HS1
    iexists _; iexact HS2
  iexact Hg

/-! ## The run and the frame -/

set_option backward.isDefEq.respectTransparency.types false in
/-- The launch: every execution ends, each window's array as the proof data says, every other buffer as the region found
    it, every semaphore counter at zero. -/
theorem run_main_quiescent (hH : Rows m) : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m hH c).loose) (hshare := fun c => (dats m 0 c).share_full fun _ => rfl)
    (howed := fun _ _ => rfl) (V := V m) (hmain := hmain m Variants.none) (hA := A_eq m) (hin := hin m) (hout := hout m)

/-- The same without the counters. -/
theorem run_main (hH : Rows m) : θ_run defs (onTc (τ := τ) (main (F := F))) (s₀ m ρ) (Pipeline.FramePost cfgs (dats m) 0 (V m)) :=
  (θ_run defs _ _).mono (fun _ h => h.1) (run_main_quiescent m ρ hH)

/-- The frame: the arguments end unchanged and every semaphore counter at zero. -/
theorem frame (hH : Rows m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ hH)) ((θ_run defs _ _).mono (fun _ h => h.2) (run_main_quiescent m ρ hH))

end Cert.KernelIdeal.Body

end
-- ==== Proof.Rows.lean ====
/- The precondition, decoded: every word of the outlier table names a row of the weights. -/
module

public import proofs.«01_k».proof.Defs
public import proofs.«01_k».proof.Proof.Sound

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-- Every word of the outlier table as launched is below 1280. -/
theorem arg_rows [hP : Cert.Pre_indices_in_range.Facts] (m : (ℓ : Loc nD τ sig) → Buf (Elt Ideal) ℓ) (h : Cert.Pre_KernelIdeal m) (c : Dev nD) :
    ∀ y : S36.Idx, BitVec.toNat (m ((c : Thread nD τ).loc main_arg1) y) < 1280 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  intro y
  have e := congrFun (h c) y
  simp only [Cert.Pre_indices_in_range.fn, andi, cmpi, broadcastInDim, constantI, IntOp.cmpi, andi_ofBool, ofBool_eq_one,
    Bool.and_eq_true] at e
  obtain ⟨hge, hlt⟩ := e
  simp only [BitVec.sle, BitVec.slt, decide_eq_true_eq, BitVec.toInt, BitVec.toNat_ofNat] at hge hlt
  omega

/-- So is every word a grid point finds in its block of the table. -/
theorem rows_of_pre [hP : Cert.Pre_indices_in_range.Facts] (m : (ℓ : Loc nD τ sig) → Buf (Elt Ideal) ℓ) (h : Cert.Pre_KernelIdeal m) : Rows m := by
  intro c t j
  unfold iblk
  rw [View.read_apply, cast_eq, show V m c (Pipeline.arrRef spec0 0) = m ((c : Thread nD τ).loc main_arg1) from V_main_arg1 m c]
  exact arg_rows m h c _

end Cert.KernelIdeal.Body

end
-- ==== Proof.Kernel.BodyRest.lean ====
/- One grid point of the kernel body after the weights are prepared: the run of the activation blocks, the
   contractions and the output blocks, for any contents of the two carried scratch buffers. -/
module

public import proofs.«01_k».proof.Proof.Gen.Kernel.Frame
public import proofs.«01_k».proof.Proof.Gen.Kernel.Loops

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- What the first part of the body returns once the carried scratch buffers are in place: the first activation block's
    values, from the activations `x` and the keep mask `k`. -/
def first (x : Vec F S512x1280 .bf16) (k : Vec F S8x1280 .i32) :
    Σ' (v4 : FVec F S512x128 .bf16) (v9 : IVec S512x128 1) (v35 : FVec F S512x128 .bf16) (cst_13 : F .bf16), FVec F S512x128 .bf16 :=
  ⟨k0_pay107 (View.ld x (Rect.unit (s := S512x1280) ![0, 0] S512x128.size inb_S512x1280_S512x128_0_0)),
    k0_pay108 (F := F) (View.ld (Val := Elt F) (e' := .i32) k (Rect.unit (s := S8x1280) ![0, 0] S1x128.size inb_S8x1280_S1x128_0_0)),
    k0_pay110 (View.ld x (Rect.unit (s := S512x1280) ![0, 0] S512x128.size inb_S512x1280_S512x128_0_0)) (View.ld (Val := Elt F) (e' := .i32) k (Rect.unit (s := S8x1280) ![0, 0] S1x128.size inb_S8x1280_S1x128_0_0)),
    Scalar.ofBits .bf16 0x43E0#16,
    k0_pay111 (View.ld x (Rect.unit (s := S512x1280) ![0, 0] S512x128.size inb_S512x1280_S512x128_0_0)) (View.ld (Val := Elt F) (e' := .i32) k (Rect.unit (s := S8x1280) ![0, 0] S1x128.size inb_S8x1280_S1x128_0_0))⟩

set_option maxHeartbeats 4000000 in
/-- The body from any way `hfirst` of running its first part that leaves the scratch weights at `w` and the keep mask at
    `k`: what each output's staging buffer is left with, as pieces (last first). -/
def run (c : Dev nD) (i : grid0.Coords) (arg1 : Memref sig .tc .smem S36 .i32) (harg1 : arg1.IsWhole) (arg2 : Memref sig .tc .smem S10x40 .f32) (harg2 : arg2.IsWhole) (arg3 : Memref sig .tc .vmem S512x1280 .bf16) (harg3 : arg3.IsWhole) (arg4 : Memref sig .tc .vmem S36x5120 .bf16) (harg4 : arg4.IsWhole) (arg5 : Memref sig .tc .vmem S1280x5120 .fp8e4m3) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S512x5120 .bf16) (harg8 : arg8.IsWhole) (arg9 : Memref sig .tc .vmem S512x1280 .fp8e4m3) (harg9 : arg9.IsWhole) (arg10 : Memref sig .tc .vmem S512x10 .f32) (harg10 : arg10.IsWhole) (arg11 : Memref sig .tc .vmem S512x5120 .fp8e4m3) (harg11 : arg11.IsWhole) (arg12 : Memref sig .tc .vmem S512x40 .f32) (harg12 : arg12.IsWhole) (arg13 : Memref sig .tc .vmem S1280x5120 .bf16) (harg13 : arg13.IsWhole) (arg14 : Memref sig .tc .vmem S512x1280 .bf16) (harg14 : arg14.IsWhole) (arg15 : Memref sig .tc .vmem S8x1280 .i32) (harg15 : arg15.IsWhole)
    (x0 : Vec F S36 .i32) (x1 : Vec F S10x40 .f32) (x2 : Vec F S512x1280 .bf16) (x3 : Vec F S36x5120 .bf16) (x4 : Vec F S1280x5120 .fp8e4m3) (x5 : Vec F S1x5120 .f32) (x6 : Vec F S512x5120 .bf16)
    (w : Vec F S1280x5120 .bf16) (k : Vec F S8x1280 .i32) :
    { L : List (View.Piece (Elt F) S512x5120 .bf16) × List (View.Piece (Elt F) S512x1280 .fp8e4m3) × List (View.Piece (Elt F) S512x10 .f32) × List (View.Piece (Elt F) S512x5120 .fp8e4m3) × List (View.Piece (Elt F) S512x40 .f32) //
      ∀ (S : sProp 𝕄) (E : Set ℕ) (K : PUnit → sProp 𝕄)
        (hfirst : iprop((arg1.view.loc (c : Thread nD τ) ↦[arg1.view.set]{fullShare} harg1.unread x0) ∗ (arg2.view.loc (c : Thread nD τ) ↦[arg2.view.set]{fullShare} harg2.unread x1) ∗ (arg3.view.loc (c : Thread nD τ) ↦[arg3.view.set]{fullShare} harg3.unread x2) ∗ (arg4.view.loc (c : Thread nD τ) ↦[arg4.view.set]{fullShare} harg4.unread x3) ∗ (arg5.view.loc (c : Thread nD τ) ↦[arg5.view.set]{fullShare} harg5.unread x4) ∗ S)
          ⊢ wp frame (wpE (defs₀ (F := F)) Variants.none c none) E (k0_part32 i arg1 harg1 arg2 harg2 arg3 harg3 arg4 harg4 arg5 harg5 arg6 harg6 arg7 harg7 arg8 harg8 arg9 harg9 arg10 harg10 arg11 harg11 arg12 harg12 arg13 harg13 arg14 harg14 arg15 harg15)
              (fun r => iprop(⌜r = first (arg3.view.read (Elt F) (harg3.unread x2)) (arg15.view.read (Elt F) (harg15.unread k))⌝ ∗ (arg1.view.loc (c : Thread nD τ) ↦[arg1.view.set]{fullShare} harg1.unread x0) ∗ (arg2.view.loc (c : Thread nD τ) ↦[arg2.view.set]{fullShare} harg2.unread x1) ∗ (arg3.view.loc (c : Thread nD τ) ↦[arg3.view.set]{fullShare} harg3.unread x2) ∗ (arg4.view.loc (c : Thread nD τ) ↦[arg4.view.set]{fullShare} harg4.unread x3) ∗ (arg5.view.loc (c : Thread nD τ) ↦[arg5.view.set]{fullShare} harg5.unread x4) ∗ (arg13.view.loc (c : Thread nD τ) ↦[arg13.view.set]{fullShare} harg13.unread w) ∗ (arg15.view.loc (c : Thread nD τ) ↦[arg15.view.set]{fullShare} harg15.unread k)))),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg14 fullShare d) ∗ S
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L.1) ∗ (∃ f, arg9.view.loc (c : Thread nD τ) ↦[arg9.view.set]{fullShare} arg9.view.writes (Elt F) f L.2.1) ∗ (∃ f, arg10.view.loc (c : Thread nD τ) ↦[arg10.view.set]{fullShare} arg10.view.writes (Elt F) f L.2.2.1) ∗ (∃ f, arg11.view.loc (c : Thread nD τ) ↦[arg11.view.set]{fullShare} arg11.view.writes (Elt F) f L.2.2.2.1) ∗ (∃ f, arg12.view.loc (c : Thread nD τ) ↦[arg12.view.set]{fullShare} arg12.view.writes (Elt F) f L.2.2.2.2) ∗ (∃ d, owns (c : Thread nD τ) arg14 fullShare d) ∗ owns (c : Thread nD τ) arg13 fullShare w ∗ owns (c : Thread nD τ) arg15 fullShare k) -∗ K ⟨⟩))
          ⊢ wp frame (wpE (defs₀ (F := F)) Variants.none c none) E (cc0_outlier_linear i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨⟨?_, ?_, ?_, ?_, ?_⟩, fun S E K hfirst => ?run⟩
  case run =>
    simp only [cc0_outlier_linear_eq_skeleton]; unfold cc0_outlier_linear_skel
    simp only [k0_part91_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton]
    unfold k0_part91_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d14, %f14, -, H14⟩, HS, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
    rw [wp_bind, wp_bind]
    iapply (wp_wand_r Idealize.ShloMosaic.frame (wpE (defs₀ (F := F)) Variants.none c none) E)
    isplitl [H1 H2 H3 H4 H5 HS]
    · iapply hfirst
      isplitl [H1]; · iexact H1
      isplitl [H2]; · iexact H2
      isplitl [H3]; · iexact H3
      isplitl [H4]; · iexact H4
      isplitl [H5]; · iexact H5
      iexact HS
    iintro %r ⟨%hr, H1, H2, H3, H4, H5, H13, H15⟩
    subst hr
    unfold first
    rw [← wp_bind]
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; iexact H8
    isplitl [H9]
    · iexists _; iexact H9
    isplitl [H10]
    · iexists _; iexact H10
    isplitl [H11]
    · iexists _; iexact H11
    isplitl [H12]
    · iexists _; iexact H12
    isplitl [H14]
    · iexists _, _; isplitr; swap; · iexact H14
      ipureintro; rfl
    isplitl [H13]
    · iexists _; isplitr; · ipureintro; exact harg13.read_unread _
      iexact H13
    iexists _; isplitr; · ipureintro; exact harg15.read_unread _
    iexact H15

end Cert.Kernel.Body

end
-- ==== Proof.Kernel.Blocks.lean ====
/- The blocks of the kernel body as functions of what they read: the quantiser, an activation block, an output block,
   and the lists of blocks that one grid point writes. -/
module

public import proofs.«01_k».proof.Proof.Kernel.BodyRest

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The power-of-two scale of a block, along its rows. -/
abbrev scaleOf (v : FVec F S512x128 .bf16) : FVec F S512x128 .bf16 := k0_pay196 v
/-- The codes of a block. -/
abbrev codesOf (v : FVec F S512x128 .bf16) : FVec F S512x128 .fp8e4m3 := k0_pay197 v
/-- The scale of a block as one column. -/
abbrev scaleColOf (v : FVec F S512x128 .bf16) : FVec F S512x1 .f32 := k0_pay198 v
/-- An activation block with the outlier columns set to zero. -/
abbrev kept (x : Vec F S512x128 .bf16) (k : Vec F S1x128 .i32) : FVec F S512x128 .bf16 := k0_pay109 x k
/-- An activation block as the contraction reads it: dequantised, the outlier columns as they came. -/
abbrev mixed (x : Vec F S512x128 .bf16) (k : Vec F S1x128 .i32) : FVec F S512x128 .bf16 :=
  k0_pay114 (k0_pay107 x) (k0_pay108 (F := F) k) (scaleOf (kept x k)) (Scalar.ofBits .bf16 0x43E0#16) (k0_pay111 x k)
/-- The contraction of the mixed activations with 512 columns of the weights. -/
abbrev chunk (a : Vec F S512x1280 .bf16) (w : Vec F S1280x512 .bf16) : FVec F S512x512 .f32 := k0_pay194 a w
/-- An output block: contraction, bias and residual. -/
abbrev outBlock (s : FVec F S512x128 .f32) (bias : Vec F S1x128 .f32) (res : Vec F S512x128 .bf16) : FVec F S512x128 .bf16 :=
  k0_pay201 s (k0_pay200 bias) res

/-- The columns of block `b` of the activations lie inside them. -/
theorem inbX (b : Fin 10) : ∀ a, (![0, 128 * b.val] : Fin 2 → ℕ) a + S512x128.size a ≤ S512x1280.size a := by revert b; decide
/-- The column of block `b` of the activations' scales lies inside them. -/
theorem inbXs (b : Fin 10) : ∀ a, (![0, b.val] : Fin 2 → ℕ) a + S512x1.size a ≤ S512x10.size a := by revert b; decide
/-- The columns of block `b` of the keep mask lie inside it. -/
theorem inbK (b : Fin 10) : ∀ a, (![0, 128 * b.val] : Fin 2 → ℕ) a + S1x128.size a ≤ S8x1280.size a := by revert b; decide
/-- The columns of block `b` of the output lie inside it. -/
theorem inbY (b : Fin 40) : ∀ a, (![0, 128 * b.val] : Fin 2 → ℕ) a + S512x128.size a ≤ S512x5120.size a := by revert b; decide
/-- The column of block `b` of the output's scales lies inside them. -/
theorem inbYs (b : Fin 40) : ∀ a, (![0, b.val] : Fin 2 → ℕ) a + S512x1.size a ≤ S512x40.size a := by revert b; decide
/-- The columns of block `b` of the bias lie inside it. -/
theorem inbB (b : Fin 40) : ∀ a, (![0, 128 * b.val] : Fin 2 → ℕ) a + S1x128.size a ≤ S1x5120.size a := by revert b; decide
/-- The columns of the weights that hold block `b` lie inside them. -/
theorem inbW (b : Fin 40) : ∀ a, (![0, 512 * (b.val / 4)] : Fin 2 → ℕ) a + S1280x512.size a ≤ S1280x5120.size a := by revert b; decide
/-- Block `b` lies inside its chunk of 512 columns. -/
theorem slicesC (b : Fin 40) : S512x512.Slices ![0, 128 * (b.val % 4)] S512x128 := by revert b; decide

/-- The activations of block `b`. -/
abbrev ldX (x : Vec F S512x1280 .bf16) (b : Fin 10) : Vec F S512x128 .bf16 := View.ld (Val := Elt F) (e' := .bf16) x (Rect.unit (s := S512x1280) ![0, 128 * b.val] S512x128.size (inbX b))
/-- The keep mask of block `b`. -/
abbrev ldK (k : Vec F S8x1280 .i32) (b : Fin 10) : Vec F S1x128 .i32 := View.ld (Val := Elt F) (e' := .i32) k (Rect.unit (s := S8x1280) ![0, 128 * b.val] S1x128.size (inbK b))
/-- The residual of output block `b`. -/
abbrev ldR (r : Vec F S512x5120 .bf16) (b : Fin 40) : Vec F S512x128 .bf16 := View.ld (Val := Elt F) (e' := .bf16) r (Rect.unit (s := S512x5120) ![0, 128 * b.val] S512x128.size (inbY b))
/-- The bias of output block `b`. -/
abbrev ldB (r : Vec F S1x5120 .f32) (b : Fin 40) : Vec F S1x128 .f32 := View.ld (Val := Elt F) (e' := .f32) r (Rect.unit (s := S1x5120) ![0, 128 * b.val] S1x128.size (inbB b))
/-- The 512 columns of the weights that output block `b` lies in. -/
abbrev ldW (w : Vec F S1280x5120 .bf16) (b : Fin 40) : Vec F S1280x512 .bf16 := View.ld (Val := Elt F) (e' := .bf16) w (Rect.unit (s := S1280x5120) ![0, 512 * (b.val / 4)] S1280x512.size (inbW b))

/-- Output block `b` from the mixed activations `a`. -/
def yBlock (a : Vec F S512x1280 .bf16) (w : Vec F S1280x5120 .bf16) (bias : Vec F S1x5120 .f32) (res : Vec F S512x5120 .bf16) (b : Fin 40) : FVec F S512x128 .bf16 :=
  outBlock (extractStridedSlice S512x128 ![0, 128 * (b.val % 4)] (chunk a (ldW w b)) (slicesC b)) (ldB bias b) (ldR res b)

/-- The code blocks of the activations. -/
def xCodeL (x : Vec F S512x1280 .bf16) (k : Vec F S8x1280 .i32) : List (View.Piece (Elt F) S512x1280 .fp8e4m3) :=
  List.ofFn fun n : Fin 10 => ⟨Rect.unit (s := S512x1280) ![0, 128 * n.rev.val] S512x128.size (inbX n.rev), codesOf (kept (ldX x n.rev) (ldK k n.rev))⟩
/-- The scale columns of the activations. -/
def xScaleL (x : Vec F S512x1280 .bf16) (k : Vec F S8x1280 .i32) : List (View.Piece (Elt F) S512x10 .f32) :=
  List.ofFn fun n : Fin 10 => ⟨Rect.unit (s := S512x10) ![0, n.rev.val] S512x1.size (inbXs n.rev), scaleColOf (kept (ldX x n.rev) (ldK k n.rev))⟩
/-- The mixed activation blocks. -/
def mixedL (x : Vec F S512x1280 .bf16) (k : Vec F S8x1280 .i32) : List (View.Piece (Elt F) S512x1280 .bf16) :=
  List.ofFn fun n : Fin 10 => ⟨Rect.unit (s := S512x1280) ![0, 128 * n.rev.val] S512x128.size (inbX n.rev), mixed (ldX x n.rev) (ldK k n.rev)⟩
/-- The output blocks. -/
def yL (a : Vec F S512x1280 .bf16) (w : Vec F S1280x5120 .bf16) (bias : Vec F S1x5120 .f32) (res : Vec F S512x5120 .bf16) : List (View.Piece (Elt F) S512x5120 .bf16) :=
  List.ofFn fun n : Fin 40 => ⟨Rect.unit (s := S512x5120) ![0, 128 * n.rev.val] S512x128.size (inbY n.rev), yBlock a w bias res n.rev⟩
/-- The code blocks of the output. -/
def yCodeL (a : Vec F S512x1280 .bf16) (w : Vec F S1280x5120 .bf16) (bias : Vec F S1x5120 .f32) (res : Vec F S512x5120 .bf16) : List (View.Piece (Elt F) S512x5120 .fp8e4m3) :=
  List.ofFn fun n : Fin 40 => ⟨Rect.unit (s := S512x5120) ![0, 128 * n.rev.val] S512x128.size (inbY n.rev), codesOf (yBlock a w bias res n.rev)⟩
/-- The scale columns of the output. -/
def yScaleL (a : Vec F S512x1280 .bf16) (w : Vec F S1280x5120 .bf16) (bias : Vec F S1x5120 .f32) (res : Vec F S512x5120 .bf16) : List (View.Piece (Elt F) S512x40 .f32) :=
  List.ofFn fun n : Fin 40 => ⟨Rect.unit (s := S512x40) ![0, n.rev.val] S512x1.size (inbYs n.rev), scaleColOf (yBlock a w bias res n.rev)⟩

set_option maxHeartbeats 4000000 in
/-- The run writes the code blocks of the activations. -/
theorem run_xCode (c : Dev nD) (i : grid0.Coords) (arg1 : Memref sig .tc .smem S36 .i32) (harg1 : arg1.IsWhole) (arg2 : Memref sig .tc .smem S10x40 .f32) (harg2 : arg2.IsWhole) (arg3 : Memref sig .tc .vmem S512x1280 .bf16) (harg3 : arg3.IsWhole) (arg4 : Memref sig .tc .vmem S36x5120 .bf16) (harg4 : arg4.IsWhole) (arg5 : Memref sig .tc .vmem S1280x5120 .fp8e4m3) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S512x5120 .bf16) (harg8 : arg8.IsWhole) (arg9 : Memref sig .tc .vmem S512x1280 .fp8e4m3) (harg9 : arg9.IsWhole) (arg10 : Memref sig .tc .vmem S512x10 .f32) (harg10 : arg10.IsWhole) (arg11 : Memref sig .tc .vmem S512x5120 .fp8e4m3) (harg11 : arg11.IsWhole) (arg12 : Memref sig .tc .vmem S512x40 .f32) (harg12 : arg12.IsWhole) (arg13 : Memref sig .tc .vmem S1280x5120 .bf16) (harg13 : arg13.IsWhole) (arg14 : Memref sig .tc .vmem S512x1280 .bf16) (harg14 : arg14.IsWhole) (arg15 : Memref sig .tc .vmem S8x1280 .i32) (harg15 : arg15.IsWhole)
    (x0 : Vec F S36 .i32) (x1 : Vec F S10x40 .f32) (x2 : Vec F S512x1280 .bf16) (x3 : Vec F S36x5120 .bf16) (x4 : Vec F S1280x5120 .fp8e4m3) (x5 : Vec F S1x5120 .f32) (x6 : Vec F S512x5120 .bf16)
    (w : Vec F S1280x5120 .bf16) (k : Vec F S8x1280 .i32) : (run c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 w k).1.2.1 = xCodeL (arg3.view.read (Elt F) (harg3.unread x2)) (arg15.view.read (Elt F) (harg15.unread k)) := by
  sl_kernel_rfl

set_option maxHeartbeats 4000000 in
/-- The run writes the scale columns of the activations. -/
theorem run_xScale (c : Dev nD) (i : grid0.Coords) (arg1 : Memref sig .tc .smem S36 .i32) (harg1 : arg1.IsWhole) (arg2 : Memref sig .tc .smem S10x40 .f32) (harg2 : arg2.IsWhole) (arg3 : Memref sig .tc .vmem S512x1280 .bf16) (harg3 : arg3.IsWhole) (arg4 : Memref sig .tc .vmem S36x5120 .bf16) (harg4 : arg4.IsWhole) (arg5 : Memref sig .tc .vmem S1280x5120 .fp8e4m3) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S512x5120 .bf16) (harg8 : arg8.IsWhole) (arg9 : Memref sig .tc .vmem S512x1280 .fp8e4m3) (harg9 : arg9.IsWhole) (arg10 : Memref sig .tc .vmem S512x10 .f32) (harg10 : arg10.IsWhole) (arg11 : Memref sig .tc .vmem S512x5120 .fp8e4m3) (harg11 : arg11.IsWhole) (arg12 : Memref sig .tc .vmem S512x40 .f32) (harg12 : arg12.IsWhole) (arg13 : Memref sig .tc .vmem S1280x5120 .bf16) (harg13 : arg13.IsWhole) (arg14 : Memref sig .tc .vmem S512x1280 .bf16) (harg14 : arg14.IsWhole) (arg15 : Memref sig .tc .vmem S8x1280 .i32) (harg15 : arg15.IsWhole)
    (x0 : Vec F S36 .i32) (x1 : Vec F S10x40 .f32) (x2 : Vec F S512x1280 .bf16) (x3 : Vec F S36x5120 .bf16) (x4 : Vec F S1280x5120 .fp8e4m3) (x5 : Vec F S1x5120 .f32) (x6 : Vec F S512x5120 .bf16)
    (w : Vec F S1280x5120 .bf16) (k : Vec F S8x1280 .i32) : (run c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 w k).1.2.2.1 = xScaleL (arg3.view.read (Elt F) (harg3.unread x2)) (arg15.view.read (Elt F) (harg15.unread k)) := by
  sl_kernel_rfl

set_option maxHeartbeats 4000000 in
/-- The mixed activations that the run loads back are the mixed blocks. -/
theorem run_mixed (c : Dev nD) (i : grid0.Coords) (arg1 : Memref sig .tc .smem S36 .i32) (harg1 : arg1.IsWhole) (arg2 : Memref sig .tc .smem S10x40 .f32) (harg2 : arg2.IsWhole) (arg3 : Memref sig .tc .vmem S512x1280 .bf16) (harg3 : arg3.IsWhole) (arg4 : Memref sig .tc .vmem S36x5120 .bf16) (harg4 : arg4.IsWhole) (arg5 : Memref sig .tc .vmem S1280x5120 .fp8e4m3) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S512x5120 .bf16) (harg8 : arg8.IsWhole) (arg9 : Memref sig .tc .vmem S512x1280 .fp8e4m3) (harg9 : arg9.IsWhole) (arg10 : Memref sig .tc .vmem S512x10 .f32) (harg10 : arg10.IsWhole) (arg11 : Memref sig .tc .vmem S512x5120 .fp8e4m3) (harg11 : arg11.IsWhole) (arg12 : Memref sig .tc .vmem S512x40 .f32) (harg12 : arg12.IsWhole) (arg13 : Memref sig .tc .vmem S1280x5120 .bf16) (harg13 : arg13.IsWhole) (arg14 : Memref sig .tc .vmem S512x1280 .bf16) (harg14 : arg14.IsWhole) (arg15 : Memref sig .tc .vmem S8x1280 .i32) (harg15 : arg15.IsWhole)
    (x0 : Vec F S36 .i32) (x1 : Vec F S10x40 .f32) (x2 : Vec F S512x1280 .bf16) (x3 : Vec F S36x5120 .bf16) (x4 : Vec F S1280x5120 .fp8e4m3) (x5 : Vec F S1x5120 .f32) (x6 : Vec F S512x5120 .bf16)
    (w : Vec F S1280x5120 .bf16) (k : Vec F S8x1280 .i32) : run.sl.H14_10 (F := F) arg3 harg3 arg15 harg15 x2 k = mixedL (arg3.view.read (Elt F) (harg3.unread x2)) (arg15.view.read (Elt F) (harg15.unread k)) := by
  sl_kernel_rfl

set_option maxHeartbeats 4000000 in
/-- The run writes the output blocks. -/
theorem run_y (c : Dev nD) (i : grid0.Coords) (arg1 : Memref sig .tc .smem S36 .i32) (harg1 : arg1.IsWhole) (arg2 : Memref sig .tc .smem S10x40 .f32) (harg2 : arg2.IsWhole) (arg3 : Memref sig .tc .vmem S512x1280 .bf16) (harg3 : arg3.IsWhole) (arg4 : Memref sig .tc .vmem S36x5120 .bf16) (harg4 : arg4.IsWhole) (arg5 : Memref sig .tc .vmem S1280x5120 .fp8e4m3) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S512x5120 .bf16) (harg8 : arg8.IsWhole) (arg9 : Memref sig .tc .vmem S512x1280 .fp8e4m3) (harg9 : arg9.IsWhole) (arg10 : Memref sig .tc .vmem S512x10 .f32) (harg10 : arg10.IsWhole) (arg11 : Memref sig .tc .vmem S512x5120 .fp8e4m3) (harg11 : arg11.IsWhole) (arg12 : Memref sig .tc .vmem S512x40 .f32) (harg12 : arg12.IsWhole) (arg13 : Memref sig .tc .vmem S1280x5120 .bf16) (harg13 : arg13.IsWhole) (arg14 : Memref sig .tc .vmem S512x1280 .bf16) (harg14 : arg14.IsWhole) (arg15 : Memref sig .tc .vmem S8x1280 .i32) (harg15 : arg15.IsWhole)
    (x0 : Vec F S36 .i32) (x1 : Vec F S10x40 .f32) (x2 : Vec F S512x1280 .bf16) (x3 : Vec F S36x5120 .bf16) (x4 : Vec F S1280x5120 .fp8e4m3) (x5 : Vec F S1x5120 .f32) (x6 : Vec F S512x5120 .bf16)
    (w : Vec F S1280x5120 .bf16) (k : Vec F S8x1280 .i32) : (run c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 w k).1.1 = yL (run.sl.v513 c arg3 harg3 arg14 arg15 harg15 x2 k) (arg13.view.read (Elt F) (harg13.unread w)) (arg6.view.read (Elt F) (harg6.unread x5)) (arg7.view.read (Elt F) (harg7.unread x6)) := by
  sl_kernel_rfl

set_option maxHeartbeats 4000000 in
/-- The run writes the code blocks of the output. -/
theorem run_yCode (c : Dev nD) (i : grid0.Coords) (arg1 : Memref sig .tc .smem S36 .i32) (harg1 : arg1.IsWhole) (arg2 : Memref sig .tc .smem S10x40 .f32) (harg2 : arg2.IsWhole) (arg3 : Memref sig .tc .vmem S512x1280 .bf16) (harg3 : arg3.IsWhole) (arg4 : Memref sig .tc .vmem S36x5120 .bf16) (harg4 : arg4.IsWhole) (arg5 : Memref sig .tc .vmem S1280x5120 .fp8e4m3) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S512x5120 .bf16) (harg8 : arg8.IsWhole) (arg9 : Memref sig .tc .vmem S512x1280 .fp8e4m3) (harg9 : arg9.IsWhole) (arg10 : Memref sig .tc .vmem S512x10 .f32) (harg10 : arg10.IsWhole) (arg11 : Memref sig .tc .vmem S512x5120 .fp8e4m3) (harg11 : arg11.IsWhole) (arg12 : Memref sig .tc .vmem S512x40 .f32) (harg12 : arg12.IsWhole) (arg13 : Memref sig .tc .vmem S1280x5120 .bf16) (harg13 : arg13.IsWhole) (arg14 : Memref sig .tc .vmem S512x1280 .bf16) (harg14 : arg14.IsWhole) (arg15 : Memref sig .tc .vmem S8x1280 .i32) (harg15 : arg15.IsWhole)
    (x0 : Vec F S36 .i32) (x1 : Vec F S10x40 .f32) (x2 : Vec F S512x1280 .bf16) (x3 : Vec F S36x5120 .bf16) (x4 : Vec F S1280x5120 .fp8e4m3) (x5 : Vec F S1x5120 .f32) (x6 : Vec F S512x5120 .bf16)
    (w : Vec F S1280x5120 .bf16) (k : Vec F S8x1280 .i32) : (run c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 w k).1.2.2.2.1 = yCodeL (run.sl.v513 c arg3 harg3 arg14 arg15 harg15 x2 k) (arg13.view.read (Elt F) (harg13.unread w)) (arg6.view.read (Elt F) (harg6.unread x5)) (arg7.view.read (Elt F) (harg7.unread x6)) := by
  sl_kernel_rfl

set_option maxHeartbeats 4000000 in
/-- The run writes the scale columns of the output. -/
theorem run_yScale (c : Dev nD) (i : grid0.Coords) (arg1 : Memref sig .tc .smem S36 .i32) (harg1 : arg1.IsWhole) (arg2 : Memref sig .tc .smem S10x40 .f32) (harg2 : arg2.IsWhole) (arg3 : Memref sig .tc .vmem S512x1280 .bf16) (harg3 : arg3.IsWhole) (arg4 : Memref sig .tc .vmem S36x5120 .bf16) (harg4 : arg4.IsWhole) (arg5 : Memref sig .tc .vmem S1280x5120 .fp8e4m3) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S512x5120 .bf16) (harg8 : arg8.IsWhole) (arg9 : Memref sig .tc .vmem S512x1280 .fp8e4m3) (harg9 : arg9.IsWhole) (arg10 : Memref sig .tc .vmem S512x10 .f32) (harg10 : arg10.IsWhole) (arg11 : Memref sig .tc .vmem S512x5120 .fp8e4m3) (harg11 : arg11.IsWhole) (arg12 : Memref sig .tc .vmem S512x40 .f32) (harg12 : arg12.IsWhole) (arg13 : Memref sig .tc .vmem S1280x5120 .bf16) (harg13 : arg13.IsWhole) (arg14 : Memref sig .tc .vmem S512x1280 .bf16) (harg14 : arg14.IsWhole) (arg15 : Memref sig .tc .vmem S8x1280 .i32) (harg15 : arg15.IsWhole)
    (x0 : Vec F S36 .i32) (x1 : Vec F S10x40 .f32) (x2 : Vec F S512x1280 .bf16) (x3 : Vec F S36x5120 .bf16) (x4 : Vec F S1280x5120 .fp8e4m3) (x5 : Vec F S1x5120 .f32) (x6 : Vec F S512x5120 .bf16)
    (w : Vec F S1280x5120 .bf16) (k : Vec F S8x1280 .i32) : (run c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 w k).1.2.2.2.2 = yScaleL (run.sl.v513 c arg3 harg3 arg14 arg15 harg15 x2 k) (arg13.view.read (Elt F) (harg13.unread w)) (arg6.view.read (Elt F) (harg6.unread x5)) (arg7.view.read (Elt F) (harg7.unread x6)) := by
  sl_kernel_rfl

end Cert.Kernel.Body

end
-- ==== Proof.Kernel.Outs.lean ====
/- What one grid point leaves in the five output blocks, from its input blocks and the two carried scratch buffers:
   the writes of BodyRest.lean cover each block, so each block is a function of the blocks alone. -/
module

public import proofs.«01_k».proof.Proof.Kernel.Blocks
public import Idealize.ShloMosaic.Lib.Pipeline.ValueKit

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The output blocks cover their buffer. -/
theorem yL_cover (a : Vec F S512x1280 .bf16) (w : Vec F S1280x5120 .bf16) (b : Vec F S1x5120 .f32) (r : Vec F S512x5120 .bf16) (y : S512x5120.Idx) : ∃ p ∈ yL a w b r, y ∈ p.1.set :=
  View.cover_of_tiledL (yL a w b r) S512x128.size (by sl_kernel_rfl) y
/-- The code blocks of the activations cover their buffer. -/
theorem xCodeL_cover (x : Vec F S512x1280 .bf16) (k : Vec F S8x1280 .i32) (y : S512x1280.Idx) : ∃ p ∈ xCodeL x k, y ∈ p.1.set :=
  View.cover_of_tiledL (xCodeL x k) S512x128.size (by sl_kernel_rfl) y
/-- The scale columns of the activations cover their buffer. -/
theorem xScaleL_cover (x : Vec F S512x1280 .bf16) (k : Vec F S8x1280 .i32) (y : S512x10.Idx) : ∃ p ∈ xScaleL x k, y ∈ p.1.set :=
  View.cover_of_tiledL (xScaleL x k) S512x1.size (by sl_kernel_rfl) y
/-- The code blocks of the output cover their buffer. -/
theorem yCodeL_cover (a : Vec F S512x1280 .bf16) (w : Vec F S1280x5120 .bf16) (b : Vec F S1x5120 .f32) (r : Vec F S512x5120 .bf16) (y : S512x5120.Idx) : ∃ p ∈ yCodeL a w b r, y ∈ p.1.set :=
  View.cover_of_tiledL (yCodeL a w b r) S512x128.size (by sl_kernel_rfl) y
/-- The scale columns of the output cover their buffer. -/
theorem yScaleL_cover (a : Vec F S512x1280 .bf16) (w : Vec F S1280x5120 .bf16) (b : Vec F S1x5120 .f32) (r : Vec F S512x5120 .bf16) (y : S512x40.Idx) : ∃ p ∈ yScaleL a w b r, y ∈ p.1.set :=
  View.cover_of_tiledL (yScaleL a w b r) S512x1.size (by sl_kernel_rfl) y
/-- The mixed activation blocks cover their buffer. -/
theorem mixedL_cover (x : Vec F S512x1280 .bf16) (k : Vec F S8x1280 .i32) (y : S512x1280.Idx) : ∃ p ∈ mixedL x k, y ∈ p.1.set :=
  View.cover_of_tiledL (mixedL x k) S512x128.size (by sl_kernel_rfl) y

/-- The mixed activations of a point: kept entries quantised and dequantised, outlier columns as they are. -/
def act (x : Vec F S512x1280 .bf16) (k : Vec F S8x1280 .i32) : Vec F S512x1280 .bf16 := View.canon (mixedL x k)
/-- The code block of the activations. -/
def outXCode (x : Vec F S512x1280 .bf16) (k : Vec F S8x1280 .i32) : Vec F S512x1280 .fp8e4m3 := View.canon (xCodeL x k)
/-- The scales of the activations. -/
def outXScale (x : Vec F S512x1280 .bf16) (k : Vec F S8x1280 .i32) : Vec F S512x10 .f32 := View.canon (xScaleL x k)
/-- The output block. -/
def outY (x : Vec F S512x1280 .bf16) (b : Vec F S1x5120 .f32) (r : Vec F S512x5120 .bf16) (w : Vec F S1280x5120 .bf16) (k : Vec F S8x1280 .i32) : Vec F S512x5120 .bf16 := View.canon (yL (act x k) w b r)
/-- The code block of the output. -/
def outYCode (x : Vec F S512x1280 .bf16) (b : Vec F S1x5120 .f32) (r : Vec F S512x5120 .bf16) (w : Vec F S1280x5120 .bf16) (k : Vec F S8x1280 .i32) : Vec F S512x5120 .fp8e4m3 := View.canon (yCodeL (act x k) w b r)
/-- The scales of the output. -/
def outYScale (x : Vec F S512x1280 .bf16) (b : Vec F S1x5120 .f32) (r : Vec F S512x5120 .bf16) (w : Vec F S1280x5120 .bf16) (k : Vec F S8x1280 .i32) : Vec F S512x40 .f32 := View.canon (yScaleL (act x k) w b r)

/-- The mixed activations loaded back for the product. -/
theorem read_act (c : Dev nD) (i : grid0.Coords) (arg1 : Memref sig .tc .smem S36 .i32) (harg1 : arg1.IsWhole) (arg2 : Memref sig .tc .smem S10x40 .f32) (harg2 : arg2.IsWhole) (arg3 : Memref sig .tc .vmem S512x1280 .bf16) (harg3 : arg3.IsWhole) (arg4 : Memref sig .tc .vmem S36x5120 .bf16) (harg4 : arg4.IsWhole) (arg5 : Memref sig .tc .vmem S1280x5120 .fp8e4m3) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S512x5120 .bf16) (harg8 : arg8.IsWhole) (arg9 : Memref sig .tc .vmem S512x1280 .fp8e4m3) (harg9 : arg9.IsWhole) (arg10 : Memref sig .tc .vmem S512x10 .f32) (harg10 : arg10.IsWhole) (arg11 : Memref sig .tc .vmem S512x5120 .fp8e4m3) (harg11 : arg11.IsWhole) (arg12 : Memref sig .tc .vmem S512x40 .f32) (harg12 : arg12.IsWhole) (arg13 : Memref sig .tc .vmem S1280x5120 .bf16) (harg13 : arg13.IsWhole) (arg14 : Memref sig .tc .vmem S512x1280 .bf16) (harg14 : arg14.IsWhole) (arg15 : Memref sig .tc .vmem S8x1280 .i32) (harg15 : arg15.IsWhole) (x2 : Vec F S512x1280 .bf16) (k : Vec F S8x1280 .i32) :
    run.sl.v513 c arg3 harg3 arg14 arg15 harg15 x2 k = act x2 k := by
  unfold run.sl.v513 act
  rw [View.readCov_eq_canon']
  rw [show run.sl.H14_10 (F := F) arg3 harg3 arg15 harg15 x2 k = mixedL x2 k from by
    rw [show run.sl.H14_10 (F := F) arg3 harg3 arg15 harg15 x2 k = mixedL (arg3.view.read (Elt F) (harg3.unread x2)) (arg15.view.read (Elt F) (harg15.unread k)) from by sl_kernel_rfl, harg3.read_unread, harg15.read_unread]]
  exact View.ld_unit_zero (by funext a; fin_cases a <;> rfl) _ _

set_option maxHeartbeats 4000000 in
/-- One grid point: from its input blocks and what its first part turns `S` into (`hfirst`), it leaves the five output
    blocks at their values and the carried scratch buffers as its first part left them. -/
theorem point (c : Dev nD) (i : grid0.Coords) (arg1 : Memref sig .tc .smem S36 .i32) (harg1 : arg1.IsWhole) (arg2 : Memref sig .tc .smem S10x40 .f32) (harg2 : arg2.IsWhole) (arg3 : Memref sig .tc .vmem S512x1280 .bf16) (harg3 : arg3.IsWhole) (arg4 : Memref sig .tc .vmem S36x5120 .bf16) (harg4 : arg4.IsWhole) (arg5 : Memref sig .tc .vmem S1280x5120 .fp8e4m3) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S512x5120 .bf16) (harg8 : arg8.IsWhole) (arg9 : Memref sig .tc .vmem S512x1280 .fp8e4m3) (harg9 : arg9.IsWhole) (arg10 : Memref sig .tc .vmem S512x10 .f32) (harg10 : arg10.IsWhole) (arg11 : Memref sig .tc .vmem S512x5120 .fp8e4m3) (harg11 : arg11.IsWhole) (arg12 : Memref sig .tc .vmem S512x40 .f32) (harg12 : arg12.IsWhole) (arg13 : Memref sig .tc .vmem S1280x5120 .bf16) (harg13 : arg13.IsWhole) (arg14 : Memref sig .tc .vmem S512x1280 .bf16) (harg14 : arg14.IsWhole) (arg15 : Memref sig .tc .vmem S8x1280 .i32) (harg15 : arg15.IsWhole)
    (x0 : Vec F S36 .i32) (x1 : Vec F S10x40 .f32) (x2 : Vec F S512x1280 .bf16) (x3 : Vec F S36x5120 .bf16) (x4 : Vec F S1280x5120 .fp8e4m3) (x5 : Vec F S1x5120 .f32) (x6 : Vec F S512x5120 .bf16)
    (w : Vec F S1280x5120 .bf16) (k : Vec F S8x1280 .i32) (S : sProp 𝕄) (E : Set ℕ) (K : PUnit → sProp 𝕄)
    (hfirst : iprop((arg1.view.loc (c : Thread nD τ) ↦[arg1.view.set]{fullShare} harg1.unread x0) ∗ (arg2.view.loc (c : Thread nD τ) ↦[arg2.view.set]{fullShare} harg2.unread x1) ∗ (arg3.view.loc (c : Thread nD τ) ↦[arg3.view.set]{fullShare} harg3.unread x2) ∗ (arg4.view.loc (c : Thread nD τ) ↦[arg4.view.set]{fullShare} harg4.unread x3) ∗ (arg5.view.loc (c : Thread nD τ) ↦[arg5.view.set]{fullShare} harg5.unread x4) ∗ S)
          ⊢ wp frame (wpE (defs₀ (F := F)) Variants.none c none) E (k0_part32 i arg1 harg1 arg2 harg2 arg3 harg3 arg4 harg4 arg5 harg5 arg6 harg6 arg7 harg7 arg8 harg8 arg9 harg9 arg10 harg10 arg11 harg11 arg12 harg12 arg13 harg13 arg14 harg14 arg15 harg15)
              (fun r => iprop(⌜r = first (arg3.view.read (Elt F) (harg3.unread x2)) (arg15.view.read (Elt F) (harg15.unread k))⌝ ∗ (arg1.view.loc (c : Thread nD τ) ↦[arg1.view.set]{fullShare} harg1.unread x0) ∗ (arg2.view.loc (c : Thread nD τ) ↦[arg2.view.set]{fullShare} harg2.unread x1) ∗ (arg3.view.loc (c : Thread nD τ) ↦[arg3.view.set]{fullShare} harg3.unread x2) ∗ (arg4.view.loc (c : Thread nD τ) ↦[arg4.view.set]{fullShare} harg4.unread x3) ∗ (arg5.view.loc (c : Thread nD τ) ↦[arg5.view.set]{fullShare} harg5.unread x4) ∗ (arg13.view.loc (c : Thread nD τ) ↦[arg13.view.set]{fullShare} harg13.unread w) ∗ (arg15.view.loc (c : Thread nD τ) ↦[arg15.view.set]{fullShare} harg15.unread k)))) :
    (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg14 fullShare d) ∗ S
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (outY x2 x5 x6 w k) ∗ owns (c : Thread nD τ) arg9 fullShare (outXCode x2 k) ∗ owns (c : Thread nD τ) arg10 fullShare (outXScale x2 k) ∗ owns (c : Thread nD τ) arg11 fullShare (outYCode x2 x5 x6 w k) ∗ owns (c : Thread nD τ) arg12 fullShare (outYScale x2 x5 x6 w k) ∗ (∃ d, owns (c : Thread nD τ) arg14 fullShare d) ∗ owns (c : Thread nD τ) arg13 fullShare w ∗ owns (c : Thread nD τ) arg15 fullShare k) -∗ K ⟨⟩)) : sProp 𝕄)
      ⊢ wp frame (wpE (defs₀ (F := F)) Variants.none c none) E (cc0_outlier_linear i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  have hy := run_y c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 w k
  have hxc := run_xCode c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 w k
  have hxs := run_xScale c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 w k
  have hyc := run_yCode c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 w k
  have hys := run_yScale c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 w k
  rw [read_act c i arg1 harg1 arg2 harg2 arg3 harg3 arg4 harg4 arg5 harg5 arg6 harg6 arg7 harg7 arg8 harg8 arg9 harg9 arg10 harg10 arg11 harg11 arg12 harg12 arg13 harg13 arg14 harg14 arg15 harg15, harg13.read_unread, harg6.read_unread, harg7.read_unread] at hy hyc hys
  have e3 : arg3.view.read (Elt F) (harg3.unread x2) = x2 := harg3.read_unread x2
  have e15 : arg15.view.read (Elt F) (harg15.unread k) = k := harg15.read_unread k
  have hxc := hxc.trans (congrArg₂ xCodeL e3 e15)
  have hxs := hxs.trans (congrArg₂ xScaleL e3 e15)
  clear e3 e15
  have hrun := (run c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 w k).2 S E K hfirst
  rw [hy, hxc, hxs, hyc, hys] at hrun
  refine BIBase.Entails.trans ?_ hrun
  iintro ⟨H1, H2, H3, H4, H5, H6, H7, H8, H9, H10, H11, H12, H14, HS, HK⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H14]; · iexact H14
  isplitl [HS]; · iexact HS
  iintro ⟨H1, H2, H3, H4, H5, H6, H7, ⟨%f8, H8⟩, ⟨%f9, H9⟩, ⟨%f10, H10⟩, ⟨%f11, H11⟩, ⟨%f12, H12⟩, H14, H13, H15⟩
  iapply HK
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr; swap; · iexact H8
    ipureintro; exact View.read_writes_eq_canon _ _ _ (yL_cover _ _ _ _)
  isplitl [H9]
  · unfold owns; iexists _; isplitr; swap; · iexact H9
    ipureintro; exact View.read_writes_eq_canon _ _ _ (xCodeL_cover x2 k)
  isplitl [H10]
  · unfold owns; iexists _; isplitr; swap; · iexact H10
    ipureintro; exact View.read_writes_eq_canon _ _ _ (xScaleL_cover x2 k)
  isplitl [H11]
  · unfold owns; iexists _; isplitr; swap; · iexact H11
    ipureintro; exact View.read_writes_eq_canon _ _ _ (yCodeL_cover _ _ _ _)
  isplitl [H12]
  · unfold owns; iexists _; isplitr; swap; · iexact H12
    ipureintro; exact View.read_writes_eq_canon _ _ _ (yScaleL_cover _ _ _ _)
  isplitl [H14]; · iexact H14
  isplitl [H13]; · iexact H13
  iexact H15

end Cert.Kernel.Body

end
-- ==== Proof.Kernel.PrepDefs.lean ====
/- The first grid point's preparation: the keep mask, the dequantised weights, and the outlier rows put into them. -/
module

public import proofs.«01_k».proof.Proof.Gen.Kernel.Frame
public import proofs.«01_k».proof.Proof.Gen.Kernel.Loops

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- Index `j` lies inside the index argument. -/
theorem inbI (j : Fin 36) : ∀ a, (![j.val] : Fin 1 → ℕ) a + S1.size a ≤ S36.size a := by revert j; decide
/-- Row `j` lies inside the outlier rows. -/
theorem inbR (j : Fin 36) : ∀ a, (![j.val, 0] : Fin 2 → ℕ) a + S1x5120.size a ≤ S36x5120.size a := by revert j; decide

/-- The row index of outlier `j`, as the body loads it. -/
def word (arg1 : Memref sig .tc .smem S36 .i32) (harg1 : arg1.IsWhole) (x0 : Vec F S36 .i32) (j : Fin 36) : BitVec 32 :=
  arg1.view.readAt (Elt F) (Rect.unit (s := S36) ![j.val] S1.size (inbI j)).toLoadRect (harg1.unread x0) (Shape.Idx.first (numel1_S1.symm ▸ Nat.one_pos))

/-- The weights of outlier `j`, as the body loads them. -/
def row (arg4 : Memref sig .tc .vmem S36x5120 .bf16) (harg4 : arg4.IsWhole) (x3 : Vec F S36x5120 .bf16) (j : Fin 36) : Vec F S1x5120 .bf16 :=
  arg4.view.readAt (Elt F) (Rect.unit (s := S36x5120) ![j.val, 0] S1x5120.size (inbR j)).toLoadRect (harg4.unread x3)

/-- The pair of rows of the scratch weights that holds outlier `j`'s row, read from the contents `f`. -/
def tile {i : grid0.Coords} (hc : k0_cond1 i = 1#1) (arg1 : Memref sig .tc .smem S36 .i32) (harg1 : arg1.IsWhole)
    (arg13 : Memref sig .tc .vmem S1280x5120 .bf16) (x0 : Vec F S36 .i32) (hw : ∀ j, k0_chk1 i (word arg1 harg1 x0 j)) (j : Fin 36)
    (f : BufTy.Contents (Elt F) arg13.view.ty) : Vec F S2x5120 .bf16 :=
  arg13.view.readAt (Elt F) (Rect.unit (s := S1280x5120) (k0_off81 (word arg1 harg1 x0 j)) S2x5120.size
    (k0_off81_inb i (word arg1 harg1 x0 j) (hw j) hc)).toLoadRect f

/-- The scratch weights' contents once outlier `j`'s row is put over the contents `f`. -/
def rowStep {i : grid0.Coords} (hc : k0_cond1 i = 1#1) (arg1 : Memref sig .tc .smem S36 .i32) (harg1 : arg1.IsWhole)
    (arg4 : Memref sig .tc .vmem S36x5120 .bf16) (harg4 : arg4.IsWhole) (arg13 : Memref sig .tc .vmem S1280x5120 .bf16)
    (x0 : Vec F S36 .i32) (x3 : Vec F S36x5120 .bf16) (hw : ∀ j, k0_chk1 i (word arg1 harg1 x0 j)) (j : Fin 36)
    (f : BufTy.Contents (Elt F) arg13.view.ty) : BufTy.Contents (Elt F) arg13.view.ty :=
  arg13.view.writes (Elt F) f [⟨Rect.unit (s := S1280x5120) (k0_off81 (word arg1 harg1 x0 j)) S2x5120.size
    (k0_off81_inb i (word arg1 harg1 x0 j) (hw j) hc), k0_pay61 (F := F) (word arg1 harg1 x0 j) (row arg4 harg4 x3 j) (tile hc arg1 harg1 arg13 x0 hw j f)⟩]

/-- The scratch weights' contents after the dequantising loop, from the contents `f`. -/
def loopC (c : Dev nD) (i : grid0.Coords) (arg1 : Memref sig .tc .smem S36 .i32) (harg1 : arg1.IsWhole) (arg2 : Memref sig .tc .smem S10x40 .f32) (harg2 : arg2.IsWhole) (arg3 : Memref sig .tc .vmem S512x1280 .bf16) (harg3 : arg3.IsWhole) (arg4 : Memref sig .tc .vmem S36x5120 .bf16) (harg4 : arg4.IsWhole) (arg5 : Memref sig .tc .vmem S1280x5120 .fp8e4m3) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S512x5120 .bf16) (harg8 : arg8.IsWhole) (arg9 : Memref sig .tc .vmem S512x1280 .fp8e4m3) (harg9 : arg9.IsWhole) (arg10 : Memref sig .tc .vmem S512x10 .f32) (harg10 : arg10.IsWhole) (arg11 : Memref sig .tc .vmem S512x5120 .fp8e4m3) (harg11 : arg11.IsWhole) (arg12 : Memref sig .tc .vmem S512x40 .f32) (harg12 : arg12.IsWhole) (arg13 : Memref sig .tc .vmem S1280x5120 .bf16) (harg13 : arg13.IsWhole) (arg14 : Memref sig .tc .vmem S512x1280 .bf16) (harg14 : arg14.IsWhole) (arg15 : Memref sig .tc .vmem S8x1280 .i32) (harg15 : arg15.IsWhole) (hc : k0_cond1 i = 1#1) (x1 : Vec F S10x40 .f32) (x4 : Vec F S1280x5120 .fp8e4m3)
    (a1 a2 : IVec S8x1280 32) (a3 : IVec S8x1280 1) (a4 : IVec S8x1280 32) (f : BufTy.Contents (Elt F) arg13.view.ty) : BufTy.Contents (Elt F) arg13.view.ty :=
  arg13.view.writes (Elt F) f (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 hc a1 a2 a3 a4 (harg2.unread x1) (harg5.unread x4) k0_t1_loop.trips)

/-- The keep mask the preparation stores. -/
def keepMask (arg1 : Memref sig .tc .smem S36 .i32) (harg1 : arg1.IsWhole) (x0 : Vec F S36 .i32) : IVec S8x1280 32 :=
  k0_pay57 (F := F) (iota .tc S8x1280 32 [1] iota_S8x1280_d1_w32) (k0_pay54 (F := F) (iota .tc S8x1280 32 [1] iota_S8x1280_d1_w32) (k0_pay53 (F := F) (iota .tc S8x1280 32 [1] iota_S8x1280_d1_w32) (k0_pay51 (F := F) (iota .tc S8x1280 32 [1] iota_S8x1280_d1_w32) (k0_pay50 (F := F) (word arg1 harg1 x0 0) (word arg1 harg1 x0 1) (word arg1 harg1 x0 2) (word arg1 harg1 x0 3) (word arg1 harg1 x0 4) (word arg1 harg1 x0 5) (word arg1 harg1 x0 6) (word arg1 harg1 x0 7)) (word arg1 harg1 x0 8) (word arg1 harg1 x0 9) (word arg1 harg1 x0 10) (word arg1 harg1 x0 11) (word arg1 harg1 x0 12) (word arg1 harg1 x0 13) (word arg1 harg1 x0 14) (word arg1 harg1 x0 15)) (k0_pay52 (F := F) (iota .tc S8x1280 32 [1] iota_S8x1280_d1_w32) (word arg1 harg1 x0 16)) (0#32) (word arg1 harg1 x0 17) (word arg1 harg1 x0 18) (word arg1 harg1 x0 19) (word arg1 harg1 x0 20) (word arg1 harg1 x0 21) (word arg1 harg1 x0 22) (word arg1 harg1 x0 23) (word arg1 harg1 x0 24)) (word arg1 harg1 x0 25) (word arg1 harg1 x0 26) (word arg1 harg1 x0 27) (word arg1 harg1 x0 28) (word arg1 harg1 x0 29) (word arg1 harg1 x0 30) (word arg1 harg1 x0 31) (word arg1 harg1 x0 32)) (k0_pay55 (F := F) (iota .tc S8x1280 32 [1] iota_S8x1280_d1_w32) (word arg1 harg1 x0 33)) (k0_pay56) (word arg1 harg1 x0 34) (word arg1 harg1 x0 35)

end Cert.Kernel.Body

end
-- ==== Proof.Kernel.PrepParts.lean ====
/- What each stretch of the first grid point's preparation leaves. -/
module

public import proofs.«01_k».proof.Proof.Kernel.PrepDefs

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- A stretch of the preparation (part 11): what it returns and what it leaves in the two scratch buffers. -/
theorem part11 (c : Dev nD) (i : grid0.Coords) (arg1 : Memref sig .tc .smem S36 .i32) (harg1 : arg1.IsWhole) (arg2 : Memref sig .tc .smem S10x40 .f32) (harg2 : arg2.IsWhole) (arg3 : Memref sig .tc .vmem S512x1280 .bf16) (harg3 : arg3.IsWhole) (arg4 : Memref sig .tc .vmem S36x5120 .bf16) (harg4 : arg4.IsWhole) (arg5 : Memref sig .tc .vmem S1280x5120 .fp8e4m3) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S512x5120 .bf16) (harg8 : arg8.IsWhole) (arg9 : Memref sig .tc .vmem S512x1280 .fp8e4m3) (harg9 : arg9.IsWhole) (arg10 : Memref sig .tc .vmem S512x10 .f32) (harg10 : arg10.IsWhole) (arg11 : Memref sig .tc .vmem S512x5120 .fp8e4m3) (harg11 : arg11.IsWhole) (arg12 : Memref sig .tc .vmem S512x40 .f32) (harg12 : arg12.IsWhole) (arg13 : Memref sig .tc .vmem S1280x5120 .bf16) (harg13 : arg13.IsWhole) (arg14 : Memref sig .tc .vmem S512x1280 .bf16) (harg14 : arg14.IsWhole) (arg15 : Memref sig .tc .vmem S8x1280 .i32) (harg15 : arg15.IsWhole) (hc : k0_cond1 i = 1#1)
    (x0 : Vec F S36 .i32) (x1 : Vec F S10x40 .f32) (x3 : Vec F S36x5120 .bf16) (x4 : Vec F S1280x5120 .fp8e4m3)
    (hw : ∀ j, k0_chk1 i (word arg1 harg1 x0 j)) (E : Set ℕ) (f : BufTy.Contents (Elt F) arg13.view.ty) (g : BufTy.Contents (Elt F) arg15.view.ty) :
    (iprop((arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (arg13.view.loc (c : Thread nD τ) ↦[arg13.view.set]{fullShare} f) ∗ (arg15.view.loc (c : Thread nD τ) ↦[arg15.view.set]{fullShare} g)) : sProp 𝕄)
      ⊢ wp frame (wpE (defs₀ (F := F)) Variants.none c none) E (k0_part11 i arg1 harg1 arg2 harg2 arg3 harg3 arg4 harg4 arg5 harg5 arg6 harg6 arg7 harg7 arg8 harg8 arg9 harg9 arg10 harg10 arg11 harg11 arg12 harg12 arg13 harg13 arg14 harg14 arg15 harg15 )
          (fun r => iprop(⌜r = ⟨(iota .tc S8x1280 32 [1] iota_S8x1280_d1_w32), k0_pay50 (F := F) (word arg1 harg1 x0 0) (word arg1 harg1 x0 1) (word arg1 harg1 x0 2) (word arg1 harg1 x0 3) (word arg1 harg1 x0 4) (word arg1 harg1 x0 5) (word arg1 harg1 x0 6) (word arg1 harg1 x0 7)⟩⌝ ∗ (arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (∃ f', ⌜f' = f⌝ ∗ (arg13.view.loc (c : Thread nD τ) ↦[arg13.view.set]{fullShare} f')) ∗ (∃ g', ⌜g' = g⌝ ∗ (arg15.view.loc (c : Thread nD τ) ↦[arg15.view.set]{fullShare} g')))) := by
  rw [k0_part11_eq_skeleton]
  unfold k0_part11_skel
  iintro ⟨H1, H2, H4, H5, H13, H15⟩
  sl_exec
  sl_step
  isplitr
  · ipureintro; sl_kernel_rfl
  isplitl [H1]; · iexact H1
  isplitl [H2]; · iexact H2
  isplitl [H4]; · iexact H4
  isplitl [H5]; · iexact H5
  isplitl [H13]
  · iexists _; isplitr; swap; · iexact H13
    ipureintro; sl_kernel_rfl
  iexists _; isplitr; swap; · iexact H15
  ipureintro; sl_kernel_rfl

set_option maxHeartbeats 1000000 in
/-- A stretch of the preparation (part 12): what it returns and what it leaves in the two scratch buffers. -/
theorem part12 (c : Dev nD) (i : grid0.Coords) (arg1 : Memref sig .tc .smem S36 .i32) (harg1 : arg1.IsWhole) (arg2 : Memref sig .tc .smem S10x40 .f32) (harg2 : arg2.IsWhole) (arg3 : Memref sig .tc .vmem S512x1280 .bf16) (harg3 : arg3.IsWhole) (arg4 : Memref sig .tc .vmem S36x5120 .bf16) (harg4 : arg4.IsWhole) (arg5 : Memref sig .tc .vmem S1280x5120 .fp8e4m3) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S512x5120 .bf16) (harg8 : arg8.IsWhole) (arg9 : Memref sig .tc .vmem S512x1280 .fp8e4m3) (harg9 : arg9.IsWhole) (arg10 : Memref sig .tc .vmem S512x10 .f32) (harg10 : arg10.IsWhole) (arg11 : Memref sig .tc .vmem S512x5120 .fp8e4m3) (harg11 : arg11.IsWhole) (arg12 : Memref sig .tc .vmem S512x40 .f32) (harg12 : arg12.IsWhole) (arg13 : Memref sig .tc .vmem S1280x5120 .bf16) (harg13 : arg13.IsWhole) (arg14 : Memref sig .tc .vmem S512x1280 .bf16) (harg14 : arg14.IsWhole) (arg15 : Memref sig .tc .vmem S8x1280 .i32) (harg15 : arg15.IsWhole) (hc : k0_cond1 i = 1#1)
    (x0 : Vec F S36 .i32) (x1 : Vec F S10x40 .f32) (x3 : Vec F S36x5120 .bf16) (x4 : Vec F S1280x5120 .fp8e4m3)
    (hw : ∀ j, k0_chk1 i (word arg1 harg1 x0 j)) (E : Set ℕ) (f : BufTy.Contents (Elt F) arg13.view.ty) (g : BufTy.Contents (Elt F) arg15.view.ty) :
    (iprop((arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (arg13.view.loc (c : Thread nD τ) ↦[arg13.view.set]{fullShare} f) ∗ (arg15.view.loc (c : Thread nD τ) ↦[arg15.view.set]{fullShare} g)) : sProp 𝕄)
      ⊢ wp frame (wpE (defs₀ (F := F)) Variants.none c none) E (k0_part12 i arg1 harg1 arg2 harg2 arg3 harg3 arg4 harg4 arg5 harg5 arg6 harg6 arg7 harg7 arg8 harg8 arg9 harg9 arg10 harg10 arg11 harg11 arg12 harg12 arg13 harg13 arg14 harg14 arg15 harg15 ((iota .tc S8x1280 32 [1] iota_S8x1280_d1_w32)) ((k0_pay50 (F := F) (word arg1 harg1 x0 0) (word arg1 harg1 x0 1) (word arg1 harg1 x0 2) (word arg1 harg1 x0 3) (word arg1 harg1 x0 4) (word arg1 harg1 x0 5) (word arg1 harg1 x0 6) (word arg1 harg1 x0 7))))
          (fun r => iprop(⌜r = ⟨k0_pay51 (F := F) (iota .tc S8x1280 32 [1] iota_S8x1280_d1_w32) (k0_pay50 (F := F) (word arg1 harg1 x0 0) (word arg1 harg1 x0 1) (word arg1 harg1 x0 2) (word arg1 harg1 x0 3) (word arg1 harg1 x0 4) (word arg1 harg1 x0 5) (word arg1 harg1 x0 6) (word arg1 harg1 x0 7)) (word arg1 harg1 x0 8) (word arg1 harg1 x0 9) (word arg1 harg1 x0 10) (word arg1 harg1 x0 11) (word arg1 harg1 x0 12) (word arg1 harg1 x0 13) (word arg1 harg1 x0 14) (word arg1 harg1 x0 15), k0_pay52 (F := F) (iota .tc S8x1280 32 [1] iota_S8x1280_d1_w32) (word arg1 harg1 x0 16), 0#32⟩⌝ ∗ (arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (∃ f', ⌜f' = f⌝ ∗ (arg13.view.loc (c : Thread nD τ) ↦[arg13.view.set]{fullShare} f')) ∗ (∃ g', ⌜g' = g⌝ ∗ (arg15.view.loc (c : Thread nD τ) ↦[arg15.view.set]{fullShare} g')))) := by
  rw [k0_part12_eq_skeleton]
  unfold k0_part12_skel
  iintro ⟨H1, H2, H4, H5, H13, H15⟩
  sl_exec
  sl_step
  isplitr
  · ipureintro; sl_kernel_rfl
  isplitl [H1]; · iexact H1
  isplitl [H2]; · iexact H2
  isplitl [H4]; · iexact H4
  isplitl [H5]; · iexact H5
  isplitl [H13]
  · iexists _; isplitr; swap; · iexact H13
    ipureintro; sl_kernel_rfl
  iexists _; isplitr; swap; · iexact H15
  ipureintro; sl_kernel_rfl

set_option maxHeartbeats 1000000 in
/-- A stretch of the preparation (part 13): what it returns and what it leaves in the two scratch buffers. -/
theorem part13 (c : Dev nD) (i : grid0.Coords) (arg1 : Memref sig .tc .smem S36 .i32) (harg1 : arg1.IsWhole) (arg2 : Memref sig .tc .smem S10x40 .f32) (harg2 : arg2.IsWhole) (arg3 : Memref sig .tc .vmem S512x1280 .bf16) (harg3 : arg3.IsWhole) (arg4 : Memref sig .tc .vmem S36x5120 .bf16) (harg4 : arg4.IsWhole) (arg5 : Memref sig .tc .vmem S1280x5120 .fp8e4m3) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S512x5120 .bf16) (harg8 : arg8.IsWhole) (arg9 : Memref sig .tc .vmem S512x1280 .fp8e4m3) (harg9 : arg9.IsWhole) (arg10 : Memref sig .tc .vmem S512x10 .f32) (harg10 : arg10.IsWhole) (arg11 : Memref sig .tc .vmem S512x5120 .fp8e4m3) (harg11 : arg11.IsWhole) (arg12 : Memref sig .tc .vmem S512x40 .f32) (harg12 : arg12.IsWhole) (arg13 : Memref sig .tc .vmem S1280x5120 .bf16) (harg13 : arg13.IsWhole) (arg14 : Memref sig .tc .vmem S512x1280 .bf16) (harg14 : arg14.IsWhole) (arg15 : Memref sig .tc .vmem S8x1280 .i32) (harg15 : arg15.IsWhole) (hc : k0_cond1 i = 1#1)
    (x0 : Vec F S36 .i32) (x1 : Vec F S10x40 .f32) (x3 : Vec F S36x5120 .bf16) (x4 : Vec F S1280x5120 .fp8e4m3)
    (hw : ∀ j, k0_chk1 i (word arg1 harg1 x0 j)) (E : Set ℕ) (f : BufTy.Contents (Elt F) arg13.view.ty) (g : BufTy.Contents (Elt F) arg15.view.ty) :
    (iprop((arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (arg13.view.loc (c : Thread nD τ) ↦[arg13.view.set]{fullShare} f) ∗ (arg15.view.loc (c : Thread nD τ) ↦[arg15.view.set]{fullShare} g)) : sProp 𝕄)
      ⊢ wp frame (wpE (defs₀ (F := F)) Variants.none c none) E (k0_part13 i arg1 harg1 arg2 harg2 arg3 harg3 arg4 harg4 arg5 harg5 arg6 harg6 arg7 harg7 arg8 harg8 arg9 harg9 arg10 harg10 arg11 harg11 arg12 harg12 arg13 harg13 arg14 harg14 arg15 harg15 ((iota .tc S8x1280 32 [1] iota_S8x1280_d1_w32)) ((k0_pay51 (F := F) (iota .tc S8x1280 32 [1] iota_S8x1280_d1_w32) (k0_pay50 (F := F) (word arg1 harg1 x0 0) (word arg1 harg1 x0 1) (word arg1 harg1 x0 2) (word arg1 harg1 x0 3) (word arg1 harg1 x0 4) (word arg1 harg1 x0 5) (word arg1 harg1 x0 6) (word arg1 harg1 x0 7)) (word arg1 harg1 x0 8) (word arg1 harg1 x0 9) (word arg1 harg1 x0 10) (word arg1 harg1 x0 11) (word arg1 harg1 x0 12) (word arg1 harg1 x0 13) (word arg1 harg1 x0 14) (word arg1 harg1 x0 15))) ((k0_pay52 (F := F) (iota .tc S8x1280 32 [1] iota_S8x1280_d1_w32) (word arg1 harg1 x0 16))) ((0#32)))
          (fun r => iprop(⌜r = ⟨k0_pay53 (F := F) (iota .tc S8x1280 32 [1] iota_S8x1280_d1_w32) (k0_pay51 (F := F) (iota .tc S8x1280 32 [1] iota_S8x1280_d1_w32) (k0_pay50 (F := F) (word arg1 harg1 x0 0) (word arg1 harg1 x0 1) (word arg1 harg1 x0 2) (word arg1 harg1 x0 3) (word arg1 harg1 x0 4) (word arg1 harg1 x0 5) (word arg1 harg1 x0 6) (word arg1 harg1 x0 7)) (word arg1 harg1 x0 8) (word arg1 harg1 x0 9) (word arg1 harg1 x0 10) (word arg1 harg1 x0 11) (word arg1 harg1 x0 12) (word arg1 harg1 x0 13) (word arg1 harg1 x0 14) (word arg1 harg1 x0 15)) (k0_pay52 (F := F) (iota .tc S8x1280 32 [1] iota_S8x1280_d1_w32) (word arg1 harg1 x0 16)) (0#32) (word arg1 harg1 x0 17) (word arg1 harg1 x0 18) (word arg1 harg1 x0 19) (word arg1 harg1 x0 20) (word arg1 harg1 x0 21) (word arg1 harg1 x0 22) (word arg1 harg1 x0 23) (word arg1 harg1 x0 24), (word arg1 harg1 x0 25)⟩⌝ ∗ (arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (∃ f', ⌜f' = f⌝ ∗ (arg13.view.loc (c : Thread nD τ) ↦[arg13.view.set]{fullShare} f')) ∗ (∃ g', ⌜g' = g⌝ ∗ (arg15.view.loc (c : Thread nD τ) ↦[arg15.view.set]{fullShare} g')))) := by
  rw [k0_part13_eq_skeleton]
  unfold k0_part13_skel
  iintro ⟨H1, H2, H4, H5, H13, H15⟩
  sl_exec
  sl_step
  isplitr
  · ipureintro; sl_kernel_rfl
  isplitl [H1]; · iexact H1
  isplitl [H2]; · iexact H2
  isplitl [H4]; · iexact H4
  isplitl [H5]; · iexact H5
  isplitl [H13]
  · iexists _; isplitr; swap; · iexact H13
    ipureintro; sl_kernel_rfl
  iexists _; isplitr; swap; · iexact H15
  ipureintro; sl_kernel_rfl

set_option maxHeartbeats 1000000 in
/-- A stretch of the preparation (part 14): what it returns and what it leaves in the two scratch buffers. -/
theorem part14 (c : Dev nD) (i : grid0.Coords) (arg1 : Memref sig .tc .smem S36 .i32) (harg1 : arg1.IsWhole) (arg2 : Memref sig .tc .smem S10x40 .f32) (harg2 : arg2.IsWhole) (arg3 : Memref sig .tc .vmem S512x1280 .bf16) (harg3 : arg3.IsWhole) (arg4 : Memref sig .tc .vmem S36x5120 .bf16) (harg4 : arg4.IsWhole) (arg5 : Memref sig .tc .vmem S1280x5120 .fp8e4m3) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S512x5120 .bf16) (harg8 : arg8.IsWhole) (arg9 : Memref sig .tc .vmem S512x1280 .fp8e4m3) (harg9 : arg9.IsWhole) (arg10 : Memref sig .tc .vmem S512x10 .f32) (harg10 : arg10.IsWhole) (arg11 : Memref sig .tc .vmem S512x5120 .fp8e4m3) (harg11 : arg11.IsWhole) (arg12 : Memref sig .tc .vmem S512x40 .f32) (harg12 : arg12.IsWhole) (arg13 : Memref sig .tc .vmem S1280x5120 .bf16) (harg13 : arg13.IsWhole) (arg14 : Memref sig .tc .vmem S512x1280 .bf16) (harg14 : arg14.IsWhole) (arg15 : Memref sig .tc .vmem S8x1280 .i32) (harg15 : arg15.IsWhole) (hc : k0_cond1 i = 1#1)
    (x0 : Vec F S36 .i32) (x1 : Vec F S10x40 .f32) (x3 : Vec F S36x5120 .bf16) (x4 : Vec F S1280x5120 .fp8e4m3)
    (hw : ∀ j, k0_chk1 i (word arg1 harg1 x0 j)) (E : Set ℕ) (f : BufTy.Contents (Elt F) arg13.view.ty) (g : BufTy.Contents (Elt F) arg15.view.ty) :
    (iprop((arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (arg13.view.loc (c : Thread nD τ) ↦[arg13.view.set]{fullShare} f) ∗ (arg15.view.loc (c : Thread nD τ) ↦[arg15.view.set]{fullShare} g)) : sProp 𝕄)
      ⊢ wp frame (wpE (defs₀ (F := F)) Variants.none c none) E (k0_part14 i arg1 harg1 arg2 harg2 arg3 harg3 arg4 harg4 arg5 harg5 arg6 harg6 arg7 harg7 arg8 harg8 arg9 harg9 arg10 harg10 arg11 harg11 arg12 harg12 arg13 harg13 arg14 harg14 arg15 harg15 ((iota .tc S8x1280 32 [1] iota_S8x1280_d1_w32)) ((k0_pay53 (F := F) (iota .tc S8x1280 32 [1] iota_S8x1280_d1_w32) (k0_pay51 (F := F) (iota .tc S8x1280 32 [1] iota_S8x1280_d1_w32) (k0_pay50 (F := F) (word arg1 harg1 x0 0) (word arg1 harg1 x0 1) (word arg1 harg1 x0 2) (word arg1 harg1 x0 3) (word arg1 harg1 x0 4) (word arg1 harg1 x0 5) (word arg1 harg1 x0 6) (word arg1 harg1 x0 7)) (word arg1 harg1 x0 8) (word arg1 harg1 x0 9) (word arg1 harg1 x0 10) (word arg1 harg1 x0 11) (word arg1 harg1 x0 12) (word arg1 harg1 x0 13) (word arg1 harg1 x0 14) (word arg1 harg1 x0 15)) (k0_pay52 (F := F) (iota .tc S8x1280 32 [1] iota_S8x1280_d1_w32) (word arg1 harg1 x0 16)) (0#32) (word arg1 harg1 x0 17) (word arg1 harg1 x0 18) (word arg1 harg1 x0 19) (word arg1 harg1 x0 20) (word arg1 harg1 x0 21) (word arg1 harg1 x0 22) (word arg1 harg1 x0 23) (word arg1 harg1 x0 24))) ((word arg1 harg1 x0 25)))
          (fun r => iprop(⌜r = ⟨k0_pay54 (F := F) (iota .tc S8x1280 32 [1] iota_S8x1280_d1_w32) (k0_pay53 (F := F) (iota .tc S8x1280 32 [1] iota_S8x1280_d1_w32) (k0_pay51 (F := F) (iota .tc S8x1280 32 [1] iota_S8x1280_d1_w32) (k0_pay50 (F := F) (word arg1 harg1 x0 0) (word arg1 harg1 x0 1) (word arg1 harg1 x0 2) (word arg1 harg1 x0 3) (word arg1 harg1 x0 4) (word arg1 harg1 x0 5) (word arg1 harg1 x0 6) (word arg1 harg1 x0 7)) (word arg1 harg1 x0 8) (word arg1 harg1 x0 9) (word arg1 harg1 x0 10) (word arg1 harg1 x0 11) (word arg1 harg1 x0 12) (word arg1 harg1 x0 13) (word arg1 harg1 x0 14) (word arg1 harg1 x0 15)) (k0_pay52 (F := F) (iota .tc S8x1280 32 [1] iota_S8x1280_d1_w32) (word arg1 harg1 x0 16)) (0#32) (word arg1 harg1 x0 17) (word arg1 harg1 x0 18) (word arg1 harg1 x0 19) (word arg1 harg1 x0 20) (word arg1 harg1 x0 21) (word arg1 harg1 x0 22) (word arg1 harg1 x0 23) (word arg1 harg1 x0 24)) (word arg1 harg1 x0 25) (word arg1 harg1 x0 26) (word arg1 harg1 x0 27) (word arg1 harg1 x0 28) (word arg1 harg1 x0 29) (word arg1 harg1 x0 30) (word arg1 harg1 x0 31) (word arg1 harg1 x0 32), k0_pay55 (F := F) (iota .tc S8x1280 32 [1] iota_S8x1280_d1_w32) (word arg1 harg1 x0 33), k0_pay56⟩⌝ ∗ (arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (∃ f', ⌜f' = f⌝ ∗ (arg13.view.loc (c : Thread nD τ) ↦[arg13.view.set]{fullShare} f')) ∗ (∃ g', ⌜g' = g⌝ ∗ (arg15.view.loc (c : Thread nD τ) ↦[arg15.view.set]{fullShare} g')))) := by
  rw [k0_part14_eq_skeleton]
  unfold k0_part14_skel
  iintro ⟨H1, H2, H4, H5, H13, H15⟩
  sl_exec
  sl_step
  isplitr
  · ipureintro; sl_kernel_rfl
  isplitl [H1]; · iexact H1
  isplitl [H2]; · iexact H2
  isplitl [H4]; · iexact H4
  isplitl [H5]; · iexact H5
  isplitl [H13]
  · iexists _; isplitr; swap; · iexact H13
    ipureintro; sl_kernel_rfl
  iexists _; isplitr; swap; · iexact H15
  ipureintro; sl_kernel_rfl

set_option maxHeartbeats 1000000 in
/-- A stretch of the preparation (part 15): what it returns and what it leaves in the two scratch buffers. -/
theorem part15 (c : Dev nD) (i : grid0.Coords) (arg1 : Memref sig .tc .smem S36 .i32) (harg1 : arg1.IsWhole) (arg2 : Memref sig .tc .smem S10x40 .f32) (harg2 : arg2.IsWhole) (arg3 : Memref sig .tc .vmem S512x1280 .bf16) (harg3 : arg3.IsWhole) (arg4 : Memref sig .tc .vmem S36x5120 .bf16) (harg4 : arg4.IsWhole) (arg5 : Memref sig .tc .vmem S1280x5120 .fp8e4m3) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S512x5120 .bf16) (harg8 : arg8.IsWhole) (arg9 : Memref sig .tc .vmem S512x1280 .fp8e4m3) (harg9 : arg9.IsWhole) (arg10 : Memref sig .tc .vmem S512x10 .f32) (harg10 : arg10.IsWhole) (arg11 : Memref sig .tc .vmem S512x5120 .fp8e4m3) (harg11 : arg11.IsWhole) (arg12 : Memref sig .tc .vmem S512x40 .f32) (harg12 : arg12.IsWhole) (arg13 : Memref sig .tc .vmem S1280x5120 .bf16) (harg13 : arg13.IsWhole) (arg14 : Memref sig .tc .vmem S512x1280 .bf16) (harg14 : arg14.IsWhole) (arg15 : Memref sig .tc .vmem S8x1280 .i32) (harg15 : arg15.IsWhole) (hc : k0_cond1 i = 1#1)
    (x0 : Vec F S36 .i32) (x1 : Vec F S10x40 .f32) (x3 : Vec F S36x5120 .bf16) (x4 : Vec F S1280x5120 .fp8e4m3)
    (hw : ∀ j, k0_chk1 i (word arg1 harg1 x0 j)) (E : Set ℕ) (f : BufTy.Contents (Elt F) arg13.view.ty) (g : BufTy.Contents (Elt F) arg15.view.ty) :
    (iprop((arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (arg13.view.loc (c : Thread nD τ) ↦[arg13.view.set]{fullShare} f) ∗ (arg15.view.loc (c : Thread nD τ) ↦[arg15.view.set]{fullShare} g)) : sProp 𝕄)
      ⊢ wp frame (wpE (defs₀ (F := F)) Variants.none c none) E (k0_part15 i arg1 harg1 arg2 harg2 arg3 harg3 arg4 harg4 arg5 harg5 arg6 harg6 arg7 harg7 arg8 harg8 arg9 harg9 arg10 harg10 arg11 harg11 arg12 harg12 arg13 harg13 arg14 harg14 arg15 harg15 (hc) ((iota .tc S8x1280 32 [1] iota_S8x1280_d1_w32)) ((k0_pay54 (F := F) (iota .tc S8x1280 32 [1] iota_S8x1280_d1_w32) (k0_pay53 (F := F) (iota .tc S8x1280 32 [1] iota_S8x1280_d1_w32) (k0_pay51 (F := F) (iota .tc S8x1280 32 [1] iota_S8x1280_d1_w32) (k0_pay50 (F := F) (word arg1 harg1 x0 0) (word arg1 harg1 x0 1) (word arg1 harg1 x0 2) (word arg1 harg1 x0 3) (word arg1 harg1 x0 4) (word arg1 harg1 x0 5) (word arg1 harg1 x0 6) (word arg1 harg1 x0 7)) (word arg1 harg1 x0 8) (word arg1 harg1 x0 9) (word arg1 harg1 x0 10) (word arg1 harg1 x0 11) (word arg1 harg1 x0 12) (word arg1 harg1 x0 13) (word arg1 harg1 x0 14) (word arg1 harg1 x0 15)) (k0_pay52 (F := F) (iota .tc S8x1280 32 [1] iota_S8x1280_d1_w32) (word arg1 harg1 x0 16)) (0#32) (word arg1 harg1 x0 17) (word arg1 harg1 x0 18) (word arg1 harg1 x0 19) (word arg1 harg1 x0 20) (word arg1 harg1 x0 21) (word arg1 harg1 x0 22) (word arg1 harg1 x0 23) (word arg1 harg1 x0 24)) (word arg1 harg1 x0 25) (word arg1 harg1 x0 26) (word arg1 harg1 x0 27) (word arg1 harg1 x0 28) (word arg1 harg1 x0 29) (word arg1 harg1 x0 30) (word arg1 harg1 x0 31) (word arg1 harg1 x0 32))) ((k0_pay55 (F := F) (iota .tc S8x1280 32 [1] iota_S8x1280_d1_w32) (word arg1 harg1 x0 33))) ((k0_pay56)))
          (fun r => iprop(⌜r = ⟨(iota .tc S2x5120 32 [0] iota_S2x5120_d0_w32), (word arg1 harg1 x0 1), (hw 1), (Scalar.shrui (word arg1 harg1 x0 1) 1#32)⟩⌝ ∗ (arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (∃ f', ⌜f' = (rowStep hc arg1 harg1 arg4 harg4 arg13 x0 x3 hw 0 (loopC c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x1 x4 (iota .tc S8x1280 32 [1] iota_S8x1280_d1_w32) (k0_pay54 (F := F) (iota .tc S8x1280 32 [1] iota_S8x1280_d1_w32) (k0_pay53 (F := F) (iota .tc S8x1280 32 [1] iota_S8x1280_d1_w32) (k0_pay51 (F := F) (iota .tc S8x1280 32 [1] iota_S8x1280_d1_w32) (k0_pay50 (F := F) (word arg1 harg1 x0 0) (word arg1 harg1 x0 1) (word arg1 harg1 x0 2) (word arg1 harg1 x0 3) (word arg1 harg1 x0 4) (word arg1 harg1 x0 5) (word arg1 harg1 x0 6) (word arg1 harg1 x0 7)) (word arg1 harg1 x0 8) (word arg1 harg1 x0 9) (word arg1 harg1 x0 10) (word arg1 harg1 x0 11) (word arg1 harg1 x0 12) (word arg1 harg1 x0 13) (word arg1 harg1 x0 14) (word arg1 harg1 x0 15)) (k0_pay52 (F := F) (iota .tc S8x1280 32 [1] iota_S8x1280_d1_w32) (word arg1 harg1 x0 16)) (0#32) (word arg1 harg1 x0 17) (word arg1 harg1 x0 18) (word arg1 harg1 x0 19) (word arg1 harg1 x0 20) (word arg1 harg1 x0 21) (word arg1 harg1 x0 22) (word arg1 harg1 x0 23) (word arg1 harg1 x0 24)) (word arg1 harg1 x0 25) (word arg1 harg1 x0 26) (word arg1 harg1 x0 27) (word arg1 harg1 x0 28) (word arg1 harg1 x0 29) (word arg1 harg1 x0 30) (word arg1 harg1 x0 31) (word arg1 harg1 x0 32)) (k0_pay55 (F := F) (iota .tc S8x1280 32 [1] iota_S8x1280_d1_w32) (word arg1 harg1 x0 33)) (k0_pay56) f))⌝ ∗ (arg13.view.loc (c : Thread nD τ) ↦[arg13.view.set]{fullShare} f')) ∗ (∃ g', ⌜g' = arg15.view.writes (Elt F) arg15.view.junk [⟨Rect.unit (s := S8x1280) ![0, 0] S8x1280.size inb_S8x1280_S8x1280_0_0, (k0_pay57 (F := F) (iota .tc S8x1280 32 [1] iota_S8x1280_d1_w32) (k0_pay54 (F := F) (iota .tc S8x1280 32 [1] iota_S8x1280_d1_w32) (k0_pay53 (F := F) (iota .tc S8x1280 32 [1] iota_S8x1280_d1_w32) (k0_pay51 (F := F) (iota .tc S8x1280 32 [1] iota_S8x1280_d1_w32) (k0_pay50 (F := F) (word arg1 harg1 x0 0) (word arg1 harg1 x0 1) (word arg1 harg1 x0 2) (word arg1 harg1 x0 3) (word arg1 harg1 x0 4) (word arg1 harg1 x0 5) (word arg1 harg1 x0 6) (word arg1 harg1 x0 7)) (word arg1 harg1 x0 8) (word arg1 harg1 x0 9) (word arg1 harg1 x0 10) (word arg1 harg1 x0 11) (word arg1 harg1 x0 12) (word arg1 harg1 x0 13) (word arg1 harg1 x0 14) (word arg1 harg1 x0 15)) (k0_pay52 (F := F) (iota .tc S8x1280 32 [1] iota_S8x1280_d1_w32) (word arg1 harg1 x0 16)) (0#32) (word arg1 harg1 x0 17) (word arg1 harg1 x0 18) (word arg1 harg1 x0 19) (word arg1 harg1 x0 20) (word arg1 harg1 x0 21) (word arg1 harg1 x0 22) (word arg1 harg1 x0 23) (word arg1 harg1 x0 24)) (word arg1 harg1 x0 25) (word arg1 harg1 x0 26) (word arg1 harg1 x0 27) (word arg1 harg1 x0 28) (word arg1 harg1 x0 29) (word arg1 harg1 x0 30) (word arg1 harg1 x0 31) (word arg1 harg1 x0 32)) (k0_pay55 (F := F) (iota .tc S8x1280 32 [1] iota_S8x1280_d1_w32) (word arg1 harg1 x0 33)) (k0_pay56) (word arg1 harg1 x0 34) (word arg1 harg1 x0 35))⟩]⌝ ∗ (arg15.view.loc (c : Thread nD τ) ↦[arg15.view.set]{fullShare} g')))) := by
  rw [k0_part15_eq_skeleton]
  unfold k0_part15_skel
  have hw1 : k0_chk1 i (arg1.view.readAt (Elt F) (Rect.unit (s := S36) ![0] S1.size inb_S36_S1_0).toLoadRect (harg1.unread x0) (Shape.Idx.first (numel1_S1.symm ▸ Nat.one_pos))) := hw 0
  have hw2 : k0_chk2 i (arg1.view.readAt (Elt F) (Rect.unit (s := S36) ![1] S1.size inb_S36_S1_1).toLoadRect (harg1.unread x0) (Shape.Idx.first (numel1_S1.symm ▸ Nat.one_pos))) := hw 1
  iintro ⟨H1, H2, H4, H5, H13, H15⟩
  sl_exec (disch := first | sl_exact hw1 | sl_exact hw2)
  sl_step
  isplitr
  · ipureintro; sl_kernel_rfl
  isplitl [H1]; · iexact H1
  isplitl [H2]; · iexact H2
  isplitl [H4]; · iexact H4
  isplitl [H5]; · iexact H5
  isplitl [H13]
  · iexists _; isplitr; swap; · iexact H13
    ipureintro; sl_kernel_rfl
  iexists _; isplitr; swap; · iexact H15
  ipureintro; sl_kernel_rfl

set_option maxHeartbeats 1000000 in
/-- A stretch of the preparation (part 16): what it returns and what it leaves in the two scratch buffers. -/
theorem part16 (c : Dev nD) (i : grid0.Coords) (arg1 : Memref sig .tc .smem S36 .i32) (harg1 : arg1.IsWhole) (arg2 : Memref sig .tc .smem S10x40 .f32) (harg2 : arg2.IsWhole) (arg3 : Memref sig .tc .vmem S512x1280 .bf16) (harg3 : arg3.IsWhole) (arg4 : Memref sig .tc .vmem S36x5120 .bf16) (harg4 : arg4.IsWhole) (arg5 : Memref sig .tc .vmem S1280x5120 .fp8e4m3) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S512x5120 .bf16) (harg8 : arg8.IsWhole) (arg9 : Memref sig .tc .vmem S512x1280 .fp8e4m3) (harg9 : arg9.IsWhole) (arg10 : Memref sig .tc .vmem S512x10 .f32) (harg10 : arg10.IsWhole) (arg11 : Memref sig .tc .vmem S512x5120 .fp8e4m3) (harg11 : arg11.IsWhole) (arg12 : Memref sig .tc .vmem S512x40 .f32) (harg12 : arg12.IsWhole) (arg13 : Memref sig .tc .vmem S1280x5120 .bf16) (harg13 : arg13.IsWhole) (arg14 : Memref sig .tc .vmem S512x1280 .bf16) (harg14 : arg14.IsWhole) (arg15 : Memref sig .tc .vmem S8x1280 .i32) (harg15 : arg15.IsWhole) (hc : k0_cond1 i = 1#1)
    (x0 : Vec F S36 .i32) (x1 : Vec F S10x40 .f32) (x3 : Vec F S36x5120 .bf16) (x4 : Vec F S1280x5120 .fp8e4m3)
    (hw : ∀ j, k0_chk1 i (word arg1 harg1 x0 j)) (E : Set ℕ) (f : BufTy.Contents (Elt F) arg13.view.ty) (g : BufTy.Contents (Elt F) arg15.view.ty) :
    (iprop((arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (arg13.view.loc (c : Thread nD τ) ↦[arg13.view.set]{fullShare} f) ∗ (arg15.view.loc (c : Thread nD τ) ↦[arg15.view.set]{fullShare} g)) : sProp 𝕄)
      ⊢ wp frame (wpE (defs₀ (F := F)) Variants.none c none) E (k0_part16 i arg1 harg1 arg2 harg2 arg3 harg3 arg4 harg4 arg5 harg5 arg6 harg6 arg7 harg7 arg8 harg8 arg9 harg9 arg10 harg10 arg11 harg11 arg12 harg12 arg13 harg13 arg14 harg14 arg15 harg15 (hc) ((iota .tc S2x5120 32 [0] iota_S2x5120_d0_w32)) ((word arg1 harg1 x0 1)) ((hw 1)) ((Scalar.shrui (word arg1 harg1 x0 1) 1#32)))
          (fun r => iprop(⌜r = ⟨(word arg1 harg1 x0 3), (hw 3), ((Scalar.muli (Scalar.shrui (word arg1 harg1 x0 3) 1#32) 2#32)), k0_pay64 (F := F) (word arg1 harg1 x0 3)⟩⌝ ∗ (arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (∃ f', ⌜f' = (rowStep hc arg1 harg1 arg4 harg4 arg13 x0 x3 hw 2 (rowStep hc arg1 harg1 arg4 harg4 arg13 x0 x3 hw 1 f))⌝ ∗ (arg13.view.loc (c : Thread nD τ) ↦[arg13.view.set]{fullShare} f')) ∗ (∃ g', ⌜g' = g⌝ ∗ (arg15.view.loc (c : Thread nD τ) ↦[arg15.view.set]{fullShare} g')))) := by
  rw [k0_part16_eq_skeleton]
  unfold k0_part16_skel
  have hw3 : k0_chk3 i (arg1.view.readAt (Elt F) (Rect.unit (s := S36) ![2] S1.size inb_S36_S1_2).toLoadRect (harg1.unread x0) (Shape.Idx.first (numel1_S1.symm ▸ Nat.one_pos))) := hw 2
  have hw4 : k0_chk4 i (arg1.view.readAt (Elt F) (Rect.unit (s := S36) ![3] S1.size inb_S36_S1_3).toLoadRect (harg1.unread x0) (Shape.Idx.first (numel1_S1.symm ▸ Nat.one_pos))) := hw 3
  iintro ⟨H1, H2, H4, H5, H13, H15⟩
  sl_exec (disch := first | sl_exact hw3 | sl_exact hw4)
  sl_step
  isplitr
  · ipureintro; sl_kernel_rfl
  isplitl [H1]; · iexact H1
  isplitl [H2]; · iexact H2
  isplitl [H4]; · iexact H4
  isplitl [H5]; · iexact H5
  isplitl [H13]
  · iexists _; isplitr; swap; · iexact H13
    ipureintro; sl_kernel_rfl
  iexists _; isplitr; swap; · iexact H15
  ipureintro; sl_kernel_rfl

set_option maxHeartbeats 1000000 in
/-- A stretch of the preparation (part 17): what it returns and what it leaves in the two scratch buffers. -/
theorem part17 (c : Dev nD) (i : grid0.Coords) (arg1 : Memref sig .tc .smem S36 .i32) (harg1 : arg1.IsWhole) (arg2 : Memref sig .tc .smem S10x40 .f32) (harg2 : arg2.IsWhole) (arg3 : Memref sig .tc .vmem S512x1280 .bf16) (harg3 : arg3.IsWhole) (arg4 : Memref sig .tc .vmem S36x5120 .bf16) (harg4 : arg4.IsWhole) (arg5 : Memref sig .tc .vmem S1280x5120 .fp8e4m3) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S512x5120 .bf16) (harg8 : arg8.IsWhole) (arg9 : Memref sig .tc .vmem S512x1280 .fp8e4m3) (harg9 : arg9.IsWhole) (arg10 : Memref sig .tc .vmem S512x10 .f32) (harg10 : arg10.IsWhole) (arg11 : Memref sig .tc .vmem S512x5120 .fp8e4m3) (harg11 : arg11.IsWhole) (arg12 : Memref sig .tc .vmem S512x40 .f32) (harg12 : arg12.IsWhole) (arg13 : Memref sig .tc .vmem S1280x5120 .bf16) (harg13 : arg13.IsWhole) (arg14 : Memref sig .tc .vmem S512x1280 .bf16) (harg14 : arg14.IsWhole) (arg15 : Memref sig .tc .vmem S8x1280 .i32) (harg15 : arg15.IsWhole) (hc : k0_cond1 i = 1#1)
    (x0 : Vec F S36 .i32) (x1 : Vec F S10x40 .f32) (x3 : Vec F S36x5120 .bf16) (x4 : Vec F S1280x5120 .fp8e4m3)
    (hw : ∀ j, k0_chk1 i (word arg1 harg1 x0 j)) (E : Set ℕ) (f : BufTy.Contents (Elt F) arg13.view.ty) (g : BufTy.Contents (Elt F) arg15.view.ty) :
    (iprop((arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (arg13.view.loc (c : Thread nD τ) ↦[arg13.view.set]{fullShare} f) ∗ (arg15.view.loc (c : Thread nD τ) ↦[arg15.view.set]{fullShare} g)) : sProp 𝕄)
      ⊢ wp frame (wpE (defs₀ (F := F)) Variants.none c none) E (k0_part17 i arg1 harg1 arg2 harg2 arg3 harg3 arg4 harg4 arg5 harg5 arg6 harg6 arg7 harg7 arg8 harg8 arg9 harg9 arg10 harg10 arg11 harg11 arg12 harg12 arg13 harg13 arg14 harg14 arg15 harg15 (hc) ((iota .tc S2x5120 32 [0] iota_S2x5120_d0_w32)) ((word arg1 harg1 x0 3)) ((hw 3)) (((Scalar.muli (Scalar.shrui (word arg1 harg1 x0 3) 1#32) 2#32))) ((k0_pay64 (F := F) (word arg1 harg1 x0 3))))
          (fun r => iprop(⌜r = ⟨(word arg1 harg1 x0 5), (hw 5), ((Scalar.muli (Scalar.shrui (word arg1 harg1 x0 5) 1#32) 2#32)), k0_pay67 (F := F) (iota .tc S2x5120 32 [0] iota_S2x5120_d0_w32) (word arg1 harg1 x0 5), (row arg4 harg4 x3 5)⟩⌝ ∗ (arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (∃ f', ⌜f' = (rowStep hc arg1 harg1 arg4 harg4 arg13 x0 x3 hw 4 (rowStep hc arg1 harg1 arg4 harg4 arg13 x0 x3 hw 3 f))⌝ ∗ (arg13.view.loc (c : Thread nD τ) ↦[arg13.view.set]{fullShare} f')) ∗ (∃ g', ⌜g' = g⌝ ∗ (arg15.view.loc (c : Thread nD τ) ↦[arg15.view.set]{fullShare} g')))) := by
  rw [k0_part17_eq_skeleton]
  unfold k0_part17_skel
  have hw5 : k0_chk5 i (arg1.view.readAt (Elt F) (Rect.unit (s := S36) ![4] S1.size inb_S36_S1_4).toLoadRect (harg1.unread x0) (Shape.Idx.first (numel1_S1.symm ▸ Nat.one_pos))) := hw 4
  have hw6 : k0_chk6 i (arg1.view.readAt (Elt F) (Rect.unit (s := S36) ![5] S1.size inb_S36_S1_5).toLoadRect (harg1.unread x0) (Shape.Idx.first (numel1_S1.symm ▸ Nat.one_pos))) := hw 5
  iintro ⟨H1, H2, H4, H5, H13, H15⟩
  sl_exec (disch := first | sl_exact hw5 | sl_exact hw6)
  sl_step
  isplitr
  · ipureintro; sl_kernel_rfl
  isplitl [H1]; · iexact H1
  isplitl [H2]; · iexact H2
  isplitl [H4]; · iexact H4
  isplitl [H5]; · iexact H5
  isplitl [H13]
  · iexists _; isplitr; swap; · iexact H13
    ipureintro; sl_kernel_rfl
  iexists _; isplitr; swap; · iexact H15
  ipureintro; sl_kernel_rfl

set_option maxHeartbeats 1000000 in
/-- A stretch of the preparation (part 18): what it returns and what it leaves in the two scratch buffers. -/
theorem part18 (c : Dev nD) (i : grid0.Coords) (arg1 : Memref sig .tc .smem S36 .i32) (harg1 : arg1.IsWhole) (arg2 : Memref sig .tc .smem S10x40 .f32) (harg2 : arg2.IsWhole) (arg3 : Memref sig .tc .vmem S512x1280 .bf16) (harg3 : arg3.IsWhole) (arg4 : Memref sig .tc .vmem S36x5120 .bf16) (harg4 : arg4.IsWhole) (arg5 : Memref sig .tc .vmem S1280x5120 .fp8e4m3) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S512x5120 .bf16) (harg8 : arg8.IsWhole) (arg9 : Memref sig .tc .vmem S512x1280 .fp8e4m3) (harg9 : arg9.IsWhole) (arg10 : Memref sig .tc .vmem S512x10 .f32) (harg10 : arg10.IsWhole) (arg11 : Memref sig .tc .vmem S512x5120 .fp8e4m3) (harg11 : arg11.IsWhole) (arg12 : Memref sig .tc .vmem S512x40 .f32) (harg12 : arg12.IsWhole) (arg13 : Memref sig .tc .vmem S1280x5120 .bf16) (harg13 : arg13.IsWhole) (arg14 : Memref sig .tc .vmem S512x1280 .bf16) (harg14 : arg14.IsWhole) (arg15 : Memref sig .tc .vmem S8x1280 .i32) (harg15 : arg15.IsWhole) (hc : k0_cond1 i = 1#1)
    (x0 : Vec F S36 .i32) (x1 : Vec F S10x40 .f32) (x3 : Vec F S36x5120 .bf16) (x4 : Vec F S1280x5120 .fp8e4m3)
    (hw : ∀ j, k0_chk1 i (word arg1 harg1 x0 j)) (E : Set ℕ) (f : BufTy.Contents (Elt F) arg13.view.ty) (g : BufTy.Contents (Elt F) arg15.view.ty) :
    (iprop((arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (arg13.view.loc (c : Thread nD τ) ↦[arg13.view.set]{fullShare} f) ∗ (arg15.view.loc (c : Thread nD τ) ↦[arg15.view.set]{fullShare} g)) : sProp 𝕄)
      ⊢ wp frame (wpE (defs₀ (F := F)) Variants.none c none) E (k0_part18 i arg1 harg1 arg2 harg2 arg3 harg3 arg4 harg4 arg5 harg5 arg6 harg6 arg7 harg7 arg8 harg8 arg9 harg9 arg10 harg10 arg11 harg11 arg12 harg12 arg13 harg13 arg14 harg14 arg15 harg15 (hc) ((iota .tc S2x5120 32 [0] iota_S2x5120_d0_w32)) ((word arg1 harg1 x0 5)) ((hw 5)) (((Scalar.muli (Scalar.shrui (word arg1 harg1 x0 5) 1#32) 2#32))) ((k0_pay67 (F := F) (iota .tc S2x5120 32 [0] iota_S2x5120_d0_w32) (word arg1 harg1 x0 5))) ((row arg4 harg4 x3 5)))
          (fun r => iprop(⌜r = ⟨(word arg1 harg1 x0 7), (hw 7), k0_pay70 (F := F) (iota .tc S2x5120 32 [0] iota_S2x5120_d0_w32) (word arg1 harg1 x0 7) (row arg4 harg4 x3 7) (tile hc arg1 harg1 arg13 x0 hw 7 ((rowStep hc arg1 harg1 arg4 harg4 arg13 x0 x3 hw 6 (rowStep hc arg1 harg1 arg4 harg4 arg13 x0 x3 hw 5 f))))⟩⌝ ∗ (arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (∃ f', ⌜f' = (rowStep hc arg1 harg1 arg4 harg4 arg13 x0 x3 hw 6 (rowStep hc arg1 harg1 arg4 harg4 arg13 x0 x3 hw 5 f))⌝ ∗ (arg13.view.loc (c : Thread nD τ) ↦[arg13.view.set]{fullShare} f')) ∗ (∃ g', ⌜g' = g⌝ ∗ (arg15.view.loc (c : Thread nD τ) ↦[arg15.view.set]{fullShare} g')))) := by
  rw [k0_part18_eq_skeleton]
  unfold k0_part18_skel
  have hw7 : k0_chk7 i (arg1.view.readAt (Elt F) (Rect.unit (s := S36) ![6] S1.size inb_S36_S1_6).toLoadRect (harg1.unread x0) (Shape.Idx.first (numel1_S1.symm ▸ Nat.one_pos))) := hw 6
  have hw8 : k0_chk8 i (arg1.view.readAt (Elt F) (Rect.unit (s := S36) ![7] S1.size inb_S36_S1_7).toLoadRect (harg1.unread x0) (Shape.Idx.first (numel1_S1.symm ▸ Nat.one_pos))) := hw 7
  iintro ⟨H1, H2, H4, H5, H13, H15⟩
  sl_exec (disch := first | sl_exact hw7 | sl_exact hw8)
  sl_step
  isplitr
  · ipureintro; sl_kernel_rfl
  isplitl [H1]; · iexact H1
  isplitl [H2]; · iexact H2
  isplitl [H4]; · iexact H4
  isplitl [H5]; · iexact H5
  isplitl [H13]
  · iexists _; isplitr; swap; · iexact H13
    ipureintro; sl_kernel_rfl
  iexists _; isplitr; swap; · iexact H15
  ipureintro; sl_kernel_rfl

set_option maxHeartbeats 1000000 in
/-- A stretch of the preparation (part 19): what it returns and what it leaves in the two scratch buffers. -/
theorem part19 (c : Dev nD) (i : grid0.Coords) (arg1 : Memref sig .tc .smem S36 .i32) (harg1 : arg1.IsWhole) (arg2 : Memref sig .tc .smem S10x40 .f32) (harg2 : arg2.IsWhole) (arg3 : Memref sig .tc .vmem S512x1280 .bf16) (harg3 : arg3.IsWhole) (arg4 : Memref sig .tc .vmem S36x5120 .bf16) (harg4 : arg4.IsWhole) (arg5 : Memref sig .tc .vmem S1280x5120 .fp8e4m3) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S512x5120 .bf16) (harg8 : arg8.IsWhole) (arg9 : Memref sig .tc .vmem S512x1280 .fp8e4m3) (harg9 : arg9.IsWhole) (arg10 : Memref sig .tc .vmem S512x10 .f32) (harg10 : arg10.IsWhole) (arg11 : Memref sig .tc .vmem S512x5120 .fp8e4m3) (harg11 : arg11.IsWhole) (arg12 : Memref sig .tc .vmem S512x40 .f32) (harg12 : arg12.IsWhole) (arg13 : Memref sig .tc .vmem S1280x5120 .bf16) (harg13 : arg13.IsWhole) (arg14 : Memref sig .tc .vmem S512x1280 .bf16) (harg14 : arg14.IsWhole) (arg15 : Memref sig .tc .vmem S8x1280 .i32) (harg15 : arg15.IsWhole) (hc : k0_cond1 i = 1#1)
    (x0 : Vec F S36 .i32) (x1 : Vec F S10x40 .f32) (x3 : Vec F S36x5120 .bf16) (x4 : Vec F S1280x5120 .fp8e4m3)
    (hw : ∀ j, k0_chk1 i (word arg1 harg1 x0 j)) (E : Set ℕ) (f : BufTy.Contents (Elt F) arg13.view.ty) (g : BufTy.Contents (Elt F) arg15.view.ty) :
    (iprop((arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (arg13.view.loc (c : Thread nD τ) ↦[arg13.view.set]{fullShare} f) ∗ (arg15.view.loc (c : Thread nD τ) ↦[arg15.view.set]{fullShare} g)) : sProp 𝕄)
      ⊢ wp frame (wpE (defs₀ (F := F)) Variants.none c none) E (k0_part19 i arg1 harg1 arg2 harg2 arg3 harg3 arg4 harg4 arg5 harg5 arg6 harg6 arg7 harg7 arg8 harg8 arg9 harg9 arg10 harg10 arg11 harg11 arg12 harg12 arg13 harg13 arg14 harg14 arg15 harg15 (hc) ((iota .tc S2x5120 32 [0] iota_S2x5120_d0_w32)) ((word arg1 harg1 x0 7)) ((hw 7)) ((k0_pay70 (F := F) (iota .tc S2x5120 32 [0] iota_S2x5120_d0_w32) (word arg1 harg1 x0 7) (row arg4 harg4 x3 7) (tile hc arg1 harg1 arg13 x0 hw 7 f))))
          (fun r => iprop(⌜r = (word arg1 harg1 x0 10)⌝ ∗ (arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (∃ f', ⌜f' = (rowStep hc arg1 harg1 arg4 harg4 arg13 x0 x3 hw 9 (rowStep hc arg1 harg1 arg4 harg4 arg13 x0 x3 hw 8 (rowStep hc arg1 harg1 arg4 harg4 arg13 x0 x3 hw 7 f)))⌝ ∗ (arg13.view.loc (c : Thread nD τ) ↦[arg13.view.set]{fullShare} f')) ∗ (∃ g', ⌜g' = g⌝ ∗ (arg15.view.loc (c : Thread nD τ) ↦[arg15.view.set]{fullShare} g')))) := by
  rw [k0_part19_eq_skeleton]
  unfold k0_part19_skel
  have hw9 : k0_chk9 i (arg1.view.readAt (Elt F) (Rect.unit (s := S36) ![8] S1.size inb_S36_S1_8).toLoadRect (harg1.unread x0) (Shape.Idx.first (numel1_S1.symm ▸ Nat.one_pos))) := hw 8
  have hw10 : k0_chk10 i (arg1.view.readAt (Elt F) (Rect.unit (s := S36) ![9] S1.size inb_S36_S1_9).toLoadRect (harg1.unread x0) (Shape.Idx.first (numel1_S1.symm ▸ Nat.one_pos))) := hw 9
  iintro ⟨H1, H2, H4, H5, H13, H15⟩
  sl_exec (disch := first | sl_exact hw9 | sl_exact hw10)
  sl_step
  isplitr
  · ipureintro; sl_kernel_rfl
  isplitl [H1]; · iexact H1
  isplitl [H2]; · iexact H2
  isplitl [H4]; · iexact H4
  isplitl [H5]; · iexact H5
  isplitl [H13]
  · iexists _; isplitr; swap; · iexact H13
    ipureintro; sl_kernel_rfl
  iexists _; isplitr; swap; · iexact H15
  ipureintro; sl_kernel_rfl

set_option maxHeartbeats 1000000 in
/-- A stretch of the preparation (part 20): what it returns and what it leaves in the two scratch buffers. -/
theorem part20 (c : Dev nD) (i : grid0.Coords) (arg1 : Memref sig .tc .smem S36 .i32) (harg1 : arg1.IsWhole) (arg2 : Memref sig .tc .smem S10x40 .f32) (harg2 : arg2.IsWhole) (arg3 : Memref sig .tc .vmem S512x1280 .bf16) (harg3 : arg3.IsWhole) (arg4 : Memref sig .tc .vmem S36x5120 .bf16) (harg4 : arg4.IsWhole) (arg5 : Memref sig .tc .vmem S1280x5120 .fp8e4m3) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S512x5120 .bf16) (harg8 : arg8.IsWhole) (arg9 : Memref sig .tc .vmem S512x1280 .fp8e4m3) (harg9 : arg9.IsWhole) (arg10 : Memref sig .tc .vmem S512x10 .f32) (harg10 : arg10.IsWhole) (arg11 : Memref sig .tc .vmem S512x5120 .fp8e4m3) (harg11 : arg11.IsWhole) (arg12 : Memref sig .tc .vmem S512x40 .f32) (harg12 : arg12.IsWhole) (arg13 : Memref sig .tc .vmem S1280x5120 .bf16) (harg13 : arg13.IsWhole) (arg14 : Memref sig .tc .vmem S512x1280 .bf16) (harg14 : arg14.IsWhole) (arg15 : Memref sig .tc .vmem S8x1280 .i32) (harg15 : arg15.IsWhole) (hc : k0_cond1 i = 1#1)
    (x0 : Vec F S36 .i32) (x1 : Vec F S10x40 .f32) (x3 : Vec F S36x5120 .bf16) (x4 : Vec F S1280x5120 .fp8e4m3)
    (hw : ∀ j, k0_chk1 i (word arg1 harg1 x0 j)) (E : Set ℕ) (f : BufTy.Contents (Elt F) arg13.view.ty) (g : BufTy.Contents (Elt F) arg15.view.ty) :
    (iprop((arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (arg13.view.loc (c : Thread nD τ) ↦[arg13.view.set]{fullShare} f) ∗ (arg15.view.loc (c : Thread nD τ) ↦[arg15.view.set]{fullShare} g)) : sProp 𝕄)
      ⊢ wp frame (wpE (defs₀ (F := F)) Variants.none c none) E (k0_part20 i arg1 harg1 arg2 harg2 arg3 harg3 arg4 harg4 arg5 harg5 arg6 harg6 arg7 harg7 arg8 harg8 arg9 harg9 arg10 harg10 arg11 harg11 arg12 harg12 arg13 harg13 arg14 harg14 arg15 harg15 (hc) ((iota .tc S2x5120 32 [0] iota_S2x5120_d0_w32)) ((word arg1 harg1 x0 10)))
          (fun r => iprop(⌜r = ⟨(word arg1 harg1 x0 12), (hw 12), ((Scalar.muli (Scalar.shrui (word arg1 harg1 x0 12) 1#32) 2#32))⟩⌝ ∗ (arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (∃ f', ⌜f' = (rowStep hc arg1 harg1 arg4 harg4 arg13 x0 x3 hw 11 (rowStep hc arg1 harg1 arg4 harg4 arg13 x0 x3 hw 10 f))⌝ ∗ (arg13.view.loc (c : Thread nD τ) ↦[arg13.view.set]{fullShare} f')) ∗ (∃ g', ⌜g' = g⌝ ∗ (arg15.view.loc (c : Thread nD τ) ↦[arg15.view.set]{fullShare} g')))) := by
  rw [k0_part20_eq_skeleton]
  unfold k0_part20_skel
  have hw11 : k0_chk11 i (arg1.view.readAt (Elt F) (Rect.unit (s := S36) ![10] S1.size inb_S36_S1_10).toLoadRect (harg1.unread x0) (Shape.Idx.first (numel1_S1.symm ▸ Nat.one_pos))) := hw 10
  have hw12 : k0_chk12 i (arg1.view.readAt (Elt F) (Rect.unit (s := S36) ![11] S1.size inb_S36_S1_11).toLoadRect (harg1.unread x0) (Shape.Idx.first (numel1_S1.symm ▸ Nat.one_pos))) := hw 11
  have hw13 : k0_chk13 i (arg1.view.readAt (Elt F) (Rect.unit (s := S36) ![12] S1.size inb_S36_S1_12).toLoadRect (harg1.unread x0) (Shape.Idx.first (numel1_S1.symm ▸ Nat.one_pos))) := hw 12
  iintro ⟨H1, H2, H4, H5, H13, H15⟩
  sl_exec (disch := first | sl_exact hw11 | sl_exact hw12 | sl_exact hw13)
  sl_step
  isplitr
  · ipureintro; sl_kernel_rfl
  isplitl [H1]; · iexact H1
  isplitl [H2]; · iexact H2
  isplitl [H4]; · iexact H4
  isplitl [H5]; · iexact H5
  isplitl [H13]
  · iexists _; isplitr; swap; · iexact H13
    ipureintro; sl_kernel_rfl
  iexists _; isplitr; swap; · iexact H15
  ipureintro; sl_kernel_rfl

set_option maxHeartbeats 1000000 in
/-- A stretch of the preparation (part 21): what it returns and what it leaves in the two scratch buffers. -/
theorem part21 (c : Dev nD) (i : grid0.Coords) (arg1 : Memref sig .tc .smem S36 .i32) (harg1 : arg1.IsWhole) (arg2 : Memref sig .tc .smem S10x40 .f32) (harg2 : arg2.IsWhole) (arg3 : Memref sig .tc .vmem S512x1280 .bf16) (harg3 : arg3.IsWhole) (arg4 : Memref sig .tc .vmem S36x5120 .bf16) (harg4 : arg4.IsWhole) (arg5 : Memref sig .tc .vmem S1280x5120 .fp8e4m3) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S512x5120 .bf16) (harg8 : arg8.IsWhole) (arg9 : Memref sig .tc .vmem S512x1280 .fp8e4m3) (harg9 : arg9.IsWhole) (arg10 : Memref sig .tc .vmem S512x10 .f32) (harg10 : arg10.IsWhole) (arg11 : Memref sig .tc .vmem S512x5120 .fp8e4m3) (harg11 : arg11.IsWhole) (arg12 : Memref sig .tc .vmem S512x40 .f32) (harg12 : arg12.IsWhole) (arg13 : Memref sig .tc .vmem S1280x5120 .bf16) (harg13 : arg13.IsWhole) (arg14 : Memref sig .tc .vmem S512x1280 .bf16) (harg14 : arg14.IsWhole) (arg15 : Memref sig .tc .vmem S8x1280 .i32) (harg15 : arg15.IsWhole) (hc : k0_cond1 i = 1#1)
    (x0 : Vec F S36 .i32) (x1 : Vec F S10x40 .f32) (x3 : Vec F S36x5120 .bf16) (x4 : Vec F S1280x5120 .fp8e4m3)
    (hw : ∀ j, k0_chk1 i (word arg1 harg1 x0 j)) (E : Set ℕ) (f : BufTy.Contents (Elt F) arg13.view.ty) (g : BufTy.Contents (Elt F) arg15.view.ty) :
    (iprop((arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (arg13.view.loc (c : Thread nD τ) ↦[arg13.view.set]{fullShare} f) ∗ (arg15.view.loc (c : Thread nD τ) ↦[arg15.view.set]{fullShare} g)) : sProp 𝕄)
      ⊢ wp frame (wpE (defs₀ (F := F)) Variants.none c none) E (k0_part21 i arg1 harg1 arg2 harg2 arg3 harg3 arg4 harg4 arg5 harg5 arg6 harg6 arg7 harg7 arg8 harg8 arg9 harg9 arg10 harg10 arg11 harg11 arg12 harg12 arg13 harg13 arg14 harg14 arg15 harg15 (hc) ((iota .tc S2x5120 32 [0] iota_S2x5120_d0_w32)) ((word arg1 harg1 x0 12)) ((hw 12)) (((Scalar.muli (Scalar.shrui (word arg1 harg1 x0 12) 1#32) 2#32))))
          (fun r => iprop(⌜r = ⟨(word arg1 harg1 x0 14), (hw 14), ((Scalar.muli (Scalar.shrui (word arg1 harg1 x0 14) 1#32) 2#32)), k0_pay78 (F := F) (iota .tc S2x5120 32 [0] iota_S2x5120_d0_w32) (word arg1 harg1 x0 14)⟩⌝ ∗ (arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (∃ f', ⌜f' = (rowStep hc arg1 harg1 arg4 harg4 arg13 x0 x3 hw 13 (rowStep hc arg1 harg1 arg4 harg4 arg13 x0 x3 hw 12 f))⌝ ∗ (arg13.view.loc (c : Thread nD τ) ↦[arg13.view.set]{fullShare} f')) ∗ (∃ g', ⌜g' = g⌝ ∗ (arg15.view.loc (c : Thread nD τ) ↦[arg15.view.set]{fullShare} g')))) := by
  rw [k0_part21_eq_skeleton]
  unfold k0_part21_skel
  have hw14 : k0_chk14 i (arg1.view.readAt (Elt F) (Rect.unit (s := S36) ![13] S1.size inb_S36_S1_13).toLoadRect (harg1.unread x0) (Shape.Idx.first (numel1_S1.symm ▸ Nat.one_pos))) := hw 13
  have hw15 : k0_chk15 i (arg1.view.readAt (Elt F) (Rect.unit (s := S36) ![14] S1.size inb_S36_S1_14).toLoadRect (harg1.unread x0) (Shape.Idx.first (numel1_S1.symm ▸ Nat.one_pos))) := hw 14
  iintro ⟨H1, H2, H4, H5, H13, H15⟩
  sl_exec (disch := first | sl_exact hw14 | sl_exact hw15)
  sl_step
  isplitr
  · ipureintro; sl_kernel_rfl
  isplitl [H1]; · iexact H1
  isplitl [H2]; · iexact H2
  isplitl [H4]; · iexact H4
  isplitl [H5]; · iexact H5
  isplitl [H13]
  · iexists _; isplitr; swap; · iexact H13
    ipureintro; sl_kernel_rfl
  iexists _; isplitr; swap; · iexact H15
  ipureintro; sl_kernel_rfl

set_option maxHeartbeats 1000000 in
/-- A stretch of the preparation (part 22): what it returns and what it leaves in the two scratch buffers. -/
theorem part22 (c : Dev nD) (i : grid0.Coords) (arg1 : Memref sig .tc .smem S36 .i32) (harg1 : arg1.IsWhole) (arg2 : Memref sig .tc .smem S10x40 .f32) (harg2 : arg2.IsWhole) (arg3 : Memref sig .tc .vmem S512x1280 .bf16) (harg3 : arg3.IsWhole) (arg4 : Memref sig .tc .vmem S36x5120 .bf16) (harg4 : arg4.IsWhole) (arg5 : Memref sig .tc .vmem S1280x5120 .fp8e4m3) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S512x5120 .bf16) (harg8 : arg8.IsWhole) (arg9 : Memref sig .tc .vmem S512x1280 .fp8e4m3) (harg9 : arg9.IsWhole) (arg10 : Memref sig .tc .vmem S512x10 .f32) (harg10 : arg10.IsWhole) (arg11 : Memref sig .tc .vmem S512x5120 .fp8e4m3) (harg11 : arg11.IsWhole) (arg12 : Memref sig .tc .vmem S512x40 .f32) (harg12 : arg12.IsWhole) (arg13 : Memref sig .tc .vmem S1280x5120 .bf16) (harg13 : arg13.IsWhole) (arg14 : Memref sig .tc .vmem S512x1280 .bf16) (harg14 : arg14.IsWhole) (arg15 : Memref sig .tc .vmem S8x1280 .i32) (harg15 : arg15.IsWhole) (hc : k0_cond1 i = 1#1)
    (x0 : Vec F S36 .i32) (x1 : Vec F S10x40 .f32) (x3 : Vec F S36x5120 .bf16) (x4 : Vec F S1280x5120 .fp8e4m3)
    (hw : ∀ j, k0_chk1 i (word arg1 harg1 x0 j)) (E : Set ℕ) (f : BufTy.Contents (Elt F) arg13.view.ty) (g : BufTy.Contents (Elt F) arg15.view.ty) :
    (iprop((arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (arg13.view.loc (c : Thread nD τ) ↦[arg13.view.set]{fullShare} f) ∗ (arg15.view.loc (c : Thread nD τ) ↦[arg15.view.set]{fullShare} g)) : sProp 𝕄)
      ⊢ wp frame (wpE (defs₀ (F := F)) Variants.none c none) E (k0_part22 i arg1 harg1 arg2 harg2 arg3 harg3 arg4 harg4 arg5 harg5 arg6 harg6 arg7 harg7 arg8 harg8 arg9 harg9 arg10 harg10 arg11 harg11 arg12 harg12 arg13 harg13 arg14 harg14 arg15 harg15 (hc) ((iota .tc S2x5120 32 [0] iota_S2x5120_d0_w32)) ((word arg1 harg1 x0 14)) ((hw 14)) (((Scalar.muli (Scalar.shrui (word arg1 harg1 x0 14) 1#32) 2#32))) ((k0_pay78 (F := F) (iota .tc S2x5120 32 [0] iota_S2x5120_d0_w32) (word arg1 harg1 x0 14))))
          (fun r => iprop(⌜r = ⟨(word arg1 harg1 x0 16), (hw 16), ((Scalar.muli (Scalar.shrui (word arg1 harg1 x0 16) 1#32) 2#32)), k0_pay81 (F := F) (iota .tc S2x5120 32 [0] iota_S2x5120_d0_w32) (word arg1 harg1 x0 16), (tile hc arg1 harg1 arg13 x0 hw 16 ((rowStep hc arg1 harg1 arg4 harg4 arg13 x0 x3 hw 15 (rowStep hc arg1 harg1 arg4 harg4 arg13 x0 x3 hw 14 f)))), k0_pay82 (F := F) (row arg4 harg4 x3 16)⟩⌝ ∗ (arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (∃ f', ⌜f' = (rowStep hc arg1 harg1 arg4 harg4 arg13 x0 x3 hw 15 (rowStep hc arg1 harg1 arg4 harg4 arg13 x0 x3 hw 14 f))⌝ ∗ (arg13.view.loc (c : Thread nD τ) ↦[arg13.view.set]{fullShare} f')) ∗ (∃ g', ⌜g' = g⌝ ∗ (arg15.view.loc (c : Thread nD τ) ↦[arg15.view.set]{fullShare} g')))) := by
  rw [k0_part22_eq_skeleton]
  unfold k0_part22_skel
  have hw16 : k0_chk16 i (arg1.view.readAt (Elt F) (Rect.unit (s := S36) ![15] S1.size inb_S36_S1_15).toLoadRect (harg1.unread x0) (Shape.Idx.first (numel1_S1.symm ▸ Nat.one_pos))) := hw 15
  have hw17 : k0_chk17 i (arg1.view.readAt (Elt F) (Rect.unit (s := S36) ![16] S1.size inb_S36_S1_16).toLoadRect (harg1.unread x0) (Shape.Idx.first (numel1_S1.symm ▸ Nat.one_pos))) := hw 16
  iintro ⟨H1, H2, H4, H5, H13, H15⟩
  sl_exec (disch := first | sl_exact hw16 | sl_exact hw17)
  sl_step
  isplitr
  · ipureintro; sl_kernel_rfl
  isplitl [H1]; · iexact H1
  isplitl [H2]; · iexact H2
  isplitl [H4]; · iexact H4
  isplitl [H5]; · iexact H5
  isplitl [H13]
  · iexists _; isplitr; swap; · iexact H13
    ipureintro; sl_kernel_rfl
  iexists _; isplitr; swap; · iexact H15
  ipureintro; sl_kernel_rfl

set_option maxHeartbeats 1000000 in
/-- A stretch of the preparation (part 23): what it returns and what it leaves in the two scratch buffers. -/
theorem part23 (c : Dev nD) (i : grid0.Coords) (arg1 : Memref sig .tc .smem S36 .i32) (harg1 : arg1.IsWhole) (arg2 : Memref sig .tc .smem S10x40 .f32) (harg2 : arg2.IsWhole) (arg3 : Memref sig .tc .vmem S512x1280 .bf16) (harg3 : arg3.IsWhole) (arg4 : Memref sig .tc .vmem S36x5120 .bf16) (harg4 : arg4.IsWhole) (arg5 : Memref sig .tc .vmem S1280x5120 .fp8e4m3) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S512x5120 .bf16) (harg8 : arg8.IsWhole) (arg9 : Memref sig .tc .vmem S512x1280 .fp8e4m3) (harg9 : arg9.IsWhole) (arg10 : Memref sig .tc .vmem S512x10 .f32) (harg10 : arg10.IsWhole) (arg11 : Memref sig .tc .vmem S512x5120 .fp8e4m3) (harg11 : arg11.IsWhole) (arg12 : Memref sig .tc .vmem S512x40 .f32) (harg12 : arg12.IsWhole) (arg13 : Memref sig .tc .vmem S1280x5120 .bf16) (harg13 : arg13.IsWhole) (arg14 : Memref sig .tc .vmem S512x1280 .bf16) (harg14 : arg14.IsWhole) (arg15 : Memref sig .tc .vmem S8x1280 .i32) (harg15 : arg15.IsWhole) (hc : k0_cond1 i = 1#1)
    (x0 : Vec F S36 .i32) (x1 : Vec F S10x40 .f32) (x3 : Vec F S36x5120 .bf16) (x4 : Vec F S1280x5120 .fp8e4m3)
    (hw : ∀ j, k0_chk1 i (word arg1 harg1 x0 j)) (E : Set ℕ) (f : BufTy.Contents (Elt F) arg13.view.ty) (g : BufTy.Contents (Elt F) arg15.view.ty) :
    (iprop((arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (arg13.view.loc (c : Thread nD τ) ↦[arg13.view.set]{fullShare} f) ∗ (arg15.view.loc (c : Thread nD τ) ↦[arg15.view.set]{fullShare} g)) : sProp 𝕄)
      ⊢ wp frame (wpE (defs₀ (F := F)) Variants.none c none) E (k0_part23 i arg1 harg1 arg2 harg2 arg3 harg3 arg4 harg4 arg5 harg5 arg6 harg6 arg7 harg7 arg8 harg8 arg9 harg9 arg10 harg10 arg11 harg11 arg12 harg12 arg13 harg13 arg14 harg14 arg15 harg15 (hc) ((iota .tc S2x5120 32 [0] iota_S2x5120_d0_w32)) ((word arg1 harg1 x0 16)) ((hw 16)) (((Scalar.muli (Scalar.shrui (word arg1 harg1 x0 16) 1#32) 2#32))) ((k0_pay81 (F := F) (iota .tc S2x5120 32 [0] iota_S2x5120_d0_w32) (word arg1 harg1 x0 16))) ((tile hc arg1 harg1 arg13 x0 hw 16 f)) ((k0_pay82 (F := F) (row arg4 harg4 x3 16))))
          (fun r => iprop(⌜r = ⟨(word arg1 harg1 x0 18), (hw 18), k0_pay85 (F := F) (iota .tc S2x5120 32 [0] iota_S2x5120_d0_w32) (word arg1 harg1 x0 18) (row arg4 harg4 x3 18) (tile hc arg1 harg1 arg13 x0 hw 18 ((rowStep hc arg1 harg1 arg4 harg4 arg13 x0 x3 hw 17 (rowStep hc arg1 harg1 arg4 harg4 arg13 x0 x3 hw 16 f))))⟩⌝ ∗ (arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (∃ f', ⌜f' = (rowStep hc arg1 harg1 arg4 harg4 arg13 x0 x3 hw 17 (rowStep hc arg1 harg1 arg4 harg4 arg13 x0 x3 hw 16 f))⌝ ∗ (arg13.view.loc (c : Thread nD τ) ↦[arg13.view.set]{fullShare} f')) ∗ (∃ g', ⌜g' = g⌝ ∗ (arg15.view.loc (c : Thread nD τ) ↦[arg15.view.set]{fullShare} g')))) := by
  rw [k0_part23_eq_skeleton]
  unfold k0_part23_skel
  have hw18 : k0_chk18 i (arg1.view.readAt (Elt F) (Rect.unit (s := S36) ![17] S1.size inb_S36_S1_17).toLoadRect (harg1.unread x0) (Shape.Idx.first (numel1_S1.symm ▸ Nat.one_pos))) := hw 17
  have hw19 : k0_chk19 i (arg1.view.readAt (Elt F) (Rect.unit (s := S36) ![18] S1.size inb_S36_S1_18).toLoadRect (harg1.unread x0) (Shape.Idx.first (numel1_S1.symm ▸ Nat.one_pos))) := hw 18
  iintro ⟨H1, H2, H4, H5, H13, H15⟩
  sl_exec (disch := first | sl_exact hw18 | sl_exact hw19)
  sl_step
  isplitr
  · ipureintro; sl_kernel_rfl
  isplitl [H1]; · iexact H1
  isplitl [H2]; · iexact H2
  isplitl [H4]; · iexact H4
  isplitl [H5]; · iexact H5
  isplitl [H13]
  · iexists _; isplitr; swap; · iexact H13
    ipureintro; sl_kernel_rfl
  iexists _; isplitr; swap; · iexact H15
  ipureintro; sl_kernel_rfl

set_option maxHeartbeats 1000000 in
/-- A stretch of the preparation (part 24): what it returns and what it leaves in the two scratch buffers. -/
theorem part24 (c : Dev nD) (i : grid0.Coords) (arg1 : Memref sig .tc .smem S36 .i32) (harg1 : arg1.IsWhole) (arg2 : Memref sig .tc .smem S10x40 .f32) (harg2 : arg2.IsWhole) (arg3 : Memref sig .tc .vmem S512x1280 .bf16) (harg3 : arg3.IsWhole) (arg4 : Memref sig .tc .vmem S36x5120 .bf16) (harg4 : arg4.IsWhole) (arg5 : Memref sig .tc .vmem S1280x5120 .fp8e4m3) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S512x5120 .bf16) (harg8 : arg8.IsWhole) (arg9 : Memref sig .tc .vmem S512x1280 .fp8e4m3) (harg9 : arg9.IsWhole) (arg10 : Memref sig .tc .vmem S512x10 .f32) (harg10 : arg10.IsWhole) (arg11 : Memref sig .tc .vmem S512x5120 .fp8e4m3) (harg11 : arg11.IsWhole) (arg12 : Memref sig .tc .vmem S512x40 .f32) (harg12 : arg12.IsWhole) (arg13 : Memref sig .tc .vmem S1280x5120 .bf16) (harg13 : arg13.IsWhole) (arg14 : Memref sig .tc .vmem S512x1280 .bf16) (harg14 : arg14.IsWhole) (arg15 : Memref sig .tc .vmem S8x1280 .i32) (harg15 : arg15.IsWhole) (hc : k0_cond1 i = 1#1)
    (x0 : Vec F S36 .i32) (x1 : Vec F S10x40 .f32) (x3 : Vec F S36x5120 .bf16) (x4 : Vec F S1280x5120 .fp8e4m3)
    (hw : ∀ j, k0_chk1 i (word arg1 harg1 x0 j)) (E : Set ℕ) (f : BufTy.Contents (Elt F) arg13.view.ty) (g : BufTy.Contents (Elt F) arg15.view.ty) :
    (iprop((arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (arg13.view.loc (c : Thread nD τ) ↦[arg13.view.set]{fullShare} f) ∗ (arg15.view.loc (c : Thread nD τ) ↦[arg15.view.set]{fullShare} g)) : sProp 𝕄)
      ⊢ wp frame (wpE (defs₀ (F := F)) Variants.none c none) E (k0_part24 i arg1 harg1 arg2 harg2 arg3 harg3 arg4 harg4 arg5 harg5 arg6 harg6 arg7 harg7 arg8 harg8 arg9 harg9 arg10 harg10 arg11 harg11 arg12 harg12 arg13 harg13 arg14 harg14 arg15 harg15 (hc) ((iota .tc S2x5120 32 [0] iota_S2x5120_d0_w32)) ((word arg1 harg1 x0 18)) ((hw 18)) ((k0_pay85 (F := F) (iota .tc S2x5120 32 [0] iota_S2x5120_d0_w32) (word arg1 harg1 x0 18) (row arg4 harg4 x3 18) (tile hc arg1 harg1 arg13 x0 hw 18 f))))
          (fun r => iprop(⌜r = ⟨(word arg1 harg1 x0 21), (hw 21), (Scalar.shrui (word arg1 harg1 x0 21) 1#32)⟩⌝ ∗ (arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (∃ f', ⌜f' = (rowStep hc arg1 harg1 arg4 harg4 arg13 x0 x3 hw 20 (rowStep hc arg1 harg1 arg4 harg4 arg13 x0 x3 hw 19 (rowStep hc arg1 harg1 arg4 harg4 arg13 x0 x3 hw 18 f)))⌝ ∗ (arg13.view.loc (c : Thread nD τ) ↦[arg13.view.set]{fullShare} f')) ∗ (∃ g', ⌜g' = g⌝ ∗ (arg15.view.loc (c : Thread nD τ) ↦[arg15.view.set]{fullShare} g')))) := by
  rw [k0_part24_eq_skeleton]
  unfold k0_part24_skel
  have hw20 : k0_chk20 i (arg1.view.readAt (Elt F) (Rect.unit (s := S36) ![19] S1.size inb_S36_S1_19).toLoadRect (harg1.unread x0) (Shape.Idx.first (numel1_S1.symm ▸ Nat.one_pos))) := hw 19
  have hw21 : k0_chk21 i (arg1.view.readAt (Elt F) (Rect.unit (s := S36) ![20] S1.size inb_S36_S1_20).toLoadRect (harg1.unread x0) (Shape.Idx.first (numel1_S1.symm ▸ Nat.one_pos))) := hw 20
  have hw22 : k0_chk22 i (arg1.view.readAt (Elt F) (Rect.unit (s := S36) ![21] S1.size inb_S36_S1_21).toLoadRect (harg1.unread x0) (Shape.Idx.first (numel1_S1.symm ▸ Nat.one_pos))) := hw 21
  iintro ⟨H1, H2, H4, H5, H13, H15⟩
  sl_exec (disch := first | sl_exact hw20 | sl_exact hw21 | sl_exact hw22)
  sl_step
  isplitr
  · ipureintro; sl_kernel_rfl
  isplitl [H1]; · iexact H1
  isplitl [H2]; · iexact H2
  isplitl [H4]; · iexact H4
  isplitl [H5]; · iexact H5
  isplitl [H13]
  · iexists _; isplitr; swap; · iexact H13
    ipureintro; sl_kernel_rfl
  iexists _; isplitr; swap; · iexact H15
  ipureintro; sl_kernel_rfl

set_option maxHeartbeats 1000000 in
/-- A stretch of the preparation (part 25): what it returns and what it leaves in the two scratch buffers. -/
theorem part25 (c : Dev nD) (i : grid0.Coords) (arg1 : Memref sig .tc .smem S36 .i32) (harg1 : arg1.IsWhole) (arg2 : Memref sig .tc .smem S10x40 .f32) (harg2 : arg2.IsWhole) (arg3 : Memref sig .tc .vmem S512x1280 .bf16) (harg3 : arg3.IsWhole) (arg4 : Memref sig .tc .vmem S36x5120 .bf16) (harg4 : arg4.IsWhole) (arg5 : Memref sig .tc .vmem S1280x5120 .fp8e4m3) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S512x5120 .bf16) (harg8 : arg8.IsWhole) (arg9 : Memref sig .tc .vmem S512x1280 .fp8e4m3) (harg9 : arg9.IsWhole) (arg10 : Memref sig .tc .vmem S512x10 .f32) (harg10 : arg10.IsWhole) (arg11 : Memref sig .tc .vmem S512x5120 .fp8e4m3) (harg11 : arg11.IsWhole) (arg12 : Memref sig .tc .vmem S512x40 .f32) (harg12 : arg12.IsWhole) (arg13 : Memref sig .tc .vmem S1280x5120 .bf16) (harg13 : arg13.IsWhole) (arg14 : Memref sig .tc .vmem S512x1280 .bf16) (harg14 : arg14.IsWhole) (arg15 : Memref sig .tc .vmem S8x1280 .i32) (harg15 : arg15.IsWhole) (hc : k0_cond1 i = 1#1)
    (x0 : Vec F S36 .i32) (x1 : Vec F S10x40 .f32) (x3 : Vec F S36x5120 .bf16) (x4 : Vec F S1280x5120 .fp8e4m3)
    (hw : ∀ j, k0_chk1 i (word arg1 harg1 x0 j)) (E : Set ℕ) (f : BufTy.Contents (Elt F) arg13.view.ty) (g : BufTy.Contents (Elt F) arg15.view.ty) :
    (iprop((arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (arg13.view.loc (c : Thread nD τ) ↦[arg13.view.set]{fullShare} f) ∗ (arg15.view.loc (c : Thread nD τ) ↦[arg15.view.set]{fullShare} g)) : sProp 𝕄)
      ⊢ wp frame (wpE (defs₀ (F := F)) Variants.none c none) E (k0_part25 i arg1 harg1 arg2 harg2 arg3 harg3 arg4 harg4 arg5 harg5 arg6 harg6 arg7 harg7 arg8 harg8 arg9 harg9 arg10 harg10 arg11 harg11 arg12 harg12 arg13 harg13 arg14 harg14 arg15 harg15 (hc) ((iota .tc S2x5120 32 [0] iota_S2x5120_d0_w32)) ((word arg1 harg1 x0 21)) ((hw 21)) ((Scalar.shrui (word arg1 harg1 x0 21) 1#32)))
          (fun r => iprop(⌜r = ⟨(word arg1 harg1 x0 23), (hw 23), ((Scalar.muli (Scalar.shrui (word arg1 harg1 x0 23) 1#32) 2#32)), k0_pay90 (F := F) (word arg1 harg1 x0 23)⟩⌝ ∗ (arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (∃ f', ⌜f' = (rowStep hc arg1 harg1 arg4 harg4 arg13 x0 x3 hw 22 (rowStep hc arg1 harg1 arg4 harg4 arg13 x0 x3 hw 21 f))⌝ ∗ (arg13.view.loc (c : Thread nD τ) ↦[arg13.view.set]{fullShare} f')) ∗ (∃ g', ⌜g' = g⌝ ∗ (arg15.view.loc (c : Thread nD τ) ↦[arg15.view.set]{fullShare} g')))) := by
  rw [k0_part25_eq_skeleton]
  unfold k0_part25_skel
  have hw23 : k0_chk23 i (arg1.view.readAt (Elt F) (Rect.unit (s := S36) ![22] S1.size inb_S36_S1_22).toLoadRect (harg1.unread x0) (Shape.Idx.first (numel1_S1.symm ▸ Nat.one_pos))) := hw 22
  have hw24 : k0_chk24 i (arg1.view.readAt (Elt F) (Rect.unit (s := S36) ![23] S1.size inb_S36_S1_23).toLoadRect (harg1.unread x0) (Shape.Idx.first (numel1_S1.symm ▸ Nat.one_pos))) := hw 23
  iintro ⟨H1, H2, H4, H5, H13, H15⟩
  sl_exec (disch := first | sl_exact hw23 | sl_exact hw24)
  sl_step
  isplitr
  · ipureintro; sl_kernel_rfl
  isplitl [H1]; · iexact H1
  isplitl [H2]; · iexact H2
  isplitl [H4]; · iexact H4
  isplitl [H5]; · iexact H5
  isplitl [H13]
  · iexists _; isplitr; swap; · iexact H13
    ipureintro; sl_kernel_rfl
  iexists _; isplitr; swap; · iexact H15
  ipureintro; sl_kernel_rfl

set_option maxHeartbeats 1000000 in
/-- A stretch of the preparation (part 26): what it returns and what it leaves in the two scratch buffers. -/
theorem part26 (c : Dev nD) (i : grid0.Coords) (arg1 : Memref sig .tc .smem S36 .i32) (harg1 : arg1.IsWhole) (arg2 : Memref sig .tc .smem S10x40 .f32) (harg2 : arg2.IsWhole) (arg3 : Memref sig .tc .vmem S512x1280 .bf16) (harg3 : arg3.IsWhole) (arg4 : Memref sig .tc .vmem S36x5120 .bf16) (harg4 : arg4.IsWhole) (arg5 : Memref sig .tc .vmem S1280x5120 .fp8e4m3) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S512x5120 .bf16) (harg8 : arg8.IsWhole) (arg9 : Memref sig .tc .vmem S512x1280 .fp8e4m3) (harg9 : arg9.IsWhole) (arg10 : Memref sig .tc .vmem S512x10 .f32) (harg10 : arg10.IsWhole) (arg11 : Memref sig .tc .vmem S512x5120 .fp8e4m3) (harg11 : arg11.IsWhole) (arg12 : Memref sig .tc .vmem S512x40 .f32) (harg12 : arg12.IsWhole) (arg13 : Memref sig .tc .vmem S1280x5120 .bf16) (harg13 : arg13.IsWhole) (arg14 : Memref sig .tc .vmem S512x1280 .bf16) (harg14 : arg14.IsWhole) (arg15 : Memref sig .tc .vmem S8x1280 .i32) (harg15 : arg15.IsWhole) (hc : k0_cond1 i = 1#1)
    (x0 : Vec F S36 .i32) (x1 : Vec F S10x40 .f32) (x3 : Vec F S36x5120 .bf16) (x4 : Vec F S1280x5120 .fp8e4m3)
    (hw : ∀ j, k0_chk1 i (word arg1 harg1 x0 j)) (E : Set ℕ) (f : BufTy.Contents (Elt F) arg13.view.ty) (g : BufTy.Contents (Elt F) arg15.view.ty) :
    (iprop((arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (arg13.view.loc (c : Thread nD τ) ↦[arg13.view.set]{fullShare} f) ∗ (arg15.view.loc (c : Thread nD τ) ↦[arg15.view.set]{fullShare} g)) : sProp 𝕄)
      ⊢ wp frame (wpE (defs₀ (F := F)) Variants.none c none) E (k0_part26 i arg1 harg1 arg2 harg2 arg3 harg3 arg4 harg4 arg5 harg5 arg6 harg6 arg7 harg7 arg8 harg8 arg9 harg9 arg10 harg10 arg11 harg11 arg12 harg12 arg13 harg13 arg14 harg14 arg15 harg15 (hc) ((iota .tc S2x5120 32 [0] iota_S2x5120_d0_w32)) ((word arg1 harg1 x0 23)) ((hw 23)) (((Scalar.muli (Scalar.shrui (word arg1 harg1 x0 23) 1#32) 2#32))) ((k0_pay90 (F := F) (word arg1 harg1 x0 23))))
          (fun r => iprop(⌜r = ⟨(word arg1 harg1 x0 25), (hw 25), ((Scalar.muli (Scalar.shrui (word arg1 harg1 x0 25) 1#32) 2#32)), k0_pay93 (F := F) (iota .tc S2x5120 32 [0] iota_S2x5120_d0_w32) (word arg1 harg1 x0 25), (row arg4 harg4 x3 25)⟩⌝ ∗ (arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (∃ f', ⌜f' = (rowStep hc arg1 harg1 arg4 harg4 arg13 x0 x3 hw 24 (rowStep hc arg1 harg1 arg4 harg4 arg13 x0 x3 hw 23 f))⌝ ∗ (arg13.view.loc (c : Thread nD τ) ↦[arg13.view.set]{fullShare} f')) ∗ (∃ g', ⌜g' = g⌝ ∗ (arg15.view.loc (c : Thread nD τ) ↦[arg15.view.set]{fullShare} g')))) := by
  rw [k0_part26_eq_skeleton]
  unfold k0_part26_skel
  have hw25 : k0_chk25 i (arg1.view.readAt (Elt F) (Rect.unit (s := S36) ![24] S1.size inb_S36_S1_24).toLoadRect (harg1.unread x0) (Shape.Idx.first (numel1_S1.symm ▸ Nat.one_pos))) := hw 24
  have hw26 : k0_chk26 i (arg1.view.readAt (Elt F) (Rect.unit (s := S36) ![25] S1.size inb_S36_S1_25).toLoadRect (harg1.unread x0) (Shape.Idx.first (numel1_S1.symm ▸ Nat.one_pos))) := hw 25
  iintro ⟨H1, H2, H4, H5, H13, H15⟩
  sl_exec (disch := first | sl_exact hw25 | sl_exact hw26)
  sl_step
  isplitr
  · ipureintro; sl_kernel_rfl
  isplitl [H1]; · iexact H1
  isplitl [H2]; · iexact H2
  isplitl [H4]; · iexact H4
  isplitl [H5]; · iexact H5
  isplitl [H13]
  · iexists _; isplitr; swap; · iexact H13
    ipureintro; sl_kernel_rfl
  iexists _; isplitr; swap; · iexact H15
  ipureintro; sl_kernel_rfl

set_option maxHeartbeats 1000000 in
/-- A stretch of the preparation (part 27): what it returns and what it leaves in the two scratch buffers. -/
theorem part27 (c : Dev nD) (i : grid0.Coords) (arg1 : Memref sig .tc .smem S36 .i32) (harg1 : arg1.IsWhole) (arg2 : Memref sig .tc .smem S10x40 .f32) (harg2 : arg2.IsWhole) (arg3 : Memref sig .tc .vmem S512x1280 .bf16) (harg3 : arg3.IsWhole) (arg4 : Memref sig .tc .vmem S36x5120 .bf16) (harg4 : arg4.IsWhole) (arg5 : Memref sig .tc .vmem S1280x5120 .fp8e4m3) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S512x5120 .bf16) (harg8 : arg8.IsWhole) (arg9 : Memref sig .tc .vmem S512x1280 .fp8e4m3) (harg9 : arg9.IsWhole) (arg10 : Memref sig .tc .vmem S512x10 .f32) (harg10 : arg10.IsWhole) (arg11 : Memref sig .tc .vmem S512x5120 .fp8e4m3) (harg11 : arg11.IsWhole) (arg12 : Memref sig .tc .vmem S512x40 .f32) (harg12 : arg12.IsWhole) (arg13 : Memref sig .tc .vmem S1280x5120 .bf16) (harg13 : arg13.IsWhole) (arg14 : Memref sig .tc .vmem S512x1280 .bf16) (harg14 : arg14.IsWhole) (arg15 : Memref sig .tc .vmem S8x1280 .i32) (harg15 : arg15.IsWhole) (hc : k0_cond1 i = 1#1)
    (x0 : Vec F S36 .i32) (x1 : Vec F S10x40 .f32) (x3 : Vec F S36x5120 .bf16) (x4 : Vec F S1280x5120 .fp8e4m3)
    (hw : ∀ j, k0_chk1 i (word arg1 harg1 x0 j)) (E : Set ℕ) (f : BufTy.Contents (Elt F) arg13.view.ty) (g : BufTy.Contents (Elt F) arg15.view.ty) :
    (iprop((arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (arg13.view.loc (c : Thread nD τ) ↦[arg13.view.set]{fullShare} f) ∗ (arg15.view.loc (c : Thread nD τ) ↦[arg15.view.set]{fullShare} g)) : sProp 𝕄)
      ⊢ wp frame (wpE (defs₀ (F := F)) Variants.none c none) E (k0_part27 i arg1 harg1 arg2 harg2 arg3 harg3 arg4 harg4 arg5 harg5 arg6 harg6 arg7 harg7 arg8 harg8 arg9 harg9 arg10 harg10 arg11 harg11 arg12 harg12 arg13 harg13 arg14 harg14 arg15 harg15 (hc) ((iota .tc S2x5120 32 [0] iota_S2x5120_d0_w32)) ((word arg1 harg1 x0 25)) ((hw 25)) (((Scalar.muli (Scalar.shrui (word arg1 harg1 x0 25) 1#32) 2#32))) ((k0_pay93 (F := F) (iota .tc S2x5120 32 [0] iota_S2x5120_d0_w32) (word arg1 harg1 x0 25))) ((row arg4 harg4 x3 25)))
          (fun r => iprop(⌜r = ⟨(word arg1 harg1 x0 27), (hw 27), k0_pay96 (F := F) (iota .tc S2x5120 32 [0] iota_S2x5120_d0_w32) (word arg1 harg1 x0 27) (row arg4 harg4 x3 27) (tile hc arg1 harg1 arg13 x0 hw 27 ((rowStep hc arg1 harg1 arg4 harg4 arg13 x0 x3 hw 26 (rowStep hc arg1 harg1 arg4 harg4 arg13 x0 x3 hw 25 f))))⟩⌝ ∗ (arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (∃ f', ⌜f' = (rowStep hc arg1 harg1 arg4 harg4 arg13 x0 x3 hw 26 (rowStep hc arg1 harg1 arg4 harg4 arg13 x0 x3 hw 25 f))⌝ ∗ (arg13.view.loc (c : Thread nD τ) ↦[arg13.view.set]{fullShare} f')) ∗ (∃ g', ⌜g' = g⌝ ∗ (arg15.view.loc (c : Thread nD τ) ↦[arg15.view.set]{fullShare} g')))) := by
  rw [k0_part27_eq_skeleton]
  unfold k0_part27_skel
  have hw27 : k0_chk27 i (arg1.view.readAt (Elt F) (Rect.unit (s := S36) ![26] S1.size inb_S36_S1_26).toLoadRect (harg1.unread x0) (Shape.Idx.first (numel1_S1.symm ▸ Nat.one_pos))) := hw 26
  have hw28 : k0_chk28 i (arg1.view.readAt (Elt F) (Rect.unit (s := S36) ![27] S1.size inb_S36_S1_27).toLoadRect (harg1.unread x0) (Shape.Idx.first (numel1_S1.symm ▸ Nat.one_pos))) := hw 27
  iintro ⟨H1, H2, H4, H5, H13, H15⟩
  sl_exec (disch := first | sl_exact hw27 | sl_exact hw28)
  sl_step
  isplitr
  · ipureintro; sl_kernel_rfl
  isplitl [H1]; · iexact H1
  isplitl [H2]; · iexact H2
  isplitl [H4]; · iexact H4
  isplitl [H5]; · iexact H5
  isplitl [H13]
  · iexists _; isplitr; swap; · iexact H13
    ipureintro; sl_kernel_rfl
  iexists _; isplitr; swap; · iexact H15
  ipureintro; sl_kernel_rfl

set_option maxHeartbeats 1000000 in
/-- A stretch of the preparation (part 28): what it returns and what it leaves in the two scratch buffers. -/
theorem part28 (c : Dev nD) (i : grid0.Coords) (arg1 : Memref sig .tc .smem S36 .i32) (harg1 : arg1.IsWhole) (arg2 : Memref sig .tc .smem S10x40 .f32) (harg2 : arg2.IsWhole) (arg3 : Memref sig .tc .vmem S512x1280 .bf16) (harg3 : arg3.IsWhole) (arg4 : Memref sig .tc .vmem S36x5120 .bf16) (harg4 : arg4.IsWhole) (arg5 : Memref sig .tc .vmem S1280x5120 .fp8e4m3) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S512x5120 .bf16) (harg8 : arg8.IsWhole) (arg9 : Memref sig .tc .vmem S512x1280 .fp8e4m3) (harg9 : arg9.IsWhole) (arg10 : Memref sig .tc .vmem S512x10 .f32) (harg10 : arg10.IsWhole) (arg11 : Memref sig .tc .vmem S512x5120 .fp8e4m3) (harg11 : arg11.IsWhole) (arg12 : Memref sig .tc .vmem S512x40 .f32) (harg12 : arg12.IsWhole) (arg13 : Memref sig .tc .vmem S1280x5120 .bf16) (harg13 : arg13.IsWhole) (arg14 : Memref sig .tc .vmem S512x1280 .bf16) (harg14 : arg14.IsWhole) (arg15 : Memref sig .tc .vmem S8x1280 .i32) (harg15 : arg15.IsWhole) (hc : k0_cond1 i = 1#1)
    (x0 : Vec F S36 .i32) (x1 : Vec F S10x40 .f32) (x3 : Vec F S36x5120 .bf16) (x4 : Vec F S1280x5120 .fp8e4m3)
    (hw : ∀ j, k0_chk1 i (word arg1 harg1 x0 j)) (E : Set ℕ) (f : BufTy.Contents (Elt F) arg13.view.ty) (g : BufTy.Contents (Elt F) arg15.view.ty) :
    (iprop((arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (arg13.view.loc (c : Thread nD τ) ↦[arg13.view.set]{fullShare} f) ∗ (arg15.view.loc (c : Thread nD τ) ↦[arg15.view.set]{fullShare} g)) : sProp 𝕄)
      ⊢ wp frame (wpE (defs₀ (F := F)) Variants.none c none) E (k0_part28 i arg1 harg1 arg2 harg2 arg3 harg3 arg4 harg4 arg5 harg5 arg6 harg6 arg7 harg7 arg8 harg8 arg9 harg9 arg10 harg10 arg11 harg11 arg12 harg12 arg13 harg13 arg14 harg14 arg15 harg15 (hc) ((iota .tc S2x5120 32 [0] iota_S2x5120_d0_w32)) ((word arg1 harg1 x0 27)) ((hw 27)) ((k0_pay96 (F := F) (iota .tc S2x5120 32 [0] iota_S2x5120_d0_w32) (word arg1 harg1 x0 27) (row arg4 harg4 x3 27) (tile hc arg1 harg1 arg13 x0 hw 27 f))))
          (fun r => iprop(⌜r = (word arg1 harg1 x0 30)⌝ ∗ (arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (∃ f', ⌜f' = (rowStep hc arg1 harg1 arg4 harg4 arg13 x0 x3 hw 29 (rowStep hc arg1 harg1 arg4 harg4 arg13 x0 x3 hw 28 (rowStep hc arg1 harg1 arg4 harg4 arg13 x0 x3 hw 27 f)))⌝ ∗ (arg13.view.loc (c : Thread nD τ) ↦[arg13.view.set]{fullShare} f')) ∗ (∃ g', ⌜g' = g⌝ ∗ (arg15.view.loc (c : Thread nD τ) ↦[arg15.view.set]{fullShare} g')))) := by
  rw [k0_part28_eq_skeleton]
  unfold k0_part28_skel
  have hw29 : k0_chk29 i (arg1.view.readAt (Elt F) (Rect.unit (s := S36) ![28] S1.size inb_S36_S1_28).toLoadRect (harg1.unread x0) (Shape.Idx.first (numel1_S1.symm ▸ Nat.one_pos))) := hw 28
  have hw30 : k0_chk30 i (arg1.view.readAt (Elt F) (Rect.unit (s := S36) ![29] S1.size inb_S36_S1_29).toLoadRect (harg1.unread x0) (Shape.Idx.first (numel1_S1.symm ▸ Nat.one_pos))) := hw 29
  iintro ⟨H1, H2, H4, H5, H13, H15⟩
  sl_exec (disch := first | sl_exact hw29 | sl_exact hw30)
  sl_step
  isplitr
  · ipureintro; sl_kernel_rfl
  isplitl [H1]; · iexact H1
  isplitl [H2]; · iexact H2
  isplitl [H4]; · iexact H4
  isplitl [H5]; · iexact H5
  isplitl [H13]
  · iexists _; isplitr; swap; · iexact H13
    ipureintro; sl_kernel_rfl
  iexists _; isplitr; swap; · iexact H15
  ipureintro; sl_kernel_rfl

set_option maxHeartbeats 1000000 in
/-- A stretch of the preparation (part 29): what it returns and what it leaves in the two scratch buffers. -/
theorem part29 (c : Dev nD) (i : grid0.Coords) (arg1 : Memref sig .tc .smem S36 .i32) (harg1 : arg1.IsWhole) (arg2 : Memref sig .tc .smem S10x40 .f32) (harg2 : arg2.IsWhole) (arg3 : Memref sig .tc .vmem S512x1280 .bf16) (harg3 : arg3.IsWhole) (arg4 : Memref sig .tc .vmem S36x5120 .bf16) (harg4 : arg4.IsWhole) (arg5 : Memref sig .tc .vmem S1280x5120 .fp8e4m3) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S512x5120 .bf16) (harg8 : arg8.IsWhole) (arg9 : Memref sig .tc .vmem S512x1280 .fp8e4m3) (harg9 : arg9.IsWhole) (arg10 : Memref sig .tc .vmem S512x10 .f32) (harg10 : arg10.IsWhole) (arg11 : Memref sig .tc .vmem S512x5120 .fp8e4m3) (harg11 : arg11.IsWhole) (arg12 : Memref sig .tc .vmem S512x40 .f32) (harg12 : arg12.IsWhole) (arg13 : Memref sig .tc .vmem S1280x5120 .bf16) (harg13 : arg13.IsWhole) (arg14 : Memref sig .tc .vmem S512x1280 .bf16) (harg14 : arg14.IsWhole) (arg15 : Memref sig .tc .vmem S8x1280 .i32) (harg15 : arg15.IsWhole) (hc : k0_cond1 i = 1#1)
    (x0 : Vec F S36 .i32) (x1 : Vec F S10x40 .f32) (x3 : Vec F S36x5120 .bf16) (x4 : Vec F S1280x5120 .fp8e4m3)
    (hw : ∀ j, k0_chk1 i (word arg1 harg1 x0 j)) (E : Set ℕ) (f : BufTy.Contents (Elt F) arg13.view.ty) (g : BufTy.Contents (Elt F) arg15.view.ty) :
    (iprop((arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (arg13.view.loc (c : Thread nD τ) ↦[arg13.view.set]{fullShare} f) ∗ (arg15.view.loc (c : Thread nD τ) ↦[arg15.view.set]{fullShare} g)) : sProp 𝕄)
      ⊢ wp frame (wpE (defs₀ (F := F)) Variants.none c none) E (k0_part29 i arg1 harg1 arg2 harg2 arg3 harg3 arg4 harg4 arg5 harg5 arg6 harg6 arg7 harg7 arg8 harg8 arg9 harg9 arg10 harg10 arg11 harg11 arg12 harg12 arg13 harg13 arg14 harg14 arg15 harg15 (hc) ((iota .tc S2x5120 32 [0] iota_S2x5120_d0_w32)) ((word arg1 harg1 x0 30)))
          (fun r => iprop(⌜r = ⟨(word arg1 harg1 x0 32), (hw 32), ((Scalar.muli (Scalar.shrui (word arg1 harg1 x0 32) 1#32) 2#32))⟩⌝ ∗ (arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (∃ f', ⌜f' = (rowStep hc arg1 harg1 arg4 harg4 arg13 x0 x3 hw 31 (rowStep hc arg1 harg1 arg4 harg4 arg13 x0 x3 hw 30 f))⌝ ∗ (arg13.view.loc (c : Thread nD τ) ↦[arg13.view.set]{fullShare} f')) ∗ (∃ g', ⌜g' = g⌝ ∗ (arg15.view.loc (c : Thread nD τ) ↦[arg15.view.set]{fullShare} g')))) := by
  rw [k0_part29_eq_skeleton]
  unfold k0_part29_skel
  have hw31 : k0_chk31 i (arg1.view.readAt (Elt F) (Rect.unit (s := S36) ![30] S1.size inb_S36_S1_30).toLoadRect (harg1.unread x0) (Shape.Idx.first (numel1_S1.symm ▸ Nat.one_pos))) := hw 30
  have hw32 : k0_chk32 i (arg1.view.readAt (Elt F) (Rect.unit (s := S36) ![31] S1.size inb_S36_S1_31).toLoadRect (harg1.unread x0) (Shape.Idx.first (numel1_S1.symm ▸ Nat.one_pos))) := hw 31
  have hw33 : k0_chk33 i (arg1.view.readAt (Elt F) (Rect.unit (s := S36) ![32] S1.size inb_S36_S1_32).toLoadRect (harg1.unread x0) (Shape.Idx.first (numel1_S1.symm ▸ Nat.one_pos))) := hw 32
  iintro ⟨H1, H2, H4, H5, H13, H15⟩
  sl_exec (disch := first | sl_exact hw31 | sl_exact hw32 | sl_exact hw33)
  sl_step
  isplitr
  · ipureintro; sl_kernel_rfl
  isplitl [H1]; · iexact H1
  isplitl [H2]; · iexact H2
  isplitl [H4]; · iexact H4
  isplitl [H5]; · iexact H5
  isplitl [H13]
  · iexists _; isplitr; swap; · iexact H13
    ipureintro; sl_kernel_rfl
  iexists _; isplitr; swap; · iexact H15
  ipureintro; sl_kernel_rfl

set_option maxHeartbeats 1000000 in
/-- A stretch of the preparation (part 30): what it returns and what it leaves in the two scratch buffers. -/
theorem part30 (c : Dev nD) (i : grid0.Coords) (arg1 : Memref sig .tc .smem S36 .i32) (harg1 : arg1.IsWhole) (arg2 : Memref sig .tc .smem S10x40 .f32) (harg2 : arg2.IsWhole) (arg3 : Memref sig .tc .vmem S512x1280 .bf16) (harg3 : arg3.IsWhole) (arg4 : Memref sig .tc .vmem S36x5120 .bf16) (harg4 : arg4.IsWhole) (arg5 : Memref sig .tc .vmem S1280x5120 .fp8e4m3) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S512x5120 .bf16) (harg8 : arg8.IsWhole) (arg9 : Memref sig .tc .vmem S512x1280 .fp8e4m3) (harg9 : arg9.IsWhole) (arg10 : Memref sig .tc .vmem S512x10 .f32) (harg10 : arg10.IsWhole) (arg11 : Memref sig .tc .vmem S512x5120 .fp8e4m3) (harg11 : arg11.IsWhole) (arg12 : Memref sig .tc .vmem S512x40 .f32) (harg12 : arg12.IsWhole) (arg13 : Memref sig .tc .vmem S1280x5120 .bf16) (harg13 : arg13.IsWhole) (arg14 : Memref sig .tc .vmem S512x1280 .bf16) (harg14 : arg14.IsWhole) (arg15 : Memref sig .tc .vmem S8x1280 .i32) (harg15 : arg15.IsWhole) (hc : k0_cond1 i = 1#1)
    (x0 : Vec F S36 .i32) (x1 : Vec F S10x40 .f32) (x3 : Vec F S36x5120 .bf16) (x4 : Vec F S1280x5120 .fp8e4m3)
    (hw : ∀ j, k0_chk1 i (word arg1 harg1 x0 j)) (E : Set ℕ) (f : BufTy.Contents (Elt F) arg13.view.ty) (g : BufTy.Contents (Elt F) arg15.view.ty) :
    (iprop((arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (arg13.view.loc (c : Thread nD τ) ↦[arg13.view.set]{fullShare} f) ∗ (arg15.view.loc (c : Thread nD τ) ↦[arg15.view.set]{fullShare} g)) : sProp 𝕄)
      ⊢ wp frame (wpE (defs₀ (F := F)) Variants.none c none) E (k0_part30 i arg1 harg1 arg2 harg2 arg3 harg3 arg4 harg4 arg5 harg5 arg6 harg6 arg7 harg7 arg8 harg8 arg9 harg9 arg10 harg10 arg11 harg11 arg12 harg12 arg13 harg13 arg14 harg14 arg15 harg15 (hc) ((iota .tc S2x5120 32 [0] iota_S2x5120_d0_w32)) ((word arg1 harg1 x0 32)) ((hw 32)) (((Scalar.muli (Scalar.shrui (word arg1 harg1 x0 32) 1#32) 2#32))))
          (fun r => iprop(⌜r = ⟨(word arg1 harg1 x0 34), (hw 34), ((Scalar.muli (Scalar.shrui (word arg1 harg1 x0 34) 1#32) 2#32)), k0_pay104 (F := F) (iota .tc S2x5120 32 [0] iota_S2x5120_d0_w32) (word arg1 harg1 x0 34)⟩⌝ ∗ (arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (∃ f', ⌜f' = (rowStep hc arg1 harg1 arg4 harg4 arg13 x0 x3 hw 33 (rowStep hc arg1 harg1 arg4 harg4 arg13 x0 x3 hw 32 f))⌝ ∗ (arg13.view.loc (c : Thread nD τ) ↦[arg13.view.set]{fullShare} f')) ∗ (∃ g', ⌜g' = g⌝ ∗ (arg15.view.loc (c : Thread nD τ) ↦[arg15.view.set]{fullShare} g')))) := by
  rw [k0_part30_eq_skeleton]
  unfold k0_part30_skel
  have hw34 : k0_chk34 i (arg1.view.readAt (Elt F) (Rect.unit (s := S36) ![33] S1.size inb_S36_S1_33).toLoadRect (harg1.unread x0) (Shape.Idx.first (numel1_S1.symm ▸ Nat.one_pos))) := hw 33
  have hw35 : k0_chk35 i (arg1.view.readAt (Elt F) (Rect.unit (s := S36) ![34] S1.size inb_S36_S1_34).toLoadRect (harg1.unread x0) (Shape.Idx.first (numel1_S1.symm ▸ Nat.one_pos))) := hw 34
  iintro ⟨H1, H2, H4, H5, H13, H15⟩
  sl_exec (disch := first | sl_exact hw34 | sl_exact hw35)
  sl_step
  isplitr
  · ipureintro; sl_kernel_rfl
  isplitl [H1]; · iexact H1
  isplitl [H2]; · iexact H2
  isplitl [H4]; · iexact H4
  isplitl [H5]; · iexact H5
  isplitl [H13]
  · iexists _; isplitr; swap; · iexact H13
    ipureintro; sl_kernel_rfl
  iexists _; isplitr; swap; · iexact H15
  ipureintro; sl_kernel_rfl

end Cert.Kernel.Body

end
-- ==== Proof.Kernel.Prep.lean ====
/- The whole preparation of the first grid point. -/
module

public import proofs.«01_k».proof.Proof.Kernel.PrepParts

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The preparation leaves the keep mask in its scratch buffer, and in the scratch weights the dequantised weights with
    the outlier rows put over them in order. -/
theorem prep (c : Dev nD) (i : grid0.Coords) (arg1 : Memref sig .tc .smem S36 .i32) (harg1 : arg1.IsWhole) (arg2 : Memref sig .tc .smem S10x40 .f32) (harg2 : arg2.IsWhole) (arg3 : Memref sig .tc .vmem S512x1280 .bf16) (harg3 : arg3.IsWhole) (arg4 : Memref sig .tc .vmem S36x5120 .bf16) (harg4 : arg4.IsWhole) (arg5 : Memref sig .tc .vmem S1280x5120 .fp8e4m3) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S512x5120 .bf16) (harg8 : arg8.IsWhole) (arg9 : Memref sig .tc .vmem S512x1280 .fp8e4m3) (harg9 : arg9.IsWhole) (arg10 : Memref sig .tc .vmem S512x10 .f32) (harg10 : arg10.IsWhole) (arg11 : Memref sig .tc .vmem S512x5120 .fp8e4m3) (harg11 : arg11.IsWhole) (arg12 : Memref sig .tc .vmem S512x40 .f32) (harg12 : arg12.IsWhole) (arg13 : Memref sig .tc .vmem S1280x5120 .bf16) (harg13 : arg13.IsWhole) (arg14 : Memref sig .tc .vmem S512x1280 .bf16) (harg14 : arg14.IsWhole) (arg15 : Memref sig .tc .vmem S8x1280 .i32) (harg15 : arg15.IsWhole) (hc : k0_cond1 i = 1#1)
    (x0 : Vec F S36 .i32) (x1 : Vec F S10x40 .f32) (x3 : Vec F S36x5120 .bf16) (x4 : Vec F S1280x5120 .fp8e4m3)
    (hw : ∀ j, k0_chk1 i (word arg1 harg1 x0 j)) (E : Set ℕ) (f : BufTy.Contents (Elt F) arg13.view.ty) (g : BufTy.Contents (Elt F) arg15.view.ty) :
    (iprop((arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4) ∗ (arg13.view.loc (c : Thread nD τ) ↦[arg13.view.set]{fullShare} f) ∗ (arg15.view.loc (c : Thread nD τ) ↦[arg15.view.set]{fullShare} g)) : sProp 𝕄)
      ⊢ wp frame (wpE (defs₀ (F := F)) Variants.none c none) E (k0_part31 i arg1 harg1 arg2 harg2 arg3 harg3 arg4 harg4 arg5 harg5 arg6 harg6 arg7 harg7 arg8 harg8 arg9 harg9 arg10 harg10 arg11 harg11 arg12 harg12 arg13 harg13 arg14 harg14 arg15 harg15 hc)
          (fun _ => iprop((arg1.view.loc (c : Thread nD τ) ↦[arg1.view.set]{fullShare} harg1.unread x0) ∗ (arg2.view.loc (c : Thread nD τ) ↦[arg2.view.set]{fullShare} harg2.unread x1) ∗ (arg4.view.loc (c : Thread nD τ) ↦[arg4.view.set]{fullShare} harg4.unread x3) ∗ (arg5.view.loc (c : Thread nD τ) ↦[arg5.view.set]{fullShare} harg5.unread x4)
            ∗ (∃ f', ⌜f' = (List.finRange 36).foldl (fun f j => rowStep hc arg1 harg1 arg4 harg4 arg13 x0 x3 hw j f) (loopC c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x1 x4 (iota .tc S8x1280 32 [1] iota_S8x1280_d1_w32) (k0_pay54 (F := F) (iota .tc S8x1280 32 [1] iota_S8x1280_d1_w32) (k0_pay53 (F := F) (iota .tc S8x1280 32 [1] iota_S8x1280_d1_w32) (k0_pay51 (F := F) (iota .tc S8x1280 32 [1] iota_S8x1280_d1_w32) (k0_pay50 (F := F) (word arg1 harg1 x0 0) (word arg1 harg1 x0 1) (word arg1 harg1 x0 2) (word arg1 harg1 x0 3) (word arg1 harg1 x0 4) (word arg1 harg1 x0 5) (word arg1 harg1 x0 6) (word arg1 harg1 x0 7)) (word arg1 harg1 x0 8) (word arg1 harg1 x0 9) (word arg1 harg1 x0 10) (word arg1 harg1 x0 11) (word arg1 harg1 x0 12) (word arg1 harg1 x0 13) (word arg1 harg1 x0 14) (word arg1 harg1 x0 15)) (k0_pay52 (F := F) (iota .tc S8x1280 32 [1] iota_S8x1280_d1_w32) (word arg1 harg1 x0 16)) (0#32) (word arg1 harg1 x0 17) (word arg1 harg1 x0 18) (word arg1 harg1 x0 19) (word arg1 harg1 x0 20) (word arg1 harg1 x0 21) (word arg1 harg1 x0 22) (word arg1 harg1 x0 23) (word arg1 harg1 x0 24)) (word arg1 harg1 x0 25) (word arg1 harg1 x0 26) (word arg1 harg1 x0 27) (word arg1 harg1 x0 28) (word arg1 harg1 x0 29) (word arg1 harg1 x0 30) (word arg1 harg1 x0 31) (word arg1 harg1 x0 32)) (k0_pay55 (F := F) (iota .tc S8x1280 32 [1] iota_S8x1280_d1_w32) (word arg1 harg1 x0 33)) (k0_pay56) f)⌝ ∗ (arg13.view.loc (c : Thread nD τ) ↦[arg13.view.set]{fullShare} f'))
            ∗ (∃ g', ⌜g' = arg15.view.writes (Elt F) arg15.view.junk [⟨Rect.unit (s := S8x1280) ![0, 0] S8x1280.size inb_S8x1280_S8x1280_0_0, keepMask arg1 harg1 x0⟩]⌝ ∗ (arg15.view.loc (c : Thread nD τ) ↦[arg15.view.set]{fullShare} g')))) := by
  rw [k0_part31_eq_skeleton]
  unfold k0_part31_skel
  have hw36 : k0_chk36 i (arg1.view.readAt (Elt F) (Rect.unit (s := S36) ![35] S1.size inb_S36_S1_35).toLoadRect (harg1.unread x0) (Shape.Idx.first (numel1_S1.symm ▸ Nat.one_pos))) := hw 35
  iintro ⟨H1, H2, H4, H5, H13, H15⟩
  rw [wp_bind]
  iapply (wp_wand_r Idealize.ShloMosaic.frame (wpE (defs₀ (F := F)) Variants.none c none) E)
  isplitl [H1 H2 H4 H5 H13 H15]
  · iapply (part11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x3 x4 hw E f g)
    isplitl [H1]; · iexact H1
    isplitl [H2]; · iexact H2
    isplitl [H4]; · iexact H4
    isplitl [H5]; · iexact H5
    isplitl [H13]; · iexact H13
    iexact H15
  iintro %r ⟨%hr, H1, H2, H4, H5, ⟨%f11, %hf11, H13⟩, ⟨%g11, %hg11, H15⟩⟩
  subst hr
  try dsimp only
  rw [wp_bind]
  iapply (wp_wand_r Idealize.ShloMosaic.frame (wpE (defs₀ (F := F)) Variants.none c none) E)
  isplitl [H1 H2 H4 H5 H13 H15]
  · iapply (part12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x3 x4 hw E f11 g11)
    isplitl [H1]; · iexact H1
    isplitl [H2]; · iexact H2
    isplitl [H4]; · iexact H4
    isplitl [H5]; · iexact H5
    isplitl [H13]; · iexact H13
    iexact H15
  iintro %r ⟨%hr, H1, H2, H4, H5, ⟨%f12, %hf12, H13⟩, ⟨%g12, %hg12, H15⟩⟩
  subst hr
  try dsimp only
  rw [wp_bind]
  iapply (wp_wand_r Idealize.ShloMosaic.frame (wpE (defs₀ (F := F)) Variants.none c none) E)
  isplitl [H1 H2 H4 H5 H13 H15]
  · iapply (part13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x3 x4 hw E f12 g12)
    isplitl [H1]; · iexact H1
    isplitl [H2]; · iexact H2
    isplitl [H4]; · iexact H4
    isplitl [H5]; · iexact H5
    isplitl [H13]; · iexact H13
    iexact H15
  iintro %r ⟨%hr, H1, H2, H4, H5, ⟨%f13, %hf13, H13⟩, ⟨%g13, %hg13, H15⟩⟩
  subst hr
  try dsimp only
  rw [wp_bind]
  iapply (wp_wand_r Idealize.ShloMosaic.frame (wpE (defs₀ (F := F)) Variants.none c none) E)
  isplitl [H1 H2 H4 H5 H13 H15]
  · iapply (part14 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x3 x4 hw E f13 g13)
    isplitl [H1]; · iexact H1
    isplitl [H2]; · iexact H2
    isplitl [H4]; · iexact H4
    isplitl [H5]; · iexact H5
    isplitl [H13]; · iexact H13
    iexact H15
  iintro %r ⟨%hr, H1, H2, H4, H5, ⟨%f14, %hf14, H13⟩, ⟨%g14, %hg14, H15⟩⟩
  subst hr
  try dsimp only
  rw [wp_bind]
  iapply (wp_wand_r Idealize.ShloMosaic.frame (wpE (defs₀ (F := F)) Variants.none c none) E)
  isplitl [H1 H2 H4 H5 H13 H15]
  · iapply (part15 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x3 x4 hw E f14 g14)
    isplitl [H1]; · iexact H1
    isplitl [H2]; · iexact H2
    isplitl [H4]; · iexact H4
    isplitl [H5]; · iexact H5
    isplitl [H13]; · iexact H13
    iexact H15
  iintro %r ⟨%hr, H1, H2, H4, H5, ⟨%f15, %hf15, H13⟩, ⟨%g15, %hg15, H15⟩⟩
  subst hr
  try dsimp only
  rw [wp_bind]
  iapply (wp_wand_r Idealize.ShloMosaic.frame (wpE (defs₀ (F := F)) Variants.none c none) E)
  isplitl [H1 H2 H4 H5 H13 H15]
  · iapply (part16 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x3 x4 hw E f15 g15)
    isplitl [H1]; · iexact H1
    isplitl [H2]; · iexact H2
    isplitl [H4]; · iexact H4
    isplitl [H5]; · iexact H5
    isplitl [H13]; · iexact H13
    iexact H15
  iintro %r ⟨%hr, H1, H2, H4, H5, ⟨%f16, %hf16, H13⟩, ⟨%g16, %hg16, H15⟩⟩
  subst hr
  try dsimp only
  rw [wp_bind]
  iapply (wp_wand_r Idealize.ShloMosaic.frame (wpE (defs₀ (F := F)) Variants.none c none) E)
  isplitl [H1 H2 H4 H5 H13 H15]
  · iapply (part17 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x3 x4 hw E f16 g16)
    isplitl [H1]; · iexact H1
    isplitl [H2]; · iexact H2
    isplitl [H4]; · iexact H4
    isplitl [H5]; · iexact H5
    isplitl [H13]; · iexact H13
    iexact H15
  iintro %r ⟨%hr, H1, H2, H4, H5, ⟨%f17, %hf17, H13⟩, ⟨%g17, %hg17, H15⟩⟩
  subst hr
  try dsimp only
  rw [wp_bind]
  iapply (wp_wand_r Idealize.ShloMosaic.frame (wpE (defs₀ (F := F)) Variants.none c none) E)
  isplitl [H1 H2 H4 H5 H13 H15]
  · iapply (part18 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x3 x4 hw E f17 g17)
    isplitl [H1]; · iexact H1
    isplitl [H2]; · iexact H2
    isplitl [H4]; · iexact H4
    isplitl [H5]; · iexact H5
    isplitl [H13]; · iexact H13
    iexact H15
  iintro %r ⟨%hr, H1, H2, H4, H5, ⟨%f18, %hf18, H13⟩, ⟨%g18, %hg18, H15⟩⟩
  subst hr
  try dsimp only
  rw [← hf18]
  rw [wp_bind]
  iapply (wp_wand_r Idealize.ShloMosaic.frame (wpE (defs₀ (F := F)) Variants.none c none) E)
  isplitl [H1 H2 H4 H5 H13 H15]
  · iapply (part19 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x3 x4 hw E f18 g18)
    isplitl [H1]; · iexact H1
    isplitl [H2]; · iexact H2
    isplitl [H4]; · iexact H4
    isplitl [H5]; · iexact H5
    isplitl [H13]; · iexact H13
    iexact H15
  iintro %r ⟨%hr, H1, H2, H4, H5, ⟨%f19, %hf19, H13⟩, ⟨%g19, %hg19, H15⟩⟩
  subst hr
  try dsimp only
  rw [wp_bind]
  iapply (wp_wand_r Idealize.ShloMosaic.frame (wpE (defs₀ (F := F)) Variants.none c none) E)
  isplitl [H1 H2 H4 H5 H13 H15]
  · iapply (part20 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x3 x4 hw E f19 g19)
    isplitl [H1]; · iexact H1
    isplitl [H2]; · iexact H2
    isplitl [H4]; · iexact H4
    isplitl [H5]; · iexact H5
    isplitl [H13]; · iexact H13
    iexact H15
  iintro %r ⟨%hr, H1, H2, H4, H5, ⟨%f20, %hf20, H13⟩, ⟨%g20, %hg20, H15⟩⟩
  subst hr
  try dsimp only
  rw [wp_bind]
  iapply (wp_wand_r Idealize.ShloMosaic.frame (wpE (defs₀ (F := F)) Variants.none c none) E)
  isplitl [H1 H2 H4 H5 H13 H15]
  · iapply (part21 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x3 x4 hw E f20 g20)
    isplitl [H1]; · iexact H1
    isplitl [H2]; · iexact H2
    isplitl [H4]; · iexact H4
    isplitl [H5]; · iexact H5
    isplitl [H13]; · iexact H13
    iexact H15
  iintro %r ⟨%hr, H1, H2, H4, H5, ⟨%f21, %hf21, H13⟩, ⟨%g21, %hg21, H15⟩⟩
  subst hr
  try dsimp only
  rw [wp_bind]
  iapply (wp_wand_r Idealize.ShloMosaic.frame (wpE (defs₀ (F := F)) Variants.none c none) E)
  isplitl [H1 H2 H4 H5 H13 H15]
  · iapply (part22 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x3 x4 hw E f21 g21)
    isplitl [H1]; · iexact H1
    isplitl [H2]; · iexact H2
    isplitl [H4]; · iexact H4
    isplitl [H5]; · iexact H5
    isplitl [H13]; · iexact H13
    iexact H15
  iintro %r ⟨%hr, H1, H2, H4, H5, ⟨%f22, %hf22, H13⟩, ⟨%g22, %hg22, H15⟩⟩
  subst hr
  try dsimp only
  rw [← hf22]
  rw [wp_bind]
  iapply (wp_wand_r Idealize.ShloMosaic.frame (wpE (defs₀ (F := F)) Variants.none c none) E)
  isplitl [H1 H2 H4 H5 H13 H15]
  · iapply (part23 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x3 x4 hw E f22 g22)
    isplitl [H1]; · iexact H1
    isplitl [H2]; · iexact H2
    isplitl [H4]; · iexact H4
    isplitl [H5]; · iexact H5
    isplitl [H13]; · iexact H13
    iexact H15
  iintro %r ⟨%hr, H1, H2, H4, H5, ⟨%f23, %hf23, H13⟩, ⟨%g23, %hg23, H15⟩⟩
  subst hr
  try dsimp only
  rw [← hf23]
  rw [wp_bind]
  iapply (wp_wand_r Idealize.ShloMosaic.frame (wpE (defs₀ (F := F)) Variants.none c none) E)
  isplitl [H1 H2 H4 H5 H13 H15]
  · iapply (part24 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x3 x4 hw E f23 g23)
    isplitl [H1]; · iexact H1
    isplitl [H2]; · iexact H2
    isplitl [H4]; · iexact H4
    isplitl [H5]; · iexact H5
    isplitl [H13]; · iexact H13
    iexact H15
  iintro %r ⟨%hr, H1, H2, H4, H5, ⟨%f24, %hf24, H13⟩, ⟨%g24, %hg24, H15⟩⟩
  subst hr
  try dsimp only
  rw [wp_bind]
  iapply (wp_wand_r Idealize.ShloMosaic.frame (wpE (defs₀ (F := F)) Variants.none c none) E)
  isplitl [H1 H2 H4 H5 H13 H15]
  · iapply (part25 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x3 x4 hw E f24 g24)
    isplitl [H1]; · iexact H1
    isplitl [H2]; · iexact H2
    isplitl [H4]; · iexact H4
    isplitl [H5]; · iexact H5
    isplitl [H13]; · iexact H13
    iexact H15
  iintro %r ⟨%hr, H1, H2, H4, H5, ⟨%f25, %hf25, H13⟩, ⟨%g25, %hg25, H15⟩⟩
  subst hr
  try dsimp only
  rw [wp_bind]
  iapply (wp_wand_r Idealize.ShloMosaic.frame (wpE (defs₀ (F := F)) Variants.none c none) E)
  isplitl [H1 H2 H4 H5 H13 H15]
  · iapply (part26 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x3 x4 hw E f25 g25)
    isplitl [H1]; · iexact H1
    isplitl [H2]; · iexact H2
    isplitl [H4]; · iexact H4
    isplitl [H5]; · iexact H5
    isplitl [H13]; · iexact H13
    iexact H15
  iintro %r ⟨%hr, H1, H2, H4, H5, ⟨%f26, %hf26, H13⟩, ⟨%g26, %hg26, H15⟩⟩
  subst hr
  try dsimp only
  rw [wp_bind]
  iapply (wp_wand_r Idealize.ShloMosaic.frame (wpE (defs₀ (F := F)) Variants.none c none) E)
  isplitl [H1 H2 H4 H5 H13 H15]
  · iapply (part27 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x3 x4 hw E f26 g26)
    isplitl [H1]; · iexact H1
    isplitl [H2]; · iexact H2
    isplitl [H4]; · iexact H4
    isplitl [H5]; · iexact H5
    isplitl [H13]; · iexact H13
    iexact H15
  iintro %r ⟨%hr, H1, H2, H4, H5, ⟨%f27, %hf27, H13⟩, ⟨%g27, %hg27, H15⟩⟩
  subst hr
  try dsimp only
  rw [← hf27]
  rw [wp_bind]
  iapply (wp_wand_r Idealize.ShloMosaic.frame (wpE (defs₀ (F := F)) Variants.none c none) E)
  isplitl [H1 H2 H4 H5 H13 H15]
  · iapply (part28 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x3 x4 hw E f27 g27)
    isplitl [H1]; · iexact H1
    isplitl [H2]; · iexact H2
    isplitl [H4]; · iexact H4
    isplitl [H5]; · iexact H5
    isplitl [H13]; · iexact H13
    iexact H15
  iintro %r ⟨%hr, H1, H2, H4, H5, ⟨%f28, %hf28, H13⟩, ⟨%g28, %hg28, H15⟩⟩
  subst hr
  try dsimp only
  rw [wp_bind]
  iapply (wp_wand_r Idealize.ShloMosaic.frame (wpE (defs₀ (F := F)) Variants.none c none) E)
  isplitl [H1 H2 H4 H5 H13 H15]
  · iapply (part29 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x3 x4 hw E f28 g28)
    isplitl [H1]; · iexact H1
    isplitl [H2]; · iexact H2
    isplitl [H4]; · iexact H4
    isplitl [H5]; · iexact H5
    isplitl [H13]; · iexact H13
    iexact H15
  iintro %r ⟨%hr, H1, H2, H4, H5, ⟨%f29, %hf29, H13⟩, ⟨%g29, %hg29, H15⟩⟩
  subst hr
  try dsimp only
  rw [wp_bind]
  iapply (wp_wand_r Idealize.ShloMosaic.frame (wpE (defs₀ (F := F)) Variants.none c none) E)
  isplitl [H1 H2 H4 H5 H13 H15]
  · iapply (part30 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x3 x4 hw E f29 g29)
    isplitl [H1]; · iexact H1
    isplitl [H2]; · iexact H2
    isplitl [H4]; · iexact H4
    isplitl [H5]; · iexact H5
    isplitl [H13]; · iexact H13
    iexact H15
  iintro %r ⟨%hr, H1, H2, H4, H5, ⟨%f30, %hf30, H13⟩, ⟨%g30, %hg30, H15⟩⟩
  subst hr
  try dsimp only
  sl_exec (disch := first | sl_exact hw36)
  sl_step
  isplitl [H1]; · iexact H1
  isplitl [H2]; · iexact H2
  isplitl [H4]; · iexact H4
  isplitl [H5]; · iexact H5
  isplitl [H13]
  · iexists _; isplitr; swap; · iexact H13
    ipureintro
    subst hf11 hf12 hf13 hf14 hf15 hf16 hf17 hf18 hf19 hf20 hf21 hf22 hf23 hf24 hf25 hf26 hf27 hf28 hf29 hf30
    sl_kernel_rfl
  iexists _; isplitr; swap; · iexact H15
  ipureintro
  subst hg11 hg12 hg13 hg14 hg15 hg16 hg17 hg18 hg19 hg20 hg21 hg22 hg23 hg24 hg25 hg26 hg27 hg28 hg29 hg30
  sl_kernel_rfl

end Cert.Kernel.Body

end
-- ==== Proof.Kernel.Weights.lean ====
/- What the preparation leaves in the scratch weights, index by index. -/
module

public import proofs.«01_k».proof.Proof.Kernel.PrepDefs
public import Idealize.ShloMosaic.Lib.Pipeline.ValueKit
public import Idealize.ShloMosaic.Lib.Writes
public import Idealize.ShloMosaic.Lib.WritesUnit
public import Idealize.ShloMosaic.Lib.PointwiseCore

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- Where the dequantising loop's trip `k` writes its tile `n`. -/
abbrev tOff (k : Fin k0_t1_loop.trips) (n : Fin 40) : Fin 2 → ℕ := ![(Scalar.indexCast (Scalar.muli (Scf.iv 0#32 1#32 k) 128#32)).toNat, 128 * n.val]
/-- Where it reads that tile's scale. -/
abbrev sOff (k : Fin k0_t1_loop.trips) (n : Fin 40) : Fin 2 → ℕ := ![(Scalar.indexCast (Scf.iv 0#32 1#32 k)).toNat, n.val]

/-- The dequantising loop takes ten turns. -/
theorem trips_eq : k0_t1_loop.trips = 10 := by decide +kernel
/-- A turn's first row of the weights. -/
theorem tRow (k : Fin k0_t1_loop.trips) : (Scalar.indexCast (Scalar.muli (Scf.iv 0#32 1#32 k) 128#32)).toNat = 128 * k.val := by
  revert k; decide +kernel
/-- A turn's row of the weight scales. -/
theorem sRow (k : Fin k0_t1_loop.trips) : (Scalar.indexCast (Scf.iv 0#32 1#32 k)).toNat = k.val := by
  revert k; decide +kernel
/-- Each tile of a turn lies inside the weights. -/
theorem inbT (k : Fin k0_t1_loop.trips) (n : Fin 40) : ∀ a, tOff k n a + S128x128.size a ≤ S1280x5120.size a := by
  have hk : k.val < 10 := lt_of_lt_of_eq k.isLt trips_eq
  have hn := n.isLt
  have h := tRow k
  intro a; match a with
  | ⟨0, _⟩ => show (Scalar.indexCast _).toNat + 128 ≤ 1280; omega
  | ⟨1, _⟩ => show 128 * n.val + 128 ≤ 5120; omega
/-- Each scale of a turn lies inside the weight scales. -/
theorem inbS (k : Fin k0_t1_loop.trips) (n : Fin 40) : ∀ a, sOff k n a + S1x1.size a ≤ S10x40.size a := by
  have hk : k.val < 10 := lt_of_lt_of_eq k.isLt trips_eq
  have hn := n.isLt
  have h := sRow k
  intro a; match a with
  | ⟨0, _⟩ => show (Scalar.indexCast _).toNat + 1 ≤ 10; omega
  | ⟨1, _⟩ => show n.val + 1 ≤ 40; omega

set_option maxHeartbeats 1000000 in
/-- One trip of the dequantising loop writes 40 tiles, each the tile of codes times its scale. -/
theorem trip_list (c : Dev nD) (i : grid0.Coords) (arg1 : Memref sig .tc .smem S36 .i32) (harg1 : arg1.IsWhole) (arg2 : Memref sig .tc .smem S10x40 .f32) (harg2 : arg2.IsWhole) (arg3 : Memref sig .tc .vmem S512x1280 .bf16) (harg3 : arg3.IsWhole) (arg4 : Memref sig .tc .vmem S36x5120 .bf16) (harg4 : arg4.IsWhole) (arg5 : Memref sig .tc .vmem S1280x5120 .fp8e4m3) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S512x5120 .bf16) (harg8 : arg8.IsWhole) (arg9 : Memref sig .tc .vmem S512x1280 .fp8e4m3) (harg9 : arg9.IsWhole) (arg10 : Memref sig .tc .vmem S512x10 .f32) (harg10 : arg10.IsWhole) (arg11 : Memref sig .tc .vmem S512x5120 .fp8e4m3) (harg11 : arg11.IsWhole) (arg12 : Memref sig .tc .vmem S512x40 .f32) (harg12 : arg12.IsWhole) (arg13 : Memref sig .tc .vmem S1280x5120 .bf16) (harg13 : arg13.IsWhole) (arg14 : Memref sig .tc .vmem S512x1280 .bf16) (harg14 : arg14.IsWhole) (arg15 : Memref sig .tc .vmem S8x1280 .i32) (harg15 : arg15.IsWhole) (hc : k0_cond1 i = 1#1) (x1 : Vec F S10x40 .f32) (x4 : Vec F S1280x5120 .fp8e4m3)
    (a1 a2 : IVec S8x1280 32) (a3 : IVec S8x1280 1) (a4 : IVec S8x1280 32) (k : Fin k0_t1_loop.trips) :
    (trip_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 hc a1 a2 a3 a4 (harg2.unread x1) (harg5.unread x4) k).1
      = List.ofFn fun n : Fin 40 => ⟨Rect.unit (s := S1280x5120) (tOff k n.rev) S128x128.size (inbT k n.rev),
          k0_pay5 (arg2.view.readAt (Elt F) (Rect.unit (s := S10x40) (sOff k n.rev) S1x1.size (inbS k n.rev)).toLoadRect (harg2.unread x1) (Shape.Idx.first (numel1_S1x1.symm ▸ Nat.one_pos)))
            (arg5.view.readAt (Elt F) (Rect.unit (s := S1280x5120) (tOff k n.rev) S128x128.size (inbT k n.rev)).toLoadRect (harg5.unread x4))⟩ := by
  unfold trip_k0_t1
  sl_kernel_rfl

/-- The dequantised weights: each code times the scale of its 128 by 128 tile. -/
def deq (x1 : Vec F S10x40 .f32) (x4 : Vec F S1280x5120 .fp8e4m3) : Vec F S1280x5120 .bf16 := fun y =>
  FloatOps.mulf (FloatOps.extf FTy.bf16 bitsLt_fp8e4m3_bf16 (x4 y))
    (FloatOps.truncf FTy.bf16 bitsLt_bf16_f32 (x1 (ix2 (⟨(y 0).val / 128, by have := (y 0).isLt; change _ < 1280 at this; omega⟩ : Fin 10)
      (⟨(y 1).val / 128, by have := (y 1).isLt; change _ < 5120 at this; omega⟩ : Fin 40))))

/-- An element of a dequantised tile: the code times the scale. -/
theorem pay5_at (s : Elt F .f32) (t : Vec F S128x128 .fp8e4m3) (x : S128x128.Idx) :
    k0_pay5 s t x = FloatOps.mulf (FloatOps.extf FTy.bf16 bitsLt_fp8e4m3_bf16 (t x)) (FloatOps.truncf FTy.bf16 bitsLt_bf16_f32 s) := by
  pointwise [k0_pay5]

/-- An element of the pair of rows written for an outlier: the new row at the index's parity, the old row at the other. -/
theorem pay61_at (v : BitVec 32) (r : Vec F S1x5120 .bf16) (t : Vec F S2x5120 .bf16) (x : S2x5120.Idx) :
    k0_pay61 v r t x = Scalar.select (IntOp.cmpi CmpIPredicate.eq (BitVec.ofNat 32 (x 0).val) (Scalar.andi v 1#32)) (r (ix2 0 (x 1))) (t x) := by
  pointwise [k0_pay61]

/-- Each tile of a trip is the dequantised weights there. -/
theorem trip_pieces (c : Dev nD) (i : grid0.Coords) (arg1 : Memref sig .tc .smem S36 .i32) (harg1 : arg1.IsWhole) (arg2 : Memref sig .tc .smem S10x40 .f32) (harg2 : arg2.IsWhole) (arg3 : Memref sig .tc .vmem S512x1280 .bf16) (harg3 : arg3.IsWhole) (arg4 : Memref sig .tc .vmem S36x5120 .bf16) (harg4 : arg4.IsWhole) (arg5 : Memref sig .tc .vmem S1280x5120 .fp8e4m3) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S512x5120 .bf16) (harg8 : arg8.IsWhole) (arg9 : Memref sig .tc .vmem S512x1280 .fp8e4m3) (harg9 : arg9.IsWhole) (arg10 : Memref sig .tc .vmem S512x10 .f32) (harg10 : arg10.IsWhole) (arg11 : Memref sig .tc .vmem S512x5120 .fp8e4m3) (harg11 : arg11.IsWhole) (arg12 : Memref sig .tc .vmem S512x40 .f32) (harg12 : arg12.IsWhole) (arg13 : Memref sig .tc .vmem S1280x5120 .bf16) (harg13 : arg13.IsWhole) (arg14 : Memref sig .tc .vmem S512x1280 .bf16) (harg14 : arg14.IsWhole) (arg15 : Memref sig .tc .vmem S8x1280 .i32) (harg15 : arg15.IsWhole) (hc : k0_cond1 i = 1#1) (x1 : Vec F S10x40 .f32) (x4 : Vec F S1280x5120 .fp8e4m3)
    (a1 a2 : IVec S8x1280 32) (a3 : IVec S8x1280 1) (a4 : IVec S8x1280 32) (k : Fin k0_t1_loop.trips) :
    ∀ p ∈ (trip_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 hc a1 a2 a3 a4 (harg2.unread x1) (harg5.unread x4) k).1,
      ∀ x : p.1.shape.Idx, p.2 x = deq x1 x4 (p.1.emb x) := by
  rw [trip_list]
  intro p hp
  obtain ⟨n, rfl⟩ := (List.mem_ofFn' _ _).mp hp
  intro x
  have hx0 : (x 0).val < 128 := (x 0).isLt
  have hx1 : (x 1).val < 128 := (x 1).isLt
  refine (pay5_at _ _ x).trans ?_
  rw [View.readAt_eq_ld, View.readAt_eq_ld, harg2.read_unread, harg5.read_unread]
  unfold deq
  refine congrArg₂ _ rfl (congrArg _ (congrArg x1 ?_))
  funext a
  apply Fin.ext
  have h0 := tRow k
  have h1 := sRow k
  match a with
  | ⟨0, _⟩ =>
    show (Scalar.indexCast (Scf.iv 0#32 1#32 k)).toNat + 1 * 0 = ((Scalar.indexCast (Scalar.muli (Scf.iv 0#32 1#32 k) 128#32)).toNat + 1 * (x 0).val) / 128
    omega
  | ⟨1, _⟩ =>
    show n.rev.val + 1 * 0 = (128 * n.rev.val + 1 * (x 1).val) / 128
    omega

/-- A trip's tiles cover its 128 rows. -/
theorem trip_cover (c : Dev nD) (i : grid0.Coords) (arg1 : Memref sig .tc .smem S36 .i32) (harg1 : arg1.IsWhole) (arg2 : Memref sig .tc .smem S10x40 .f32) (harg2 : arg2.IsWhole) (arg3 : Memref sig .tc .vmem S512x1280 .bf16) (harg3 : arg3.IsWhole) (arg4 : Memref sig .tc .vmem S36x5120 .bf16) (harg4 : arg4.IsWhole) (arg5 : Memref sig .tc .vmem S1280x5120 .fp8e4m3) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S512x5120 .bf16) (harg8 : arg8.IsWhole) (arg9 : Memref sig .tc .vmem S512x1280 .fp8e4m3) (harg9 : arg9.IsWhole) (arg10 : Memref sig .tc .vmem S512x10 .f32) (harg10 : arg10.IsWhole) (arg11 : Memref sig .tc .vmem S512x5120 .fp8e4m3) (harg11 : arg11.IsWhole) (arg12 : Memref sig .tc .vmem S512x40 .f32) (harg12 : arg12.IsWhole) (arg13 : Memref sig .tc .vmem S1280x5120 .bf16) (harg13 : arg13.IsWhole) (arg14 : Memref sig .tc .vmem S512x1280 .bf16) (harg14 : arg14.IsWhole) (arg15 : Memref sig .tc .vmem S8x1280 .i32) (harg15 : arg15.IsWhole) (hc : k0_cond1 i = 1#1) (x1 : Vec F S10x40 .f32) (x4 : Vec F S1280x5120 .fp8e4m3)
    (a1 a2 : IVec S8x1280 32) (a3 : IVec S8x1280 1) (a4 : IVec S8x1280 32) (k : Fin k0_t1_loop.trips) (y : S1280x5120.Idx) (h : (y 0).val / 128 = k.val) :
    ∃ p ∈ (trip_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 hc a1 a2 a3 a4 (harg2.unread x1) (harg5.unread x4) k).1, y ∈ p.1.set := by
  rw [trip_list]
  have hy1 : (y 1).val < 5120 := (y 1).isLt
  refine ⟨_, (List.mem_ofFn' _ _).mpr ⟨(⟨(y 1).val / 128, by omega⟩ : Fin 40).rev, rfl⟩, ?_⟩
  rw [Rect.mem_set_unit]
  have h0 := tRow k
  intro a
  match a with
  | ⟨0, _⟩ =>
    show (Scalar.indexCast (Scalar.muli (Scf.iv 0#32 1#32 k) 128#32)).toNat ≤ (y 0).val ∧ (y 0).val < (Scalar.indexCast (Scalar.muli (Scf.iv 0#32 1#32 k) 128#32)).toNat + 128
    omega
  | ⟨1, _⟩ =>
    rw [Fin.rev_rev]
    show 128 * ((y 1).val / 128) ≤ (y 1).val ∧ (y 1).val < 128 * ((y 1).val / 128) + 128
    omega

/-- The first `n` trips leave the dequantised weights in their rows. -/
theorem trips_pieces (c : Dev nD) (i : grid0.Coords) (arg1 : Memref sig .tc .smem S36 .i32) (harg1 : arg1.IsWhole) (arg2 : Memref sig .tc .smem S10x40 .f32) (harg2 : arg2.IsWhole) (arg3 : Memref sig .tc .vmem S512x1280 .bf16) (harg3 : arg3.IsWhole) (arg4 : Memref sig .tc .vmem S36x5120 .bf16) (harg4 : arg4.IsWhole) (arg5 : Memref sig .tc .vmem S1280x5120 .fp8e4m3) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S512x5120 .bf16) (harg8 : arg8.IsWhole) (arg9 : Memref sig .tc .vmem S512x1280 .fp8e4m3) (harg9 : arg9.IsWhole) (arg10 : Memref sig .tc .vmem S512x10 .f32) (harg10 : arg10.IsWhole) (arg11 : Memref sig .tc .vmem S512x5120 .fp8e4m3) (harg11 : arg11.IsWhole) (arg12 : Memref sig .tc .vmem S512x40 .f32) (harg12 : arg12.IsWhole) (arg13 : Memref sig .tc .vmem S1280x5120 .bf16) (harg13 : arg13.IsWhole) (arg14 : Memref sig .tc .vmem S512x1280 .bf16) (harg14 : arg14.IsWhole) (arg15 : Memref sig .tc .vmem S8x1280 .i32) (harg15 : arg15.IsWhole) (hc : k0_cond1 i = 1#1) (x1 : Vec F S10x40 .f32) (x4 : Vec F S1280x5120 .fp8e4m3)
    (a1 a2 : IVec S8x1280 32) (a3 : IVec S8x1280 1) (a4 : IVec S8x1280 32) (n : ℕ) (hn : n ≤ k0_t1_loop.trips) :
    (∀ p ∈ pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 hc a1 a2 a3 a4 (harg2.unread x1) (harg5.unread x4) n, ∀ x : p.1.shape.Idx, p.2 x = deq x1 x4 (p.1.emb x))
      ∧ ∀ y : S1280x5120.Idx, (y 0).val / 128 < n → ∃ p ∈ pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 hc a1 a2 a3 a4 (harg2.unread x1) (harg5.unread x4) n, y ∈ p.1.set := by
  induction n with
  | zero => exact ⟨fun p hp => absurd hp (by simp [pb_k0_t1]), fun y h => absurd h (Nat.not_lt_zero _)⟩
  | succ n ih =>
    obtain ⟨ih1, ih2⟩ := ih (Nat.le_of_succ_le hn)
    have e := pb_k0_t1_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 hc a1 a2 a3 a4 (harg2.unread x1) (harg5.unread x4) ⟨n, hn⟩
    rw [show ((⟨n, hn⟩ : Fin k0_t1_loop.trips).val + 1) = n + 1 from rfl] at e
    rw [e]
    refine ⟨fun p hp => ?_, fun y h => ?_⟩
    · rcases List.mem_append.mp hp with hp | hp
      · exact trip_pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x1 x4 a1 a2 a3 a4 ⟨n, hn⟩ p hp
      · exact ih1 p hp
    · by_cases hy : (y 0).val / 128 = n
      · obtain ⟨p, hp, h'⟩ := trip_cover c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x1 x4 a1 a2 a3 a4 ⟨n, hn⟩ y hy
        exact ⟨p, List.mem_append_left _ hp, h'⟩
      · obtain ⟨p, hp, h'⟩ := ih2 y (by omega)
        exact ⟨p, List.mem_append_right _ hp, h'⟩

/-- The dequantising loop leaves the dequantised weights. -/
theorem read_loopC (c : Dev nD) (i : grid0.Coords) (arg1 : Memref sig .tc .smem S36 .i32) (harg1 : arg1.IsWhole) (arg2 : Memref sig .tc .smem S10x40 .f32) (harg2 : arg2.IsWhole) (arg3 : Memref sig .tc .vmem S512x1280 .bf16) (harg3 : arg3.IsWhole) (arg4 : Memref sig .tc .vmem S36x5120 .bf16) (harg4 : arg4.IsWhole) (arg5 : Memref sig .tc .vmem S1280x5120 .fp8e4m3) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S512x5120 .bf16) (harg8 : arg8.IsWhole) (arg9 : Memref sig .tc .vmem S512x1280 .fp8e4m3) (harg9 : arg9.IsWhole) (arg10 : Memref sig .tc .vmem S512x10 .f32) (harg10 : arg10.IsWhole) (arg11 : Memref sig .tc .vmem S512x5120 .fp8e4m3) (harg11 : arg11.IsWhole) (arg12 : Memref sig .tc .vmem S512x40 .f32) (harg12 : arg12.IsWhole) (arg13 : Memref sig .tc .vmem S1280x5120 .bf16) (harg13 : arg13.IsWhole) (arg14 : Memref sig .tc .vmem S512x1280 .bf16) (harg14 : arg14.IsWhole) (arg15 : Memref sig .tc .vmem S8x1280 .i32) (harg15 : arg15.IsWhole) (hc : k0_cond1 i = 1#1) (x1 : Vec F S10x40 .f32) (x4 : Vec F S1280x5120 .fp8e4m3)
    (a1 a2 : IVec S8x1280 32) (a3 : IVec S8x1280 1) (a4 : IVec S8x1280 32) (f : BufTy.Contents (Elt F) arg13.view.ty) :
    arg13.view.read (Elt F) (loopC c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x1 x4 a1 a2 a3 a4 f) = deq x1 x4 := by
  funext y
  have hp := trips_pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x1 x4 a1 a2 a3 a4 k0_t1_loop.trips le_rfl
  have hy : (y 0).val < 1280 := (y 0).isLt
  exact View.read_writes_apply_of_pieces _ _ (deq x1 x4) _ hp.1 y (hp.2 y (by rw [trips_eq]; omega))

/-- Weights with the row named by the word `v` replaced by `r`. -/
def putAt (v : BitVec 32) (r : Vec F S1x5120 .bf16) (w : Vec F S1280x5120 .bf16) : Vec F S1280x5120 .bf16 := fun y =>
  if (y 0).val = v.toNat then r (ix2 0 (y 1)) else w y

/-- The pair of rows written for an outlier starts at the even row at or below its index. -/
theorem off81_at (v : BitVec 32) : k0_off81 v = ![v.toNat / 2 * 2, 0] := by
  unfold k0_off81
  have h : (Scalar.indexCast (Scalar.muli (Scalar.shrui v 1#32) 2#32)).toNat = v.toNat / 2 * 2 := by
    have h1 : (Scalar.shrui v 1#32).toNat = v.toNat / 2 := by
      show (v >>> (1#32).toNat).toNat = _
      simp [BitVec.toNat_ushiftRight, Nat.shiftRight_eq_div_pow]
    show (Scalar.shrui v 1#32 * 2#32).toNat = _
    rw [BitVec.toNat_mul, h1]
    have := v.isLt
    simp only [BitVec.toNat_ofNat]
    omega
  simp only [h]

/-- A row index below 1280 meets the conditions under which the body's loads and stores of that row's pair are defined. -/
theorem chk_of_lt (i : grid0.Coords) (v : BitVec 32) (h : v.toNat < 1280) : k0_chk1 i v := by
  have hm : (k0_mult2 v).toNat = v.toNat / 2 * 2 := congrFun (off81_at v) 0
  have hin : ∀ a, (k0_off81 v) a + S2x5120.size a ≤ S1280x5120.size a := by
    rw [off81_at]
    intro a
    match a with
    | ⟨0, _⟩ => show v.toNat / 2 * 2 + 2 ≤ 1280; omega
    | ⟨1, _⟩ => show 0 + 5120 ≤ 5120; omega
  refine ⟨fun _ => by rw [hm]; exact ⟨_, Nat.mul_comm _ _⟩, fun _ => hin, fun _ hinb => ?_⟩
  rw [Rect.packedRows_iff_at]
  refine Or.inr ⟨le_refl 2, rfl, Or.inl ⟨?_, ⟨1, rfl⟩⟩⟩
  show 2 ∣ k0_off81 v 0
  rw [off81_at]
  exact ⟨_, Nat.mul_comm _ _⟩

/-- Putting an outlier row into the scratch weights replaces that row and nothing else. -/
theorem read_rowStep {i : grid0.Coords} (hc : k0_cond1 i = 1#1) (arg1 : Memref sig .tc .smem S36 .i32) (harg1 : arg1.IsWhole)
    (arg4 : Memref sig .tc .vmem S36x5120 .bf16) (harg4 : arg4.IsWhole) (arg13 : Memref sig .tc .vmem S1280x5120 .bf16)
    (x0 : Vec F S36 .i32) (x3 : Vec F S36x5120 .bf16) (hw : ∀ j, k0_chk1 i (word arg1 harg1 x0 j)) (j : Fin 36)
    (f : BufTy.Contents (Elt F) arg13.view.ty) (hlt : (word arg1 harg1 x0 j).toNat < 1280) :
    arg13.view.read (Elt F) (rowStep hc arg1 harg1 arg4 harg4 arg13 x0 x3 hw j f)
      = putAt (word arg1 harg1 x0 j) (row arg4 harg4 x3 j) (arg13.view.read (Elt F) f) := by
  funext y
  unfold rowStep putAt
  set v := word arg1 harg1 x0 j with hv
  have hy0 : (y 0).val < 1280 := (y 0).isLt
  refine (View.read_writes_cons_rows (d := ![1280, 5120]) (size := S2x5120.size) (W := 2) arg13.view f (k0_off81_inb i v (hw j) hc)
    (k0_pay61 v (row arg4 harg4 x3 j) (tile hc arg1 harg1 arg13 x0 hw j f)) [] y (off81_at v) rfl rfl).trans ?_
  have hand : (Scalar.andi v 1#32).toNat = v.toNat % 2 := by
    show (v &&& 1#32).toNat = _
    rw [BitVec.toNat_and]
    simp [Nat.and_one_is_mod]
  by_cases h : v.toNat / 2 * 2 ≤ (y 0).val ∧ (y 0).val < v.toNat / 2 * 2 + 2
  · rw [dif_pos h, pay61_at]
    have hl0 : ((Rect.unitLocal (s := S1280x5120) (off := ![v.toNat / 2 * 2, 0]) (size := S2x5120.size) y (Rect.unit_rows_mem y rfl rfl h)) 0).val
        = (y 0).val - v.toNat / 2 * 2 := rfl
    by_cases he : (y 0).val = v.toNat
    · rw [if_pos he]
      have : IntOp.cmpi CmpIPredicate.eq (BitVec.ofNat 32 ((y 0).val - v.toNat / 2 * 2)) (Scalar.andi v 1#32) = 1#1 := by
        have : BitVec.ofNat 32 ((y 0).val - v.toNat / 2 * 2) = Scalar.andi v 1#32 := by
          apply BitVec.eq_of_toNat_eq
          rw [hand, BitVec.toNat_ofNat]
          omega
        rw [this]
        simp [IntOp.cmpi]
      rw [hl0, this]
      refine congrArg (row arg4 harg4 x3 j) ?_
      funext a
      apply Fin.ext
      match a with
      | ⟨0, _⟩ => rfl
      | ⟨1, _⟩ => rfl
    · rw [if_neg he]
      have : IntOp.cmpi CmpIPredicate.eq (BitVec.ofNat 32 ((y 0).val - v.toNat / 2 * 2)) (Scalar.andi v 1#32) = 0#1 := by
        have : BitVec.ofNat 32 ((y 0).val - v.toNat / 2 * 2) ≠ Scalar.andi v 1#32 := by
          intro e
          have e' := congrArg BitVec.toNat e
          rw [hand, BitVec.toNat_ofNat] at e'
          omega
        show BitVec.ofBool (BitVec.ofNat 32 ((y 0).val - v.toNat / 2 * 2) == Scalar.andi v 1#32) = 0#1
        rw [beq_eq_false_iff_ne.mpr this]
        rfl
      rw [hl0, this]
      show tile hc arg1 harg1 arg13 x0 hw j f _ = _
      unfold tile
      rw [View.readAt_eq_ld]
      refine congrArg (arg13.view.read (Elt F) f) ?_
      funext a
      apply Fin.ext
      match a with
      | ⟨0, _⟩ =>
        have := congrFun (off81_at v) 0
        show k0_off81 v 0 + 1 * ((y 0).val - v.toNat / 2 * 2) = (y 0).val
        rw [this]
        show v.toNat / 2 * 2 + 1 * ((y 0).val - v.toNat / 2 * 2) = (y 0).val
        omega
      | ⟨1, _⟩ =>
        have := congrFun (off81_at v) 1
        show k0_off81 v 1 + 1 * ((y 1).val - 0) = (y 1).val
        rw [this]
        show 0 + 1 * ((y 1).val - 0) = (y 1).val
        omega
  · have he : ¬ (y 0).val = v.toNat := fun e => h (by constructor <;> omega)
    rw [dif_neg h, if_neg he]
    rfl

/-- Index `j`, as the body loads it. -/
theorem word_eq (arg1 : Memref sig .tc .smem S36 .i32) (harg1 : arg1.IsWhole) (x0 : Vec F S36 .i32) (j : Fin 36) :
    word (F := F) arg1 harg1 x0 j = x0 (ix1 j) := by
  unfold word
  rw [View.readAt_eq_ld, harg1.read_unread]
  refine congrArg x0 ?_
  funext a
  apply Fin.ext
  match a with
  | ⟨0, _⟩ => show j.val + 1 * 0 = j.val; omega

/-- Outlier row `j`, as the body loads it. -/
theorem row_eq (arg4 : Memref sig .tc .vmem S36x5120 .bf16) (harg4 : arg4.IsWhole) (x3 : Vec F S36x5120 .bf16) (j : Fin 36) (a : Fin 1) (n : Fin 5120) :
    row arg4 harg4 x3 j (ix2 a n) = x3 (ix2 j n) := by
  unfold row
  rw [View.readAt_eq_ld, harg4.read_unread]
  refine congrArg x3 ?_
  funext b
  apply Fin.ext
  match b with
  | ⟨0, _⟩ => show j.val + 1 * a.val = j.val; omega
  | ⟨1, _⟩ => show 0 + 1 * n.val = n.val; omega

/-- The scratch weights: the dequantised weights with the outlier rows put over them in order. -/
def scratchW (x0 : Vec F S36 .i32) (x1 : Vec F S10x40 .f32) (x3 : Vec F S36x5120 .bf16) (x4 : Vec F S1280x5120 .fp8e4m3) : Vec F S1280x5120 .bf16 :=
  (List.finRange 36).foldl (fun w j y => if (y 0).val = (x0 (ix1 j)).toNat then x3 (ix2 j (y 1)) else w y) (deq x1 x4)

/-- The preparation's scratch weights, read back. -/
theorem read_rows {i : grid0.Coords} (hc : k0_cond1 i = 1#1) (arg1 : Memref sig .tc .smem S36 .i32) (harg1 : arg1.IsWhole)
    (arg4 : Memref sig .tc .vmem S36x5120 .bf16) (harg4 : arg4.IsWhole) (arg13 : Memref sig .tc .vmem S1280x5120 .bf16)
    (x0 : Vec F S36 .i32) (x1 : Vec F S10x40 .f32) (x3 : Vec F S36x5120 .bf16) (x4 : Vec F S1280x5120 .fp8e4m3)
    (hw : ∀ j, k0_chk1 i (word arg1 harg1 x0 j)) (hlt : ∀ j : Fin 36, (x0 (ix1 j)).toNat < 1280)
    (f : BufTy.Contents (Elt F) arg13.view.ty) (hf : arg13.view.read (Elt F) f = deq x1 x4) :
    arg13.view.read (Elt F) ((List.finRange 36).foldl (fun f j => rowStep hc arg1 harg1 arg4 harg4 arg13 x0 x3 hw j f) f) = scratchW x0 x1 x3 x4 := by
  unfold scratchW
  rw [← hf]
  generalize List.finRange 36 = l
  clear hf
  induction l generalizing f with
  | nil => rfl
  | cons j l ih =>
    rw [List.foldl_cons, List.foldl_cons, ih, read_rowStep _ _ _ _ _ _ _ _ _ _ _ (by rw [word_eq]; exact hlt j)]
    refine congrArg (fun w => List.foldl _ w l) ?_
    funext y
    unfold putAt
    rw [word_eq]
    split
    · exact row_eq arg4 harg4 x3 j 0 (y 1)
    · rfl

end Cert.Kernel.Body

end
-- ==== Proof.Kernel.First.lean ====
/- What the first part of a grid point leaves in the two carried scratch buffers: at the first point the prepared
   weights and keep mask, at every later point what they held. -/
module

public import proofs.«01_k».proof.Proof.Kernel.Prep
public import proofs.«01_k».proof.Proof.Kernel.Weights
public import proofs.«01_k».proof.Proof.Kernel.BodyRest
public import Idealize.ShloMosaic.Lib.VecWindow

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The keep mask: all ones, zero in the columns the outlier indices name. -/
def scratchK (x0 : Vec F S36 .i32) : Vec F S8x1280 .i32 :=
  k0_pay57 (F := F) (iota .tc S8x1280 32 [1] iota_S8x1280_d1_w32) (k0_pay54 (F := F) (iota .tc S8x1280 32 [1] iota_S8x1280_d1_w32) (k0_pay53 (F := F) (iota .tc S8x1280 32 [1] iota_S8x1280_d1_w32) (k0_pay51 (F := F) (iota .tc S8x1280 32 [1] iota_S8x1280_d1_w32) (k0_pay50 (F := F) (x0 (ix1 0)) (x0 (ix1 1)) (x0 (ix1 2)) (x0 (ix1 3)) (x0 (ix1 4)) (x0 (ix1 5)) (x0 (ix1 6)) (x0 (ix1 7))) (x0 (ix1 8)) (x0 (ix1 9)) (x0 (ix1 10)) (x0 (ix1 11)) (x0 (ix1 12)) (x0 (ix1 13)) (x0 (ix1 14)) (x0 (ix1 15))) (k0_pay52 (F := F) (iota .tc S8x1280 32 [1] iota_S8x1280_d1_w32) (x0 (ix1 16))) (0#32) (x0 (ix1 17)) (x0 (ix1 18)) (x0 (ix1 19)) (x0 (ix1 20)) (x0 (ix1 21)) (x0 (ix1 22)) (x0 (ix1 23)) (x0 (ix1 24))) (x0 (ix1 25)) (x0 (ix1 26)) (x0 (ix1 27)) (x0 (ix1 28)) (x0 (ix1 29)) (x0 (ix1 30)) (x0 (ix1 31)) (x0 (ix1 32))) (k0_pay55 (F := F) (iota .tc S8x1280 32 [1] iota_S8x1280_d1_w32) (x0 (ix1 33))) (k0_pay56) (x0 (ix1 34)) (x0 (ix1 35))

/-- The mask the first point writes, in terms of the index argument. -/
theorem keepMask_eq (arg1 : Memref sig .tc .smem S36 .i32) (harg1 : arg1.IsWhole) (x0 : Vec F S36 .i32) :
    keepMask (F := F) arg1 harg1 x0 = scratchK x0 := by
  unfold keepMask scratchK
  simp only [word_eq]

set_option maxHeartbeats 1000000 in
/-- The first point's first part, from any contents of the carried scratch buffers. -/
theorem part32_first (c : Dev nD) (i : grid0.Coords) (arg1 : Memref sig .tc .smem S36 .i32) (harg1 : arg1.IsWhole) (arg2 : Memref sig .tc .smem S10x40 .f32) (harg2 : arg2.IsWhole) (arg3 : Memref sig .tc .vmem S512x1280 .bf16) (harg3 : arg3.IsWhole) (arg4 : Memref sig .tc .vmem S36x5120 .bf16) (harg4 : arg4.IsWhole) (arg5 : Memref sig .tc .vmem S1280x5120 .fp8e4m3) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S512x5120 .bf16) (harg8 : arg8.IsWhole) (arg9 : Memref sig .tc .vmem S512x1280 .fp8e4m3) (harg9 : arg9.IsWhole) (arg10 : Memref sig .tc .vmem S512x10 .f32) (harg10 : arg10.IsWhole) (arg11 : Memref sig .tc .vmem S512x5120 .fp8e4m3) (harg11 : arg11.IsWhole) (arg12 : Memref sig .tc .vmem S512x40 .f32) (harg12 : arg12.IsWhole) (arg13 : Memref sig .tc .vmem S1280x5120 .bf16) (harg13 : arg13.IsWhole) (arg14 : Memref sig .tc .vmem S512x1280 .bf16) (harg14 : arg14.IsWhole) (arg15 : Memref sig .tc .vmem S8x1280 .i32) (harg15 : arg15.IsWhole) (hc : k0_cond1 i = 1#1)
    (x0 : Vec F S36 .i32) (x1 : Vec F S10x40 .f32) (x2 : Vec F S512x1280 .bf16) (x3 : Vec F S36x5120 .bf16) (x4 : Vec F S1280x5120 .fp8e4m3)
    (hlt : ∀ j : Fin 36, (x0 (ix1 j)).toNat < 1280) (E : Set ℕ)
    (w : Vec F S1280x5120 .bf16) (k : Vec F S8x1280 .i32) (hw' : w = scratchW x0 x1 x3 x4) (hk' : k = scratchK x0) :
    (iprop((arg1.view.loc (c : Thread nD τ) ↦[arg1.view.set]{fullShare} harg1.unread x0) ∗ (arg2.view.loc (c : Thread nD τ) ↦[arg2.view.set]{fullShare} harg2.unread x1) ∗ (arg3.view.loc (c : Thread nD τ) ↦[arg3.view.set]{fullShare} harg3.unread x2) ∗ (arg4.view.loc (c : Thread nD τ) ↦[arg4.view.set]{fullShare} harg4.unread x3) ∗ (arg5.view.loc (c : Thread nD τ) ↦[arg5.view.set]{fullShare} harg5.unread x4) ∗ (∃ d, owns (c : Thread nD τ) arg13 fullShare d) ∗ (∃ d, owns (c : Thread nD τ) arg15 fullShare d)) : sProp 𝕄)
      ⊢ wp frame (wpE (defs₀ (F := F)) Variants.none c none) E (k0_part32 i arg1 harg1 arg2 harg2 arg3 harg3 arg4 harg4 arg5 harg5 arg6 harg6 arg7 harg7 arg8 harg8 arg9 harg9 arg10 harg10 arg11 harg11 arg12 harg12 arg13 harg13 arg14 harg14 arg15 harg15) (fun r => iprop(⌜r = first (arg3.view.read (Elt F) (harg3.unread x2)) (arg15.view.read (Elt F) (harg15.unread k))⌝ ∗ (arg1.view.loc (c : Thread nD τ) ↦[arg1.view.set]{fullShare} harg1.unread x0) ∗ (arg2.view.loc (c : Thread nD τ) ↦[arg2.view.set]{fullShare} harg2.unread x1) ∗ (arg3.view.loc (c : Thread nD τ) ↦[arg3.view.set]{fullShare} harg3.unread x2) ∗ (arg4.view.loc (c : Thread nD τ) ↦[arg4.view.set]{fullShare} harg4.unread x3) ∗ (arg5.view.loc (c : Thread nD τ) ↦[arg5.view.set]{fullShare} harg5.unread x4) ∗ (arg13.view.loc (c : Thread nD τ) ↦[arg13.view.set]{fullShare} harg13.unread w) ∗ (arg15.view.loc (c : Thread nD τ) ↦[arg15.view.set]{fullShare} harg15.unread k))) := by
  rw [k0_part32_eq_skeleton]
  unfold k0_part32_skel
  have hw : ∀ j, k0_chk1 i (word arg1 harg1 x0 j) := fun j => chk_of_lt i _ (by rw [word_eq]; exact hlt j)
  unfold owns
  iintro ⟨H1, H2, H3, H4, H5, ⟨%d13, %f, -, H13⟩, ⟨%d15, %g, -, H15⟩⟩
  rw [dif_pos hc]
  rw [wp_bind, wp_bind]
  iapply (wp_wand_r Idealize.ShloMosaic.frame (wpE (defs₀ (F := F)) Variants.none c none) E)
  isplitl [H1 H2 H4 H5 H13 H15]
  · iapply (prep c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x0 x1 x3 x4 hw E f g)
    isplitl [H1]; · iexact H1
    isplitl [H2]; · iexact H2
    isplitl [H4]; · iexact H4
    isplitl [H5]; · iexact H5
    isplitl [H13]; · iexact H13
    iexact H15
  iintro %r ⟨H1, H2, H4, H5, ⟨%f', %hf, H13⟩, ⟨%g', %hg, H15⟩⟩
  have hf2 : arg13.view.read (Elt F) f' = w := by
    rw [hf, hw']
    exact read_rows hc arg1 harg1 arg4 harg4 arg13 x0 x1 x3 x4 hw hlt _ (read_loopC c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x1 x4 _ _ _ _ f)
  have hg2 : arg15.view.read (Elt F) g' = k := by
    rw [hg, hk', ← keepMask_eq arg1 harg1 x0]
    exact View.read_writes_full arg15.view arg15.view.junk inb_S8x1280_S8x1280_0_0 _ []
  obtain rfl := harg13.eq_unread hf2
  obtain rfl := harg15.eq_unread hg2
  sl_exec
  sl_step
  isplitr
  · ipureintro; sl_kernel_rfl
  isplitl [H1]; · iexact H1
  isplitl [H2]; · iexact H2
  isplitl [H3]; · iexact H3
  isplitl [H4]; · iexact H4
  isplitl [H5]; · iexact H5
  isplitl [H13]; · iexact H13
  iexact H15

set_option maxHeartbeats 1000000 in
/-- A later point's first part keeps the carried scratch buffers. -/
theorem part32_later (c : Dev nD) (i : grid0.Coords) (arg1 : Memref sig .tc .smem S36 .i32) (harg1 : arg1.IsWhole) (arg2 : Memref sig .tc .smem S10x40 .f32) (harg2 : arg2.IsWhole) (arg3 : Memref sig .tc .vmem S512x1280 .bf16) (harg3 : arg3.IsWhole) (arg4 : Memref sig .tc .vmem S36x5120 .bf16) (harg4 : arg4.IsWhole) (arg5 : Memref sig .tc .vmem S1280x5120 .fp8e4m3) (harg5 : arg5.IsWhole) (arg6 : Memref sig .tc .vmem S1x5120 .f32) (harg6 : arg6.IsWhole) (arg7 : Memref sig .tc .vmem S512x5120 .bf16) (harg7 : arg7.IsWhole) (arg8 : Memref sig .tc .vmem S512x5120 .bf16) (harg8 : arg8.IsWhole) (arg9 : Memref sig .tc .vmem S512x1280 .fp8e4m3) (harg9 : arg9.IsWhole) (arg10 : Memref sig .tc .vmem S512x10 .f32) (harg10 : arg10.IsWhole) (arg11 : Memref sig .tc .vmem S512x5120 .fp8e4m3) (harg11 : arg11.IsWhole) (arg12 : Memref sig .tc .vmem S512x40 .f32) (harg12 : arg12.IsWhole) (arg13 : Memref sig .tc .vmem S1280x5120 .bf16) (harg13 : arg13.IsWhole) (arg14 : Memref sig .tc .vmem S512x1280 .bf16) (harg14 : arg14.IsWhole) (arg15 : Memref sig .tc .vmem S8x1280 .i32) (harg15 : arg15.IsWhole) (hc : ¬ k0_cond1 i = 1#1)
    (x0 : Vec F S36 .i32) (x1 : Vec F S10x40 .f32) (x2 : Vec F S512x1280 .bf16) (x3 : Vec F S36x5120 .bf16) (x4 : Vec F S1280x5120 .fp8e4m3)
    (E : Set ℕ) (w : Vec F S1280x5120 .bf16) (k : Vec F S8x1280 .i32) :
    (iprop((arg1.view.loc (c : Thread nD τ) ↦[arg1.view.set]{fullShare} harg1.unread x0) ∗ (arg2.view.loc (c : Thread nD τ) ↦[arg2.view.set]{fullShare} harg2.unread x1) ∗ (arg3.view.loc (c : Thread nD τ) ↦[arg3.view.set]{fullShare} harg3.unread x2) ∗ (arg4.view.loc (c : Thread nD τ) ↦[arg4.view.set]{fullShare} harg4.unread x3) ∗ (arg5.view.loc (c : Thread nD τ) ↦[arg5.view.set]{fullShare} harg5.unread x4) ∗ owns (c : Thread nD τ) arg13 fullShare w ∗ owns (c : Thread nD τ) arg15 fullShare k) : sProp 𝕄)
      ⊢ wp frame (wpE (defs₀ (F := F)) Variants.none c none) E (k0_part32 i arg1 harg1 arg2 harg2 arg3 harg3 arg4 harg4 arg5 harg5 arg6 harg6 arg7 harg7 arg8 harg8 arg9 harg9 arg10 harg10 arg11 harg11 arg12 harg12 arg13 harg13 arg14 harg14 arg15 harg15) (fun r => iprop(⌜r = first (arg3.view.read (Elt F) (harg3.unread x2)) (arg15.view.read (Elt F) (harg15.unread k))⌝ ∗ (arg1.view.loc (c : Thread nD τ) ↦[arg1.view.set]{fullShare} harg1.unread x0) ∗ (arg2.view.loc (c : Thread nD τ) ↦[arg2.view.set]{fullShare} harg2.unread x1) ∗ (arg3.view.loc (c : Thread nD τ) ↦[arg3.view.set]{fullShare} harg3.unread x2) ∗ (arg4.view.loc (c : Thread nD τ) ↦[arg4.view.set]{fullShare} harg4.unread x3) ∗ (arg5.view.loc (c : Thread nD τ) ↦[arg5.view.set]{fullShare} harg5.unread x4) ∗ (arg13.view.loc (c : Thread nD τ) ↦[arg13.view.set]{fullShare} harg13.unread w) ∗ (arg15.view.loc (c : Thread nD τ) ↦[arg15.view.set]{fullShare} harg15.unread k))) := by
  rw [k0_part32_eq_skeleton]
  unfold k0_part32_skel
  unfold owns
  iintro ⟨H1, H2, H3, H4, H5, ⟨%f, %hf, H13⟩, ⟨%g, %hg, H15⟩⟩
  obtain rfl := harg13.eq_unread hf
  obtain rfl := harg15.eq_unread hg
  rw [dif_neg hc]
  sl_exec
  sl_step
  isplitr
  · ipureintro; sl_kernel_rfl
  isplitl [H1]; · iexact H1
  isplitl [H2]; · iexact H2
  isplitl [H3]; · iexact H3
  isplitl [H4]; · iexact H4
  isplitl [H5]; · iexact H5
  isplitl [H13]; · iexact H13
  iexact H15

end Cert.Kernel.Body

end
-- ==== Proof.Kernel.Sound.lean ====
/- The kernel's run: the pipeline's proof data, the body's obligation at every point, and the launch. Every grid point
   leaves its five output blocks at the values of Outs.lean; the two carried scratch buffers hold, from the first point
   on, the prepared weights and keep mask. The words of the outlier table have to be row numbers (`Rows`). -/
module

public import proofs.«01_k».proof.Proof.Kernel.Outs
public import proofs.«01_k».proof.Proof.Kernel.First
public import proofs.«01_k».proof.Proof.Gen.Kernel.Frame
public import proofs.«01_k».proof.Proof.Gen.Kernel.Points
public import proofs.«01_k».proof.Proof.Gen.Kernel.Launch

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 24 = 0 :=
  (fun t => by
    have ht : t.val < 24 := Nat.lt_of_lt_of_eq t.isLt N_0
    have e0 : (grid0.coords t 0).val = t.val / 1 % 24 := Pipeline.Grid.coords_val t 0 (by decide) rfl
    simp only [cond0_0, k0_cond1, e0]
    word_cmp
   : ∀ t : Fin grid0.N, cond0_0 (grid0.coords t) ↔ t.val % 24 = 0)

/-- Each window's current staging memref at point `t`, spelled as the pipeline passes it (`bodyAt0`), and its wholeness. -/
abbrev ms0_0 (t : Fin cfg0.N) : Memref sig .tc .smem S36 .i32 := win0_0.stage (cfg0.slots t 0)
/-- That of operand 0 is a whole buffer. -/
abbrev hs0_0 (t : Fin cfg0.N) : (ms0_0 t).IsWhole := hstage0_0 ((cfg0.slots t 0).cast nbuf0_0)
/-- A point's staging buffer of operand 1. -/
abbrev ms0_1 (t : Fin cfg0.N) : Memref sig .tc .smem S10x40 .f32 := win0_1.stage (cfg0.slots t 1)
/-- That of operand 1 is a whole buffer. -/
abbrev hs0_1 (t : Fin cfg0.N) : (ms0_1 t).IsWhole := hstage0_1 ((cfg0.slots t 1).cast nbuf0_1)
/-- A point's staging buffer of operand 2. -/
abbrev ms0_2 (t : Fin cfg0.N) : Memref sig .tc .vmem S512x1280 .bf16 := win0_2.stage (cfg0.slots t 2)
/-- That of operand 2 is a whole buffer. -/
abbrev hs0_2 (t : Fin cfg0.N) : (ms0_2 t).IsWhole := hstage0_2 ((cfg0.slots t 2).cast nbuf0_2)
/-- A point's staging buffer of operand 3. -/
abbrev ms0_3 (t : Fin cfg0.N) : Memref sig .tc .vmem S36x5120 .bf16 := win0_3.stage (cfg0.slots t 3)
/-- That of operand 3 is a whole buffer. -/
abbrev hs0_3 (t : Fin cfg0.N) : (ms0_3 t).IsWhole := hstage0_3 ((cfg0.slots t 3).cast nbuf0_3)
/-- A point's staging buffer of operand 4. -/
abbrev ms0_4 (t : Fin cfg0.N) : Memref sig .tc .vmem S1280x5120 .fp8e4m3 := win0_4.stage (cfg0.slots t 4)
/-- That of operand 4 is a whole buffer. -/
abbrev hs0_4 (t : Fin cfg0.N) : (ms0_4 t).IsWhole := hstage0_4 ((cfg0.slots t 4).cast nbuf0_4)
/-- A point's staging buffer of operand 5. -/
abbrev ms0_5 (t : Fin cfg0.N) : Memref sig .tc .vmem S1x5120 .f32 := win0_5.stage (cfg0.slots t 5)
/-- That of operand 5 is a whole buffer. -/
abbrev hs0_5 (t : Fin cfg0.N) : (ms0_5 t).IsWhole := hstage0_5 ((cfg0.slots t 5).cast nbuf0_5)
/-- A point's staging buffer of operand 6. -/
abbrev ms0_6 (t : Fin cfg0.N) : Memref sig .tc .vmem S512x5120 .bf16 := win0_6.stage (cfg0.slots t 6)
/-- That of operand 6 is a whole buffer. -/
abbrev hs0_6 (t : Fin cfg0.N) : (ms0_6 t).IsWhole := hstage0_6 ((cfg0.slots t 6).cast nbuf0_6)
/-- A point's staging buffer of operand 7. -/
abbrev ms0_7 (t : Fin cfg0.N) : Memref sig .tc .vmem S512x5120 .bf16 := win0_7.stage (cfg0.slots t 7)
/-- That of operand 7 is a whole buffer. -/
abbrev hs0_7 (t : Fin cfg0.N) : (ms0_7 t).IsWhole := hstage0_7 ((cfg0.slots t 7).cast nbuf0_7)
/-- A point's staging buffer of operand 8. -/
abbrev ms0_8 (t : Fin cfg0.N) : Memref sig .tc .vmem S512x1280 .fp8e4m3 := win0_8.stage (cfg0.slots t 8)
/-- That of operand 8 is a whole buffer. -/
abbrev hs0_8 (t : Fin cfg0.N) : (ms0_8 t).IsWhole := hstage0_8 ((cfg0.slots t 8).cast nbuf0_8)
/-- A point's staging buffer of operand 9. -/
abbrev ms0_9 (t : Fin cfg0.N) : Memref sig .tc .vmem S512x10 .f32 := win0_9.stage (cfg0.slots t 9)
/-- That of operand 9 is a whole buffer. -/
abbrev hs0_9 (t : Fin cfg0.N) : (ms0_9 t).IsWhole := hstage0_9 ((cfg0.slots t 9).cast nbuf0_9)
/-- A point's staging buffer of operand 10. -/
abbrev ms0_10 (t : Fin cfg0.N) : Memref sig .tc .vmem S512x5120 .fp8e4m3 := win0_10.stage (cfg0.slots t 10)
/-- That of operand 10 is a whole buffer. -/
abbrev hs0_10 (t : Fin cfg0.N) : (ms0_10 t).IsWhole := hstage0_10 ((cfg0.slots t 10).cast nbuf0_10)
/-- A point's staging buffer of operand 11. -/
abbrev ms0_11 (t : Fin cfg0.N) : Memref sig .tc .vmem S512x40 .f32 := win0_11.stage (cfg0.slots t 11)
/-- That of operand 11 is a whole buffer. -/
abbrev hs0_11 (t : Fin cfg0.N) : (ms0_11 t).IsWhole := hstage0_11 ((cfg0.slots t 11).cast nbuf0_11)

/-- The scratch operands: whole scoped buffers of the kernel's own, passed beside the windows. -/
abbrev scM0_0 : Memref sig .tc .vmem S1280x5120 .bf16 := Memref.whole cc0_scratch0
/-- The scratch of the mixed activations. -/
abbrev scM0_1 : Memref sig .tc .vmem S512x1280 .bf16 := Memref.whole cc0_scratch1
/-- The scratch of the keep mask. -/
abbrev scM0_2 : Memref sig .tc .vmem S8x1280 .i32 := Memref.whole cc0_scratch2
/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-! ## The proof data -/

/-- Every word of the outlier table that a point finds names a row of the weights. -/
def Rows (m : (ℓ : Loc nD τ sig) → Buf (Elt F) ℓ) : Prop :=
  ∀ (c : Dev nD) (t : Fin cfg0.N) (j : Fin 36), BitVec.toNat (iblk m c 0 t (ix1 j)) < 1280

/-- The first point. -/
abbrev t0 : Fin cfg0.N := ⟨0, by rw [show cfg0.N = 24 from N_0]; decide⟩
/-- The prepared weights: the dequantised codes with the outlier rows put in. -/
def Wt (c : Dev nD) : Vec F S1280x5120 .bf16 := scratchW (iblk m c 0 t0) (iblk m c 1 t0) (iblk m c 3 t0) (iblk m c 4 t0)
/-- The prepared keep mask: zero in the outlier columns. -/
def Kp (c : Dev nD) : Vec F S8x1280 .i32 := scratchK (iblk m c 0 t0)

/-- The region invariant before position `n`: at first every scratch buffer at anything; afterwards the weights and the
    keep mask prepared, the activation scratch at anything. -/
def PhiS (c : Dev nD) : (n : ℕ) → sProp 𝕄
  | 0 => Pipeline.ΦA spec0 c
  | _ + 1 => iprop(iprop(owns (c : Thread nD τ) scM0_0 fullShare (Wt m c) ∗ (∃ d, owns (c : Thread nD τ) scM0_1 fullShare d) ∗ owns (c : Thread nD τ) scM0_2 fullShare (Kp m c)) ∗ (∃ r, prngReg c r))

/-- Before any position but the first. -/
theorem PhiS_pos (c : Dev nD) (n : ℕ) (hz : n ≠ 0) :
    PhiS m c n = iprop(iprop(owns (c : Thread nD τ) scM0_0 fullShare (Wt m c) ∗ (∃ d, owns (c : Thread nD τ) scM0_1 fullShare d) ∗ owns (c : Thread nD τ) scM0_2 fullShare (Kp m c)) ∗ (∃ r, prngReg c r)) := by
  cases n with
  | zero => exact absurd rfl hz
  | succ n => rfl

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outY (iblk m c 2 t) (iblk m c 5 t) (iblk m c 6 t) (Wt m c) (Kp m c)
    | ⟨8, _⟩ => outXCode (iblk m c 2 t) (Kp m c)
    | ⟨9, _⟩ => outXScale (iblk m c 2 t) (Kp m c)
    | ⟨10, _⟩ => outYCode (iblk m c 2 t) (iblk m c 5 t) (iblk m c 6 t) (Wt m c) (Kp m c)
    | ⟨11, _⟩ => outYScale (iblk m c 2 t) (iblk m c 5 t) (iblk m c 6 t) (Wt m c) (Kp m c)
  Φ t := PhiS m c t.val
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
/-- The same, the next window. -/
theorem after0_1 (c : Dev nD) (t : Fin cfg0.N) : (dats m 0 c).after 1 t = iblk m c 1 t := by dsimp only [dats]
/-- The same, the next window. -/
theorem after0_2 (c : Dev nD) (t : Fin cfg0.N) : (dats m 0 c).after 2 t = iblk m c 2 t := by dsimp only [dats]
/-- The same, the next window. -/
theorem after0_3 (c : Dev nD) (t : Fin cfg0.N) : (dats m 0 c).after 3 t = iblk m c 3 t := by dsimp only [dats]
/-- The same, the next window. -/
theorem after0_4 (c : Dev nD) (t : Fin cfg0.N) : (dats m 0 c).after 4 t = iblk m c 4 t := by dsimp only [dats]
/-- The same, the next window. -/
theorem after0_5 (c : Dev nD) (t : Fin cfg0.N) : (dats m 0 c).after 5 t = iblk m c 5 t := by dsimp only [dats]
/-- The same, the next window. -/
theorem after0_6 (c : Dev nD) (t : Fin cfg0.N) : (dats m 0 c).after 6 t = iblk m c 6 t := by dsimp only [dats]
/-- The same, the next window. -/
theorem after0_7 (c : Dev nD) (t : Fin cfg0.N) : (dats m 0 c).after 7 t = outY (iblk m c 2 t) (iblk m c 5 t) (iblk m c 6 t) (Wt m c) (Kp m c) := by dsimp only [dats]
/-- The same, the next window. -/
theorem after0_8 (c : Dev nD) (t : Fin cfg0.N) : (dats m 0 c).after 8 t = outXCode (iblk m c 2 t) (Kp m c) := by dsimp only [dats]
/-- The same, the next window. -/
theorem after0_9 (c : Dev nD) (t : Fin cfg0.N) : (dats m 0 c).after 9 t = outXScale (iblk m c 2 t) (Kp m c) := by dsimp only [dats]
/-- The same, the next window. -/
theorem after0_10 (c : Dev nD) (t : Fin cfg0.N) : (dats m 0 c).after 10 t = outYCode (iblk m c 2 t) (iblk m c 5 t) (iblk m c 6 t) (Wt m c) (Kp m c) := by dsimp only [dats]
/-- The same, the next window. -/
theorem after0_11 (c : Dev nD) (t : Fin cfg0.N) : (dats m 0 c).after 11 t = outYScale (iblk m c 2 t) (iblk m c 5 t) (iblk m c 6 t) (Wt m c) (Kp m c) := by dsimp only [dats]
/-- Input 0's current staging buffer holds its block at every point. -/
theorem before0_0 (c : Dev nD) (t : Fin cfg0.N) (d) : (dats m 0 c).before 0 t d = iblk m c 0 t :=
  before0_0_of m (dats m 0 c) (A_eq m c 0) (after0_0 m c) t d
/-- Input 1's current staging buffer holds its block at every point. -/
theorem before0_1 (c : Dev nD) (t : Fin cfg0.N) (d) : (dats m 0 c).before 1 t d = iblk m c 1 t :=
  before0_1_of m (dats m 0 c) (A_eq m c 1) (after0_1 m c) t d
/-- Input 2's current staging buffer holds its block at every point. -/
theorem before0_2 (c : Dev nD) (t : Fin cfg0.N) (d) : (dats m 0 c).before 2 t d = iblk m c 2 t :=
  before0_2_of m (dats m 0 c) (A_eq m c 2) (after0_2 m c) t d
/-- Input 3's current staging buffer holds its block at every point. -/
theorem before0_3 (c : Dev nD) (t : Fin cfg0.N) (d) : (dats m 0 c).before 3 t d = iblk m c 3 t :=
  before0_3_of m (dats m 0 c) (A_eq m c 3) (after0_3 m c) t d
/-- Input 4's current staging buffer holds its block at every point. -/
theorem before0_4 (c : Dev nD) (t : Fin cfg0.N) (d) : (dats m 0 c).before 4 t d = iblk m c 4 t :=
  before0_4_of m (dats m 0 c) (A_eq m c 4) (after0_4 m c) t d
/-- Input 5's current staging buffer holds its block at every point. -/
theorem before0_5 (c : Dev nD) (t : Fin cfg0.N) (d) : (dats m 0 c).before 5 t d = iblk m c 5 t :=
  before0_5_of m (dats m 0 c) (A_eq m c 5) (after0_5 m c) t d
/-- Input 6's current staging buffer holds its block at every point. -/
theorem before0_6 (c : Dev nD) (t : Fin cfg0.N) (d) : (dats m 0 c).before 6 t d = iblk m c 6 t :=
  before0_6_of m (dats m 0 c) (A_eq m c 6) (after0_6 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

set_option maxHeartbeats 4000000 in
/-- The body at any point. -/
theorem sound_body (hH : Rows m) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6, after0_7, after0_8, after0_9, after0_10, after0_11]
  rw [show (dats m 0 c).Φ t.succ = PhiS m c (t.val + 1) from rfl, PhiS_pos m c _ (Nat.succ_ne_zero _)]
  rw [show (dats m 0 c).Φ t.castSucc = PhiS m c t.val from rfl]
  have hN : t.val < 24 := lt_of_lt_of_eq t.isLt (show cfg0.N = 24 from N_0)
  by_cases hz : t.val = 0
  · have ht : t = t0 := Fin.ext hz
    rw [show PhiS m c t.val = Pipeline.ΦA spec0 c from by rw [hz]; rfl, PhiA0_eq]
    have hf := part32_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) ((hcond0_0 t).mpr (by rw [hz])) (iblk m c 0 t) (iblk m c 1 t) (iblk m c 2 t) (iblk m c 3 t) (iblk m c 4 t) (hH c t) Set.univ (Wt m c) (Kp m c) (by rw [ht]; rfl) (by rw [ht]; rfl)
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (point c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (Wt m c) (Kp m c) _ Set.univ _ hf)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [HS1]; · iexact HS1
    isplitl [HS0 HS2]
    · isplitl [HS0]; · iexact HS0
      iexact HS2
    iintro ⟨H0, H1, H2, H3, H4, H5, H6, H7, H8, H9, H10, H11, HS1, HS0, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · have hc : ¬ k0_cond1 (grid0.coords t) = 1#1 := fun h => hz (by have := (hcond0_0 t).mp h; omega)
    rw [PhiS_pos m c _ hz]
    have hf := part32_later c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) hc (iblk m c 0 t) (iblk m c 1 t) (iblk m c 2 t) (iblk m c 3 t) (iblk m c 4 t) Set.univ (Wt m c) (Kp m c)
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (point c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (Wt m c) (Kp m c) _ Set.univ _ hf)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [HS1]; · iexact HS1
    isplitl [HS0 HS2]
    · isplitl [HS0]; · iexact HS0
      iexact HS2
    iintro ⟨H0, H1, H2, H3, H4, H5, H6, H7, H8, H9, H10, H11, HS1, HS0, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The pipeline's body obligation, at every point. -/
theorem body_obligation (hH : Rows m) (c : Dev nD) : BodyObligation (dats (F := F) m 0 c) (defs₀ (F := F)) Variants.none () Set.univ := fun t => by
  rw [bigSep_W0, bigSep_W0, defs₀_row]
  exact triple_restated (sound_body m hH c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 from rfl]
  exact Idealize.SL.BI.Entails.refl _

/-- After the last point the invariant gives the launch's back. -/
theorem hout (c : Dev nD) : (dats m 0 c).Φ (Fin.last cfg0.N) ⊢ Pipeline.ΦA spec0 c := by
  rw [show (dats m 0 c).Φ (Fin.last cfg0.N) = PhiS m c cfg0.N from rfl, PhiS_pos m c _ (by have : cfg0.N = 24 := N_0; omega), PhiA0_eq]
  iintro ⟨⟨HS0, HS1, HS2⟩, Hg⟩
  isplitl [HS0 HS1 HS2]
  · isplitl [HS0]
    · iexists _; iexact HS0
    isplitl [HS1]
    · iexact HS1
    iexists _; iexact HS2
  iexact Hg

/-! ## The run and the frame -/

set_option backward.isDefEq.respectTransparency.types false in
/-- The launch: every execution ends, each window's array as the proof data says, every other buffer as the region found
    it, every semaphore counter at zero. -/
theorem run_main_quiescent (hH : Rows m) : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m hH c).loose) (hshare := fun c => (dats m 0 c).share_full fun _ => rfl)
    (howed := fun _ _ => rfl) (V := V m) (hmain := hmain m Variants.none) (hA := A_eq m) (hin := hin m) (hout := hout m)

/-- The same without the counters. -/
theorem run_main (hH : Rows m) : θ_run defs (onTc (τ := τ) (main (F := F))) (s₀ m ρ) (Pipeline.FramePost cfgs (dats m) 0 (V m)) :=
  (θ_run defs _ _).mono (fun _ h => h.1) (run_main_quiescent m ρ hH)

/-- The frame: the arguments end unchanged and every semaphore counter at zero. -/
theorem frame (hH : Rows m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ hH)) ((θ_run defs _ _).mono (fun _ h => h.2) (run_main_quiescent m ρ hH))

end Cert.Kernel.Body

end
-- ==== Proof.Kernel.Rows.lean ====
/- The precondition, decoded: every word of the outlier table names a row of the weights. -/
module

public import proofs.«01_k».proof.Defs
public import proofs.«01_k».proof.Proof.Kernel.Sound

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

/-- Every word of the outlier table as launched is below 1280. -/
theorem arg_rows [hP : Cert.Pre_indices_in_range.Facts] (m : (ℓ : Loc nD τ sig) → Buf (Elt Bits) ℓ) (h : Cert.Pre_Kernel m) (c : Dev nD) :
    ∀ y : S36.Idx, BitVec.toNat (m ((c : Thread nD τ).loc main_arg1) y) < 1280 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  intro y
  have e := congrFun (h c) y
  simp only [Cert.Pre_indices_in_range.fn, andi, cmpi, broadcastInDim, constantI, IntOp.cmpi, andi_ofBool, ofBool_eq_one,
    Bool.and_eq_true] at e
  obtain ⟨hge, hlt⟩ := e
  simp only [BitVec.sle, BitVec.slt, decide_eq_true_eq, BitVec.toInt, BitVec.toNat_ofNat] at hge hlt
  omega

/-- So is every word a grid point finds in its block of the table. -/
theorem rows_of_pre [hP : Cert.Pre_indices_in_range.Facts] (m : (ℓ : Loc nD τ sig) → Buf (Elt Bits) ℓ) (h : Cert.Pre_Kernel m) : Rows m := by
  intro c t j
  unfold iblk
  rw [View.read_apply, cast_eq, show V m c (Pipeline.arrRef spec0 0) = m ((c : Thread nD τ).loc main_arg1) from V_main_arg1 m c]
  exact arg_rows m h c _

end Cert.Kernel.Body

end
-- ==== Proof.Quant.lean ====
/- The quantiser's arithmetic on extended reals: the power-of-two scale of a block as the kernel computes it from the block's
   greatest magnitude, and as the reference does, are one number; so are the factors the codes are made with. -/
module

public import Idealize.ShloMosaic.PureOps.Ideal.Laws
public import Idealize.ShloMosaic.Lib.IdealHost

@[expose] public section

noncomputable section

namespace Cert.Quant

open Idealize.ShloMosaic

/-- The bf16 pattern of 448. -/
theorem c448_bf16 : Ideal.ofBits .bf16 0x43E0#16 = ((448 : ℝ) : EReal) := by
  simp [Ideal.ofBits, Ideal.ieee, -EReal.coe_mul, -EReal.coe_neg]; norm_num
/-- The f32 pattern of 448. -/
theorem c448_f32 : Ideal.ofBits .f32 0x43E00000#32 = ((448 : ℝ) : EReal) := by
  simp [Ideal.ofBits, Ideal.ieee, -EReal.coe_mul, -EReal.coe_neg]; norm_num
/-- The bf16 pattern of −448. -/
theorem cm448_bf16 : Ideal.ofBits .bf16 0xC3E0#16 = ((-448 : ℝ) : EReal) := by
  simp [Ideal.ofBits, Ideal.ieee, -EReal.coe_mul, -EReal.coe_neg]; norm_num
/-- The f32 pattern of −448. -/
theorem cm448_f32 : Ideal.ofBits .f32 0xC3E00000#32 = ((-448 : ℝ) : EReal) := by
  simp [Ideal.ofBits, Ideal.ieee, -EReal.coe_mul, -EReal.coe_neg]; norm_num
/-- The bf16 pattern of 256. -/
theorem c256_bf16 : Ideal.ofBits .bf16 0x4380#16 = ((256 : ℝ) : EReal) := by
  simp [Ideal.ofBits, Ideal.ieee, -EReal.coe_mul, -EReal.coe_neg]; norm_num
/-- The f32 pattern of 2. -/
theorem c2_f32 : Ideal.ofBits .f32 0x40000000#32 = ((2 : ℝ) : EReal) := by
  simp [Ideal.ofBits, Ideal.ieee, -EReal.coe_mul, -EReal.coe_neg]; norm_num
/-- The f32 pattern of 8. -/
theorem c8_f32 : Ideal.ofBits .f32 0x41000000#32 = ((8 : ℝ) : EReal) := by
  simp [Ideal.ofBits, Ideal.ieee, -EReal.coe_mul, -EReal.coe_neg]; norm_num
/-- The bf16 pattern of the least magnitude the kernel scales by: 448 times the least normal number. -/
theorem csmall_bf16 : Ideal.ofBits .bf16 0x04E0#16 = ((448 * (2 : ℝ) ^ (-126 : ℤ) : ℝ) : EReal) := by
  simp [Ideal.ofBits, Ideal.ieee, -EReal.coe_mul, -EReal.coe_neg]; norm_num
/-- The f32 pattern of the least normal number. -/
theorem cmin_f32 : Ideal.ofBits .f32 0x00800000#32 = (((2 : ℝ) ^ (-126 : ℤ) : ℝ) : EReal) := by
  simp [Ideal.ofBits, Ideal.ieee, -EReal.coe_mul, -EReal.coe_neg]; norm_num
/-- The bf16 and the f32 pattern of −∞. -/
theorem cbot_bf16 : Ideal.ofBits .bf16 0xFF80#16 = ⊥ := by
  simp [Ideal.ofBits, Ideal.ieee]
/-- The f32 pattern of −∞. -/
theorem cbot_f32 : Ideal.ofBits .f32 0xFF800000#32 = ⊥ := by
  simp [Ideal.ofBits, Ideal.ieee]

/-- The exponent `floor (log2 x)`, as both programs compute it. -/
def elog (x : EReal) : EReal := Ideal.liftRound Int.floor (Ideal.div (Ideal.log x) (Ideal.log (2 : ℝ)))

/-- The kernel's scale of a block of greatest magnitude `a`. -/
def kScale (a : EReal) : EReal :=
  let b := if ((448 * (2 : ℝ) ^ (-126 : ℤ) : ℝ) : EReal) ≤ a then a else ((256 : ℝ) : EReal)
  let low := Ideal.exp2 (elog b - ((8 : ℝ) : EReal))
  if low * ((448 : ℝ) : EReal) ≤ b then low + low else low

/-- The reference's exponent of a block of greatest magnitude `a`. -/
def rExp (a : EReal) : EReal :=
  if Ideal.div a ((448 : ℝ) : EReal) < (((2 : ℝ) ^ (-126 : ℤ) : ℝ) : EReal) then 0
  else elog (Ideal.div a ((448 : ℝ) : EReal)) + 1

/-- A value clipped to the codes' range. -/
def clip (v : EReal) : EReal := min ((448 : ℝ) : EReal) (max ((-448 : ℝ) : EReal) v)

/-- The floor of the binary logarithm of a positive number between two consecutive powers of two. -/
theorem floor_log (x : ℝ) (n : ℤ) (h0 : (2 : ℝ) ^ n ≤ x) (h1 : x < (2 : ℝ) ^ (n + 1)) :
    ⌊Real.log x / Real.log 2⌋ = n := by
  have hx : 0 < x := lt_of_lt_of_le (by positivity) h0
  have h2 : 0 < Real.log 2 := Real.log_pos (by norm_num)
  rw [Int.floor_eq_iff, le_div_iff₀ h2, div_lt_iff₀ h2]
  constructor
  · rw [← Real.log_zpow]; exact Real.log_le_log (by positivity) h0
  · have : ((n : ℝ) + 1) = ((n + 1 : ℤ) : ℝ) := by push_cast; ring
    rw [this, ← Real.log_zpow]; exact Real.log_lt_log hx h1

/-- Every positive number lies between two consecutive powers of two. -/
theorem between (x : ℝ) (hx : 0 < x) : ∃ n : ℤ, (2 : ℝ) ^ n ≤ x ∧ x < (2 : ℝ) ^ (n + 1) :=
  exists_mem_Ico_zpow hx (by norm_num)

/-- The exponent of a positive real. -/
theorem elog_coe (x : ℝ) (n : ℤ) (h0 : (2 : ℝ) ^ n ≤ x) (h1 : x < (2 : ℝ) ^ (n + 1)) :
    elog (x : EReal) = (((n : ℤ) : ℝ) : EReal) := by
  have hx : 0 < x := lt_of_lt_of_le (by positivity) h0
  have h2 : Real.log 2 ≠ 0 := (Real.log_pos (by norm_num)).ne'
  unfold elog
  rw [Ideal.log_coe, Ideal.log_coe, if_neg (not_le.2 hx), if_neg (by norm_num), Ideal.div_coe h2,
    ← EReal.coe_mul, Ideal.liftRound_coe, ← floor_log x n h0 h1]
  congr 4
  ring

/-- The exponent of +∞. -/
theorem elog_top : elog ⊤ = ⊤ := by
  have h2 : 0 < 1 / Real.log 2 := one_div_pos.2 (Real.log_pos (by norm_num))
  unfold elog
  rw [Ideal.log_top, Ideal.log_coe, if_neg (by norm_num), Ideal.div_coe (Real.log_pos (by norm_num)).ne',
    EReal.top_mul_coe_of_pos h2, Ideal.liftRound_top]

/-- `exp2` of an integer. -/
theorem exp2_int (n : ℤ) : Ideal.exp2 (((n : ℤ) : ℝ) : EReal) = (((2 : ℝ) ^ n : ℝ) : EReal) := by
  rw [Ideal.exp2_coe]; congr 1; exact Real.rpow_intCast 2 n

/-- The reference's exponent and the kernel's scale, of a real magnitude: one integer names both. -/
theorem both (a : EReal) (h : a ≠ ⊤) : ∃ n : ℤ, rExp a = (((n : ℤ) : ℝ) : EReal) ∧ kScale a = (((2 : ℝ) ^ n : ℝ) : EReal) := by
  have key : ∀ x : ℝ, 448 * (2 : ℝ) ^ (-126 : ℤ) ≤ x → ∃ n : ℤ, elog (Ideal.div (x : EReal) ((448 : ℝ) : EReal)) + 1 = (((n : ℤ) : ℝ) : EReal) ∧
      (let low := Ideal.exp2 (elog (x : EReal) - ((8 : ℝ) : EReal)); if low * ((448 : ℝ) : EReal) ≤ (x : EReal) then low + low else low) = (((2 : ℝ) ^ n : ℝ) : EReal) := by
    intro x hx
    have hx0 : 0 < x := lt_of_lt_of_le (by positivity) hx
    obtain ⟨p, hp0, hp1⟩ := between x hx0
    have e8 : (((p : ℤ) : ℝ) : EReal) - ((8 : ℝ) : EReal) = (((p - 8 : ℤ) : ℝ) : EReal) := by
      rw [← EReal.coe_sub]; push_cast; rfl
    have hdiv : Ideal.div (x : EReal) ((448 : ℝ) : EReal) = ((x / 448 : ℝ) : EReal) := by
      rw [Ideal.div_coe (by norm_num), ← EReal.coe_mul]; congr 1; ring
    have z8 : (2 : ℝ) ^ (p - 8) = (2 : ℝ) ^ p / 256 := by rw [zpow_sub₀ (by norm_num)]; norm_num
    have z7 : (2 : ℝ) ^ (p - 7) = (2 : ℝ) ^ p / 128 := by rw [zpow_sub₀ (by norm_num)]; norm_num
    have z9 : (2 : ℝ) ^ (p - 9) = (2 : ℝ) ^ p / 512 := by rw [zpow_sub₀ (by norm_num)]; norm_num
    have z1 : (2 : ℝ) ^ (p + 1) = (2 : ℝ) ^ p * 2 := by rw [zpow_add₀ (by norm_num)]; norm_num
    have zp : 0 < (2 : ℝ) ^ p := by positivity
    rw [elog_coe x p hp0 hp1, e8, exp2_int, hdiv]
    rw [z1] at hp1
    by_cases hc : (2 : ℝ) ^ (p - 8) * 448 ≤ x
    · refine ⟨p - 7, ?_, ?_⟩
      · rw [elog_coe (x / 448) (p - 8) (by rw [le_div_iff₀ (by norm_num)]; exact hc)
          (by rw [show p - 8 + 1 = p - 7 by ring, z7, div_lt_iff₀ (by norm_num)]; nlinarith)]
        rw [← EReal.coe_one, ← EReal.coe_add]; congr 1; push_cast; ring
      · show (if _ then _ else _) = _
        rw [if_pos (by rw [← EReal.coe_mul]; exact_mod_cast hc), ← EReal.coe_add]; congr 1; rw [z7, z8]; ring
    · refine ⟨p - 8, ?_, ?_⟩
      · rw [elog_coe (x / 448) (p - 9) (by rw [z9, le_div_iff₀ (by norm_num)]; nlinarith)
          (by rw [show p - 9 + 1 = p - 8 by ring, div_lt_iff₀ (by norm_num)]; exact not_le.1 hc)]
        rw [← EReal.coe_one, ← EReal.coe_add]; congr 1; push_cast; ring
      · show (if _ then _ else _) = _
        rw [if_neg (by rw [← EReal.coe_mul]; exact_mod_cast hc)]
  have hlt : ∀ x : EReal, Ideal.div x ((448 : ℝ) : EReal) < (((2 : ℝ) ^ (-126 : ℤ) : ℝ) : EReal) ↔ ¬ ((448 * (2 : ℝ) ^ (-126 : ℤ) : ℝ) : EReal) ≤ x := by
    intro x
    rw [Ideal.div_coe (by norm_num), not_le]
    induction x with
    | bot => rw [EReal.bot_mul_coe_of_pos (by norm_num)]; exact ⟨fun _ => EReal.bot_lt_coe _, fun _ => EReal.bot_lt_coe _⟩
    | top => rw [EReal.top_mul_coe_of_pos (by norm_num)]; exact ⟨fun h => absurd h (not_lt.2 le_top), fun h => absurd h (not_lt.2 le_top)⟩
    | coe r =>
      rw [← EReal.coe_mul, EReal.coe_lt_coe_iff, EReal.coe_lt_coe_iff]
      generalize (2 : ℝ) ^ (-126 : ℤ) = e
      constructor <;> intro h <;> linarith
  by_cases hs : ((448 * (2 : ℝ) ^ (-126 : ℤ) : ℝ) : EReal) ≤ a
  · have hb : a ≠ ⊥ := fun e => by rw [e] at hs; exact absurd hs (not_le.2 (EReal.bot_lt_coe _))
    lift a to ℝ using ⟨h, hb⟩
    obtain ⟨n, h1, h2⟩ := key a (by exact_mod_cast hs)
    refine ⟨n, ?_, ?_⟩
    · unfold rExp; rw [if_neg (fun e => (hlt _).1 e hs)]; exact h1
    · unfold kScale; rw [if_pos hs]; exact h2
  · refine ⟨0, ?_, ?_⟩
    · unfold rExp; rw [if_pos ((hlt _).2 hs)]; simp
    · unfold kScale; rw [if_neg hs]
      have e : elog ((256 : ℝ) : EReal) - ((8 : ℝ) : EReal) = (((0 : ℤ) : ℝ) : EReal) := by
        rw [elog_coe 256 8 (by norm_num) (by norm_num), ← EReal.coe_sub]; norm_num
      show (if _ then _ else _) = _
      rw [e, exp2_int, if_neg (by rw [← EReal.coe_mul]; norm_num)]

/-- The kernel's scale at +∞. -/
theorem kScale_top : kScale ⊤ = ⊤ := by
  unfold kScale
  rw [if_pos le_top]
  have e : Ideal.exp2 (elog ⊤ - ((8 : ℝ) : EReal)) = ⊤ := by rw [elog_top, EReal.top_sub_coe, Ideal.exp2_top]
  show (if _ then _ else _) = _
  rw [e, if_pos le_top]; rfl

/-- The reference's exponent at +∞. -/
theorem rExp_top : rExp ⊤ = ⊤ := by
  unfold rExp
  rw [Ideal.div_coe (by norm_num), EReal.top_mul_coe_of_pos (by norm_num), if_neg (not_lt.2 le_top), elog_top]; rfl

/-- The two scales of a block are one number. -/
theorem kScale_eq (a : EReal) : kScale a = Ideal.exp2 (rExp a) := by
  by_cases h : a = ⊤
  · rw [h, kScale_top, rExp_top]; rfl
  · obtain ⟨n, h1, h2⟩ := both a h
    rw [h1, h2, exp2_int]

/-- The two factors the codes are made with are one number. -/
theorem inv_eq (a : EReal) : Ideal.div 1 (kScale a) = Ideal.exp2 (0 - rExp a) := by
  by_cases h : a = ⊤
  · rw [h, kScale_top, rExp_top]
    simp [Ideal.div]
  · obtain ⟨n, h1, h2⟩ := both a h
    have e : (0 : EReal) - (((n : ℤ) : ℝ) : EReal) = (((-n : ℤ) : ℝ) : EReal) := by
      rw [← EReal.coe_zero, ← EReal.coe_sub]; push_cast; simp
    rw [h1, h2, e, exp2_int, Ideal.div_coe (by positivity), one_mul]
    congr 1; rw [zpow_neg]; ring

/-- The greatest magnitude of a block. -/
def amax (f : Fin 128 → EReal) : EReal := (Finset.univ : Finset (Fin 128)).fold max ⊥ fun l => max (f l) (-(f l))

/-- The scale of a block. -/
def scale (f : Fin 128 → EReal) : EReal := Ideal.exp2 (rExp (amax f))

/-- The codes of a block. -/
def code (f : Fin 128 → EReal) (l : Fin 128) : EReal := clip (f l * Ideal.exp2 (0 - rExp (amax f)))

/-- Entries `128 b … 128 b + 127` of a row. -/
def blk {N : ℕ} (f : Fin (N * 128) → EReal) (b : Fin N) (l : Fin 128) : EReal :=
  f ⟨b.val * 128 + l.val, by have := b.isLt; have := l.isLt; omega⟩

/-- A row of activations with the outlier columns set to zero. -/
def kept (x : Fin 1280 → EReal) (o : Fin 1280 → Bool) (n : Fin 1280) : EReal := if o n then 0 else x n

/-- A row of activations as the contraction reads it: dequantised, the outlier columns as they came. -/
def mixed (x : Fin 1280 → EReal) (o : Fin 1280 → Bool) (n : Fin 1280) : EReal :=
  if o n then x n else
    code (blk (N := 10) (kept x o) ⟨n.val / 128, by have := n.isLt; omega⟩) ⟨n.val % 128, by omega⟩
      * scale (blk (N := 10) (kept x o) ⟨n.val / 128, by have := n.isLt; omega⟩)

/-- A row of the output: the contraction with the weights, the bias, the residual. -/
def yrow (x : Fin 1280 → EReal) (o : Fin 1280 → Bool) (w : Fin 1280 → Fin 5120 → EReal) (bias res : Fin 5120 → EReal) (n : Fin 5120) : EReal :=
  0 + (∑ k : Fin 1280, mixed x o k * w k n) + bias n + res n

end Cert.Quant
-- ==== Proof.KBlocks.lean ====
/- What the kernel's block operations compute at an index, at the extended reals. -/
module

public import proofs.«01_k».proof.Proof.Quant
public import proofs.«01_k».proof.Proof.Outs
public import Idealize.ShloMosaic.Lib.Pointwise

@[expose] public section

set_option maxRecDepth 16384

noncomputable section

namespace Cert.KernelIdeal.Body

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen

/-- The scale of a block, at an index: the row's scale. -/
theorem scaleOf_at (v : FVec Ideal S512x128 .bf16) (r : Fin 512) (l : Fin 128) :
    scaleOf v (ix2 r l) = Quant.scale fun l => v (ix2 r l) := by
  unfold Quant.scale
  rw [← Quant.kScale_eq]
  pointwise [scaleOf, k0_pay196]
  simp only [Quant.csmall_bf16, Quant.cbot_bf16, Quant.c256_bf16, Quant.c448_bf16, Quant.c2_f32, Quant.c8_f32]
  rfl

/-- The codes of a block, at an index. -/
theorem codesOf_at (v : FVec Ideal S512x128 .bf16) (r : Fin 512) (l : Fin 128) :
    codesOf v (ix2 r l) = Quant.code (fun l => v (ix2 r l)) l := by
  unfold Quant.code Quant.clip
  rw [← Quant.inv_eq, Quant.kScale_eq]
  have h := scaleOf_at v r l
  unfold scaleOf Quant.scale at h
  pointwise [codesOf, k0_pay197]
  rw [h, Quant.c448_bf16, Quant.cm448_bf16]

/-- The scale column of a block, at an index. -/
theorem scaleColOf_at (v : FVec Ideal S512x128 .bf16) (r : Fin 512) (l : Fin 1) :
    scaleColOf v (ix2 r l) = Quant.scale fun l => v (ix2 r l) := by
  rw [← scaleOf_at v r 0]
  pointwise [scaleColOf, scaleOf, k0_pay198]

/-- A select on the keep mask. -/
theorem select_ne {α : Type} (w : BitVec 32) (a b : α) :
    Scalar.select (IntOp.cmpi CmpIPredicate.ne w 0#32) a b = if (decide (w = 0#32) : Bool) = true then b else a := by
  by_cases h : w = 0#32
  · subst h; rfl
  · have : IntOp.cmpi CmpIPredicate.ne w 0#32 = 1#1 := by
      show BitVec.ofBool (w != 0#32) = 1#1
      rw [show (w != 0#32) = true from by simpa using h]; rfl
    rw [this, if_neg (by simpa using h)]; rfl

/-- An activation block with the outlier columns set to zero, at an index. -/
theorem kept_at (x : Vec Ideal S512x128 .bf16) (k : Vec Ideal S1x128 .i32) (r : Fin 512) (l : Fin 128) :
    kept x k (ix2 r l) = if (decide (k (ix2 0 l) = 0#32) : Bool) = true then (0 : EReal) else x (ix2 r l) := by
  pointwise [kept, k0_pay109, k0_pay108, k0_pay107]
  exact select_ne _ _ _

/-- The mixed activations, at an index. -/
theorem mixed_at (x : Vec Ideal S512x128 .bf16) (k : Vec Ideal S1x128 .i32) (r : Fin 512) (l : Fin 128) :
    mixed x k (ix2 r l) = if (decide (k (ix2 0 l) = 0#32) : Bool) = true then x (ix2 r l)
      else (codesOf (kept x k) (ix2 r l) : EReal) * scaleOf (kept x k) (ix2 r l) := by
  have e : k0_pay110 x k = k0_pay196 (k0_pay109 x k) := rfl
  pointwise [mixed, k0_pay114, k0_pay108, k0_pay107, k0_pay111, k0_pay112, codesOf, k0_pay197, e]
  exact select_ne _ _ _

/-- The contraction with 512 columns of the weights, at an index. -/
theorem chunk_at (a : Vec Ideal S512x1280 .bf16) (w : Vec Ideal S1280x512 .bf16) (r : Fin 512) (l : Fin 512) :
    chunk a w (ix2 r l) = (0 : EReal) + ∑ k : Fin 1280, (a (ix2 r k) : EReal) * w (ix2 k l) := by
  pointwise [chunk, k0_pay194]

/-- An output block, at an index. -/
theorem outBlock_at (s : FVec Ideal S512x128 .f32) (bias : Vec Ideal S1x128 .f32) (res : Vec Ideal S512x128 .bf16) (r : Fin 512) (l : Fin 128) :
    outBlock s bias res (ix2 r l) = (s (ix2 r l) : EReal) + bias (ix2 0 l) + res (ix2 r l) := by
  pointwise [outBlock, k0_pay201, k0_pay200]

/-! ## The blocks loaded, at an index -/

/-- An element of block `b` of the activations. -/
theorem ldX_at (x : Vec Ideal S512x1280 .bf16) (b : Fin 10) (r : Fin 512) (l : Fin 128) (n : Fin 1280) (hn : n.val = 128 * b.val + l.val) :
    ldX x b (ix2 r l) = x (ix2 r n) := by
  show x _ = x _
  congr 1; funext a; apply Fin.ext
  fin_cases a
  · show 0 + 1 * r.val = r.val; omega
  · show 128 * b.val + 1 * l.val = n.val; omega

/-- An element of block `b` of the keep mask. -/
theorem ldK_at (x : Vec Ideal S8x1280 .i32) (b : Fin 10) (r : Fin 1) (l : Fin 128) (n : Fin 1280) (hn : n.val = 128 * b.val + l.val) :
    ldK x b (ix2 r l) = x (ix2 0 n) := by
  show x _ = x _
  congr 1; funext a; apply Fin.ext
  fin_cases a
  · show 0 + 1 * r.val = 0; omega
  · show 128 * b.val + 1 * l.val = n.val; omega

/-- An element of block `b` of the residual. -/
theorem ldR_at (x : Vec Ideal S512x5120 .bf16) (b : Fin 40) (r : Fin 512) (l : Fin 128) (n : Fin 5120) (hn : n.val = 128 * b.val + l.val) :
    ldR x b (ix2 r l) = x (ix2 r n) := by
  show x _ = x _
  congr 1; funext a; apply Fin.ext
  fin_cases a
  · show 0 + 1 * r.val = r.val; omega
  · show 128 * b.val + 1 * l.val = n.val; omega

/-- An element of block `b` of the bias. -/
theorem ldB_at (x : Vec Ideal S1x5120 .f32) (b : Fin 40) (r : Fin 1) (l : Fin 128) (n : Fin 5120) (hn : n.val = 128 * b.val + l.val) :
    ldB x b (ix2 r l) = x (ix2 0 n) := by
  show x _ = x _
  congr 1; funext a; apply Fin.ext
  fin_cases a
  · show 0 + 1 * r.val = 0; omega
  · show 128 * b.val + 1 * l.val = n.val; omega

/-- An element of the chunk of the weights that holds block `b`. -/
theorem ldW_at (x : Vec Ideal S1280x5120 .bf16) (b : Fin 40) (r : Fin 1280) (l : Fin 512) (n : Fin 5120) (hn : n.val = 512 * (b.val / 4) + l.val) :
    ldW x b (ix2 r l) = x (ix2 r n) := by
  show x _ = x _
  congr 1; funext a; apply Fin.ext
  fin_cases a
  · show 0 + 1 * r.val = r.val; omega
  · show 512 * (b.val / 4) + 1 * l.val = n.val; omega

/-! ## A block of a row -/

/-- Row `r` of the activations, and the outlier columns of the keep mask. -/
abbrev rowX (x : Vec Ideal S512x1280 .bf16) (r : Fin 512) : Fin 1280 → EReal := fun n => x (ix2 r n)
/-- The columns a keep mask marks as outliers. -/
abbrev outK (k : Vec Ideal S8x1280 .i32) : Fin 1280 → Bool := fun n => decide (k (ix2 0 n) = 0#32)

/-- A row of the kept activations of block `b`. -/
theorem kept_ld (x : Vec Ideal S512x1280 .bf16) (k : Vec Ideal S8x1280 .i32) (b : Fin 10) (r : Fin 512) :
    (fun l : Fin 128 => (kept (ldX x b) (ldK k b) (ix2 r l) : EReal)) = Quant.blk (N := 10) (Quant.kept (rowX x r) (outK k)) b := by
  funext l
  have hb := b.isLt
  have hl := l.isLt
  have hn : b.val * 128 + l.val < 1280 := by omega
  rw [kept_at, ldX_at x b r l ⟨b.val * 128 + l.val, hn⟩ (by show _ = _; simp only []; omega),
    ldK_at k b 0 l ⟨b.val * 128 + l.val, hn⟩ (by show _ = _; simp only []; omega)]
  rfl

/-! ## The output buffers, at an index -/

/-- The codes of the activations. -/
theorem outXCode_at (x : Vec Ideal S512x1280 .bf16) (k : Vec Ideal S8x1280 .i32) (r : Fin 512) (n : Fin 1280) :
    outXCode x k (ix2 r n) = Quant.code (Quant.blk (N := 10) (Quant.kept (rowX x r) (outK k)) ⟨n.val / 128, by have := n.isLt; omega⟩) ⟨n.val % 128, by omega⟩ := by
  have hn := n.isLt
  unfold outXCode xCodeL
  refine View.canon_ofFn_unit_eq_of_forall (S := S512x1280) (fun n : Fin 10 => ![0, 128 * n.rev.val]) S512x128.size (fun n => inbX n.rev) _ (ix2 r n) _ ?_ ?_
  · refine ⟨(⟨n.val / 128, by omega⟩ : Fin 10).rev, fun a => ?_⟩
    rw [Fin.rev_rev]
    fin_cases a
    · show 0 ≤ r.val ∧ r.val < 0 + 512; omega
    · show 128 * (n.val / 128) ≤ n.val ∧ n.val < 128 * (n.val / 128) + 128; omega
  · intro b
    generalize b.rev = b
    tile_intro y h
    idx_vars y
    have e0 : y0 = r := Fin.ext h0.symm
    subst e0
    have e1 : n.val = 128 * b.val + y1.val := h1
    have hy1 := y1.isLt
    have eb : (⟨n.val / 128, by omega⟩ : Fin 10) = b := Fin.ext (by show n.val / 128 = b.val; omega)
    have el : (⟨n.val % 128, by omega⟩ : Fin 128) = y1 := Fin.ext (by show n.val % 128 = y1.val; omega)
    show codesOf (kept (ldX x b) (ldK k b)) (ix2 y0 y1) = _
    rw [codesOf_at, kept_ld, eb, el]

/-- The scales of the activations. -/
theorem outXScale_at (x : Vec Ideal S512x1280 .bf16) (k : Vec Ideal S8x1280 .i32) (r : Fin 512) (n : Fin 10) :
    outXScale x k (ix2 r n) = Quant.scale (Quant.blk (N := 10) (Quant.kept (rowX x r) (outK k)) n) := by
  have hn := n.isLt
  unfold outXScale xScaleL
  refine View.canon_ofFn_unit_eq_of_forall (S := S512x10) (fun n : Fin 10 => ![0, n.rev.val]) S512x1.size (fun n => inbXs n.rev) _ (ix2 r n) _ ?_ ?_
  · refine ⟨(⟨n.val / 1, by omega⟩ : Fin 10).rev, fun a => ?_⟩
    rw [Fin.rev_rev]
    fin_cases a
    · show 0 ≤ r.val ∧ r.val < 0 + 512; omega
    · show (n.val / 1) ≤ n.val ∧ n.val < (n.val / 1) + 1; omega
  · intro b
    generalize b.rev = b
    tile_intro y h
    idx_vars y
    have e0 : y0 = r := Fin.ext h0.symm
    subst e0
    have e1 : n.val = b.val + y1.val := h1
    have hy1 := y1.isLt
    have eb : n = b := Fin.ext (by omega)
    show scaleColOf (kept (ldX x b) (ldK k b)) (ix2 y0 y1) = _
    rw [scaleColOf_at, kept_ld, eb]

/-- The mixed activations. -/
theorem act_at (x : Vec Ideal S512x1280 .bf16) (k : Vec Ideal S8x1280 .i32) (r : Fin 512) (n : Fin 1280) :
    act x k (ix2 r n) = Quant.mixed (rowX x r) (outK k) n := by
  have hn := n.isLt
  unfold act mixedL
  refine View.canon_ofFn_unit_eq_of_forall (S := S512x1280) (fun n : Fin 10 => ![0, 128 * n.rev.val]) S512x128.size (fun n => inbX n.rev) _ (ix2 r n) _ ?_ ?_
  · refine ⟨(⟨n.val / 128, by omega⟩ : Fin 10).rev, fun a => ?_⟩
    rw [Fin.rev_rev]
    fin_cases a
    · show 0 ≤ r.val ∧ r.val < 0 + 512; omega
    · show 128 * (n.val / 128) ≤ n.val ∧ n.val < 128 * (n.val / 128) + 128; omega
  · intro b
    generalize b.rev = b
    tile_intro y h
    idx_vars y
    have e0 : y0 = r := Fin.ext h0.symm
    subst e0
    have e1 : n.val = 128 * b.val + y1.val := h1
    have hy1 := y1.isLt
    have eb : (⟨n.val / 128, by omega⟩ : Fin 10) = b := Fin.ext (by show n.val / 128 = b.val; omega)
    have el : (⟨n.val % 128, by omega⟩ : Fin 128) = y1 := Fin.ext (by show n.val % 128 = y1.val; omega)
    show mixed (ldX x b) (ldK k b) (ix2 y0 y1) = _
    rw [mixed_at, codesOf_at, scaleOf_at, kept_ld, ldX_at x b y0 y1 n e1, ldK_at k b 0 y1 n e1]
    unfold Quant.mixed
    rw [eb, el]

/-- 128 columns of a 512-column chunk, at an index. -/
theorem slice_at (v : FVec Ideal S512x512 .f32) (b : Fin 40) (r : Fin 512) (l : Fin 128) :
    extractStridedSlice S512x128 ![0, 128 * (b.val % 4)] v (slicesC b) (ix2 r l) = v (ix2 r (⟨128 * (b.val % 4) + l.val, by have := l.isLt; omega⟩ : Fin 512)) := by
  show v _ = v _
  congr 1; funext a; apply Fin.ext
  fin_cases a
  · show 0 + r.val = r.val; omega
  · rfl

/-- An output block, at an index. -/
theorem yBlock_at (x : Vec Ideal S512x1280 .bf16) (k : Vec Ideal S8x1280 .i32) (w : Vec Ideal S1280x5120 .bf16) (bias : Vec Ideal S1x5120 .f32) (res : Vec Ideal S512x5120 .bf16) (b : Fin 40) (r : Fin 512)
    (l : Fin 128) (n : Fin 5120) (hn : n.val = 128 * b.val + l.val) :
    yBlock (act x k) w bias res b (ix2 r l) = Quant.yrow (rowX x r) (outK k) (fun i j => w (ix2 i j)) (fun j => bias (ix2 0 j)) (fun j => res (ix2 r j)) n := by
  unfold yBlock
  have hl := l.isLt
  rw [outBlock_at, slice_at (chunk (act x k) (ldW w b)) b r l, chunk_at, ldB_at bias b 0 l n hn, ldR_at res b r l n hn]
  have e : (∑ i : Fin 1280, (act x k (ix2 r i) : EReal) * ldW w b (ix2 i (⟨128 * (b.val % 4) + l.val, by omega⟩ : Fin 512)))
      = ∑ i : Fin 1280, Quant.mixed (rowX x r) (outK k) i * w (ix2 i n) :=
    Finset.sum_congr rfl fun i _ => by
      rw [act_at, ldW_at w b i _ n (by show n.val = 512 * (b.val / 4) + (128 * (b.val % 4) + l.val); omega)]
  rw [e]
  rfl

/-- Row `r` of the output from the blocks. -/
abbrev rowY (x : Vec Ideal S512x1280 .bf16) (k : Vec Ideal S8x1280 .i32) (w : Vec Ideal S1280x5120 .bf16) (bias : Vec Ideal S1x5120 .f32) (res : Vec Ideal S512x5120 .bf16) (r : Fin 512) : Fin 5120 → EReal :=
  Quant.yrow (rowX x r) (outK k) (fun i j => w (ix2 i j)) (fun j => bias (ix2 0 j)) (fun j => res (ix2 r j))

/-- A row of block `b` of the output. -/
theorem yBlock_row (x : Vec Ideal S512x1280 .bf16) (k : Vec Ideal S8x1280 .i32) (w : Vec Ideal S1280x5120 .bf16) (bias : Vec Ideal S1x5120 .f32) (res : Vec Ideal S512x5120 .bf16) (b : Fin 40) (r : Fin 512) :
    (fun l : Fin 128 => (yBlock (act x k) w bias res b (ix2 r l) : EReal)) = Quant.blk (N := 40) (rowY x k w bias res r) b := by
  funext l
  have hb := b.isLt
  have hl := l.isLt
  exact yBlock_at x k w bias res b r l ⟨b.val * 128 + l.val, by omega⟩ (by simp only []; omega)

/-- The output. -/
theorem outY_at (x : Vec Ideal S512x1280 .bf16) (bias : Vec Ideal S1x5120 .f32) (res : Vec Ideal S512x5120 .bf16) (w : Vec Ideal S1280x5120 .bf16) (k : Vec Ideal S8x1280 .i32) (r : Fin 512) (n : Fin 5120) :
    outY x bias res w k (ix2 r n) = rowY x k w bias res r n := by
  have hn := n.isLt
  unfold outY yL
  refine View.canon_ofFn_unit_eq_of_forall (S := S512x5120) (fun n : Fin 40 => ![0, 128 * n.rev.val]) S512x128.size (fun n => inbY n.rev) _ (ix2 r n) _ ?_ ?_
  · refine ⟨(⟨n.val / 128, by omega⟩ : Fin 40).rev, fun a => ?_⟩
    rw [Fin.rev_rev]
    fin_cases a
    · show 0 ≤ r.val ∧ r.val < 0 + 512; omega
    · show 128 * (n.val / 128) ≤ n.val ∧ n.val < 128 * (n.val / 128) + 128; omega
  · intro b
    generalize b.rev = b
    tile_intro y h
    idx_vars y
    have e0 : y0 = r := Fin.ext h0.symm
    subst e0
    have e1 : n.val = 128 * b.val + y1.val := h1
    have hy1 := y1.isLt
    exact yBlock_at x k w bias res b y0 y1 n e1

/-- The codes of the output. -/
theorem outYCode_at (x : Vec Ideal S512x1280 .bf16) (bias : Vec Ideal S1x5120 .f32) (res : Vec Ideal S512x5120 .bf16) (w : Vec Ideal S1280x5120 .bf16) (k : Vec Ideal S8x1280 .i32) (r : Fin 512) (n : Fin 5120) :
    outYCode x bias res w k (ix2 r n) = Quant.code (Quant.blk (N := 40) (rowY x k w bias res r) ⟨n.val / 128, by have := n.isLt; omega⟩) ⟨n.val % 128, by omega⟩ := by
  have hn := n.isLt
  unfold outYCode yCodeL
  refine View.canon_ofFn_unit_eq_of_forall (S := S512x5120) (fun n : Fin 40 => ![0, 128 * n.rev.val]) S512x128.size (fun n => inbY n.rev) _ (ix2 r n) _ ?_ ?_
  · refine ⟨(⟨n.val / 128, by omega⟩ : Fin 40).rev, fun a => ?_⟩
    rw [Fin.rev_rev]
    fin_cases a
    · show 0 ≤ r.val ∧ r.val < 0 + 512; omega
    · show 128 * (n.val / 128) ≤ n.val ∧ n.val < 128 * (n.val / 128) + 128; omega
  · intro b
    generalize b.rev = b
    tile_intro y h
    idx_vars y
    have e0 : y0 = r := Fin.ext h0.symm
    subst e0
    have e1 : n.val = 128 * b.val + y1.val := h1
    have hy1 := y1.isLt
    have eb : (⟨n.val / 128, by omega⟩ : Fin 40) = b := Fin.ext (by show n.val / 128 = b.val; omega)
    have el : (⟨n.val % 128, by omega⟩ : Fin 128) = y1 := Fin.ext (by show n.val % 128 = y1.val; omega)
    show codesOf (yBlock (act x k) w bias res b) (ix2 y0 y1) = _
    rw [codesOf_at, yBlock_row, eb, el]

/-- The scales of the output. -/
theorem outYScale_at (x : Vec Ideal S512x1280 .bf16) (bias : Vec Ideal S1x5120 .f32) (res : Vec Ideal S512x5120 .bf16) (w : Vec Ideal S1280x5120 .bf16) (k : Vec Ideal S8x1280 .i32) (r : Fin 512) (n : Fin 40) :
    outYScale x bias res w k (ix2 r n) = Quant.scale (Quant.blk (N := 40) (rowY x k w bias res r) n) := by
  have hn := n.isLt
  unfold outYScale yScaleL
  refine View.canon_ofFn_unit_eq_of_forall (S := S512x40) (fun n : Fin 40 => ![0, n.rev.val]) S512x1.size (fun n => inbYs n.rev) _ (ix2 r n) _ ?_ ?_
  · refine ⟨(⟨n.val / 1, by omega⟩ : Fin 40).rev, fun a => ?_⟩
    rw [Fin.rev_rev]
    fin_cases a
    · show 0 ≤ r.val ∧ r.val < 0 + 512; omega
    · show (n.val / 1) ≤ n.val ∧ n.val < (n.val / 1) + 1; omega
  · intro b
    generalize b.rev = b
    tile_intro y h
    idx_vars y
    have e0 : y0 = r := Fin.ext h0.symm
    subst e0
    have e1 : n.val = b.val + y1.val := h1
    have hy1 := y1.isLt
    have eb : n = b := Fin.ext (by omega)
    show scaleColOf (yBlock (act x k) w bias res b) (ix2 y0 y1) = _
    rw [scaleColOf_at, yBlock_row, eb]

end Cert.KernelIdeal.Body

end
-- ==== Proof.KRun.lean ====
/- The kernel's five result arrays after the run, at an index, over its argument arrays. -/
module

public import proofs.«01_k».proof.Proof.Sound
public import proofs.«01_k».proof.Proof.KBlocks
public import Idealize.ShloMosaic.Lib.Pipeline.ValueKit
public import Idealize.ShloMosaic.Lib.Claim

@[expose] public section

set_option maxRecDepth 16384

noncomputable section

namespace Cert.KernelIdeal.Body

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen

variable (m : (ℓ : Loc nD τ sig) → Buf (Elt Ideal) ℓ)

/-- Row `i` of the activations, the batch and sequence axes merged. -/
def xrow (c : Dev nD) (i : Fin 12288) (n : Fin 1280) : EReal :=
  m ((c.tc : Thread nD τ).loc main_arg0) (ix3 (⟨i.val / 1024, by have := i.isLt; omega⟩ : Fin 12) (⟨i.val % 1024, by omega⟩ : Fin 1024) n)
/-- Row `i` of the residual. -/
def resrow (c : Dev nD) (i : Fin 12288) (n : Fin 5120) : EReal :=
  m ((c.tc : Thread nD τ).loc main_arg6) (ix3 (⟨i.val / 1024, by have := i.isLt; omega⟩ : Fin 12) (⟨i.val % 1024, by omega⟩ : Fin 1024) n)
/-- The bias. -/
def biasrow (c : Dev nD) (n : Fin 5120) : EReal := m ((c.tc : Thread nD τ).loc main_arg5) (ix1 n)

/-- Where a row block window stands at point `t`. -/
theorem idx2 : ∀ t : Fin cfg0.N, win0_2.index t = ![t.val, 0] := (by decide +kernel : ∀ t : Fin grid0.N, win0_2.index t = ![t.val, 0])
/-- The block that each point takes of the residual. -/
theorem idx6 : ∀ t : Fin cfg0.N, win0_6.index t = ![t.val, 0] := (by decide +kernel : ∀ t : Fin grid0.N, win0_6.index t = ![t.val, 0])
/-- The block that each point takes of the mixed output. -/
theorem idx7 : ∀ t : Fin cfg0.N, win0_7.index t = ![t.val, 0] := (by decide +kernel : ∀ t : Fin grid0.N, win0_7.index t = ![t.val, 0])
/-- The block that each point takes of the codes of `x`. -/
theorem idx8 : ∀ t : Fin cfg0.N, win0_8.index t = ![t.val, 0] := (by decide +kernel : ∀ t : Fin grid0.N, win0_8.index t = ![t.val, 0])
/-- The block that each point takes of the scales of `x`. -/
theorem idx9 : ∀ t : Fin cfg0.N, win0_9.index t = ![t.val, 0] := (by decide +kernel : ∀ t : Fin grid0.N, win0_9.index t = ![t.val, 0])
/-- The block that each point takes of the codes of the output. -/
theorem idx10 : ∀ t : Fin cfg0.N, win0_10.index t = ![t.val, 0] := (by decide +kernel : ∀ t : Fin grid0.N, win0_10.index t = ![t.val, 0])
/-- The block that each point takes of the scales of the output. -/
theorem idx11 : ∀ t : Fin cfg0.N, win0_11.index t = ![t.val, 0] := (by decide +kernel : ∀ t : Fin grid0.N, win0_11.index t = ![t.val, 0])
/-- The block that each point takes of the index argument. -/
theorem idx0 : ∀ t : Fin cfg0.N, win0_0.index t = ![0] := (by decide +kernel : ∀ t : Fin grid0.N, win0_0.index t = ![0])
/-- The block that each point takes of the weight scales. -/
theorem idx1 : ∀ t : Fin cfg0.N, win0_1.index t = ![0, 0] := (by decide +kernel : ∀ t : Fin grid0.N, win0_1.index t = ![0, 0])
/-- The block that each point takes of the outlier rows. -/
theorem idx3 : ∀ t : Fin cfg0.N, win0_3.index t = ![0, 0] := (by decide +kernel : ∀ t : Fin grid0.N, win0_3.index t = ![0, 0])
/-- The block that each point takes of the weight codes. -/
theorem idx4 : ∀ t : Fin cfg0.N, win0_4.index t = ![0, 0] := (by decide +kernel : ∀ t : Fin grid0.N, win0_4.index t = ![0, 0])
/-- The block that each point takes of the bias. -/
theorem idx5 : ∀ t : Fin cfg0.N, win0_5.index t = ![0, 0] := (by decide +kernel : ∀ t : Fin grid0.N, win0_5.index t = ![0, 0])

/-- The array row of row `r` of point `t`'s block. -/
def brow (t : Fin cfg0.N) (r : Fin 512) : Fin 12288 := ⟨t.val * 512 + r.val, by
  have ht : t.val < 24 := Nat.lt_of_lt_of_eq t.isLt N_0
  have := r.isLt
  omega⟩

/-- An element of a point's block of the index argument. -/
theorem iblk0_at (c : Dev nD) (t : Fin cfg0.N) (j : Fin 36) : iblk m c 0 t (ix1 j) = m ((c.tc : Thread nD τ).loc main_arg1) (ix1 j) := by
  blk_ext! [iblk, V, idx0 t]
/-- An element of a point's block of the weight scales. -/
theorem iblk1_at (c : Dev nD) (t : Fin cfg0.N) (a : Fin 10) (b : Fin 40) : iblk m c 1 t (ix2 a b) = m ((c.tc : Thread nD τ).loc main_arg4) (ix2 a b) := by
  blk_ext! [iblk, V, idx1 t]
/-- An element of a point's block of the outlier rows. -/
theorem iblk3_at (c : Dev nD) (t : Fin cfg0.N) (a : Fin 36) (b : Fin 5120) : iblk m c 3 t (ix2 a b) = m ((c.tc : Thread nD τ).loc main_arg2) (ix2 a b) := by
  blk_ext! [iblk, V, idx3 t]
/-- An element of a point's block of the weight codes. -/
theorem iblk4_at (c : Dev nD) (t : Fin cfg0.N) (a : Fin 1280) (b : Fin 5120) : iblk m c 4 t (ix2 a b) = m ((c.tc : Thread nD τ).loc main_arg3) (ix2 a b) := by
  blk_ext! [iblk, V, idx4 t]
/-- An element of a point's block of the activations. -/
theorem iblk2_at (c : Dev nD) (t : Fin cfg0.N) (r : Fin 512) (n : Fin 1280) : iblk m c 2 t (ix2 r n) = xrow m c (brow t r) n := by
  unfold xrow brow
  blk_ext! [iblk, V, idx2 t]
/-- An element of a point's block of the bias. -/
theorem iblk5_at (c : Dev nD) (t : Fin cfg0.N) (a : Fin 1) (n : Fin 5120) : iblk m c 5 t (ix2 a n) = biasrow m c n := by
  unfold biasrow
  blk_ext! [iblk, V, idx5 t]
/-- An element of a point's block of the residual. -/
theorem iblk6_at (c : Dev nD) (t : Fin cfg0.N) (r : Fin 512) (n : Fin 5120) : iblk m c 6 t (ix2 r n) = resrow m c (brow t r) n := by
  unfold resrow brow
  blk_ext! [iblk, V, idx6 t]

/-- Row `i` of the output, from the prepared mask and weights. -/
def yOut (c : Dev nD) (i : Fin 12288) : Fin 5120 → EReal :=
  Quant.yrow (xrow m c i) (outK (Kp m c)) (fun k n => Wt m c (ix2 k n)) (biasrow m c) (resrow m c i)

/-- A row of the activations in a block is a row of the argument. -/
theorem rowX_eq (c : Dev nD) (t : Fin cfg0.N) (r : Fin 512) : rowX (iblk m c 2 t) r = xrow m c (brow t r) :=
  funext fun n => iblk2_at m c t r n

/-- The output row computed from the blocks, from the arguments. -/
theorem rowY_eq (c : Dev nD) (t : Fin cfg0.N) (r : Fin 512) :
    rowY (iblk m c 2 t) (Kp m c) (Wt m c) (iblk m c 5 t) (iblk m c 6 t) r = yOut m c (brow t r) := by
  unfold rowY yOut
  rw [rowX_eq]
  exact congrArg₂ (Quant.yrow (xrow m c (brow t r)) (outK (Kp m c)) (fun k n => Wt m c (ix2 k n))) (funext fun n => iblk5_at m c t 0 n) (funext fun n => iblk6_at m c t r n)

/-! ## The five arrays -/

/-- The mixed output. -/
def res7 (c : Dev nD) : S12288x5120.Idx → EReal := fun i => yOut m c (i 0) (i 1)

/-- Where point `t`'s block of it stands. -/
theorem emb7 (t : Fin cfg0.N) (r : Fin 512) (n : Fin 5120) : ((cfg0.win 7).blk t).view.emb (ix2 r n) = (ix2 (brow t r) n : S12288x5120.Idx) := by
  funext a
  apply Fin.ext
  unfold brow
  fin_cases a
  · blk_simp [idx7 t]
    rfl
  · blk_simp [idx7 t]
    rfl

/-- After the last point the array of the mixed output holds it. -/
theorem arr7 (c : Dev nD) : (dats m 0 c).arrAt 7 cfg0.N = res7 m c := by
  refine (dats m 0 c).arrAt_eq_of_covers 7 _ (by decide +kernel) fun t hf y => ?_
  blk_simp
  rw [after0_7]
  obtain ⟨r, n, rfl⟩ : ∃ (r : Fin 512) (n : Fin 5120), y = ix2 r n := ⟨y 0, y 1, (ix2_eta y).symm⟩
  refine Eq.trans ?_ (congrArg (res7 m c) (emb7 t r n)).symm
  refine (outY_at _ _ _ _ _ r n).trans ?_
  unfold res7
  rw [rowY_eq]
  rfl

/-- The codes of `x`. -/
def res8 (c : Dev nD) : S12288x1280.Idx → EReal := fun i => Quant.code (Quant.blk (N := 10) (Quant.kept (xrow m c (i 0)) (outK (Kp m c))) ⟨(i 1).val / 128, by have : (i 1).val < 1280 := (i 1).isLt; omega⟩) ⟨(i 1).val % 128, by omega⟩

/-- Where point `t`'s block of it stands. -/
theorem emb8 (t : Fin cfg0.N) (r : Fin 512) (n : Fin 1280) : ((cfg0.win 8).blk t).view.emb (ix2 r n) = (ix2 (brow t r) n : S12288x1280.Idx) := by
  funext a
  apply Fin.ext
  unfold brow
  fin_cases a
  · blk_simp [idx8 t]
    rfl
  · blk_simp [idx8 t]
    rfl

/-- After the last point the array of the codes of `x` holds them. -/
theorem arr8 (c : Dev nD) : (dats m 0 c).arrAt 8 cfg0.N = res8 m c := by
  refine (dats m 0 c).arrAt_eq_of_covers 8 _ (by decide +kernel) fun t hf y => ?_
  blk_simp
  rw [after0_8]
  obtain ⟨r, n, rfl⟩ : ∃ (r : Fin 512) (n : Fin 1280), y = ix2 r n := ⟨y 0, y 1, (ix2_eta y).symm⟩
  refine Eq.trans ?_ (congrArg (res8 m c) (emb8 t r n)).symm
  refine (outXCode_at _ _ r n).trans ?_
  unfold res8
  rw [rowX_eq]
  rfl

/-- The scales of `x`. -/
def res9 (c : Dev nD) : S12288x10.Idx → EReal := fun i => Quant.scale (Quant.blk (N := 10) (Quant.kept (xrow m c (i 0)) (outK (Kp m c))) (i 1))

/-- Where point `t`'s block of it stands. -/
theorem emb9 (t : Fin cfg0.N) (r : Fin 512) (n : Fin 10) : ((cfg0.win 9).blk t).view.emb (ix2 r n) = (ix2 (brow t r) n : S12288x10.Idx) := by
  funext a
  apply Fin.ext
  unfold brow
  fin_cases a
  · blk_simp [idx9 t]
    rfl
  · blk_simp [idx9 t]
    rfl

/-- After the last point the array of the scales of `x` holds them. -/
theorem arr9 (c : Dev nD) : (dats m 0 c).arrAt 9 cfg0.N = res9 m c := by
  refine (dats m 0 c).arrAt_eq_of_covers 9 _ (by decide +kernel) fun t hf y => ?_
  blk_simp
  rw [after0_9]
  obtain ⟨r, n, rfl⟩ : ∃ (r : Fin 512) (n : Fin 10), y = ix2 r n := ⟨y 0, y 1, (ix2_eta y).symm⟩
  refine Eq.trans ?_ (congrArg (res9 m c) (emb9 t r n)).symm
  refine (outXScale_at _ _ r n).trans ?_
  unfold res9
  rw [rowX_eq]
  rfl

/-- The codes of the output. -/
def res10 (c : Dev nD) : S12288x5120.Idx → EReal := fun i => Quant.code (Quant.blk (N := 40) (yOut m c (i 0)) ⟨(i 1).val / 128, by have : (i 1).val < 5120 := (i 1).isLt; omega⟩) ⟨(i 1).val % 128, by omega⟩

/-- Where point `t`'s block of it stands. -/
theorem emb10 (t : Fin cfg0.N) (r : Fin 512) (n : Fin 5120) : ((cfg0.win 10).blk t).view.emb (ix2 r n) = (ix2 (brow t r) n : S12288x5120.Idx) := by
  funext a
  apply Fin.ext
  unfold brow
  fin_cases a
  · blk_simp [idx10 t]
    rfl
  · blk_simp [idx10 t]
    rfl

/-- After the last point the array of the codes of the output holds them. -/
theorem arr10 (c : Dev nD) : (dats m 0 c).arrAt 10 cfg0.N = res10 m c := by
  refine (dats m 0 c).arrAt_eq_of_covers 10 _ (by decide +kernel) fun t hf y => ?_
  blk_simp
  rw [after0_10]
  obtain ⟨r, n, rfl⟩ : ∃ (r : Fin 512) (n : Fin 5120), y = ix2 r n := ⟨y 0, y 1, (ix2_eta y).symm⟩
  refine Eq.trans ?_ (congrArg (res10 m c) (emb10 t r n)).symm
  refine (outYCode_at _ _ _ _ _ r n).trans ?_
  unfold res10
  rw [rowY_eq]
  rfl

/-- The scales of the output. -/
def res11 (c : Dev nD) : S12288x40.Idx → EReal := fun i => Quant.scale (Quant.blk (N := 40) (yOut m c (i 0)) (i 1))

/-- Where point `t`'s block of it stands. -/
theorem emb11 (t : Fin cfg0.N) (r : Fin 512) (n : Fin 40) : ((cfg0.win 11).blk t).view.emb (ix2 r n) = (ix2 (brow t r) n : S12288x40.Idx) := by
  funext a
  apply Fin.ext
  unfold brow
  fin_cases a
  · blk_simp [idx11 t]
    rfl
  · blk_simp [idx11 t]
    rfl

/-- After the last point the array of the scales of the output holds them. -/
theorem arr11 (c : Dev nD) : (dats m 0 c).arrAt 11 cfg0.N = res11 m c := by
  refine (dats m 0 c).arrAt_eq_of_covers 11 _ (by decide +kernel) fun t hf y => ?_
  blk_simp
  rw [after0_11]
  obtain ⟨r, n, rfl⟩ : ∃ (r : Fin 512) (n : Fin 40), y = ix2 r n := ⟨y 0, y 1, (ix2_eta y).symm⟩
  refine Eq.trans ?_ (congrArg (res11 m c) (emb11 t r n)).symm
  refine (outYScale_at _ _ _ _ _ r n).trans ?_
  unfold res11
  rw [rowY_eq]
  rfl

/-! ## The run -/

variable (ρ : Dev nD → PrngReg)

/-- After the frame run, output window 7's array is `(dats m 0 c).arrAt 7 N`. -/
theorem post7 (r : PUnit × MemSt nD τ sig (Elt Ideal)) (h : Pipeline.FramePost cfgs (dats m) 0 (V m) r) (c : Dev nD) :
    r.2.mem ((c : Thread nD τ).loc main_v3_0) = (dats m 0 c).arrAt 7 cfg0.N :=
  (h c).1 7

/-- After the frame run, output window 8's array is `(dats m 0 c).arrAt 8 N`. -/
theorem post8 (r : PUnit × MemSt nD τ sig (Elt Ideal)) (h : Pipeline.FramePost cfgs (dats m) 0 (V m) r) (c : Dev nD) :
    r.2.mem ((c : Thread nD τ).loc main_v3_1) = (dats m 0 c).arrAt 8 cfg0.N :=
  (h c).1 8

/-- After the frame run, output window 9's array is `(dats m 0 c).arrAt 9 N`. -/
theorem post9 (r : PUnit × MemSt nD τ sig (Elt Ideal)) (h : Pipeline.FramePost cfgs (dats m) 0 (V m) r) (c : Dev nD) :
    r.2.mem ((c : Thread nD τ).loc main_v3_2) = (dats m 0 c).arrAt 9 cfg0.N :=
  (h c).1 9

/-- After the frame run, output window 10's array is `(dats m 0 c).arrAt 10 N`. -/
theorem post10 (r : PUnit × MemSt nD τ sig (Elt Ideal)) (h : Pipeline.FramePost cfgs (dats m) 0 (V m) r) (c : Dev nD) :
    r.2.mem ((c : Thread nD τ).loc main_v3_3) = (dats m 0 c).arrAt 10 cfg0.N :=
  (h c).1 10

/-- After the frame run, output window 11's array is `(dats m 0 c).arrAt 11 N`. -/
theorem post11 (r : PUnit × MemSt nD τ sig (Elt Ideal)) (h : Pipeline.FramePost cfgs (dats m) 0 (V m) r) (c : Dev nD) :
    r.2.mem ((c : Thread nD τ).loc main_v3_4) = (dats m 0 c).arrAt 11 cfg0.N :=
  (h c).1 11

/-- After the run argument 0 is as launched. -/
theorem kept_main_arg0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the run argument 1 is as launched. -/
theorem kept_main_arg1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).1 0).trans (((dats m 0 c).arrAt_in 0 rfl _).trans ((A_eq m c 0).trans (V_main_arg1 m c)))

/-- After the run argument 2 is as launched. -/
theorem kept_main_arg2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).1 3).trans (((dats m 0 c).arrAt_in 3 rfl _).trans ((A_eq m c 3).trans (V_main_arg2 m c)))

/-- After the run argument 3 is as launched. -/
theorem kept_main_arg3 (r : PUnit × MemSt nD τ sig (Elt Ideal)) (h : Pipeline.FramePost cfgs (dats m) 0 (V m) r) (c : Dev nD) :
    r.2.mem ((c : Thread nD τ).loc main_arg3) = m ((c : Thread nD τ).loc main_arg3) :=
  ((h c).1 4).trans (((dats m 0 c).arrAt_in 4 rfl _).trans ((A_eq m c 4).trans (V_main_arg3 m c)))

/-- After the run argument 4 is as launched. -/
theorem kept_main_arg4 (r : PUnit × MemSt nD τ sig (Elt Ideal)) (h : Pipeline.FramePost cfgs (dats m) 0 (V m) r) (c : Dev nD) :
    r.2.mem ((c : Thread nD τ).loc main_arg4) = m ((c : Thread nD τ).loc main_arg4) :=
  ((h c).1 1).trans (((dats m 0 c).arrAt_in 1 rfl _).trans ((A_eq m c 1).trans (V_main_arg4 m c)))

/-- After the run argument 5 is as launched. -/
theorem kept_main_arg5 (r : PUnit × MemSt nD τ sig (Elt Ideal)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the run argument 6 is as launched. -/
theorem kept_main_arg6 (r : PUnit × MemSt nD τ sig (Elt Ideal)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- The run: each result array as named above, the arguments unchanged. -/
theorem run_blocks (hH : Rows m) : θ_run defs (onTc (τ := τ) (main (F := Ideal))) ⟨m, fun _ => 0, ρ⟩ fun r => ∀ c : Dev nD,
      r.2.mem ((c : Thread nD τ).loc main_v3_0) = res7 m c
      ∧ r.2.mem ((c : Thread nD τ).loc main_v3_1) = res8 m c
      ∧ r.2.mem ((c : Thread nD τ).loc main_v3_2) = res9 m c
      ∧ r.2.mem ((c : Thread nD τ).loc main_v3_3) = res10 m c
      ∧ r.2.mem ((c : Thread nD τ).loc main_v3_4) = res11 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(post7 m r h c).trans (arr7 m c),
      (post8 m r h c).trans (arr8 m c),
      (post9 m r h c).trans (arr9 m c),
      (post10 m r h c).trans (arr10 m c),
      (post11 m r h c).trans (arr11 m c),
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ hH)

end Cert.KernelIdeal.Body

end
-- ==== Proof.Scatter.lean ====
/- A fold that keeps the last writer, and the reference's two host scatters read at one element. -/
module

public import proofs.«01_k».proof.Proof.Gen.ReferenceIdeal.Frame
public import Idealize.ShloMosaic.Lib.Routing.OpsPair
public import Idealize.ShloMosaic.Lib.Routing.OpsSet
public import Idealize.ShloMosaic.Lib.Pointwise

@[expose] public section

set_option maxRecDepth 16384

noncomputable section

namespace Cert.Scatter

open Idealize.ShloMosaic Idealize.ShloMosaic.TcCoe Idealize.ShloMosaic.Tactic
open Idealize.SL Idealize.SL.Sem
open Idealize.ShloMosaic.Pipeline (Dat Cfg Window)
open Idealize.ShloMosaic.Routing
open Cert.ReferenceIdeal Cert.ReferenceIdeal.Gen

/-! ## The last writer -/

/-- A fold that writes `v n` at each `n` with `P n`, over a list none of whose members has `P`: nothing is written. -/
theorem fold_none {α β : Type} (P : β → Prop) [DecidablePred P] (v : β → α) (L : List β) (h : ∀ n ∈ L, ¬ P n) (x : α) :
    L.foldl (fun a n => if P n then v n else a) x = x := by
  induction L generalizing x with
  | nil => rfl
  | cons b L ih =>
    rw [List.foldl_cons, if_neg (h b List.mem_cons_self)]
    exact ih (fun n hn => h n (List.mem_cons_of_mem _ hn)) x

/-- Such a fold over the numbers below `N` in order ends at what the last writer `m` writes. -/
theorem fold_last {α : Type} {N : ℕ} (P : Fin N → Prop) [DecidablePred P] (v : Fin N → α) (m : Fin N) (hm : P m) (h : ∀ n, m < n → ¬ P n) (x : α) :
    (List.finRange N).foldl (fun a n => if P n then v n else a) x = v m := by
  obtain ⟨L, R, e⟩ := List.append_of_mem (List.mem_finRange m)
  have hs : (List.finRange N).Pairwise (· < ·) := List.pairwise_lt_finRange N
  rw [e] at hs
  have hR : ∀ n ∈ R, m < n := fun n hn => (List.pairwise_cons.1 (List.pairwise_append.1 hs).2.1).1 n hn
  rw [e, List.foldl_append, List.foldl_cons, if_pos hm]
  exact fold_none P v R (fun n hn => h n (hR n hn)) _

/-- Where something is written there is a last writer. -/
theorem exists_last {N : ℕ} (P : Fin N → Prop) (h : ∃ n, P n) : ∃ m, P m ∧ ∀ n, m < n → ¬ P n := by
  classical
  obtain ⟨n, hn⟩ := h
  obtain ⟨m, hm, hmax⟩ := Finset.exists_max_image (Finset.univ.filter P) id ⟨n, Finset.mem_filter.2 ⟨Finset.mem_univ _, hn⟩⟩
  refine ⟨m, (Finset.mem_filter.1 hm).2, fun k hk hP => ?_⟩
  exact absurd (hmax k (Finset.mem_filter.2 ⟨Finset.mem_univ _, hP⟩)) (not_le.2 hk)

/-! ## The two scatters -/

/-- Update row `j`, column `c` of the row scatter lands at `(k, n)` exactly when index word `j` is `k` and `c` is `n`. -/
theorem lands_row (idx : IVec S36x1 32) (j : Fin 36) (c : Fin 5120) (k : Fin 1280) (n : Fin 5120) :
    scatter_S1280x5120_S36x1_S36x5120_1_0_0_1.resultIdx? (ix2 j c) idx = some (ix2 k n) ↔ (idx (ix2 j 0)).toInt = (k.val : Int) ∧ c = n := by
  rw [resultIdx?_eq_some]
  have s0 : scatter_S1280x5120_S36x1_S36x5120_1_0_0_1.start (ix2 j c) idx 0 = (idx (ix2 j 0)).toInt := by
    unfold ScatterDims.start
    rw [dif_pos (by decide)]
    refine congrArg (fun q => (idx q).toInt) (funext fun b => ?_)
    fin_cases b <;> rfl
  have s1 : scatter_S1280x5120_S36x1_S36x5120_1_0_0_1.start (ix2 j c) idx 1 = 0 := by
    unfold ScatterDims.start
    rw [dif_neg (by decide)]
  have w0 : scatter_S1280x5120_S36x1_S36x5120_1_0_0_1.window (ix2 j c) 0 = 0 := by
    unfold ScatterDims.window
    rw [dif_neg (by decide)]
  have w1 : scatter_S1280x5120_S36x1_S36x5120_1_0_0_1.window (ix2 j c) 1 = c.val := by
    unfold ScatterDims.window
    rw [dif_pos (by decide)]
    rfl
  constructor
  · intro h
    have h0 := h 0
    have h1 := h 1
    rw [s0, w0] at h0
    rw [s1, w1] at h1
    change _ = (k.val : Int) at h0
    change _ = (n.val : Int) at h1
    exact ⟨by omega, Fin.ext (by omega)⟩
  · rintro ⟨h, rfl⟩ a
    match a with
    | ⟨0, _⟩ => exact (congrArg₂ (fun (p : Int) (q : ℕ) => p + (q : Int)) s0 w0).trans (by show _ = (k.val : Int); omega)
    | ⟨1, _⟩ => exact (congrArg₂ (fun (p : Int) (q : ℕ) => p + (q : Int)) s1 w1).trans (by show _ = (c.val : Int); omega)

/-- Update `j` of the mark scatter lands at column `n` exactly when its index words are 0 and `n`. -/
theorem lands_mark (idx : IVec S36x2 32) (j : Fin 36) (n : Fin 1280) :
    scatter_S1x1280_S36x2_S36_n_01_01_1.resultIdx? (ix1 j) idx = some (ix2 0 n) ↔ (idx (ix2 j 0)).toInt = 0 ∧ (idx (ix2 j 1)).toInt = (n.val : Int) := by
  rw [resultIdx?_eq_some]
  have s0 : scatter_S1x1280_S36x2_S36_n_01_01_1.start (ix1 j) idx 0 = (idx (ix2 j 0)).toInt := by
    unfold ScatterDims.start
    rw [dif_pos (by decide)]
    refine congrArg (fun q => (idx q).toInt) (funext fun b => ?_)
    fin_cases b <;> rfl
  have s1 : scatter_S1x1280_S36x2_S36_n_01_01_1.start (ix1 j) idx 1 = (idx (ix2 j 1)).toInt := by
    unfold ScatterDims.start
    rw [dif_pos (by decide)]
    refine congrArg (fun q => (idx q).toInt) (funext fun b => ?_)
    fin_cases b <;> rfl
  have w : ∀ a, scatter_S1x1280_S36x2_S36_n_01_01_1.window (ix1 j) a = 0 := fun a => by
    unfold ScatterDims.window
    rw [dif_neg (by revert a; decide)]
  constructor
  · intro h
    have h0 := h 0
    have h1 := h 1
    rw [s0, w] at h0
    rw [s1, w] at h1
    change _ = (((0 : Fin 1).val : ℕ) : Int) at h0
    change _ = (n.val : Int) at h1
    exact ⟨by simpa using h0, by omega⟩
  · rintro ⟨h, h'⟩ a
    match a with
    | ⟨0, _⟩ => exact (congrArg₂ (fun (p : Int) (q : ℕ) => p + (q : Int)) s0 (w 0)).trans (by show _ = (((0 : Fin 1).val : ℕ) : Int); simpa using h)
    | ⟨1, _⟩ => exact (congrArg₂ (fun (p : Int) (q : ℕ) => p + (q : Int)) s1 (w 1)).trans (by show _ = (n.val : Int); omega)

/-- The mark scatter of ones over zeros, where its first index words are 0: one in the named columns, zero elsewhere. -/
theorem mark_at (x : IVec S1x1280 32) (idx : IVec S36x2 32) (u : IVec S36 32) (n : Fin 1280)
    (hx : x (ix2 0 n) = 0#32) (hu : ∀ j, u (ix1 j) = 1#32) (h0 : ∀ j, idx (ix2 j 0) = 0#32) :
    Host.scatter scatter_S1x1280_S36x2_S36_n_01_01_1 (fun _ b => b) x idx u (ix2 0 n) ≠ 0#32 ↔ ∃ j : Fin 36, (idx (ix2 j 1)).toInt = (n.val : Int) := by
  constructor
  · intro h
    by_contra hn
    refine h ((scatter_set_miss _ _ _ _ _ fun k hk => ?_).trans hx)
    obtain ⟨a, rfl⟩ : ∃ a : Fin 36, k = ix1 a := ⟨k 0, (ix1_eta k).symm⟩
    rw [lands_mark] at hk
    exact hn ⟨_, hk.2⟩
  · rintro ⟨j, hj⟩
    rw [scatter_set_hit _ _ _ _ _ 1#32 (fun k _ => (congrArg u (ix1_eta k).symm).trans (hu _)) (ix1 j) ((lands_mark idx j n).2 ⟨by rw [h0]; rfl, hj⟩)]
    decide

/-- The row scatter at an element of a named row: the last update row that names it. -/
theorem rows_at {α : Type} (x : S1280x5120.Idx → α) (idx : IVec S36x1 32) (u : S36x5120.Idx → α) (k : Fin 1280) (n : Fin 5120) (j : Fin 36)
    (hj : (idx (ix2 j 0)).toInt = (k.val : Int)) (hlast : ∀ i, j < i → (idx (ix2 i 0)).toInt ≠ (k.val : Int)) :
    Host.scatter scatter_S1280x5120_S36x1_S36x5120_1_0_0_1 (fun _ b => b) x idx u (ix2 k n) = u (ix2 j n) := by
  rw [scatter_at]
  have key := fold_last (fun q => scatter_S1280x5120_S36x1_S36x5120_1_0_0_1.resultIdx? (S36x5120.rowMajor.symm q) idx = some (ix2 k n))
    (fun q => u (S36x5120.rowMajor.symm q)) (S36x5120.rowMajor (ix2 j n)) (by rw [Equiv.symm_apply_apply]; exact (lands_row idx j n k n).2 ⟨hj, rfl⟩)
    (fun q hq hP => by
      obtain ⟨y, rfl⟩ := S36x5120.rowMajor.surjective q
      obtain ⟨a, b, rfl⟩ : ∃ (a : Fin 36) (b : Fin 5120), y = ix2 a b := ⟨y 0, y 1, (ix2_eta y).symm⟩
      rw [Equiv.symm_apply_apply, lands_row] at hP
      obtain ⟨h, hc⟩ := hP
      have hlt : (S36x5120.rowMajor (ix2 j n)).val < (S36x5120.rowMajor (ix2 a b)).val := hq
      rw [Shape.rowMajor_val_two, Shape.rowMajor_val_two] at hlt
      refine hlast a ?_ h
      change j.val * 5120 + n.val < a.val * 5120 + b.val at hlt
      rw [hc] at hlt
      show j.val < a.val
      omega) (x (ix2 k n))
  rw [Equiv.symm_apply_apply] at key
  exact key

end Cert.Scatter

end
-- ==== Proof.KPrep.lean ====
/- What the two carried scratch buffers hold, at an index: the keep mask and the prepared weights. -/
module

public import proofs.«01_k».proof.Proof.First
public import proofs.«01_k».proof.Proof.KBlocks
public import proofs.«01_k».proof.Proof.Scatter

@[expose] public section

set_option maxRecDepth 16384

noncomputable section

namespace Cert.KernelIdeal.Body

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen

/-- One step of the mask: zero where the column is the named one, else what it was. -/
theorem maskStep_eq (a b r : BitVec 32) : Scalar.select (IntOp.cmpi .eq a b) 0#32 r = 0#32 ↔ a = b ∨ r = 0#32 := by
  by_cases h : a = b
  · subst h
    simp [Scalar.select, IntOp.cmpi]
  · have hb : (a == b) = false := by simp [h]
    simp [Scalar.select, IntOp.cmpi, h, hb]

/-- Many steps of it. -/
theorem maskFold_eq (a : BitVec 32) (f : Fin 36 → BitVec 32) (L : List (Fin 36)) (r : BitVec 32) :
    L.foldl (fun r j => Scalar.select (IntOp.cmpi .eq a (f j)) 0#32 r) r = 0#32 ↔ r = 0#32 ∨ ∃ j ∈ L, a = f j := by
  induction L generalizing r with
  | nil => simp
  | cons b L ih =>
    rw [List.foldl_cons, ih, maskStep_eq]
    simp only [List.mem_cons, exists_eq_or_imp]
    tauto

/-- The keep mask as a fold over the outlier table. -/
theorem scratchK_fold (x0 : Vec Ideal S36 .i32) (n : Fin 1280) :
    scratchK (F := Ideal) x0 (ix2 0 n) = (List.finRange 36).foldl (fun r j => Scalar.select (IntOp.cmpi .eq (BitVec.ofNat 32 n.val) (x0 (ix1 j))) 0#32 r) 4294967295#32 := by
  unfold scratchK
  pointwise [k0_pay50, k0_pay51, k0_pay52, k0_pay53, k0_pay54, k0_pay55, k0_pay56, k0_pay57]
  rfl

/-- The mask marks exactly the columns the table names. -/
theorem outK_iff (x0 : Vec Ideal S36 .i32) (n : Fin 1280) : outK (scratchK (F := Ideal) x0) n = true ↔ ∃ j : Fin 36, (x0 (ix1 j)).toNat = n.val := by
  unfold outK
  rw [decide_eq_true_iff, scratchK_fold, maskFold_eq]
  have hn := n.isLt
  constructor
  · rintro (h | ⟨j, -, h⟩)
    · exact absurd h (by decide)
    · exact ⟨j, by rw [← h, BitVec.toNat_ofNat]; omega⟩
  · rintro ⟨j, h⟩
    exact .inr ⟨j, List.mem_finRange j, BitVec.eq_of_toNat_eq (by rw [h, BitVec.toNat_ofNat]; omega)⟩

/-- The prepared weights at an index, as a fold over the outlier table. -/
theorem scratchW_fold (x0 : Vec Ideal S36 .i32) (x1 : Vec Ideal S10x40 .f32) (x3 : Vec Ideal S36x5120 .bf16) (x4 : Vec Ideal S1280x5120 .fp8e4m3) (k : Fin 1280) (n : Fin 5120) :
    scratchW x0 x1 x3 x4 (ix2 k n) = (List.finRange 36).foldl (fun a j => if k.val = (x0 (ix1 j)).toNat then x3 (ix2 j n) else a) (deq x1 x4 (ix2 k n)) := by
  unfold scratchW
  exact (List.foldl_hom (fun w : Vec Ideal S1280x5120 .bf16 => w (ix2 k n)) fun w j => rfl).symm

/-- On a row the table does not name: the dequantised code. -/
theorem scratchW_miss (x0 : Vec Ideal S36 .i32) (x1 : Vec Ideal S10x40 .f32) (x3 : Vec Ideal S36x5120 .bf16) (x4 : Vec Ideal S1280x5120 .fp8e4m3) (k : Fin 1280) (n : Fin 5120)
    (h : ¬ ∃ j : Fin 36, (x0 (ix1 j)).toNat = k.val) :
    scratchW x0 x1 x3 x4 (ix2 k n)
      = x4 (ix2 k n) * x1 (ix2 (⟨k.val / 128, by have := k.isLt; omega⟩ : Fin 10) (⟨n.val / 128, by have := n.isLt; omega⟩ : Fin 40)) := by
  rw [scratchW_fold]
  exact Scatter.fold_none (fun j : Fin 36 => k.val = (x0 (ix1 j)).toNat) (fun j => x3 (ix2 j n)) _ (fun j _ e => h ⟨j, e.symm⟩) _

/-- On a named row: the last outlier row that names it. -/
theorem scratchW_hit (x0 : Vec Ideal S36 .i32) (x1 : Vec Ideal S10x40 .f32) (x3 : Vec Ideal S36x5120 .bf16) (x4 : Vec Ideal S1280x5120 .fp8e4m3) (k : Fin 1280) (n : Fin 5120) (j : Fin 36)
    (hj : (x0 (ix1 j)).toNat = k.val) (hlast : ∀ i, j < i → (x0 (ix1 i)).toNat ≠ k.val) :
    scratchW x0 x1 x3 x4 (ix2 k n) = x3 (ix2 j n) := by
  rw [scratchW_fold]
  exact Scatter.fold_last (fun j : Fin 36 => k.val = (x0 (ix1 j)).toNat) (fun j => x3 (ix2 j n)) j hj.symm (fun i hi e => hlast i hi e.symm) _

end Cert.KernelIdeal.Body

end
-- ==== Proof.RBlocks.lean ====
/- What the reference's operations compute at an index, at the extended reals. -/
module

public import proofs.«01_k».proof.Proof.Quant
public import proofs.«01_k».proof.Proof.Gen.ReferenceIdeal.Frame
public import Idealize.ShloMosaic.Lib.Pointwise

@[expose] public section

set_option maxRecDepth 16384

noncomputable section

namespace Cert.ReferenceIdeal.Body

open Idealize.ShloMosaic Idealize.ShloMosaic.TcCoe Idealize.ShloMosaic.Tactic
open Idealize.SL Idealize.SL.Sem
open Idealize.ShloMosaic.Pipeline (Dat Cfg Window)
open Cert.ReferenceIdeal Cert.ReferenceIdeal.Gen

/-- Row `i` of the activations, and the outlier columns. -/
abbrev rowX (x : Vec Ideal S12288x1280 .bf16) (i : Fin 12288) : Fin 1280 → EReal := fun n => x (ix2 i n)
/-- The columns the reference marks as outliers. -/
abbrev outC (o : Vec Ideal S1x1280 .i32) : Fin 1280 → Bool := fun n => decide (o (ix2 0 n) ≠ 0#32)

/-- A select on a word's being nonzero. -/
theorem select_ne {α : Type} (w : BitVec 32) (a b : α) :
    Scalar.select (IntOp.cmpi CmpIPredicate.ne w 0#32) a b = if (decide (w ≠ 0#32) : Bool) = true then a else b := by
  by_cases h : w = 0#32
  · subst h; rfl
  · have : IntOp.cmpi CmpIPredicate.ne w 0#32 = 1#1 := by
      show BitVec.ofBool (w != 0#32) = 1#1
      rw [show (w != 0#32) = true from by simpa using h]; rfl
    rw [this, if_pos (by simpa using h)]; rfl

/-- An activation with the outliers set to zero. -/
theorem pay6_at (o : Vec Ideal S1x1280 .i32) (x : Vec Ideal S12288x1280 .bf16) (i : Fin 12288) (b : Fin 10) (l : Fin 128) :
    k0_pay6 o x (ix3 i b l) = Quant.blk (N := 10) (Quant.kept (rowX x i) (outC o)) b l := by
  pointwise [k0_pay6, k0_pay5, k0_pay4]
  exact select_ne _ _ _

/-- The exponent of a block of `x`. -/
theorem pay7_at (o : Vec Ideal S1x1280 .i32) (x : Vec Ideal S12288x1280 .bf16) (i : Fin 12288) (b : Fin 10) (z : Fin 1) :
    k0_pay7 o x (ix3 i b z) = Quant.rExp (Quant.amax (Quant.blk (N := 10) (Quant.kept (rowX x i) (outC o)) b)) := by
  pointwise [k0_pay7]
  simp only [pay6_at, Quant.cbot_f32, Quant.c448_f32, Quant.c2_f32, Quant.cmin_f32]
  rfl

/-- A code of a block of `x`. -/
theorem pay8_at (o : Vec Ideal S1x1280 .i32) (x : Vec Ideal S12288x1280 .bf16) (i : Fin 12288) (b : Fin 10) (l : Fin 128) :
    k0_pay8 o x (ix3 i b l) = Quant.code (Quant.blk (N := 10) (Quant.kept (rowX x i) (outC o)) b) l := by
  pointwise [k0_pay8]
  rw [pay6_at, pay7_at, Quant.cm448_f32, Quant.c448_f32]
  rfl

/-- The scale of a block of `x`. -/
theorem pay9_at (o : Vec Ideal S1x1280 .i32) (x : Vec Ideal S12288x1280 .bf16) (i : Fin 12288) (b : Fin 10) (z : Fin 1) :
    k0_pay9 o x (ix3 i b z) = Quant.scale (Quant.blk (N := 10) (Quant.kept (rowX x i) (outC o)) b) := by
  pointwise [k0_pay9]
  rw [pay7_at]
  rfl

/-- A code of `x`, at its column. -/
theorem pay10_at (o : Vec Ideal S1x1280 .i32) (x : Vec Ideal S12288x1280 .bf16) (i : Fin 12288) (n : Fin 1280) :
    k0_pay10 o x (ix2 i n) = Quant.code (Quant.blk (N := 10) (Quant.kept (rowX x i) (outC o)) ⟨n.val / 128, by have := n.isLt; omega⟩) ⟨n.val % 128, by omega⟩ := by
  pointwise [k0_pay10]
  rw [pay8_at]

/-- A scale of `x`. -/
theorem pay11_at (o : Vec Ideal S1x1280 .i32) (x : Vec Ideal S12288x1280 .bf16) (i : Fin 12288) (b : Fin 10) :
    k0_pay11 o x (ix2 i b) = Quant.scale (Quant.blk (N := 10) (Quant.kept (rowX x i) (outC o)) b) := by
  pointwise [k0_pay11]
  rw [pay9_at]

/-- The weights as the contraction reads them: dequantised, the outlier rows as they came. -/
def weight (o : Vec Ideal S1x1280 .i32) (wr : Vec Ideal S1280x5120 .bf16) (wc : Vec Ideal S1280x5120 .fp8e4m3) (ws : Vec Ideal S10x40 .f32) (k : Fin 1280) (n : Fin 5120) : EReal :=
  if outC o k then wr (ix2 k n) else (wc (ix2 k n) : EReal) * ws (ix2 (⟨k.val / 128, by have := k.isLt; omega⟩ : Fin 10) (⟨n.val / 128, by have := n.isLt; omega⟩ : Fin 40))

/-- The output. -/
abbrev outR (o : Vec Ideal S1x1280 .i32) (wr : Vec Ideal S1280x5120 .bf16) (x : Vec Ideal S12288x1280 .bf16) (wc : Vec Ideal S1280x5120 .fp8e4m3) (ws : Vec Ideal S10x40 .f32)
    (bias : Vec Ideal S1x5120 .f32) (res : Vec Ideal S12288x5120 .bf16) : FVec Ideal S12288x5120 .bf16 :=
  k0_pay12 (k0_pay4 o) (k0_pay5 x) (k0_pay8 o x) (k0_pay9 o x) wc ws wr bias res

/-- An element of the mixed output. -/
theorem pay12_at (o : Vec Ideal S1x1280 .i32) (wr : Vec Ideal S1280x5120 .bf16) (x : Vec Ideal S12288x1280 .bf16) (wc : Vec Ideal S1280x5120 .fp8e4m3) (ws : Vec Ideal S10x40 .f32)
    (bias : Vec Ideal S1x5120 .f32) (res : Vec Ideal S12288x5120 .bf16) (i : Fin 12288) (n : Fin 5120) :
    outR o wr x wc ws bias res (ix2 i n) = Quant.yrow (rowX x i) (outC o) (weight o wr wc ws) (fun n => bias (ix2 0 n)) (fun n => res (ix2 i n)) n := by
  pointwise [outR, k0_pay12, k0_pay5, k0_pay4]
  unfold Quant.yrow Quant.mixed weight
  simp only [pay8_at, pay9_at, select_ne]
  exact congrArg (fun z : EReal => z + bias (ix2 0 n) + res (ix2 i n)) (zero_add _).symm

/-- The output's codes and scales from its exponents. -/
theorem pay1_at (a b : FVec Ideal S12288x40x1 .f32) (i : Fin 12288) (q : Fin 40) (z : Fin 1) (m : EReal) (ha : a (ix3 i q 0) = m) (hb : b (ix3 i q 0) = ((448 : ℝ) : EReal)) :
    k0_pay1 a b (ix3 i q z) = Quant.rExp m := by
  obtain rfl : z = 0 := Subsingleton.elim _ _
  pointwise [k0_pay1]
  rw [ha, hb, Quant.c2_f32, Quant.cmin_f32]
  rfl

/-- A code of the output, from its greatest magnitude. -/
theorem pay2_at (v : FVec Ideal S12288x40x128 .f32) (a b : FVec Ideal S12288x40x1 .f32) (i : Fin 12288) (n : Fin 5120) (m : Fin 128 → EReal)
    (ha : a (ix3 i (⟨n.val / 128, by have := n.isLt; omega⟩ : Fin 40) 0) = Quant.amax m) (hb : b (ix3 i (⟨n.val / 128, by have := n.isLt; omega⟩ : Fin 40) 0) = ((448 : ℝ) : EReal))
    (hv : v (ix3 i (⟨n.val / 128, by have := n.isLt; omega⟩ : Fin 40) (⟨n.val % 128, by omega⟩ : Fin 128)) = m ⟨n.val % 128, by omega⟩) :
    k0_pay2 v a b (ix2 i n) = Quant.code m ⟨n.val % 128, by omega⟩ := by
  pointwise [k0_pay2]
  rw [hv, pay1_at a b i _ 0 _ ha hb, Quant.cm448_f32, Quant.c448_f32]
  rfl

/-- A scale of the output, from its greatest magnitude. -/
theorem pay3_at (a b : FVec Ideal S12288x40x1 .f32) (i : Fin 12288) (q : Fin 40) (m : Fin 128 → EReal)
    (ha : a (ix3 i q 0) = Quant.amax m) (hb : b (ix3 i q 0) = ((448 : ℝ) : EReal)) :
    k0_pay3 a b (ix2 i q) = Quant.scale m := by
  pointwise [k0_pay3]
  rw [pay1_at a b i q 0 _ ha hb]
  rfl

/-- The divisor is 448. -/
theorem pay15_at (i : Fin 12288) (q : Fin 40) (z : Fin 1) : k0_pay15 (F := Ideal) (ix3 i q z) = ((448 : ℝ) : EReal) := by
  pointwise [k0_pay15]
  exact Quant.c448_f32

/-! ## The output buffers, at an index -/

section
variable (o : Vec Ideal S1x1280 .i32) (wr : Vec Ideal S1280x5120 .bf16) (x : Vec Ideal S12288x1280 .bf16) (wc : Vec Ideal S1280x5120 .fp8e4m3) (ws : Vec Ideal S10x40 .f32)
    (bias : Vec Ideal S1x5120 .f32) (res : Vec Ideal S12288x5120 .bf16)

/-- Row `i` of the output. -/
abbrev rowY (i : Fin 12288) : Fin 5120 → EReal :=
  Quant.yrow (rowX x i) (outC o) (weight o wr wc ws) (fun n => bias (ix2 0 n)) (fun n => res (ix2 i n))

/-- The output by blocks. -/
theorem pay13_at (i : Fin 12288) (q : Fin 40) (l : Fin 128) :
    k0_pay13 (k0_pay4 o) (k0_pay5 x) (k0_pay8 o x) (k0_pay9 o x) wc ws wr bias res (ix3 i q l) = Quant.blk (N := 40) (rowY o wr x wc ws bias res i) q l := by
  pointwise [k0_pay13]
  exact pay12_at o wr x wc ws bias res i _

/-- The greatest magnitude of a block of the output. -/
theorem pay14_at (i : Fin 12288) (q : Fin 40) (z : Fin 1) :
    k0_pay14 (k0_pay4 o) (k0_pay5 x) (k0_pay8 o x) (k0_pay9 o x) wc ws wr bias res (ix3 i q z) = Quant.amax (Quant.blk (N := 40) (rowY o wr x wc ws bias res i) q) := by
  pointwise [k0_pay14]
  simp only [pay13_at, Quant.cbot_f32]
  rfl

end

/-! Loads and stores of whole buffers. -/

/-- A load of a whole buffer is the buffer. -/
theorem ld0 (v : Vec Ideal S1x1280 .i32) : View.ld v r0_0 = v := View.ld_unit_zero (by funext a; fin_cases a <;> rfl) _ _
/-- The load of the whole of the activations. -/
theorem ld1 (v : Vec Ideal S12288x1280 .bf16) : View.ld v r0_1 = v := View.ld_unit_zero (by funext a; fin_cases a <;> rfl) _ _
/-- The load of the whole of the weight codes. -/
theorem ld2 (v : Vec Ideal S1280x5120 .fp8e4m3) : View.ld v r0_3 = v := View.ld_unit_zero (by funext a; fin_cases a <;> rfl) _ _
/-- The load of the whole of the scattered rows. -/
theorem ld3 (v : Vec Ideal S1280x5120 .bf16) : View.ld v r0_3 = v := View.ld_unit_zero (by funext a; fin_cases a <;> rfl) _ _
/-- The load of the whole of the weight scales. -/
theorem ld4 (v : Vec Ideal S10x40 .f32) : View.ld v r0_4 = v := View.ld_unit_zero (by funext a; fin_cases a <;> rfl) _ _
/-- The load of the whole of the bias. -/
theorem ld5 (v : Vec Ideal S1x5120 .f32) : View.ld v r0_5 = v := View.ld_unit_zero (by funext a; fin_cases a <;> rfl) _ _
/-- The load of the whole of the residual. -/
theorem ld6 (v : Vec Ideal S12288x5120 .bf16) : View.ld v r0_6 = v := View.ld_unit_zero (by funext a; fin_cases a <;> rfl) _ _

section
variable (o : Vec Ideal S1x1280 .i32) (wr : Vec Ideal S1280x5120 .bf16) (x : Vec Ideal S12288x1280 .bf16) (wc : Vec Ideal S1280x5120 .fp8e4m3) (ws : Vec Ideal S10x40 .f32)
    (bias : Vec Ideal S1x5120 .f32) (res : Vec Ideal S12288x5120 .bf16)

/-- The mask, from the whole buffer. -/
theorem pay16_eq : k0_pay16 o wr x wc ws bias res = k0_pay4 o := congrArg k0_pay4 (ld0 o)
/-- The activations, from the whole buffer. -/
theorem pay17_eq : k0_pay17 o wr x wc ws bias res = k0_pay5 x := congrArg k0_pay5 (ld1 x)
/-- The codes of `x`, from the whole buffers. -/
theorem pay18_eq : k0_pay18 o wr x wc ws bias res = k0_pay8 o x := congrArg₂ k0_pay8 (ld0 o) (ld1 x)
/-- The scales of `x`, from the whole buffers. -/
theorem pay19_eq : k0_pay19 o wr x wc ws bias res = k0_pay9 o x := congrArg₂ k0_pay9 (ld0 o) (ld1 x)

/-- The greatest magnitudes of the output, from the whole buffers. -/
theorem pay20_eq : k0_pay20 o wr x wc ws bias res = k0_pay14 (k0_pay4 o) (k0_pay5 x) (k0_pay8 o x) (k0_pay9 o x) wc ws wr bias res := by
  unfold k0_pay20
  rw [pay16_eq, pay17_eq, pay18_eq, pay19_eq, ld2, ld3, ld4, ld5, ld6]

/-- The mixed output written. -/
theorem out7_eq : out0_7 o wr x wc ws bias res = outR o wr x wc ws bias res := by
  unfold out0_7
  rw [pay16_eq, pay17_eq, pay18_eq, pay19_eq, ld2, ld3, ld4, ld5, ld6]
  exact View.canon_unit_zero (by funext a; fin_cases a <;> rfl) _ _

/-- The codes of `x` written. -/
theorem out8_eq : out0_8 o wr x wc ws bias res = k0_pay10 o x := by
  unfold out0_8
  rw [ld0, ld1]
  exact View.canon_unit_zero (by funext a; fin_cases a <;> rfl) _ _

/-- The scales of `x` written. -/
theorem out9_eq : out0_9 o wr x wc ws bias res = k0_pay11 o x := by
  unfold out0_9
  rw [ld0, ld1]
  exact View.canon_unit_zero (by funext a; fin_cases a <;> rfl) _ _

/-- The codes of the output written. -/
theorem out10_eq : out0_10 o wr x wc ws bias res = k0_pay2 (k0_pay13 (k0_pay4 o) (k0_pay5 x) (k0_pay8 o x) (k0_pay9 o x) wc ws wr bias res)
    (k0_pay14 (k0_pay4 o) (k0_pay5 x) (k0_pay8 o x) (k0_pay9 o x) wc ws wr bias res) (k0_pay15 (F := Ideal)) := by
  unfold out0_10 k0_pay21
  rw [pay20_eq, pay16_eq, pay17_eq, pay18_eq, pay19_eq, ld2, ld3, ld4, ld5, ld6]
  exact View.canon_unit_zero (by funext a; fin_cases a <;> rfl) _ _

/-- The scales of the output written. -/
theorem out11_eq : out0_11 o wr x wc ws bias res = k0_pay3 (k0_pay14 (k0_pay4 o) (k0_pay5 x) (k0_pay8 o x) (k0_pay9 o x) wc ws wr bias res) (k0_pay15 (F := Ideal)) := by
  unfold out0_11 k0_pay21
  rw [pay20_eq]
  exact View.canon_unit_zero (by funext a; fin_cases a <;> rfl) _ _

/-- The mixed output. -/
theorem out7_at (i : Fin 12288) (n : Fin 5120) : out0_7 o wr x wc ws bias res (ix2 i n) = rowY o wr x wc ws bias res i n := by
  rw [out7_eq]
  exact pay12_at o wr x wc ws bias res i n

/-- The codes of `x`. -/
theorem out8_at (i : Fin 12288) (n : Fin 1280) :
    out0_8 o wr x wc ws bias res (ix2 i n) = Quant.code (Quant.blk (N := 10) (Quant.kept (rowX x i) (outC o)) ⟨n.val / 128, by have := n.isLt; omega⟩) ⟨n.val % 128, by omega⟩ := by
  rw [out8_eq]
  exact pay10_at o x i n

/-- The scales of `x`. -/
theorem out9_at (i : Fin 12288) (b : Fin 10) :
    out0_9 o wr x wc ws bias res (ix2 i b) = Quant.scale (Quant.blk (N := 10) (Quant.kept (rowX x i) (outC o)) b) := by
  rw [out9_eq]
  exact pay11_at o x i b

/-- The codes of the output. -/
theorem out10_at (i : Fin 12288) (n : Fin 5120) :
    out0_10 o wr x wc ws bias res (ix2 i n) = Quant.code (Quant.blk (N := 40) (rowY o wr x wc ws bias res i) ⟨n.val / 128, by have := n.isLt; omega⟩) ⟨n.val % 128, by omega⟩ := by
  rw [out10_eq]
  exact pay2_at _ _ _ i n _ (pay14_at o wr x wc ws bias res i _ 0) (pay15_at i _ 0) (pay13_at o wr x wc ws bias res i _ _)

/-- The scales of the output. -/
theorem out11_at (i : Fin 12288) (q : Fin 40) :
    out0_11 o wr x wc ws bias res (ix2 i q) = Quant.scale (Quant.blk (N := 40) (rowY o wr x wc ws bias res i) q) := by
  rw [out11_eq]
  exact pay3_at _ _ i q _ (pay14_at o wr x wc ws bias res i q 0) (pay15_at i q 0)

end

end Cert.ReferenceIdeal.Body

end
-- ==== Proof.RRun.lean ====
/- The reference's five result arrays after the run, at an index, over its argument arrays. -/
module

public import proofs.«01_k».proof.Proof.Gen.ReferenceIdeal.Frame
public import proofs.«01_k».proof.Proof.Gen.ReferenceIdeal.Points
public import proofs.«01_k».proof.Proof.RBlocks
public import proofs.«01_k».proof.Proof.Scatter
public import Idealize.ShloMosaic.Lib.Pipeline.ValueKit
public import Idealize.ShloMosaic.Lib.Claim
public import Idealize.ShloMosaic.Lib.StableHlo.ReadAt

@[expose] public section

set_option maxRecDepth 16384

noncomputable section

namespace Cert.ReferenceIdeal.Body

open Idealize.ShloMosaic Idealize.ShloMosaic.TcCoe Idealize.ShloMosaic.Tactic
open Idealize.SL Idealize.SL.Sem
open Idealize.ShloMosaic.Pipeline (Dat Cfg Window)
open Cert.ReferenceIdeal Cert.ReferenceIdeal.Gen

variable (m : (ℓ : Loc nD τ sig) → Buf (Elt Ideal) ℓ)

/-- Row `i` of the activations, the batch and sequence axes merged. -/
def xrow (c : Dev nD) (i : Fin 12288) (n : Fin 1280) : EReal :=
  m ((c.tc : Thread nD τ).loc main_arg0) (ix3 (⟨i.val / 1024, by have := i.isLt; omega⟩ : Fin 12) (⟨i.val % 1024, by omega⟩ : Fin 1024) n)
/-- Row `i` of the residual. -/
def resrow (c : Dev nD) (i : Fin 12288) (n : Fin 5120) : EReal :=
  m ((c.tc : Thread nD τ).loc main_arg6) (ix3 (⟨i.val / 1024, by have := i.isLt; omega⟩ : Fin 12) (⟨i.val % 1024, by omega⟩ : Fin 1024) n)
/-- The bias. -/
def biasrow (c : Dev nD) (n : Fin 5120) : EReal := m ((c.tc : Thread nD τ).loc main_arg5) (ix1 n)

/-- The block that each point takes of the scattered mask. -/
theorem idx0 : ∀ t : Fin cfg0.N, win0_0.index t = ![0, 0] := (by decide +kernel : ∀ t : Fin grid0.N, win0_0.index t = ![0, 0])
/-- The block that each point takes of the scattered rows. -/
theorem idx1 : ∀ t : Fin cfg0.N, win0_1.index t = ![0, 0] := (by decide +kernel : ∀ t : Fin grid0.N, win0_1.index t = ![0, 0])
/-- The block that each point takes of the activations. -/
theorem idx2 : ∀ t : Fin cfg0.N, win0_2.index t = ![0, 0] := (by decide +kernel : ∀ t : Fin grid0.N, win0_2.index t = ![0, 0])
/-- The block that each point takes of the weight codes. -/
theorem idx3 : ∀ t : Fin cfg0.N, win0_3.index t = ![0, 0] := (by decide +kernel : ∀ t : Fin grid0.N, win0_3.index t = ![0, 0])
/-- The block that each point takes of the weight scales. -/
theorem idx4 : ∀ t : Fin cfg0.N, win0_4.index t = ![0, 0] := (by decide +kernel : ∀ t : Fin grid0.N, win0_4.index t = ![0, 0])
/-- The block that each point takes of the bias. -/
theorem idx5 : ∀ t : Fin cfg0.N, win0_5.index t = ![0, 0] := (by decide +kernel : ∀ t : Fin grid0.N, win0_5.index t = ![0, 0])
/-- The block that each point takes of the residual. -/
theorem idx6 : ∀ t : Fin cfg0.N, win0_6.index t = ![0, 0] := (by decide +kernel : ∀ t : Fin grid0.N, win0_6.index t = ![0, 0])

/-- An element of a point's block of the weight codes. -/
theorem iblk3_at (c : Dev nD) (t : Fin cfg0.N) (a : Fin 1280) (b : Fin 5120) : iblk m c 3 t (ix2 a b) = m ((c.tc : Thread nD τ).loc main_arg3) (ix2 a b) := by
  blk_ext! [iblk, V, idx3 t]
/-- An element of a point's block of the weight scales. -/
theorem iblk4_at (c : Dev nD) (t : Fin cfg0.N) (a : Fin 10) (b : Fin 40) : iblk m c 4 t (ix2 a b) = m ((c.tc : Thread nD τ).loc main_arg4) (ix2 a b) := by
  blk_ext! [iblk, V, idx4 t]
/-- An element of a point's block of the activations. -/
theorem iblk2_at (c : Dev nD) (t : Fin cfg0.N) (i : Fin 12288) (n : Fin 1280) : iblk m c 2 t (ix2 i n) = xrow m c i n := by
  unfold xrow
  blk_ext! [iblk, V, idx2 t]
/-- An element of a point's block of the bias. -/
theorem iblk5_at (c : Dev nD) (t : Fin cfg0.N) (a : Fin 1) (n : Fin 5120) : iblk m c 5 t (ix2 a n) = biasrow m c n := by
  unfold biasrow
  blk_ext! [iblk, V, idx5 t]
/-- An element of a point's block of the residual. -/
theorem iblk6_at (c : Dev nD) (t : Fin cfg0.N) (i : Fin 12288) (n : Fin 5120) : iblk m c 6 t (ix2 i n) = resrow m c i n := by
  unfold resrow
  blk_ext! [iblk, V, idx6 t]

/-- The wrapped index words of the row scatter. -/
theorem v19_at (c : Dev nD) (j : Fin 36) (h : (m ((c.tc : Thread nD τ).loc main_arg1) (ix1 j) : BitVec 32).toNat < 1280) :
    V m c main_v19 (ix2 j 0) = m ((c.tc : Thread nD τ).loc main_arg1) (ix1 j) := by
  unfold V
  after_reads_at
  exact Routing.wrap_of_lt _ _ (Nat.lt_trans h (by norm_num))

/-- The index words of the mark scatter. -/
theorem v10_at0 (c : Dev nD) (j : Fin 36) : V m c main_v10 (ix2 j 0) = 0#32 := by
  unfold V
  after_reads_at
  rfl
/-- The scatter's column for outlier `j` is its index. -/
theorem v10_at1 (c : Dev nD) (j : Fin 36) (h : (m ((c.tc : Thread nD τ).loc main_arg1) (ix1 j) : BitVec 32).toNat < 1280) :
    V m c main_v10 (ix2 j 1) = m ((c.tc : Thread nD τ).loc main_arg1) (ix1 j) := by
  unfold V
  after_reads_at
  exact Routing.wrap_of_lt _ _ (Nat.lt_trans h (by norm_num))
/-- The mask starts at zero. -/
theorem v0_at (c : Dev nD) (n : Fin 1280) : V m c main_v0 (ix2 0 n) = 0#32 := by
  unfold V
  after_reads_at
/-- Each mark is one. -/
theorem v11_at (c : Dev nD) (j : Fin 36) : V m c main_v11 (ix1 j) = 1#32 := by
  unfold V
  after_reads_at

/-- The marks are scattered into a zero mask. -/
theorem v12_eq (c : Dev nD) : V m c main_v12 = Host.scatter scatter_S1x1280_S36x2_S36_n_01_01_1 (fun _ b => b) (V m c main_v0) (V m c main_v10) (V m c main_v11) := by
  unfold V
  after_reads_simp
  rfl
/-- The outlier rows are scattered into zero rows. -/
theorem v20_eq (c : Dev nD) : V m c main_v20 = Host.scatter scatter_S1280x5120_S36x1_S36x5120_1_0_0_1 (fun _ b => b) (V m c main_v13) (V m c main_v19) (m ((c.tc : Thread nD τ).loc main_arg2)) := by
  unfold V
  after_reads_simp
  rfl

/-! ## The marks, the outlier rows, the weights -/

/-- A word below 1280 read signed. -/
theorem toInt_small (w : BitVec 32) (k : ℕ) (h : w.toNat < 1280) : w.toInt = (k : Int) ↔ w.toNat = k := by
  have := BitVec.toInt_eq_toNat_cond w
  rw [if_pos (by omega)] at this
  omega

/-- An element of a point's block of the scattered mask. -/
theorem iblk0_at (c : Dev nD) (t : Fin cfg0.N) (a : Fin 1) (n : Fin 1280) : iblk m c 0 t (ix2 a n) = V m c main_v12 (ix2 a n) := by
  have e : ∀ X : Vec Ideal S1x1280 .i32, ((cfg0.win 0).blk t).view.read (Elt Ideal) X (ix2 a n) = X (ix2 a n) := fun X => by blk_ext [idx0 t]
  exact e (V m c main_v12)
/-- An element of a point's block of the scattered rows. -/
theorem iblk1_at (c : Dev nD) (t : Fin cfg0.N) (a : Fin 1280) (n : Fin 5120) : iblk m c 1 t (ix2 a n) = V m c main_v20 (ix2 a n) := by
  have e : ∀ X : Vec Ideal S1280x5120 .bf16, ((cfg0.win 1).blk t).view.read (Elt Ideal) X (ix2 a n) = X (ix2 a n) := fun X => by blk_ext [idx1 t]
  exact e (V m c main_v20)

section
variable (hr : ∀ (c : Dev nD) (j : Fin 36), (m ((c.tc : Thread nD τ).loc main_arg1) (ix1 j) : BitVec 32).toNat < 1280)
include hr

/-- The marked columns are those the table names. -/
theorem outC_iff (c : Dev nD) (t : Fin cfg0.N) (n : Fin 1280) :
    outC (iblk m c 0 t) n = true ↔ ∃ j : Fin 36, (m ((c.tc : Thread nD τ).loc main_arg1) (ix1 j) : BitVec 32).toNat = n.val := by
  unfold outC
  rw [decide_eq_true_iff, iblk0_at, v12_eq]
  refine (Scatter.mark_at _ _ _ n (v0_at m c n) (v11_at m c) (v10_at0 m c)).trans (exists_congr fun j => ?_)
  rw [v10_at1 m c j (hr c j)]
  exact toInt_small _ _ (hr c j)

/-- The scattered weights on a named row: the last outlier row that names it. -/
theorem wrows_at (c : Dev nD) (t : Fin cfg0.N) (k : Fin 1280) (n : Fin 5120) (j : Fin 36)
    (hj : (m ((c.tc : Thread nD τ).loc main_arg1) (ix1 j) : BitVec 32).toNat = k.val)
    (hlast : ∀ i, j < i → (m ((c.tc : Thread nD τ).loc main_arg1) (ix1 i) : BitVec 32).toNat ≠ k.val) :
    iblk m c 1 t (ix2 k n) = m ((c.tc : Thread nD τ).loc main_arg2) (ix2 j n) := by
  rw [iblk1_at, v20_eq]
  refine Scatter.rows_at _ _ _ k n j ?_ fun i hi => ?_
  · rw [v19_at m c j (hr c j)]
    exact (toInt_small _ _ (hr c j)).2 hj
  · rw [v19_at m c i (hr c i)]
    exact fun e => hlast i hi ((toInt_small _ _ (hr c i)).1 e)

end

/-! ## The five arrays -/

/-- The weights the reference multiplies by. -/
def wgt (c : Dev nD) : Fin 1280 → Fin 5120 → EReal := weight (iblk m c 0 t0_0) (iblk m c 1 t0_0) (iblk m c 3 t0_0) (iblk m c 4 t0_0)

/-- Row `i` of the output. -/
def yOut (c : Dev nD) (i : Fin 12288) : Fin 5120 → EReal :=
  Quant.yrow (xrow m c i) (outC (iblk m c 0 t0_0)) (wgt m c) (biasrow m c) (resrow m c i)

/-- A row of the activations in a block is a row of the argument. -/
theorem rowX_eq (c : Dev nD) (i : Fin 12288) : rowX (iblk m c 2 t0_0) i = xrow m c i := funext fun n => iblk2_at m c t0_0 i n

/-- The output row computed from the blocks, from the arguments. -/
theorem rowY_eq (c : Dev nD) (i : Fin 12288) :
    rowY (iblk m c 0 t0_0) (iblk m c 1 t0_0) (iblk m c 2 t0_0) (iblk m c 3 t0_0) (iblk m c 4 t0_0) (iblk m c 5 t0_0) (iblk m c 6 t0_0) i = yOut m c i := by
  unfold rowY yOut
  rw [rowX_eq]
  exact congrArg₂ (Quant.yrow (xrow m c i) (outC (iblk m c 0 t0_0)) (wgt m c)) (funext fun n => iblk5_at m c t0_0 0 n) (funext fun n => iblk6_at m c t0_0 i n)

/-- The mixed output. -/
def res7 (c : Dev nD) : S12288x5120.Idx → EReal := fun i => yOut m c (i 0) (i 1)

/-- The block that each point takes of the mixed output. -/
theorem idx7 : ∀ t : Fin cfg0.N, win0_7.index t = ![0, 0] := (by decide +kernel : ∀ t : Fin grid0.N, win0_7.index t = ![0, 0])

/-- The one point's block of it is the whole array. -/
theorem emb7 (t : Fin cfg0.N) (r : Fin 12288) (n : Fin 5120) : ((cfg0.win 7).blk t).view.emb (ix2 r n) = (ix2 r n : S12288x5120.Idx) := by
  funext a
  apply Fin.ext
  fin_cases a
  · blk_simp [idx7 t]
  · blk_simp [idx7 t]

/-- After the last point the array of the mixed output holds it. -/
theorem arr7 (c : Dev nD) : (dats m 0 c).arrAt 7 cfg0.N = res7 m c := by
  refine (dats m 0 c).arrAt_eq_of_covers 7 _ (by decide +kernel) fun t hf y => ?_
  blk_simp
  rw [after0_7]
  obtain rfl : t = t0_0 := fin_N0 t
  obtain ⟨r, n, rfl⟩ : ∃ (r : Fin 12288) (n : Fin 5120), y = ix2 r n := ⟨y 0, y 1, (ix2_eta y).symm⟩
  refine Eq.trans ?_ (congrArg (res7 m c) (emb7 t0_0 r n)).symm
  refine (out7_at _ _ _ _ _ _ _ r n).trans ?_
  unfold res7
  rw [rowY_eq]
  rfl

/-- The codes of `x`. -/
def res8 (c : Dev nD) : S12288x1280.Idx → EReal := fun i => Quant.code (Quant.blk (N := 10) (Quant.kept (xrow m c (i 0)) (outC (iblk m c 0 t0_0))) ⟨(i 1).val / 128, by have : (i 1).val < 1280 := (i 1).isLt; omega⟩) ⟨(i 1).val % 128, by omega⟩

/-- The block that each point takes of the codes of `x`. -/
theorem idx8 : ∀ t : Fin cfg0.N, win0_8.index t = ![0, 0] := (by decide +kernel : ∀ t : Fin grid0.N, win0_8.index t = ![0, 0])

/-- The one point's block of it is the whole array. -/
theorem emb8 (t : Fin cfg0.N) (r : Fin 12288) (n : Fin 1280) : ((cfg0.win 8).blk t).view.emb (ix2 r n) = (ix2 r n : S12288x1280.Idx) := by
  funext a
  apply Fin.ext
  fin_cases a
  · blk_simp [idx8 t]
  · blk_simp [idx8 t]

/-- After the last point the array of the codes of `x` holds them. -/
theorem arr8 (c : Dev nD) : (dats m 0 c).arrAt 8 cfg0.N = res8 m c := by
  refine (dats m 0 c).arrAt_eq_of_covers 8 _ (by decide +kernel) fun t hf y => ?_
  blk_simp
  rw [after0_8]
  obtain rfl : t = t0_0 := fin_N0 t
  obtain ⟨r, n, rfl⟩ : ∃ (r : Fin 12288) (n : Fin 1280), y = ix2 r n := ⟨y 0, y 1, (ix2_eta y).symm⟩
  refine Eq.trans ?_ (congrArg (res8 m c) (emb8 t0_0 r n)).symm
  refine (out8_at _ _ _ _ _ _ _ r n).trans ?_
  unfold res8
  rw [rowX_eq]
  rfl

/-- The scales of `x`. -/
def res9 (c : Dev nD) : S12288x10.Idx → EReal := fun i => Quant.scale (Quant.blk (N := 10) (Quant.kept (xrow m c (i 0)) (outC (iblk m c 0 t0_0))) (i 1))

/-- The block that each point takes of the scales of `x`. -/
theorem idx9 : ∀ t : Fin cfg0.N, win0_9.index t = ![0, 0] := (by decide +kernel : ∀ t : Fin grid0.N, win0_9.index t = ![0, 0])

/-- The one point's block of it is the whole array. -/
theorem emb9 (t : Fin cfg0.N) (r : Fin 12288) (n : Fin 10) : ((cfg0.win 9).blk t).view.emb (ix2 r n) = (ix2 r n : S12288x10.Idx) := by
  funext a
  apply Fin.ext
  fin_cases a
  · blk_simp [idx9 t]
  · blk_simp [idx9 t]

/-- After the last point the array of the scales of `x` holds them. -/
theorem arr9 (c : Dev nD) : (dats m 0 c).arrAt 9 cfg0.N = res9 m c := by
  refine (dats m 0 c).arrAt_eq_of_covers 9 _ (by decide +kernel) fun t hf y => ?_
  blk_simp
  rw [after0_9]
  obtain rfl : t = t0_0 := fin_N0 t
  obtain ⟨r, n, rfl⟩ : ∃ (r : Fin 12288) (n : Fin 10), y = ix2 r n := ⟨y 0, y 1, (ix2_eta y).symm⟩
  refine Eq.trans ?_ (congrArg (res9 m c) (emb9 t0_0 r n)).symm
  refine (out9_at _ _ _ _ _ _ _ r n).trans ?_
  unfold res9
  rw [rowX_eq]
  rfl

/-- The codes of the output. -/
def res10 (c : Dev nD) : S12288x5120.Idx → EReal := fun i => Quant.code (Quant.blk (N := 40) (yOut m c (i 0)) ⟨(i 1).val / 128, by have : (i 1).val < 5120 := (i 1).isLt; omega⟩) ⟨(i 1).val % 128, by omega⟩

/-- The block that each point takes of the codes of the output. -/
theorem idx10 : ∀ t : Fin cfg0.N, win0_10.index t = ![0, 0] := (by decide +kernel : ∀ t : Fin grid0.N, win0_10.index t = ![0, 0])

/-- The one point's block of it is the whole array. -/
theorem emb10 (t : Fin cfg0.N) (r : Fin 12288) (n : Fin 5120) : ((cfg0.win 10).blk t).view.emb (ix2 r n) = (ix2 r n : S12288x5120.Idx) := by
  funext a
  apply Fin.ext
  fin_cases a
  · blk_simp [idx10 t]
  · blk_simp [idx10 t]

/-- After the last point the array of the codes of the output holds them. -/
theorem arr10 (c : Dev nD) : (dats m 0 c).arrAt 10 cfg0.N = res10 m c := by
  refine (dats m 0 c).arrAt_eq_of_covers 10 _ (by decide +kernel) fun t hf y => ?_
  blk_simp
  rw [after0_10]
  obtain rfl : t = t0_0 := fin_N0 t
  obtain ⟨r, n, rfl⟩ : ∃ (r : Fin 12288) (n : Fin 5120), y = ix2 r n := ⟨y 0, y 1, (ix2_eta y).symm⟩
  refine Eq.trans ?_ (congrArg (res10 m c) (emb10 t0_0 r n)).symm
  refine (out10_at _ _ _ _ _ _ _ r n).trans ?_
  unfold res10
  rw [rowY_eq]
  rfl

/-- The scales of the output. -/
def res11 (c : Dev nD) : S12288x40.Idx → EReal := fun i => Quant.scale (Quant.blk (N := 40) (yOut m c (i 0)) (i 1))

/-- The block that each point takes of the scales of the output. -/
theorem idx11 : ∀ t : Fin cfg0.N, win0_11.index t = ![0, 0] := (by decide +kernel : ∀ t : Fin grid0.N, win0_11.index t = ![0, 0])

/-- The one point's block of it is the whole array. -/
theorem emb11 (t : Fin cfg0.N) (r : Fin 12288) (n : Fin 40) : ((cfg0.win 11).blk t).view.emb (ix2 r n) = (ix2 r n : S12288x40.Idx) := by
  funext a
  apply Fin.ext
  fin_cases a
  · blk_simp [idx11 t]
  · blk_simp [idx11 t]

/-- After the last point the array of the scales of the output holds them. -/
theorem arr11 (c : Dev nD) : (dats m 0 c).arrAt 11 cfg0.N = res11 m c := by
  refine (dats m 0 c).arrAt_eq_of_covers 11 _ (by decide +kernel) fun t hf y => ?_
  blk_simp
  rw [after0_11]
  obtain rfl : t = t0_0 := fin_N0 t
  obtain ⟨r, n, rfl⟩ : ∃ (r : Fin 12288) (n : Fin 40), y = ix2 r n := ⟨y 0, y 1, (ix2_eta y).symm⟩
  refine Eq.trans ?_ (congrArg (res11 m c) (emb11 t0_0 r n)).symm
  refine (out11_at _ _ _ _ _ _ _ r n).trans ?_
  unfold res11
  rw [rowY_eq]
  rfl

/-! ## The run -/

variable (ρ : Dev nD → PrngReg)

/-- After the frame run, output window 7's array is `(dats m 0 c).arrAt 7 N`. -/
theorem post7 (r : PUnit × MemSt nD τ sig (Elt Ideal)) (h : Pipeline.FramePost cfgs (dats m) 0 (V m) r) (c : Dev nD) :
    r.2.mem ((c : Thread nD τ).loc main_v24_0) = (dats m 0 c).arrAt 7 cfg0.N :=
  (h c).1 7

/-- After the frame run, output window 8's array is `(dats m 0 c).arrAt 8 N`. -/
theorem post8 (r : PUnit × MemSt nD τ sig (Elt Ideal)) (h : Pipeline.FramePost cfgs (dats m) 0 (V m) r) (c : Dev nD) :
    r.2.mem ((c : Thread nD τ).loc main_v24_1) = (dats m 0 c).arrAt 8 cfg0.N :=
  (h c).1 8

/-- After the frame run, output window 9's array is `(dats m 0 c).arrAt 9 N`. -/
theorem post9 (r : PUnit × MemSt nD τ sig (Elt Ideal)) (h : Pipeline.FramePost cfgs (dats m) 0 (V m) r) (c : Dev nD) :
    r.2.mem ((c : Thread nD τ).loc main_v24_2) = (dats m 0 c).arrAt 9 cfg0.N :=
  (h c).1 9

/-- After the frame run, output window 10's array is `(dats m 0 c).arrAt 10 N`. -/
theorem post10 (r : PUnit × MemSt nD τ sig (Elt Ideal)) (h : Pipeline.FramePost cfgs (dats m) 0 (V m) r) (c : Dev nD) :
    r.2.mem ((c : Thread nD τ).loc main_v24_3) = (dats m 0 c).arrAt 10 cfg0.N :=
  (h c).1 10

/-- After the frame run, output window 11's array is `(dats m 0 c).arrAt 11 N`. -/
theorem post11 (r : PUnit × MemSt nD τ sig (Elt Ideal)) (h : Pipeline.FramePost cfgs (dats m) 0 (V m) r) (c : Dev nD) :
    r.2.mem ((c : Thread nD τ).loc main_v24_4) = (dats m 0 c).arrAt 11 cfg0.N :=
  (h c).1 11

/-- After the frame run, argument `main_arg0` is as launched: no window stages it, and the run leaves the region's other buffers as they were. -/
theorem kept_main_arg0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: input window 3 stages it and never writes it back. -/
theorem kept_main_arg3 (r : PUnit × MemSt nD τ sig (Elt Ideal)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt Ideal)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: no window stages it, and the run leaves the region's other buffers as they were. -/
theorem kept_main_arg5 (r : PUnit × MemSt nD τ sig (Elt Ideal)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt Ideal)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- The run: each result array as named above, the arguments unchanged. -/
theorem run_blocks : θ_run defs (onTc (τ := τ) (main (F := Ideal))) ⟨m, fun _ => 0, ρ⟩ fun r => ∀ c : Dev nD,
      r.2.mem ((c : Thread nD τ).loc main_v24_0) = res7 m c
      ∧ r.2.mem ((c : Thread nD τ).loc main_v24_1) = res8 m c
      ∧ r.2.mem ((c : Thread nD τ).loc main_v24_2) = res9 m c
      ∧ r.2.mem ((c : Thread nD τ).loc main_v24_3) = res10 m c
      ∧ r.2.mem ((c : Thread nD τ).loc main_v24_4) = res11 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(post7 m r h c).trans (arr7 m c),
      (post8 m r h c).trans (arr8 m c),
      (post9 m r h c).trans (arr9 m c),
      (post10 m r h c).trans (arr10 m c),
      (post11 m r h c).trans (arr11 m c),
      kept_main_arg0 m r h c,
      kept_main_arg1 m r h c,
      kept_main_arg2 m r h c,
      kept_main_arg3 m r h c,
      kept_main_arg4 m r h c,
      kept_main_arg5 m r h c,
      kept_main_arg6 m r h c⟩)
    (run_main m ρ)

end Cert.ReferenceIdeal.Body

end
-- ==== Proof.Algebra.lean ====
/- The kernel and the reference compute the same five results at the extended reals. -/
module

public import proofs.«01_k».proof.Defs
public import proofs.«01_k».proof.Proof.Rows
public import proofs.«01_k».proof.Proof.KRun
public import proofs.«01_k».proof.Proof.KPrep
public import proofs.«01_k».proof.Proof.RRun
public import proofs.«01_k».proof.Proof.Gen.Pre_indices_in_range

@[expose] public section

set_option maxRecDepth 16384

noncomputable section

namespace Cert.Algebra

open Idealize.ShloMosaic Idealize.ShloMosaic.TcCoe Idealize.ShloMosaic.Tactic
open Idealize.SL Idealize.SL.Sem
open Idealize.ShloMosaic.Pipeline (Dat Cfg Window)
open Cert

section
variable (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hr : ∀ (c : Dev Cert.KernelIdeal.nD) (y : Cert.KernelIdeal.S36.Idx), (m ((c.tc : Thread Cert.KernelIdeal.nD Cert.KernelIdeal.τ).loc Cert.KernelIdeal.main_arg1) y : BitVec 32).toNat < 1280)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))

include h0 in
/-- The rows of `x` are the same. -/
theorem xrow_eq : Cert.ReferenceIdeal.Body.xrow m' c = Cert.KernelIdeal.Body.xrow m c := by
  unfold Cert.ReferenceIdeal.Body.xrow Cert.KernelIdeal.Body.xrow
  rw [h0]

include h5 in
/-- The biases are the same. -/
theorem biasrow_eq : Cert.ReferenceIdeal.Body.biasrow m' c = Cert.KernelIdeal.Body.biasrow m c := by
  unfold Cert.ReferenceIdeal.Body.biasrow Cert.KernelIdeal.Body.biasrow
  rw [h5]

include h6 in
/-- The rows of the residual are the same. -/
theorem resrow_eq : Cert.ReferenceIdeal.Body.resrow m' c = Cert.KernelIdeal.Body.resrow m c := by
  unfold Cert.ReferenceIdeal.Body.resrow Cert.KernelIdeal.Body.resrow
  rw [h6]

/-- The outlier table the kernel's points find is the argument. -/
theorem word_eq (j : Fin 36) : Cert.KernelIdeal.Gen.iblk m c 0 Cert.KernelIdeal.Body.t0 (ix1 j) = m ((c.tc : Thread Cert.KernelIdeal.nD Cert.KernelIdeal.τ).loc Cert.KernelIdeal.main_arg1) (ix1 j) :=
  Cert.KernelIdeal.Body.iblk0_at m c _ j

/-- The kernel's outlier columns are those the table names. -/
theorem outK_iff (n : Fin 1280) : Cert.KernelIdeal.Body.outK (Cert.KernelIdeal.Body.Kp m c) n = true
    ↔ ∃ j : Fin 36, (m ((c.tc : Thread Cert.KernelIdeal.nD Cert.KernelIdeal.τ).loc Cert.KernelIdeal.main_arg1) (ix1 j) : BitVec 32).toNat = n.val := by
  unfold Cert.KernelIdeal.Body.Kp
  rw [Cert.KernelIdeal.Body.outK_iff]
  exact exists_congr fun j => by rw [word_eq m c j]

include hr h1 in
/-- The two sides take the same columns for outliers. -/
theorem out_eq (hr' : ∀ (c : Dev Cert.ReferenceIdeal.nD) (j : Fin 36), (m' ((c.tc : Thread Cert.ReferenceIdeal.nD Cert.ReferenceIdeal.τ).loc Cert.ReferenceIdeal.main_arg1) (ix1 j) : BitVec 32).toNat < 1280) :
    Cert.ReferenceIdeal.Body.outC (Cert.ReferenceIdeal.Gen.iblk m' c 0 Cert.ReferenceIdeal.Gen.t0_0) = Cert.KernelIdeal.Body.outK (Cert.KernelIdeal.Body.Kp m c) := by
  funext n
  rw [Bool.eq_iff_iff, Cert.ReferenceIdeal.Body.outC_iff m' hr' c _ n, outK_iff m c n, h1]

include hr h1 h2 h3 h4 in
/-- The two sides multiply by the same weights. -/
theorem wgt_eq (hr' : ∀ (c : Dev Cert.ReferenceIdeal.nD) (j : Fin 36), (m' ((c.tc : Thread Cert.ReferenceIdeal.nD Cert.ReferenceIdeal.τ).loc Cert.ReferenceIdeal.main_arg1) (ix1 j) : BitVec 32).toNat < 1280) :
    Cert.ReferenceIdeal.Body.wgt m' c = fun k n => Cert.KernelIdeal.Body.Wt m c (ix2 k n) := by
  funext k n
  unfold Cert.ReferenceIdeal.Body.wgt Cert.ReferenceIdeal.Body.weight
  unfold Cert.KernelIdeal.Body.Wt
  by_cases h : ∃ j : Fin 36, (m ((c.tc : Thread Cert.KernelIdeal.nD Cert.KernelIdeal.τ).loc Cert.KernelIdeal.main_arg1) (ix1 j) : BitVec 32).toNat = k.val
  · obtain ⟨j, hj, hlast⟩ := Scatter.exists_last _ h
    rw [if_pos ((Cert.ReferenceIdeal.Body.outC_iff m' hr' c _ k).2 ⟨j, by rw [h1]; exact hj⟩)]
    rw [Cert.ReferenceIdeal.Body.wrows_at m' hr' c _ k n j (by rw [h1]; exact hj) (fun i hi => by rw [h1]; exact hlast i hi), h2]
    rw [Cert.KernelIdeal.Body.scratchW_hit _ _ _ _ k n j (by rw [word_eq]; exact hj) (fun i hi => by rw [word_eq]; exact hlast i hi)]
    exact (Cert.KernelIdeal.Body.iblk3_at m c _ j n).symm
  · rw [if_neg (fun e => h (by rw [← h1]; exact (Cert.ReferenceIdeal.Body.outC_iff m' hr' c _ k).1 e))]
    rw [Cert.ReferenceIdeal.Body.iblk3_at, Cert.ReferenceIdeal.Body.iblk4_at, h3, h4]
    rw [Cert.KernelIdeal.Body.scratchW_miss _ _ _ _ k n (fun ⟨j, hj⟩ => h ⟨j, by rw [← word_eq m c j]; exact hj⟩)]
    exact congrArg₂ (· * ·) (Cert.KernelIdeal.Body.iblk4_at m c _ k n).symm (Cert.KernelIdeal.Body.iblk1_at m c _ _ _).symm

include hr h0 h1 h2 h3 h4 h5 h6 in
/-- The two sides' output rows. -/
theorem yOut_eq (hr' : ∀ (c : Dev Cert.ReferenceIdeal.nD) (j : Fin 36), (m' ((c.tc : Thread Cert.ReferenceIdeal.nD Cert.ReferenceIdeal.τ).loc Cert.ReferenceIdeal.main_arg1) (ix1 j) : BitVec 32).toNat < 1280) :
    Cert.ReferenceIdeal.Body.yOut m' c = Cert.KernelIdeal.Body.yOut m c := by
  funext i
  unfold Cert.ReferenceIdeal.Body.yOut Cert.KernelIdeal.Body.yOut
  rw [xrow_eq m m' c h0, out_eq m m' hr c h1 hr', wgt_eq m m' hr c h1 h2 h3 h4 hr', biasrow_eq m m' c h5, resrow_eq m m' c h6]

include hr h0 h1 h2 h3 h4 h5 h6 in
/-- The mixed output. -/
theorem res7_eq (hr' : ∀ (c : Dev Cert.ReferenceIdeal.nD) (j : Fin 36), (m' ((c.tc : Thread Cert.ReferenceIdeal.nD Cert.ReferenceIdeal.τ).loc Cert.ReferenceIdeal.main_arg1) (ix1 j) : BitVec 32).toNat < 1280) :
    Cert.ReferenceIdeal.Body.res7 m' c = Cert.KernelIdeal.Body.res7 m c := by
  unfold Cert.ReferenceIdeal.Body.res7 Cert.KernelIdeal.Body.res7
  rw [yOut_eq m m' hr c h0 h1 h2 h3 h4 h5 h6 hr']

include hr h0 h1 in
/-- The codes of `x`. -/
theorem res8_eq (hr' : ∀ (c : Dev Cert.ReferenceIdeal.nD) (j : Fin 36), (m' ((c.tc : Thread Cert.ReferenceIdeal.nD Cert.ReferenceIdeal.τ).loc Cert.ReferenceIdeal.main_arg1) (ix1 j) : BitVec 32).toNat < 1280) :
    Cert.ReferenceIdeal.Body.res8 m' c = Cert.KernelIdeal.Body.res8 m c := by
  unfold Cert.ReferenceIdeal.Body.res8 Cert.KernelIdeal.Body.res8
  rw [xrow_eq m m' c h0, out_eq m m' hr c h1 hr']

include hr h0 h1 in
/-- The scales of `x`. -/
theorem res9_eq (hr' : ∀ (c : Dev Cert.ReferenceIdeal.nD) (j : Fin 36), (m' ((c.tc : Thread Cert.ReferenceIdeal.nD Cert.ReferenceIdeal.τ).loc Cert.ReferenceIdeal.main_arg1) (ix1 j) : BitVec 32).toNat < 1280) :
    Cert.ReferenceIdeal.Body.res9 m' c = Cert.KernelIdeal.Body.res9 m c := by
  unfold Cert.ReferenceIdeal.Body.res9 Cert.KernelIdeal.Body.res9
  rw [xrow_eq m m' c h0, out_eq m m' hr c h1 hr']

include hr h0 h1 h2 h3 h4 h5 h6 in
/-- The codes of the output. -/
theorem res10_eq (hr' : ∀ (c : Dev Cert.ReferenceIdeal.nD) (j : Fin 36), (m' ((c.tc : Thread Cert.ReferenceIdeal.nD Cert.ReferenceIdeal.τ).loc Cert.ReferenceIdeal.main_arg1) (ix1 j) : BitVec 32).toNat < 1280) :
    Cert.ReferenceIdeal.Body.res10 m' c = Cert.KernelIdeal.Body.res10 m c := by
  unfold Cert.ReferenceIdeal.Body.res10 Cert.KernelIdeal.Body.res10
  rw [yOut_eq m m' hr c h0 h1 h2 h3 h4 h5 h6 hr']

include hr h0 h1 h2 h3 h4 h5 h6 in
/-- The scales of the output. -/
theorem res11_eq (hr' : ∀ (c : Dev Cert.ReferenceIdeal.nD) (j : Fin 36), (m' ((c.tc : Thread Cert.ReferenceIdeal.nD Cert.ReferenceIdeal.τ).loc Cert.ReferenceIdeal.main_arg1) (ix1 j) : BitVec 32).toNat < 1280) :
    Cert.ReferenceIdeal.Body.res11 m' c = Cert.KernelIdeal.Body.res11 m c := by
  unfold Cert.ReferenceIdeal.Body.res11 Cert.KernelIdeal.Body.res11
  rw [yOut_eq m m' hr c h0 h1 h2 h3 h4 h5 h6 hr']

end

/-- From memories that hold the same arguments, the indices in range, the kernel and the reference end with the same five
    results and their arguments unchanged. -/
theorem algebraic : Cert.algebraic_KernelIdeal_ReferenceIdeal (hKernelIdeal := Cert.KernelIdeal.Gen.facts) (hReferenceIdeal := Cert.ReferenceIdeal.Gen.facts) (hPre_indices_in_range := Cert.Pre_indices_in_range.Gen.facts) := by
  intro m g m' g' hpre hargs
  have hr := Cert.KernelIdeal.Body.arg_rows (hP := Cert.Pre_indices_in_range.Gen.facts) m hpre
  have hr' : ∀ (c : Dev Cert.ReferenceIdeal.nD) (j : Fin 36), (m' ((c.tc : Thread Cert.ReferenceIdeal.nD Cert.ReferenceIdeal.τ).loc Cert.ReferenceIdeal.main_arg1) (ix1 j) : BitVec 32).toNat < 1280 := fun c j => by
    rw [(hargs c).2.1]
    exact hr c (ix1 j)
  refine ⟨Cert.KernelIdeal.Body.res7 m, Cert.KernelIdeal.Body.res8 m, Cert.KernelIdeal.Body.res9 m, Cert.KernelIdeal.Body.res10 m, Cert.KernelIdeal.Body.res11 m,
    Cert.KernelIdeal.Body.run_blocks m g (Cert.KernelIdeal.Body.rows_of_pre (hP := Cert.Pre_indices_in_range.Gen.facts) m hpre), ?_⟩
  refine (θ_run Cert.ReferenceIdeal.defs _ _).mono (fun r h c => ?_) (Cert.ReferenceIdeal.Body.run_blocks m' g')
  obtain ⟨e7, e8, e9, e10, e11, k⟩ := h c
  obtain ⟨h0, h1, h2, h3, h4, h5, h6⟩ := hargs c
  exact ⟨e7.trans (res7_eq m m' hr c h0 h1 h2 h3 h4 h5 h6 hr'), e8.trans (res8_eq m m' hr c h0 h1 hr'), e9.trans (res9_eq m m' hr c h0 h1 hr'),
    e10.trans (res10_eq m m' hr c h0 h1 h2 h3 h4 h5 h6 hr'), e11.trans (res11_eq m m' hr c h0 h1 h2 h3 h4 h5 h6 hr'), k⟩

end Cert.Algebra

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_indices_in_range
public import proofs.«01_k».proof.Proof.Rows
public import proofs.«01_k».proof.Proof.Kernel.Rows
public import proofs.«01_k».proof.Proof.Algebra
public import Idealize.ShloMosaic.Adequacy
public import Idealize.ShloMosaic.Init

@[expose] public section

noncomputable section

namespace Cert.Proof

open Idealize.ShloMosaic Idealize.SL.Sem Cert.Kernel

/-- The claim: the frames of the kernel, of its idealization and of the reference, the idealization, and the equality of the
    five results with those of the reference. -/
theorem claim : Cert.Claim :=
  ⟨Cert.Kernel.Gen.facts, Cert.KernelIdeal.Gen.facts, Cert.ReferenceIdeal.Gen.facts, Cert.Pre_indices_in_range.Gen.facts,
    fun m ρ h => Cert.Kernel.Body.frame m ρ (Cert.Kernel.Body.rows_of_pre m h),
    fun m ρ h => Cert.KernelIdeal.Body.frame m ρ (Cert.KernelIdeal.Body.rows_of_pre m h),
    fun m ρ _ => Cert.ReferenceIdeal.Gen.frame m ρ,
    fun m ρ _ => Cert.ReferenceIdeal.Gen.frame m ρ,
    trivial,
    Cert.Algebra.algebraic⟩

end Cert.Proof

end
